-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)) (v4 : (c : Dev Cert.Kernel3Ideal.nD) → Buf (Elt Ideal) ((c.tc : Thread Cert.Kernel3Ideal.nD Cert.Kernel3Ideal.τ).loc Cert.Kernel3Ideal.main_v34_4)) (v5 : (c : Dev Cert.Kernel3Ideal.nD) → Buf (Elt Ideal) ((c.tc : Thread Cert.Kernel3Ideal.nD Cert.Kernel3Ideal.τ).loc Cert.Kernel3Ideal.main_v34_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_v34_4) = v4 c
          ∧ r.2.mem ((c.tc : Thread Cert.Kernel3Ideal.nD Cert.Kernel3Ideal.τ).loc Cert.Kernel3Ideal.main_v34_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_v86) = v4 c
          ∧ r.2.mem ((c.tc : Thread Cert.Reference3Ideal.nD Cert.Reference3Ideal.τ).loc Cert.Reference3Ideal.main_v79) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
-- ==== Pre_experts_in_range.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S147456x1024 .bf16) (main_arg1 : IVec S288 32) (main_arg2 : IVec S1 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_finite_scores.lean ====
abbrev S2x16384x768 : Shape := ⟨3, ![2, 16384, 768]⟩
abbrev S_ : Shape := ⟨0, ![]⟩

class Facts : Prop where
  bcast_S_S2x16384x768 : S_.BroadcastsInDim S2x16384x768 (![] : Fin 0 → Fin S2x16384x768.rank)
  reducesTo_S2x16384x768_S_d0_1_2 : S2x16384x768.ReducesTo [0, 1, 2] S_
  h_S_ : 0 < S_.numel

variable [Facts]

def fn {F : FTy → Type} [FloatOps F] (main_arg0 : FVec F S2x16384x768 .f32) (main_arg1 : FVec F S2x16384x768 .f32) (main_arg2 : FVec F S2x16384x768 .f32) : IVec S_ 1 :=
  let main_v0 : FVec F S2x16384x768 .f32 := Host.absf main_arg0
  let main_cst : FVec F S_ .f32 := constant S_ .f32 0x7F800000#32
  let main_v1 : FVec F S2x16384x768 .f32 := broadcastInDim S2x16384x768 ![] bcast_S_S2x16384x768 main_cst
  let main_v2 : IVec S2x16384x768 1 := cmpf .olt main_v0 main_v1
  let main_c : IVec S_ 1 := constantI S_ 1 1#1
  let main_v3 : IVec S_ 1 := (fun x v => Host.reduce IntOp.andi x v reducesTo_S2x16384x768_S_d0_1_2 h_S_) main_v2 main_c
  let main_v4 : FVec F S2x16384x768 .f32 := Host.absf main_arg1
  let main_cst_0 : FVec F S_ .f32 := constant S_ .f32 0x7F800000#32
  let main_v5 : FVec F S2x16384x768 .f32 := broadcastInDim S2x16384x768 ![] bcast_S_S2x16384x768 main_cst_0
  let main_v6 : IVec S2x16384x768 1 := cmpf .olt main_v4 main_v5
  let main_c_1 : IVec S_ 1 := constantI S_ 1 1#1
  let main_v7 : IVec S_ 1 := (fun x v => Host.reduce IntOp.andi x v reducesTo_S2x16384x768_S_d0_1_2 h_S_) main_v6 main_c_1
  let main_v8 : IVec S_ 1 := andi main_v3 main_v7
  main_v8
-- ==== Kernel.lean ====
abbrev S2x16384x768 : Shape := ⟨3, ![2, 16384, 768]⟩
abbrev S1x2048x128 : Shape := ⟨3, ![1, 2048, 128]⟩
abbrev S4096x128 : Shape := ⟨2, ![4096, 128]⟩
abbrev S3x2048x128 : Shape := ⟨3, ![3, 2048, 128]⟩
abbrev S2x128x256 : Shape := ⟨3, ![2, 128, 256]⟩
abbrev S2048x128 : Shape := ⟨2, ![2048, 128]⟩
abbrev S128x256 : Shape := ⟨2, ![128, 256]⟩
abbrev S1x128x256 : Shape := ⟨3, ![1, 128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 18
  | .smem => 0
  | _ => 0

abbrev bufTy : (tb : Table) → Fin (tcTables nBuf tb) → BufTy
  | .hbm, ⟨0, _⟩ => ⟨S2x16384x768, .f32⟩
  | .hbm, ⟨1, _⟩ => ⟨S2x16384x768, .f32⟩
  | .hbm, ⟨2, _⟩ => ⟨S2x16384x768, .f32⟩
  | .hbm, ⟨3, _⟩ => ⟨S2x16384x768, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S4096x128, .f32⟩
  | .local _ .vmem, ⟨13, _⟩ => ⟨S4096x128, .f32⟩
  | .local _ .vmem, ⟨14, _⟩ => ⟨S3x2048x128, .f32⟩
  | .local _ .vmem, ⟨15, _⟩ => ⟨S3x2048x128, .f32⟩
  | .local _ .vmem, ⟨16, _⟩ => ⟨S3x2048x128, .f32⟩
  | .local _ .vmem, ⟨17, _⟩ => ⟨S2x128x256, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 6], ![false, false, false]⟩

@[reducible] def k0_t1_loop : Scf.Loop 32 :=
  let c0_i32_29 : BitVec 32 := 0#32
  let c4_i32 : BitVec 32 := 4#32
  let v48 : BitVec 32 := Scalar.addi c0_i32_29 c4_i32
  let c1_i32 : BitVec 32 := 1#32
  ⟨c0_i32_29, v48, c1_i32⟩
def k0_mult1 (k0_t1 : Fin k0_t1_loop.trips) : BitVec 32 :=
  let c0_i32_29 : BitVec 32 := 0#32
  let c1_i32 : BitVec 32 := 1#32
  let arg15 : BitVec 32 := Scf.iv c0_i32_29 c1_i32 k0_t1
  let c4_i32_42 : BitVec 32 := 4#32
  let v52 : BitVec 32 := Scalar.muli arg15 c4_i32_42
  let c0_i32_43 : BitVec 32 := 0#32
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c1_i32_50 : BitVec 32 := 1#32
  let c0_i32_53 : BitVec 32 := 0#32
  let v70 : BitVec 1 := Scalar.cmpi .sgt c1_i32_50 c0_i32_53
  let v71 : BitVec 32 := Scalar.extui v70
  let c0_i32_54 : BitVec 32 := 0#32
  let v72 : BitVec 1 := Scalar.cmpi .slt c1_i32_50 c0_i32_54
  let v73 : BitVec 32 := Scalar.extui v72
  let v74 : BitVec 32 := Scalar.subi v71 v73
  let v75 : BitVec 1 := Scalar.cmpi .ne v69 v74
  let v76 : BitVec 32 := Scalar.remsi v53 c1_i32_50
  let c0_i32_55 : BitVec 32 := 0#32
  let v77 : BitVec 1 := Scalar.cmpi .ne v76 c0_i32_55
  let v78 : BitVec 1 := Scalar.andi v75 v77
  let v64 : BitVec 32 := Scalar.divsi v53 c1_i32_50
  let c1_i32_56 : BitVec 32 := 1#32
  let v79 : BitVec 32 := Scalar.subi v64 c1_i32_56
  let v80 : BitVec 32 := Scalar.select v78 v79 v64
  let c128_i32_57 : BitVec 32 := 128#32
  let v81 : BitVec 32 := Scalar.muli v80 c128_i32_57
  let c1_i32_44 : BitVec 32 := 1#32
  let c0_i32_45 : BitVec 32 := 0#32
  let v54 : BitVec 1 := Scalar.cmpi .eq c1_i32_44 c0_i32_45
  let c1_i32_46 : BitVec 32 := 1#32
  let v55 : BitVec 32 := Scalar.select v54 c1_i32_46 c1_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  v82
def k0_mult2 (k0_t1 : Fin k0_t1_loop.trips) : BitVec 32 :=
  let c2048_i32 : BitVec 32 := 2048#32
  let c0_i32_29 : BitVec 32 := 0#32
  let c1_i32 : BitVec 32 := 1#32
  let arg15 : BitVec 32 := Scf.iv c0_i32_29 c1_i32 k0_t1
  let c4_i32_42 : BitVec 32 := 4#32
  let v52 : BitVec 32 := Scalar.muli arg15 c4_i32_42
  let c0_i32_43 : BitVec 32 := 0#32
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c1_i32_50 : BitVec 32 := 1#32
  let c0_i32_53 : BitVec 32 := 0#32
  let v70 : BitVec 1 := Scalar.cmpi .sgt c1_i32_50 c0_i32_53
  let v71 : BitVec 32 := Scalar.extui v70
  let c0_i32_54 : BitVec 32 := 0#32
  let v72 : BitVec 1 := Scalar.cmpi .slt c1_i32_50 c0_i32_54
  let v73 : BitVec 32 := Scalar.extui v72
  let v74 : BitVec 32 := Scalar.subi v71 v73
  let v75 : BitVec 1 := Scalar.cmpi .ne v69 v74
  let v76 : BitVec 32 := Scalar.remsi v53 c1_i32_50
  let c0_i32_55 : BitVec 32 := 0#32
  let v77 : BitVec 1 := Scalar.cmpi .ne v76 c0_i32_55
  let v78 : BitVec 1 := Scalar.andi v75 v77
  let v64 : BitVec 32 := Scalar.divsi v53 c1_i32_50
  let c1_i32_56 : BitVec 32 := 1#32
  let v79 : BitVec 32 := Scalar.subi v64 c1_i32_56
  let v80 : BitVec 32 := Scalar.select v78 v79 v64
  let c128_i32_57 : BitVec 32 := 128#32
  let v81 : BitVec 32 := Scalar.muli v80 c128_i32_57
  let c1_i32_44 : BitVec 32 := 1#32
  let c0_i32_45 : BitVec 32 := 0#32
  let v54 : BitVec 1 := Scalar.cmpi .eq c1_i32_44 c0_i32_45
  let c1_i32_46 : BitVec 32 := 1#32
  let v55 : BitVec 32 := Scalar.select v54 c1_i32_46 c1_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v83 : BitVec 32 := Scalar.addi c2048_i32 v82
  let c128_i32_58 : BitVec 32 := 128#32
  let v84 : BitVec 32 := Scalar.subi v83 c128_i32_58
  v84
def k0_off1 (k0_t1 : Fin k0_t1_loop.trips) (c0_i32_43 : BitVec 32) : Fin 3 → Nat :=
  let c0_59 : Index := 0#32
  let c0_i32_29 : BitVec 32 := 0#32
  let c1_i32 : BitVec 32 := 1#32
  let arg15 : BitVec 32 := Scf.iv c0_i32_29 c1_i32 k0_t1
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c1_i32_50 : BitVec 32 := 1#32
  let c0_i32_53 : BitVec 32 := 0#32
  let v70 : BitVec 1 := Scalar.cmpi .sgt c1_i32_50 c0_i32_53
  let v71 : BitVec 32 := Scalar.extui v70
  let c0_i32_54 : BitVec 32 := 0#32
  let v72 : BitVec 1 := Scalar.cmpi .slt c1_i32_50 c0_i32_54
  let v73 : BitVec 32 := Scalar.extui v72
  let v74 : BitVec 32 := Scalar.subi v71 v73
  let v75 : BitVec 1 := Scalar.cmpi .ne v69 v74
  let v76 : BitVec 32 := Scalar.remsi v53 c1_i32_50
  let c0_i32_55 : BitVec 32 := 0#32
  let v77 : BitVec 1 := Scalar.cmpi .ne v76 c0_i32_55
  let v78 : BitVec 1 := Scalar.andi v75 v77
  let v64 : BitVec 32 := Scalar.divsi v53 c1_i32_50
  let c1_i32_56 : BitVec 32 := 1#32
  let v79 : BitVec 32 := Scalar.subi v64 c1_i32_56
  let v80 : BitVec 32 := Scalar.select v78 v79 v64
  let c128_i32_57 : BitVec 32 := 128#32
  let v81 : BitVec 32 := Scalar.muli v80 c128_i32_57
  let c1_i32_44 : BitVec 32 := 1#32
  let c0_i32_45 : BitVec 32 := 0#32
  let v54 : BitVec 1 := Scalar.cmpi .eq c1_i32_44 c0_i32_45
  let c1_i32_46 : BitVec 32 := 1#32
  let v55 : BitVec 32 := Scalar.select v54 c1_i32_46 c1_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v85 : BitVec 32 := v82
  let v87 : Index := Scalar.indexCast v85
  let c0_60 : Index := 0#32
  ![0, v87.toNat, 0]
def k0_off2 (k0_t1 : Fin k0_t1_loop.trips) (c0_i32_43 : BitVec 32) : Fin 2 → Nat :=
  let c2048_i32 : BitVec 32 := 2048#32
  let c0_i32_29 : BitVec 32 := 0#32
  let c1_i32 : BitVec 32 := 1#32
  let arg15 : BitVec 32 := Scf.iv c0_i32_29 c1_i32 k0_t1
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c1_i32_50 : BitVec 32 := 1#32
  let c0_i32_53 : BitVec 32 := 0#32
  let v70 : BitVec 1 := Scalar.cmpi .sgt c1_i32_50 c0_i32_53
  let v71 : BitVec 32 := Scalar.extui v70
  let c0_i32_54 : BitVec 32 := 0#32
  let v72 : BitVec 1 := Scalar.cmpi .slt c1_i32_50 c0_i32_54
  let v73 : BitVec 32 := Scalar.extui v72
  let v74 : BitVec 32 := Scalar.subi v71 v73
  let v75 : BitVec 1 := Scalar.cmpi .ne v69 v74
  let v76 : BitVec 32 := Scalar.remsi v53 c1_i32_50
  let c0_i32_55 : BitVec 32 := 0#32
  let v77 : BitVec 1 := Scalar.cmpi .ne v76 c0_i32_55
  let v78 : BitVec 1 := Scalar.andi v75 v77
  let v64 : BitVec 32 := Scalar.divsi v53 c1_i32_50
  let c1_i32_56 : BitVec 32 := 1#32
  let v79 : BitVec 32 := Scalar.subi v64 c1_i32_56
  let v80 : BitVec 32 := Scalar.select v78 v79 v64
  let c128_i32_57 : BitVec 32 := 128#32
  let v81 : BitVec 32 := Scalar.muli v80 c128_i32_57
  let c1_i32_44 : BitVec 32 := 1#32
  let c0_i32_45 : BitVec 32 := 0#32
  let v54 : BitVec 1 := Scalar.cmpi .eq c1_i32_44 c0_i32_45
  let c1_i32_46 : BitVec 32 := 1#32
  let v55 : BitVec 32 := Scalar.select v54 c1_i32_46 c1_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v83 : BitVec 32 := Scalar.addi c2048_i32 v82
  let c128_i32_58 : BitVec 32 := 128#32
  let v84 : BitVec 32 := Scalar.subi v83 c128_i32_58
  let v86 : BitVec 32 := v84
  let v90 : Index := Scalar.indexCast v86
  let c0_61 : Index := 0#32
  ![v90.toNat, 0]
def k0_mult3 (k0_t1 : Fin k0_t1_loop.trips) : BitVec 32 :=
  let c0_i32_29 : BitVec 32 := 0#32
  let c1_i32 : BitVec 32 := 1#32
  let arg15 : BitVec 32 := Scf.iv c0_i32_29 c1_i32 k0_t1
  let c4_i32_74 : BitVec 32 := 4#32
  let v112 : BitVec 32 := Scalar.muli arg15 c4_i32_74
  let c1_i32_75 : BitVec 32 := 1#32
  let v113 : BitVec 32 := Scalar.addi v112 c1_i32_75
  let c0_i32_83 : BitVec 32 := 0#32
  let v125 : BitVec 1 := Scalar.cmpi .sgt v113 c0_i32_83
  let v126 : BitVec 32 := Scalar.extui v125
  let c0_i32_84 : BitVec 32 := 0#32
  let v127 : BitVec 1 := Scalar.cmpi .slt v113 c0_i32_84
  let v128 : BitVec 32 := Scalar.extui v127
  let v129 : BitVec 32 := Scalar.subi v126 v128
  let c1_i32_82 : BitVec 32 := 1#32
  let c0_i32_85 : BitVec 32 := 0#32
  let v130 : BitVec 1 := Scalar.cmpi .sgt c1_i32_82 c0_i32_85
  let v131 : BitVec 32 := Scalar.extui v130
  let c0_i32_86 : BitVec 32 := 0#32
  let v132 : BitVec 1 := Scalar.cmpi .slt c1_i32_82 c0_i32_86
  let v133 : BitVec 32 := Scalar.extui v132
  let v134 : BitVec 32 := Scalar.subi v131 v133
  let v135 : BitVec 1 := Scalar.cmpi .ne v129 v134
  let v136 : BitVec 32 := Scalar.remsi v113 c1_i32_82
  let c0_i32_87 : BitVec 32 := 0#32
  let v137 : BitVec 1 := Scalar.cmpi .ne v136 c0_i32_87
  let v138 : BitVec 1 := Scalar.andi v135 v137
  let v124 : BitVec 32 := Scalar.divsi v113 c1_i32_82
  let c1_i32_88 : BitVec 32 := 1#32
  let v139 : BitVec 32 := Scalar.subi v124 c1_i32_88
  let v140 : BitVec 32 := Scalar.select v138 v139 v124
  let c128_i32_89 : BitVec 32 := 128#32
  let v141 : BitVec 32 := Scalar.muli v140 c128_i32_89
  let c1_i32_76 : BitVec 32 := 1#32
  let c0_i32_77 : BitVec 32 := 0#32
  let v114 : BitVec 1 := Scalar.cmpi .eq c1_i32_76 c0_i32_77
  let c1_i32_78 : BitVec 32 := 1#32
  let v115 : BitVec 32 := Scalar.select v114 c1_i32_78 c1_i32_76
  let v116 : BitVec 32 := Scalar.remsi v113 v115
  let c0_i32_80 : BitVec 32 := 0#32
  let v118 : BitVec 1 := Scalar.cmpi .slt v116 c0_i32_80
  let c0_i32_81 : BitVec 32 := 0#32
  let v119 : BitVec 1 := Scalar.cmpi .slt v115 c0_i32_81
  let v120 : BitVec 1 := Scalar.xori v118 v119
  let c0_i32_79 : BitVec 32 := 0#32
  let v117 : BitVec 1 := Scalar.cmpi .ne v116 c0_i32_79
  let v121 : BitVec 1 := Scalar.andi v120 v117
  let v122 : BitVec 32 := Scalar.addi v116 v115
  let v123 : BitVec 32 := Scalar.select v121 v122 v116
  let v142 : BitVec 32 := Scalar.addi v141 v123
  v142
def k0_mult4 (k0_t1 : Fin k0_t1_loop.trips) : BitVec 32 :=
  let c2048_i32_90 : BitVec 32 := 2048#32
  let c0_i32_29 : BitVec 32 := 0#32
  let c1_i32 : BitVec 32 := 1#32
  let arg15 : BitVec 32 := Scf.iv c0_i32_29 c1_i32 k0_t1
  let c4_i32_74 : BitVec 32 := 4#32
  let v112 : BitVec 32 := Scalar.muli arg15 c4_i32_74
  let c1_i32_75 : BitVec 32 := 1#32
  let v113 : BitVec 32 := Scalar.addi v112 c1_i32_75
  let c0_i32_83 : BitVec 32 := 0#32
  let v125 : BitVec 1 := Scalar.cmpi .sgt v113 c0_i32_83
  let v126 : BitVec 32 := Scalar.extui v125
  let c0_i32_84 : BitVec 32 := 0#32
  let v127 : BitVec 1 := Scalar.cmpi .slt v113 c0_i32_84
  let v128 : BitVec 32 := Scalar.extui v127
  let v129 : BitVec 32 := Scalar.subi v126 v128
  let c1_i32_82 : BitVec 32 := 1#32
  let c0_i32_85 : BitVec 32 := 0#32
  let v130 : BitVec 1 := Scalar.cmpi .sgt c1_i32_82 c0_i32_85
  let v131 : BitVec 32 := Scalar.extui v130
  let c0_i32_86 : BitVec 32 := 0#32
  let v132 : BitVec 1 := Scalar.cmpi .slt c1_i32_82 c0_i32_86
  let v133 : BitVec 32 := Scalar.extui v132
  let v134 : BitVec 32 := Scalar.subi v131 v133
  let v135 : BitVec 1 := Scalar.cmpi .ne v129 v134
  let v136 : BitVec 32 := Scalar.remsi v113 c1_i32_82
  let c0_i32_87 : BitVec 32 := 0#32
  let v137 : BitVec 1 := Scalar.cmpi .ne v136 c0_i32_87
  let v138 : BitVec 1 := Scalar.andi v135 v137
  let v124 : BitVec 32 := Scalar.divsi v113 c1_i32_82
  let c1_i32_88 : BitVec 32 := 1#32
  let v139 : BitVec 32 := Scalar.subi v124 c1_i32_88
  let v140 : BitVec 32 := Scalar.select v138 v139 v124
  let c128_i32_89 : BitVec 32 := 128#32
  let v141 : BitVec 32 := Scalar.muli v140 c128_i32_89
  let c1_i32_76 : BitVec 32 := 1#32
  let c0_i32_77 : BitVec 32 := 0#32
  let v114 : BitVec 1 := Scalar.cmpi .eq c1_i32_76 c0_i32_77
  let c1_i32_78 : BitVec 32 := 1#32
  let v115 : BitVec 32 := Scalar.select v114 c1_i32_78 c1_i32_76
  let v116 : BitVec 32 := Scalar.remsi v113 v115
  let c0_i32_80 : BitVec 32 := 0#32
  let v118 : BitVec 1 := Scalar.cmpi .slt v116 c0_i32_80
  let c0_i32_81 : BitVec 32 := 0#32
  let v119 : BitVec 1 := Scalar.cmpi .slt v115 c0_i32_81
  let v120 : BitVec 1 := Scalar.xori v118 v119
  let c0_i32_79 : BitVec 32 := 0#32
  let v117 : BitVec 1 := Scalar.cmpi .ne v116 c0_i32_79
  let v121 : BitVec 1 := Scalar.andi v120 v117
  let v122 : BitVec 32 := Scalar.addi v116 v115
  let v123 : BitVec 32 := Scalar.select v121 v122 v116
  let v142 : BitVec 32 := Scalar.addi v141 v123
  let v143 : BitVec 32 := Scalar.addi c2048_i32_90 v142
  let c128_i32_91 : BitVec 32 := 128#32
  let v144 : BitVec 32 := Scalar.subi v143 c128_i32_91
  v144
def k0_mult5 (k0_t1 : Fin k0_t1_loop.trips) : BitVec 32 :=
  let c0_i32_29 : BitVec 32 := 0#32
  let c1_i32 : BitVec 32 := 1#32
  let arg15 : BitVec 32 := Scf.iv c0_i32_29 c1_i32 k0_t1
  let c4_i32_107 : BitVec 32 := 4#32
  let v172 : BitVec 32 := Scalar.muli arg15 c4_i32_107
  let c2_i32 : BitVec 32 := 2#32
  let v173 : BitVec 32 := Scalar.addi v172 c2_i32
  let c0_i32_115 : BitVec 32 := 0#32
  let v185 : BitVec 1 := Scalar.cmpi .sgt v173 c0_i32_115
  let v186 : BitVec 32 := Scalar.extui v185
  let c0_i32_116 : BitVec 32 := 0#32
  let v187 : BitVec 1 := Scalar.cmpi .slt v173 c0_i32_116
  let v188 : BitVec 32 := Scalar.extui v187
  let v189 : BitVec 32 := Scalar.subi v186 v188
  let c1_i32_114 : BitVec 32 := 1#32
  let c0_i32_117 : BitVec 32 := 0#32
  let v190 : BitVec 1 := Scalar.cmpi .sgt c1_i32_114 c0_i32_117
  let v191 : BitVec 32 := Scalar.extui v190
  let c0_i32_118 : BitVec 32 := 0#32
  let v192 : BitVec 1 := Scalar.cmpi .slt c1_i32_114 c0_i32_118
  let v193 : BitVec 32 := Scalar.extui v192
  let v194 : BitVec 32 := Scalar.subi v191 v193
  let v195 : BitVec 1 := Scalar.cmpi .ne v189 v194
  let v196 : BitVec 32 := Scalar.remsi v173 c1_i32_114
  let c0_i32_119 : BitVec 32 := 0#32
  let v197 : BitVec 1 := Scalar.cmpi .ne v196 c0_i32_119
  let v198 : BitVec 1 := Scalar.andi v195 v197
  let v184 : BitVec 32 := Scalar.divsi v173 c1_i32_114
  let c1_i32_120 : BitVec 32 := 1#32
  let v199 : BitVec 32 := Scalar.subi v184 c1_i32_120
  let v200 : BitVec 32 := Scalar.select v198 v199 v184
  let c128_i32_121 : BitVec 32 := 128#32
  let v201 : BitVec 32 := Scalar.muli v200 c128_i32_121
  let c1_i32_108 : BitVec 32 := 1#32
  let c0_i32_109 : BitVec 32 := 0#32
  let v174 : BitVec 1 := Scalar.cmpi .eq c1_i32_108 c0_i32_109
  let c1_i32_110 : BitVec 32 := 1#32
  let v175 : BitVec 32 := Scalar.select v174 c1_i32_110 c1_i32_108
  let v176 : BitVec 32 := Scalar.remsi v173 v175
  let c0_i32_112 : BitVec 32 := 0#32
  let v178 : BitVec 1 := Scalar.cmpi .slt v176 c0_i32_112
  let c0_i32_113 : BitVec 32 := 0#32
  let v179 : BitVec 1 := Scalar.cmpi .slt v175 c0_i32_113
  let v180 : BitVec 1 := Scalar.xori v178 v179
  let c0_i32_111 : BitVec 32 := 0#32
  let v177 : BitVec 1 := Scalar.cmpi .ne v176 c0_i32_111
  let v181 : BitVec 1 := Scalar.andi v180 v177
  let v182 : BitVec 32 := Scalar.addi v176 v175
  let v183 : BitVec 32 := Scalar.select v181 v182 v176
  let v202 : BitVec 32 := Scalar.addi v201 v183
  v202
def k0_mult6 (k0_t1 : Fin k0_t1_loop.trips) : BitVec 32 :=
  let c2048_i32_122 : BitVec 32 := 2048#32
  let c0_i32_29 : BitVec 32 := 0#32
  let c1_i32 : BitVec 32 := 1#32
  let arg15 : BitVec 32 := Scf.iv c0_i32_29 c1_i32 k0_t1
  let c4_i32_107 : BitVec 32 := 4#32
  let v172 : BitVec 32 := Scalar.muli arg15 c4_i32_107
  let c2_i32 : BitVec 32 := 2#32
  let v173 : BitVec 32 := Scalar.addi v172 c2_i32
  let c0_i32_115 : BitVec 32 := 0#32
  let v185 : BitVec 1 := Scalar.cmpi .sgt v173 c0_i32_115
  let v186 : BitVec 32 := Scalar.extui v185
  let c0_i32_116 : BitVec 32 := 0#32
  let v187 : BitVec 1 := Scalar.cmpi .slt v173 c0_i32_116
  let v188 : BitVec 32 := Scalar.extui v187
  let v189 : BitVec 32 := Scalar.subi v186 v188
  let c1_i32_114 : BitVec 32 := 1#32
  let c0_i32_117 : BitVec 32 := 0#32
  let v190 : BitVec 1 := Scalar.cmpi .sgt c1_i32_114 c0_i32_117
  let v191 : BitVec 32 := Scalar.extui v190
  let c0_i32_118 : BitVec 32 := 0#32
  let v192 : BitVec 1 := Scalar.cmpi .slt c1_i32_114 c0_i32_118
  let v193 : BitVec 32 := Scalar.extui v192
  let v194 : BitVec 32 := Scalar.subi v191 v193
  let v195 : BitVec 1 := Scalar.cmpi .ne v189 v194
  let v196 : BitVec 32 := Scalar.remsi v173 c1_i32_114
  let c0_i32_119 : BitVec 32 := 0#32
  let v197 : BitVec 1 := Scalar.cmpi .ne v196 c0_i32_119
  let v198 : BitVec 1 := Scalar.andi v195 v197
  let v184 : BitVec 32 := Scalar.divsi v173 c1_i32_114
  let c1_i32_120 : BitVec 32 := 1#32
  let v199 : BitVec 32 := Scalar.subi v184 c1_i32_120
  let v200 : BitVec 32 := Scalar.select v198 v199 v184
  let c128_i32_121 : BitVec 32 := 128#32
  let v201 : BitVec 32 := Scalar.muli v200 c128_i32_121
  let c1_i32_108 : BitVec 32 := 1#32
  let c0_i32_109 : BitVec 32 := 0#32
  let v174 : BitVec 1 := Scalar.cmpi .eq c1_i32_108 c0_i32_109
  let c1_i32_110 : BitVec 32 := 1#32
  let v175 : BitVec 32 := Scalar.select v174 c1_i32_110 c1_i32_108
  let v176 : BitVec 32 := Scalar.remsi v173 v175
  let c0_i32_112 : BitVec 32 := 0#32
  let v178 : BitVec 1 := Scalar.cmpi .slt v176 c0_i32_112
  let c0_i32_113 : BitVec 32 := 0#32
  let v179 : BitVec 1 := Scalar.cmpi .slt v175 c0_i32_113
  let v180 : BitVec 1 := Scalar.xori v178 v179
  let c0_i32_111 : BitVec 32 := 0#32
  let v177 : BitVec 1 := Scalar.cmpi .ne v176 c0_i32_111
  let v181 : BitVec 1 := Scalar.andi v180 v177
  let v182 : BitVec 32 := Scalar.addi v176 v175
  let v183 : BitVec 32 := Scalar.select v181 v182 v176
  let v202 : BitVec 32 := Scalar.addi v201 v183
  let v203 : BitVec 32 := Scalar.addi c2048_i32_122 v202
  let c128_i32_123 : BitVec 32 := 128#32
  let v204 : BitVec 32 := Scalar.subi v203 c128_i32_123
  v204
def k0_mult7 (k0_t1 : Fin k0_t1_loop.trips) : BitVec 32 :=
  let c0_i32_29 : BitVec 32 := 0#32
  let c1_i32 : BitVec 32 := 1#32
  let arg15 : BitVec 32 := Scf.iv c0_i32_29 c1_i32 k0_t1
  let c4_i32_139 : BitVec 32 := 4#32
  let v232 : BitVec 32 := Scalar.muli arg15 c4_i32_139
  let c3_i32 : BitVec 32 := 3#32
  let v233 : BitVec 32 := Scalar.addi v232 c3_i32
  let c0_i32_147 : BitVec 32 := 0#32
  let v245 : BitVec 1 := Scalar.cmpi .sgt v233 c0_i32_147
  let v246 : BitVec 32 := Scalar.extui v245
  let c0_i32_148 : BitVec 32 := 0#32
  let v247 : BitVec 1 := Scalar.cmpi .slt v233 c0_i32_148
  let v248 : BitVec 32 := Scalar.extui v247
  let v249 : BitVec 32 := Scalar.subi v246 v248
  let c1_i32_146 : BitVec 32 := 1#32
  let c0_i32_149 : BitVec 32 := 0#32
  let v250 : BitVec 1 := Scalar.cmpi .sgt c1_i32_146 c0_i32_149
  let v251 : BitVec 32 := Scalar.extui v250
  let c0_i32_150 : BitVec 32 := 0#32
  let v252 : BitVec 1 := Scalar.cmpi .slt c1_i32_146 c0_i32_150
  let v253 : BitVec 32 := Scalar.extui v252
  let v254 : BitVec 32 := Scalar.subi v251 v253
  let v255 : BitVec 1 := Scalar.cmpi .ne v249 v254
  let v256 : BitVec 32 := Scalar.remsi v233 c1_i32_146
  let c0_i32_151 : BitVec 32 := 0#32
  let v257 : BitVec 1 := Scalar.cmpi .ne v256 c0_i32_151
  let v258 : BitVec 1 := Scalar.andi v255 v257
  let v244 : BitVec 32 := Scalar.divsi v233 c1_i32_146
  let c1_i32_152 : BitVec 32 := 1#32
  let v259 : BitVec 32 := Scalar.subi v244 c1_i32_152
  let v260 : BitVec 32 := Scalar.select v258 v259 v244
  let c128_i32_153 : BitVec 32 := 128#32
  let v261 : BitVec 32 := Scalar.muli v260 c128_i32_153
  let c1_i32_140 : BitVec 32 := 1#32
  let c0_i32_141 : BitVec 32 := 0#32
  let v234 : BitVec 1 := Scalar.cmpi .eq c1_i32_140 c0_i32_141
  let c1_i32_142 : BitVec 32 := 1#32
  let v235 : BitVec 32 := Scalar.select v234 c1_i32_142 c1_i32_140
  let v236 : BitVec 32 := Scalar.remsi v233 v235
  let c0_i32_144 : BitVec 32 := 0#32
  let v238 : BitVec 1 := Scalar.cmpi .slt v236 c0_i32_144
  let c0_i32_145 : BitVec 32 := 0#32
  let v239 : BitVec 1 := Scalar.cmpi .slt v235 c0_i32_145
  let v240 : BitVec 1 := Scalar.xori v238 v239
  let c0_i32_143 : BitVec 32 := 0#32
  let v237 : BitVec 1 := Scalar.cmpi .ne v236 c0_i32_143
  let v241 : BitVec 1 := Scalar.andi v240 v237
  let v242 : BitVec 32 := Scalar.addi v236 v235
  let v243 : BitVec 32 := Scalar.select v241 v242 v236
  let v262 : BitVec 32 := Scalar.addi v261 v243
  v262
def k0_mult8 (k0_t1 : Fin k0_t1_loop.trips) : BitVec 32 :=
  let c2048_i32_154 : BitVec 32 := 2048#32
  let c0_i32_29 : BitVec 32 := 0#32
  let c1_i32 : BitVec 32 := 1#32
  let arg15 : BitVec 32 := Scf.iv c0_i32_29 c1_i32 k0_t1
  let c4_i32_139 : BitVec 32 := 4#32
  let v232 : BitVec 32 := Scalar.muli arg15 c4_i32_139
  let c3_i32 : BitVec 32 := 3#32
  let v233 : BitVec 32 := Scalar.addi v232 c3_i32
  let c0_i32_147 : BitVec 32 := 0#32
  let v245 : BitVec 1 := Scalar.cmpi .sgt v233 c0_i32_147
  let v246 : BitVec 32 := Scalar.extui v245
  let c0_i32_148 : BitVec 32 := 0#32
  let v247 : BitVec 1 := Scalar.cmpi .slt v233 c0_i32_148
  let v248 : BitVec 32 := Scalar.extui v247
  let v249 : BitVec 32 := Scalar.subi v246 v248
  let c1_i32_146 : BitVec 32 := 1#32
  let c0_i32_149 : BitVec 32 := 0#32
  let v250 : BitVec 1 := Scalar.cmpi .sgt c1_i32_146 c0_i32_149
  let v251 : BitVec 32 := Scalar.extui v250
  let c0_i32_150 : BitVec 32 := 0#32
  let v252 : BitVec 1 := Scalar.cmpi .slt c1_i32_146 c0_i32_150
  let v253 : BitVec 32 := Scalar.extui v252
  let v254 : BitVec 32 := Scalar.subi v251 v253
  let v255 : BitVec 1 := Scalar.cmpi .ne v249 v254
  let v256 : BitVec 32 := Scalar.remsi v233 c1_i32_146
  let c0_i32_151 : BitVec 32 := 0#32
  let v257 : BitVec 1 := Scalar.cmpi .ne v256 c0_i32_151
  let v258 : BitVec 1 := Scalar.andi v255 v257
  let v244 : BitVec 32 := Scalar.divsi v233 c1_i32_146
  let c1_i32_152 : BitVec 32 := 1#32
  let v259 : BitVec 32 := Scalar.subi v244 c1_i32_152
  let v260 : BitVec 32 := Scalar.select v258 v259 v244
  let c128_i32_153 : BitVec 32 := 128#32
  let v261 : BitVec 32 := Scalar.muli v260 c128_i32_153
  let c1_i32_140 : BitVec 32 := 1#32
  let c0_i32_141 : BitVec 32 := 0#32
  let v234 : BitVec 1 := Scalar.cmpi .eq c1_i32_140 c0_i32_141
  let c1_i32_142 : BitVec 32 := 1#32
  let v235 : BitVec 32 := Scalar.select v234 c1_i32_142 c1_i32_140
  let v236 : BitVec 32 := Scalar.remsi v233 v235
  let c0_i32_144 : BitVec 32 := 0#32
  let v238 : BitVec 1 := Scalar.cmpi .slt v236 c0_i32_144
  let c0_i32_145 : BitVec 32 := 0#32
  let v239 : BitVec 1 := Scalar.cmpi .slt v235 c0_i32_145
  let v240 : BitVec 1 := Scalar.xori v238 v239
  let c0_i32_143 : BitVec 32 := 0#32
  let v237 : BitVec 1 := Scalar.cmpi .ne v236 c0_i32_143
  let v241 : BitVec 1 := Scalar.andi v240 v237
  let v242 : BitVec 32 := Scalar.addi v236 v235
  let v243 : BitVec 32 := Scalar.select v241 v242 v236
  let v262 : BitVec 32 := Scalar.addi v261 v243
  let v263 : BitVec 32 := Scalar.addi c2048_i32_154 v262
  let c128_i32_155 : BitVec 32 := 128#32
  let v264 : BitVec 32 := Scalar.subi v263 c128_i32_155
  v264
def k0_off3 (k0_t1 : Fin k0_t1_loop.trips) (c0_i32_43 : BitVec 32) : Fin 3 → Nat :=
  let c0_203 : Index := 0#32
  let c0_i32_29 : BitVec 32 := 0#32
  let c1_i32 : BitVec 32 := 1#32
  let arg15 : BitVec 32 := Scf.iv c0_i32_29 c1_i32 k0_t1
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c1_i32_50 : BitVec 32 := 1#32
  let c0_i32_53 : BitVec 32 := 0#32
  let v70 : BitVec 1 := Scalar.cmpi .sgt c1_i32_50 c0_i32_53
  let v71 : BitVec 32 := Scalar.extui v70
  let c0_i32_54 : BitVec 32 := 0#32
  let v72 : BitVec 1 := Scalar.cmpi .slt c1_i32_50 c0_i32_54
  let v73 : BitVec 32 := Scalar.extui v72
  let v74 : BitVec 32 := Scalar.subi v71 v73
  let v75 : BitVec 1 := Scalar.cmpi .ne v69 v74
  let v76 : BitVec 32 := Scalar.remsi v53 c1_i32_50
  let c0_i32_55 : BitVec 32 := 0#32
  let v77 : BitVec 1 := Scalar.cmpi .ne v76 c0_i32_55
  let v78 : BitVec 1 := Scalar.andi v75 v77
  let v64 : BitVec 32 := Scalar.divsi v53 c1_i32_50
  let c1_i32_56 : BitVec 32 := 1#32
  let v79 : BitVec 32 := Scalar.subi v64 c1_i32_56
  let v80 : BitVec 32 := Scalar.select v78 v79 v64
  let c128_i32_57 : BitVec 32 := 128#32
  let v81 : BitVec 32 := Scalar.muli v80 c128_i32_57
  let c1_i32_44 : BitVec 32 := 1#32
  let c0_i32_45 : BitVec 32 := 0#32
  let v54 : BitVec 1 := Scalar.cmpi .eq c1_i32_44 c0_i32_45
  let c1_i32_46 : BitVec 32 := 1#32
  let v55 : BitVec 32 := Scalar.select v54 c1_i32_46 c1_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v85 : BitVec 32 := v82
  let v381 : Index := Scalar.indexCast v85
  let c0_204 : Index := 0#32
  ![0, v381.toNat, 0]
@[reducible] def k0_t2_loop : Scf.Loop 32 :=
  let c0_i32_31 : BitVec 32 := 0#32
  let c4_i32_32 : BitVec 32 := 4#32
  let v49 : BitVec 32 := Scalar.addi c0_i32_31 c4_i32_32
  let c1_i32_33 : BitVec 32 := 1#32
  ⟨c0_i32_31, v49, c1_i32_33⟩
def k0_off4 (k0_t2 : Fin k0_t2_loop.trips) (c0_i32_43 : BitVec 32) : Fin 3 → Nat :=
  let c0_58 : Index := 0#32
  let c0_i32_31 : BitVec 32 := 0#32
  let c1_i32_33 : BitVec 32 := 1#32
  let arg15 : BitVec 32 := Scf.iv c0_i32_31 c1_i32_33 k0_t2
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c4_i32_50 : BitVec 32 := 4#32
  let c0_i32_53 : BitVec 32 := 0#32
  let v70 : BitVec 1 := Scalar.cmpi .sgt c4_i32_50 c0_i32_53
  let v71 : BitVec 32 := Scalar.extui v70
  let c0_i32_54 : BitVec 32 := 0#32
  let v72 : BitVec 1 := Scalar.cmpi .slt c4_i32_50 c0_i32_54
  let v73 : BitVec 32 := Scalar.extui v72
  let v74 : BitVec 32 := Scalar.subi v71 v73
  let v75 : BitVec 1 := Scalar.cmpi .ne v69 v74
  let v76 : BitVec 32 := Scalar.remsi v53 c4_i32_50
  let c0_i32_55 : BitVec 32 := 0#32
  let v77 : BitVec 1 := Scalar.cmpi .ne v76 c0_i32_55
  let v78 : BitVec 1 := Scalar.andi v75 v77
  let v64 : BitVec 32 := Scalar.divsi v53 c4_i32_50
  let c1_i32_56 : BitVec 32 := 1#32
  let v79 : BitVec 32 := Scalar.subi v64 c1_i32_56
  let v80 : BitVec 32 := Scalar.select v78 v79 v64
  let c512_i32 : BitVec 32 := 512#32
  let v81 : BitVec 32 := Scalar.muli v80 c512_i32
  let c4_i32_44 : BitVec 32 := 4#32
  let c0_i32_45 : BitVec 32 := 0#32
  let v54 : BitVec 1 := Scalar.cmpi .eq c4_i32_44 c0_i32_45
  let c1_i32_46 : BitVec 32 := 1#32
  let v55 : BitVec 32 := Scalar.select v54 c1_i32_46 c4_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v85 : Index := Scalar.indexCast v82
  let c0_59 : Index := 0#32
  ![0, v85.toNat, 0]
def k0_off5 (k0_t2 : Fin k0_t2_loop.trips) (c0_i32_43 : BitVec 32) : Fin 2 → Nat :=
  let c2048_i32 : BitVec 32 := 2048#32
  let c0_i32_31 : BitVec 32 := 0#32
  let c1_i32_33 : BitVec 32 := 1#32
  let arg15 : BitVec 32 := Scf.iv c0_i32_31 c1_i32_33 k0_t2
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c4_i32_50 : BitVec 32 := 4#32
  let c0_i32_53 : BitVec 32 := 0#32
  let v70 : BitVec 1 := Scalar.cmpi .sgt c4_i32_50 c0_i32_53
  let v71 : BitVec 32 := Scalar.extui v70
  let c0_i32_54 : BitVec 32 := 0#32
  let v72 : BitVec 1 := Scalar.cmpi .slt c4_i32_50 c0_i32_54
  let v73 : BitVec 32 := Scalar.extui v72
  let v74 : BitVec 32 := Scalar.subi v71 v73
  let v75 : BitVec 1 := Scalar.cmpi .ne v69 v74
  let v76 : BitVec 32 := Scalar.remsi v53 c4_i32_50
  let c0_i32_55 : BitVec 32 := 0#32
  let v77 : BitVec 1 := Scalar.cmpi .ne v76 c0_i32_55
  let v78 : BitVec 1 := Scalar.andi v75 v77
  let v64 : BitVec 32 := Scalar.divsi v53 c4_i32_50
  let c1_i32_56 : BitVec 32 := 1#32
  let v79 : BitVec 32 := Scalar.subi v64 c1_i32_56
  let v80 : BitVec 32 := Scalar.select v78 v79 v64
  let c512_i32 : BitVec 32 := 512#32
  let v81 : BitVec 32 := Scalar.muli v80 c512_i32
  let c4_i32_44 : BitVec 32 := 4#32
  let c0_i32_45 : BitVec 32 := 0#32
  let v54 : BitVec 1 := Scalar.cmpi .eq c4_i32_44 c0_i32_45
  let c1_i32_46 : BitVec 32 := 1#32
  let v55 : BitVec 32 := Scalar.select v54 c1_i32_46 c4_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v83 : BitVec 32 := Scalar.addi c2048_i32 v82
  let c512_i32_57 : BitVec 32 := 512#32
  let v84 : BitVec 32 := Scalar.subi v83 c512_i32_57
  let v88 : Index := Scalar.indexCast v84
  let c0_60 : Index := 0#32
  ![v88.toNat, 0]
def k0_off6 (k0_t2 : Fin k0_t2_loop.trips) (c0_i32_43 : BitVec 32) : Fin 3 → Nat :=
  let c1_202 : Index := 1#32
  let c0_i32_31 : BitVec 32 := 0#32
  let c1_i32_33 : BitVec 32 := 1#32
  let arg15 : BitVec 32 := Scf.iv c0_i32_31 c1_i32_33 k0_t2
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c4_i32_50 : BitVec 32 := 4#32
  let c0_i32_53 : BitVec 32 := 0#32
  let v70 : BitVec 1 := Scalar.cmpi .sgt c4_i32_50 c0_i32_53
  let v71 : BitVec 32 := Scalar.extui v70
  let c0_i32_54 : BitVec 32 := 0#32
  let v72 : BitVec 1 := Scalar.cmpi .slt c4_i32_50 c0_i32_54
  let v73 : BitVec 32 := Scalar.extui v72
  let v74 : BitVec 32 := Scalar.subi v71 v73
  let v75 : BitVec 1 := Scalar.cmpi .ne v69 v74
  let v76 : BitVec 32 := Scalar.remsi v53 c4_i32_50
  let c0_i32_55 : BitVec 32 := 0#32
  let v77 : BitVec 1 := Scalar.cmpi .ne v76 c0_i32_55
  let v78 : BitVec 1 := Scalar.andi v75 v77
  let v64 : BitVec 32 := Scalar.divsi v53 c4_i32_50
  let c1_i32_56 : BitVec 32 := 1#32
  let v79 : BitVec 32 := Scalar.subi v64 c1_i32_56
  let v80 : BitVec 32 := Scalar.select v78 v79 v64
  let c512_i32 : BitVec 32 := 512#32
  let v81 : BitVec 32 := Scalar.muli v80 c512_i32
  let c4_i32_44 : BitVec 32 := 4#32
  let c0_i32_45 : BitVec 32 := 0#32
  let v54 : BitVec 1 := Scalar.cmpi .eq c4_i32_44 c0_i32_45
  let c1_i32_46 : BitVec 32 := 1#32
  let v55 : BitVec 32 := Scalar.select v54 c1_i32_46 c4_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v373 : Index := Scalar.indexCast v82
  let c0_203 : Index := 0#32
  ![1, v373.toNat, 0]
@[reducible] def k0_t3_loop : Scf.Loop 32 :=
  let c0_i32_35 : BitVec 32 := 0#32
  let c4_i32_36 : BitVec 32 := 4#32
  let v50 : BitVec 32 := Scalar.addi c0_i32_35 c4_i32_36
  let c1_i32_37 : BitVec 32 := 1#32
  ⟨c0_i32_35, v50, c1_i32_37⟩
def k0_off7 (k0_t3 : Fin k0_t3_loop.trips) (c0_i32_43 : BitVec 32) : Fin 3 → Nat :=
  let c0_59 : Index := 0#32
  let c0_i32_35 : BitVec 32 := 0#32
  let c1_i32_37 : BitVec 32 := 1#32
  let arg15 : BitVec 32 := Scf.iv c0_i32_35 c1_i32_37 k0_t3
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c16_i32_50 : BitVec 32 := 16#32
  let c0_i32_53 : BitVec 32 := 0#32
  let v70 : BitVec 1 := Scalar.cmpi .sgt c16_i32_50 c0_i32_53
  let v71 : BitVec 32 := Scalar.extui v70
  let c0_i32_54 : BitVec 32 := 0#32
  let v72 : BitVec 1 := Scalar.cmpi .slt c16_i32_50 c0_i32_54
  let v73 : BitVec 32 := Scalar.extui v72
  let v74 : BitVec 32 := Scalar.subi v71 v73
  let v75 : BitVec 1 := Scalar.cmpi .ne v69 v74
  let v76 : BitVec 32 := Scalar.remsi v53 c16_i32_50
  let c0_i32_55 : BitVec 32 := 0#32
  let v77 : BitVec 1 := Scalar.cmpi .ne v76 c0_i32_55
  let v78 : BitVec 1 := Scalar.andi v75 v77
  let v64 : BitVec 32 := Scalar.divsi v53 c16_i32_50
  let c1_i32_56 : BitVec 32 := 1#32
  let v79 : BitVec 32 := Scalar.subi v64 c1_i32_56
  let v80 : BitVec 32 := Scalar.select v78 v79 v64
  let c2048_i32 : BitVec 32 := 2048#32
  let v81 : BitVec 32 := Scalar.muli v80 c2048_i32
  let c16_i32_44 : BitVec 32 := 16#32
  let c0_i32_45 : BitVec 32 := 0#32
  let v54 : BitVec 1 := Scalar.cmpi .eq c16_i32_44 c0_i32_45
  let c1_i32_46 : BitVec 32 := 1#32
  let v55 : BitVec 32 := Scalar.select v54 c1_i32_46 c16_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v85 : Index := Scalar.indexCast v82
  let c0_60 : Index := 0#32
  ![0, v85.toNat, 0]
def k0_off8 (k0_t3 : Fin k0_t3_loop.trips) (c0_i32_43 : BitVec 32) : Fin 2 → Nat :=
  let c2048_i32_57 : BitVec 32 := 2048#32
  let c0_i32_35 : BitVec 32 := 0#32
  let c1_i32_37 : BitVec 32 := 1#32
  let arg15 : BitVec 32 := Scf.iv c0_i32_35 c1_i32_37 k0_t3
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c16_i32_50 : BitVec 32 := 16#32
  let c0_i32_53 : BitVec 32 := 0#32
  let v70 : BitVec 1 := Scalar.cmpi .sgt c16_i32_50 c0_i32_53
  let v71 : BitVec 32 := Scalar.extui v70
  let c0_i32_54 : BitVec 32 := 0#32
  let v72 : BitVec 1 := Scalar.cmpi .slt c16_i32_50 c0_i32_54
  let v73 : BitVec 32 := Scalar.extui v72
  let v74 : BitVec 32 := Scalar.subi v71 v73
  let v75 : BitVec 1 := Scalar.cmpi .ne v69 v74
  let v76 : BitVec 32 := Scalar.remsi v53 c16_i32_50
  let c0_i32_55 : BitVec 32 := 0#32
  let v77 : BitVec 1 := Scalar.cmpi .ne v76 c0_i32_55
  let v78 : BitVec 1 := Scalar.andi v75 v77
  let v64 : BitVec 32 := Scalar.divsi v53 c16_i32_50
  let c1_i32_56 : BitVec 32 := 1#32
  let v79 : BitVec 32 := Scalar.subi v64 c1_i32_56
  let v80 : BitVec 32 := Scalar.select v78 v79 v64
  let c2048_i32 : BitVec 32 := 2048#32
  let v81 : BitVec 32 := Scalar.muli v80 c2048_i32
  let c16_i32_44 : BitVec 32 := 16#32
  let c0_i32_45 : BitVec 32 := 0#32
  let v54 : BitVec 1 := Scalar.cmpi .eq c16_i32_44 c0_i32_45
  let c1_i32_46 : BitVec 32 := 1#32
  let v55 : BitVec 32 := Scalar.select v54 c1_i32_46 c16_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v83 : BitVec 32 := Scalar.addi c2048_i32_57 v82
  let c2048_i32_58 : BitVec 32 := 2048#32
  let v84 : BitVec 32 := Scalar.subi v83 c2048_i32_58
  let v88 : Index := Scalar.indexCast v84
  let c0_61 : Index := 0#32
  ![v88.toNat, 0]
def k0_off9 (k0_t3 : Fin k0_t3_loop.trips) (c0_i32_43 : BitVec 32) : Fin 3 → Nat :=
  let c2 : Index := 2#32
  let c0_i32_35 : BitVec 32 := 0#32
  let c1_i32_37 : BitVec 32 := 1#32
  let arg15 : BitVec 32 := Scf.iv c0_i32_35 c1_i32_37 k0_t3
  let c4_i32_42 : BitVec 32 := 4#32
  let v52 : BitVec 32 := Scalar.muli arg15 c4_i32_42
  let v53 : BitVec 32 := Scalar.addi v52 c0_i32_43
  let c0_i32_51 : BitVec 32 := 0#32
  let v65 : BitVec 1 := Scalar.cmpi .sgt v53 c0_i32_51
  let v66 : BitVec 32 := Scalar.extui v65
  let c0_i32_52 : BitVec 32 := 0#32
  let v67 : BitVec 1 := Scalar.cmpi .slt v53 c0_i32_52
  let v68 : BitVec 32 := Scalar.extui v67
  let v69 : BitVec 32 := Scalar.subi v66 v68
  let c16_i32_50 : BitVec 32 := 16#32
  let c0_i32_53 : BitVec 32 := 0#32
  let v70 : BitVec 1 := Scalar.cmpi .sgt c16_i32_50 c0_i32_53
  let v71 : BitVec 32 := Scalar.extui v70
  let c0_i32_54 : BitVec 32 := 0#32
  let v72 : BitVec 1 := Scalar.cmpi .slt c16_i32_50 c0_i32_54
  let v73 : BitVec 32 := Scalar.extui v72
  let v74 : BitVec 32 := Scalar.subi v71 v73
  let v75 : BitVec 1 := Scalar.cmpi .ne v69 v74
  let v76 : BitVec 32 := Scalar.remsi v53 c16_i32_50
  let c0_i32_55 : BitVec 32 := 0#32
  let v77 : BitVec 1 := Scalar.cmpi .ne v76 c0_i32_55
  let v78 : BitVec 1 := Scalar.andi v75 v77
  let v64 : BitVec 32 := Scalar.divsi v53 c16_i32_50
  let c1_i32_56 : BitVec 32 := 1#32
  let v79 : BitVec 32 := Scalar.subi v64 c1_i32_56
  let v80 : BitVec 32 := Scalar.select v78 v79 v64
  let c2048_i32 : BitVec 32 := 2048#32
  let v81 : BitVec 32 := Scalar.muli v80 c2048_i32
  let c16_i32_44 : BitVec 32 := 16#32
  let c0_i32_45 : BitVec 32 := 0#32
  let v54 : BitVec 1 := Scalar.cmpi .eq c16_i32_44 c0_i32_45
  let c1_i32_46 : BitVec 32 := 1#32
  let v55 : BitVec 32 := Scalar.select v54 c1_i32_46 c16_i32_44
  let v56 : BitVec 32 := Scalar.remsi v53 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let v82 : BitVec 32 := Scalar.addi v81 v63
  let v373 : Index := Scalar.indexCast v82
  let c0_203 : Index := 0#32
  ![2, v373.toNat, 0]
@[reducible] def k0_t4_loop : Scf.Loop 32 :=
  let c0_i32_39 : BitVec 32 := 0#32
  let c16_i32 : BitVec 32 := 16#32
  let v51 : BitVec 32 := Scalar.addi c0_i32_39 c16_i32
  let c1_i32_40 : BitVec 32 := 1#32
  ⟨c0_i32_39, v51, c1_i32_40⟩
def k0_mult9 (k0_t4 : Fin k0_t4_loop.trips) : BitVec 32 :=
  let c0_i32_39 : BitVec 32 := 0#32
  let c1_i32_40 : BitVec 32 := 1#32
  let arg15 : BitVec 32 := Scf.iv c0_i32_39 c1_i32_40 k0_t4
  let c128_i32_42 : BitVec 32 := 128#32
  let v52 : BitVec 32 := Scalar.muli arg15 c128_i32_42
  v52
def k0_off10 (k0_t4 : Fin k0_t4_loop.trips) : Fin 3 → Nat :=
  let c0_43 : Index := 0#32
  let c0_i32_39 : BitVec 32 := 0#32
  let c1_i32_40 : BitVec 32 := 1#32
  let arg15 : BitVec 32 := Scf.iv c0_i32_39 c1_i32_40 k0_t4
  let c128_i32_42 : BitVec 32 := 128#32
  let v52 : BitVec 32 := Scalar.muli arg15 c128_i32_42
  let v53 : BitVec 32 := v52
  let v54 : Index := Scalar.indexCast v53
  let c0_44 : Index := 0#32
  ![0, v54.toNat, 0]
def k0_off11 (k0_t4 : Fin k0_t4_loop.trips) : Fin 3 → Nat :=
  let c1_45 : Index := 1#32
  let c0_i32_39 : BitVec 32 := 0#32
  let c1_i32_40 : BitVec 32 := 1#32
  let arg15 : BitVec 32 := Scf.iv c0_i32_39 c1_i32_40 k0_t4
  let c128_i32_42 : BitVec 32 := 128#32
  let v52 : BitVec 32 := Scalar.muli arg15 c128_i32_42
  let v53 : BitVec 32 := v52
  let v57 : Index := Scalar.indexCast v53
  let c0_46 : Index := 0#32
  ![1, v57.toNat, 0]
def k0_off12 (k0_t4 : Fin k0_t4_loop.trips) : Fin 3 → Nat :=
  let c2 : Index := 2#32
  let c0_i32_39 : BitVec 32 := 0#32
  let c1_i32_40 : BitVec 32 := 1#32
  let arg15 : BitVec 32 := Scf.iv c0_i32_39 c1_i32_40 k0_t4
  let c128_i32_42 : BitVec 32 := 128#32
  let v52 : BitVec 32 := Scalar.muli arg15 c128_i32_42
  let v53 : BitVec 32 := v52
  let v60 : Index := Scalar.indexCast v53
  let c0_47 : Index := 0#32
  ![2, v60.toNat, 0]
def k0_off13 (k0_t4 : Fin k0_t4_loop.trips) : Fin 3 → Nat :=
  let c0_60 : Index := 0#32
  let c0_i32_39 : BitVec 32 := 0#32
  let c1_i32_40 : BitVec 32 := 1#32
  let arg15 : BitVec 32 := Scf.iv c0_i32_39 c1_i32_40 k0_t4
  let c128_i32_42 : BitVec 32 := 128#32
  let v52 : BitVec 32 := Scalar.muli arg15 c128_i32_42
  let v53 : BitVec 32 := v52
  let v101 : Index := Scalar.indexCast v53
  let c0_61 : Index := 0#32
  ![0, v101.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x768 : Shape := ⟨3, ![2, 16384, 768]⟩
abbrev S2x16384x12x64 : Shape := ⟨4, ![2, 16384, 12, 64]⟩
abbrev S2x16384x1x12x64 : Shape := ⟨5, ![2, 16384, 1, 12, 64]⟩
abbrev S2x1x16384x12x64 : Shape := ⟨5, ![2, 1, 16384, 12, 64]⟩
abbrev S_ : Shape := ⟨0, ![]⟩
abbrev S2x128x128x12x64 : Shape := ⟨5, ![2, 128, 128, 12, 64]⟩
abbrev S2x16512x12x64 : Shape := ⟨4, ![2, 16512, 12, 64]⟩
abbrev S2x129x128x12x64 : Shape := ⟨5, ![2, 129, 128, 12, 64]⟩
abbrev S2x128x256x12x64 : Shape := ⟨5, ![2, 128, 256, 12, 64]⟩
abbrev S2x128x12x128x256 : Shape := ⟨5, ![2, 128, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x128x256 : Shape := ⟨5, ![1, 128, 1, 128, 256]⟩
abbrev S2x128x12x128 : Shape := ⟨4, ![2, 128, 12, 128]⟩
abbrev S2x128x12x128x1 : Shape := ⟨5, ![2, 128, 12, 128, 1]⟩
abbrev S2x128x12x64x128 : Shape := ⟨5, ![2, 128, 12, 64, 128]⟩
abbrev S2x128x128x12 : Shape := ⟨4, ![2, 128, 128, 12]⟩
abbrev S2x16384x12 : Shape := ⟨3, ![2, 16384, 12]⟩
abbrev S2x1x16384x12 : Shape := ⟨4, ![2, 1, 16384, 12]⟩
abbrev S2x16384x1x12 : Shape := ⟨4, ![2, 16384, 1, 12]⟩
abbrev S2x4096x4x12x64 : Shape := ⟨5, ![2, 4096, 4, 12, 64]⟩
abbrev S2x4x4096x12x64 : Shape := ⟨5, ![2, 4, 4096, 12, 64]⟩
abbrev S8x4096x12x64 : Shape := ⟨4, ![8, 4096, 12, 64]⟩
abbrev S8x32x128x12x64 : Shape := ⟨5, ![8, 32, 128, 12, 64]⟩
abbrev S8x4224x12x64 : Shape := ⟨4, ![8, 4224, 12, 64]⟩
abbrev S8x33x128x12x64 : Shape := ⟨5, ![8, 33, 128, 12, 64]⟩
abbrev S8x32x256x12x64 : Shape := ⟨5, ![8, 32, 256, 12, 64]⟩
abbrev S8x32x12x128x256 : Shape := ⟨5, ![8, 32, 12, 128, 256]⟩
abbrev S32 : Shape := ⟨1, ![32]⟩
abbrev S32x1x1 : Shape := ⟨3, ![32, 1, 1]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S8x32x12x128 : Shape := ⟨4, ![8, 32, 12, 128]⟩
abbrev S8x32x12x128x1 : Shape := ⟨5, ![8, 32, 12, 128, 1]⟩
abbrev S8x32x12x64x128 : Shape := ⟨5, ![8, 32, 12, 64, 128]⟩
abbrev S8x32x128x12 : Shape := ⟨4, ![8, 32, 128, 12]⟩
abbrev S8x4096x12 : Shape := ⟨3, ![8, 4096, 12]⟩
abbrev S2x4x4096x12 : Shape := ⟨4, ![2, 4, 4096, 12]⟩
abbrev S2x4096x4x12 : Shape := ⟨4, ![2, 4096, 4, 12]⟩
abbrev S2x1024x16x12x64 : Shape := ⟨5, ![2, 1024, 16, 12, 64]⟩
abbrev S2x16x1024x12x64 : Shape := ⟨5, ![2, 16, 1024, 12, 64]⟩
abbrev S32x1024x12x64 : Shape := ⟨4, ![32, 1024, 12, 64]⟩
abbrev S32x8x128x12x64 : Shape := ⟨5, ![32, 8, 128, 12, 64]⟩
abbrev S32x1152x12x64 : Shape := ⟨4, ![32, 1152, 12, 64]⟩
abbrev S32x9x128x12x64 : Shape := ⟨5, ![32, 9, 128, 12, 64]⟩
abbrev S32x8x256x12x64 : Shape := ⟨5, ![32, 8, 256, 12, 64]⟩
abbrev S32x8x12x128x256 : Shape := ⟨5, ![32, 8, 12, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S32x8x12x128 : Shape := ⟨4, ![32, 8, 12, 128]⟩
abbrev S32x8x12x128x1 : Shape := ⟨5, ![32, 8, 12, 128, 1]⟩
abbrev S32x8x12x64x128 : Shape := ⟨5, ![32, 8, 12, 64, 128]⟩
abbrev S32x8x128x12 : Shape := ⟨4, ![32, 8, 128, 12]⟩
abbrev S32x1024x12 : Shape := ⟨3, ![32, 1024, 12]⟩
abbrev S2x16x1024x12 : Shape := ⟨4, ![2, 16, 1024, 12]⟩
abbrev S2x1024x16x12 : Shape := ⟨4, ![2, 1024, 16, 12]⟩
abbrev S1x2x16384x12x64 : Shape := ⟨5, ![1, 2, 16384, 12, 64]⟩
abbrev S3x2x16384x12x64 : Shape := ⟨5, ![3, 2, 16384, 12, 64]⟩
abbrev S1x2x16384x12 : Shape := ⟨4, ![1, 2, 16384, 12]⟩
abbrev S3x2x16384x12 : Shape := ⟨4, ![3, 2, 16384, 12]⟩

abbrev nBuf : Space → Nat
  | .hbm => 325
  | .vmem => 0
  | .smem => 0
  | _ => 0

abbrev hbmTy0_0 (i : Nat) : BufTy := match i % 128 with
  | 0 => ⟨S2x16384x768, .f32⟩
  | 1 => ⟨S2x16384x768, .f32⟩
  | 2 => ⟨S2x16384x768, .f32⟩
  | 3 => ⟨S2x16384x12x64, .f32⟩
  | 4 => ⟨S2x16384x12x64, .f32⟩
  | 5 => ⟨S2x16384x12x64, .f32⟩
  | 6 => ⟨S2x16384x1x12x64, .f32⟩
  | 7 => ⟨S2x1x16384x12x64, .f32⟩
  | 8 => ⟨S2x16384x12x64, .f32⟩
  | 9 => ⟨S_, .i32⟩
  | 10 => ⟨S_, .f32⟩
  | 11 => ⟨S2x16384x12x64, .f32⟩
  | 12 => ⟨S2x128x128x12x64, .f32⟩
  | 13 => ⟨S2x16384x1x12x64, .f32⟩
  | 14 => ⟨S2x1x16384x12x64, .f32⟩
  | 15 => ⟨S2x16384x12x64, .f32⟩
  | 16 => ⟨S_, .i32⟩
  | 17 => ⟨S_, .f32⟩
  | 18 => ⟨S2x16512x12x64, .f32⟩
  | 19 => ⟨S2x129x128x12x64, .f32⟩
  | 20 => ⟨S2x16384x1x12x64, .f32⟩
  | 21 => ⟨S2x1x16384x12x64, .f32⟩
  | 22 => ⟨S2x16384x12x64, .f32⟩
  | 23 => ⟨S_, .i32⟩
  | 24 => ⟨S_, .f32⟩
  | 25 => ⟨S2x16512x12x64, .f32⟩
  | 26 => ⟨S2x129x128x12x64, .f32⟩
  | 27 => ⟨S2x128x128x12x64, .f32⟩
  | 28 => ⟨S2x128x128x12x64, .f32⟩
  | 29 => ⟨S2x128x256x12x64, .f32⟩
  | 30 => ⟨S2x128x128x12x64, .f32⟩
  | 31 => ⟨S2x128x128x12x64, .f32⟩
  | 32 => ⟨S2x128x256x12x64, .f32⟩
  | 33 => ⟨S2x128x12x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S128, .i32⟩
  | 45 => ⟨S128x1x1, .i32⟩
  | 46 => ⟨S_, .i32⟩
  | 47 => ⟨S128x1x1, .i32⟩
  | 48 => ⟨S128x1x1, .i32⟩
  | 49 => ⟨S_, .i32⟩
  | 50 => ⟨S128x1x1, .i32⟩
  | 51 => ⟨S128x1x1, .i32⟩
  | 52 => ⟨S1x1x256, .i32⟩
  | 53 => ⟨S128x1x256, .i32⟩
  | 54 => ⟨S128x1x256, .i32⟩
  | 55 => ⟨S128x1x256, .i32⟩
  | 56 => ⟨S_, .i32⟩
  | 57 => ⟨S128x256, .i32⟩
  | 58 => ⟨S128x256, .i1⟩
  | 59 => ⟨S1x128x256, .i1⟩
  | 60 => ⟨S_, .i32⟩
  | 61 => ⟨S128x256, .i32⟩
  | 62 => ⟨S128x256, .i1⟩
  | 63 => ⟨S1x128x256, .i1⟩
  | 64 => ⟨S1x128x256, .i1⟩
  | 65 => ⟨S_, .i32⟩
  | 66 => ⟨S128x1x256, .i32⟩
  | 67 => ⟨S128x1x256, .i1⟩
  | 68 => ⟨S128x128x256, .i1⟩
  | 69 => ⟨S128x128x256, .i1⟩
  | 70 => ⟨S128x128x256, .i1⟩
  | 71 => ⟨S1x128x1x128x256, .i1⟩
  | 72 => ⟨S_, .f32⟩
  | 73 => ⟨S_, .f32⟩
  | 74 => ⟨S2x128x12x128x256, .i1⟩
  | 75 => ⟨S2x128x12x128x256, .f32⟩
  | 76 => ⟨S2x128x12x128x256, .f32⟩
  | 77 => ⟨S_, .f32⟩
  | 78 => ⟨S2x128x12x128, .f32⟩
  | 79 => ⟨S2x128x12x128x1, .f32⟩
  | 80 => ⟨S2x128x12x128x256, .f32⟩
  | 81 => ⟨S2x128x12x128x256, .f32⟩
  | 82 => ⟨S2x128x12x128x256, .f32⟩
  | 83 => ⟨S_, .f32⟩
  | 84 => ⟨S2x128x12x128, .f32⟩
  | 85 => ⟨S2x128x12x128x1, .f32⟩
  | 86 => ⟨S2x128x12x128x256, .f32⟩
  | 87 => ⟨S2x128x12x128x256, .f32⟩
  | 88 => ⟨S2x128x12x64x128, .f32⟩
  | 89 => ⟨S2x128x128x12x64, .f32⟩
  | 90 => ⟨S2x128x12x128x1, .f32⟩
  | 91 => ⟨S2x128x12x128x1, .f32⟩
  | 92 => ⟨S2x128x12x128, .f32⟩
  | 93 => ⟨S2x16384x12x64, .f32⟩
  | 94 => ⟨S2x1x16384x12x64, .f32⟩
  | 95 => ⟨S2x16384x1x12x64, .f32⟩
  | 96 => ⟨S2x16384x12x64, .f32⟩
  | 97 => ⟨S2x128x128x12, .f32⟩
  | 98 => ⟨S2x16384x12, .f32⟩
  | 99 => ⟨S2x1x16384x12, .f32⟩
  | 100 => ⟨S2x16384x1x12, .f32⟩
  | 101 => ⟨S2x16384x12, .f32⟩
  | 102 => ⟨S2x16384x12x64, .f32⟩
  | 103 => ⟨S2x16384x12x64, .f32⟩
  | 104 => ⟨S2x16384x12x64, .f32⟩
  | 105 => ⟨S2x4096x4x12x64, .f32⟩
  | 106 => ⟨S2x4x4096x12x64, .f32⟩
  | 107 => ⟨S8x4096x12x64, .f32⟩
  | 108 => ⟨S_, .i32⟩
  | 109 => ⟨S_, .f32⟩
  | 110 => ⟨S8x4096x12x64, .f32⟩
  | 111 => ⟨S8x32x128x12x64, .f32⟩
  | 112 => ⟨S2x4096x4x12x64, .f32⟩
  | 113 => ⟨S2x4x4096x12x64, .f32⟩
  | 114 => ⟨S8x4096x12x64, .f32⟩
  | 115 => ⟨S_, .i32⟩
  | 116 => ⟨S_, .f32⟩
  | 117 => ⟨S8x4224x12x64, .f32⟩
  | 118 => ⟨S8x33x128x12x64, .f32⟩
  | 119 => ⟨S2x4096x4x12x64, .f32⟩
  | 120 => ⟨S2x4x4096x12x64, .f32⟩
  | 121 => ⟨S8x4096x12x64, .f32⟩
  | 122 => ⟨S_, .i32⟩
  | 123 => ⟨S_, .f32⟩
  | 124 => ⟨S8x4224x12x64, .f32⟩
  | 125 => ⟨S8x33x128x12x64, .f32⟩
  | 126 => ⟨S8x32x128x12x64, .f32⟩
  | 127 => ⟨S8x32x128x12x64, .f32⟩
  | _ => ⟨S2x16384x768, .f32⟩

abbrev hbmTy0_1 (i : Nat) : BufTy := match i % 128 with
  | 0 => ⟨S8x32x256x12x64, .f32⟩
  | 1 => ⟨S8x32x128x12x64, .f32⟩
  | 2 => ⟨S8x32x128x12x64, .f32⟩
  | 3 => ⟨S8x32x256x12x64, .f32⟩
  | 4 => ⟨S8x32x12x128x256, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S32, .i32⟩
  | 16 => ⟨S32x1x1, .i32⟩
  | 17 => ⟨S_, .i32⟩
  | 18 => ⟨S32x1x1, .i32⟩
  | 19 => ⟨S32x1x1, .i32⟩
  | 20 => ⟨S_, .i32⟩
  | 21 => ⟨S32x1x1, .i32⟩
  | 22 => ⟨S32x1x1, .i32⟩
  | 23 => ⟨S1x1x256, .i32⟩
  | 24 => ⟨S32x1x256, .i32⟩
  | 25 => ⟨S32x1x256, .i32⟩
  | 26 => ⟨S32x1x256, .i32⟩
  | 27 => ⟨S_, .i32⟩
  | 28 => ⟨S128x256, .i32⟩
  | 29 => ⟨S128x256, .i1⟩
  | 30 => ⟨S1x128x256, .i1⟩
  | 31 => ⟨S_, .i32⟩
  | 32 => ⟨S128x256, .i32⟩
  | 33 => ⟨S128x256, .i1⟩
  | 34 => ⟨S1x128x256, .i1⟩
  | 35 => ⟨S1x128x256, .i1⟩
  | 36 => ⟨S_, .i32⟩
  | 37 => ⟨S32x1x256, .i32⟩
  | 38 => ⟨S32x1x256, .i1⟩
  | 39 => ⟨S32x128x256, .i1⟩
  | 40 => ⟨S32x128x256, .i1⟩
  | 41 => ⟨S32x128x256, .i1⟩
  | 42 => ⟨S1x32x1x128x256, .i1⟩
  | 43 => ⟨S_, .f32⟩
  | 44 => ⟨S_, .f32⟩
  | 45 => ⟨S8x32x12x128x256, .i1⟩
  | 46 => ⟨S8x32x12x128x256, .f32⟩
  | 47 => ⟨S8x32x12x128x256, .f32⟩
  | 48 => ⟨S_, .f32⟩
  | 49 => ⟨S8x32x12x128, .f32⟩
  | 50 => ⟨S8x32x12x128x1, .f32⟩
  | 51 => ⟨S8x32x12x128x256, .f32⟩
  | 52 => ⟨S8x32x12x128x256, .f32⟩
  | 53 => ⟨S8x32x12x128x256, .f32⟩
  | 54 => ⟨S_, .f32⟩
  | 55 => ⟨S8x32x12x128, .f32⟩
  | 56 => ⟨S8x32x12x128x1, .f32⟩
  | 57 => ⟨S8x32x12x128x256, .f32⟩
  | 58 => ⟨S8x32x12x128x256, .f32⟩
  | 59 => ⟨S8x32x12x64x128, .f32⟩
  | 60 => ⟨S8x32x128x12x64, .f32⟩
  | 61 => ⟨S8x32x12x128x1, .f32⟩
  | 62 => ⟨S8x32x12x128x1, .f32⟩
  | 63 => ⟨S8x32x12x128, .f32⟩
  | 64 => ⟨S8x4096x12x64, .f32⟩
  | 65 => ⟨S2x4x4096x12x64, .f32⟩
  | 66 => ⟨S2x4096x4x12x64, .f32⟩
  | 67 => ⟨S2x16384x12x64, .f32⟩
  | 68 => ⟨S8x32x128x12, .f32⟩
  | 69 => ⟨S8x4096x12, .f32⟩
  | 70 => ⟨S2x4x4096x12, .f32⟩
  | 71 => ⟨S2x4096x4x12, .f32⟩
  | 72 => ⟨S2x16384x12, .f32⟩
  | 73 => ⟨S2x16384x12x64, .f32⟩
  | 74 => ⟨S2x16384x12x64, .f32⟩
  | 75 => ⟨S2x16384x12x64, .f32⟩
  | 76 => ⟨S2x1024x16x12x64, .f32⟩
  | 77 => ⟨S2x16x1024x12x64, .f32⟩
  | 78 => ⟨S32x1024x12x64, .f32⟩
  | 79 => ⟨S_, .i32⟩
  | 80 => ⟨S_, .f32⟩
  | 81 => ⟨S32x1024x12x64, .f32⟩
  | 82 => ⟨S32x8x128x12x64, .f32⟩
  | 83 => ⟨S2x1024x16x12x64, .f32⟩
  | 84 => ⟨S2x16x1024x12x64, .f32⟩
  | 85 => ⟨S32x1024x12x64, .f32⟩
  | 86 => ⟨S_, .i32⟩
  | 87 => ⟨S_, .f32⟩
  | 88 => ⟨S32x1152x12x64, .f32⟩
  | 89 => ⟨S32x9x128x12x64, .f32⟩
  | 90 => ⟨S2x1024x16x12x64, .f32⟩
  | 91 => ⟨S2x16x1024x12x64, .f32⟩
  | 92 => ⟨S32x1024x12x64, .f32⟩
  | 93 => ⟨S_, .i32⟩
  | 94 => ⟨S_, .f32⟩
  | 95 => ⟨S32x1152x12x64, .f32⟩
  | 96 => ⟨S32x9x128x12x64, .f32⟩
  | 97 => ⟨S32x8x128x12x64, .f32⟩
  | 98 => ⟨S32x8x128x12x64, .f32⟩
  | 99 => ⟨S32x8x256x12x64, .f32⟩
  | 100 => ⟨S32x8x128x12x64, .f32⟩
  | 101 => ⟨S32x8x128x12x64, .f32⟩
  | 102 => ⟨S32x8x256x12x64, .f32⟩
  | 103 => ⟨S32x8x12x128x256, .f32⟩
  | 104 => ⟨S128, .i32⟩
  | 105 => ⟨S128x1, .i32⟩
  | 106 => ⟨S256, .i32⟩
  | 107 => ⟨S1x256, .i32⟩
  | 108 => ⟨S_, .i32⟩
  | 109 => ⟨S128x1, .i32⟩
  | 110 => ⟨S128x1, .i32⟩
  | 111 => ⟨S128x256, .i32⟩
  | 112 => ⟨S128x256, .i32⟩
  | 113 => ⟨S128x256, .i32⟩
  | 114 => ⟨S8, .i32⟩
  | 115 => ⟨S8x1x1, .i32⟩
  | 116 => ⟨S_, .i32⟩
  | 117 => ⟨S8x1x1, .i32⟩
  | 118 => ⟨S8x1x1, .i32⟩
  | 119 => ⟨S_, .i32⟩
  | 120 => ⟨S8x1x1, .i32⟩
  | 121 => ⟨S8x1x1, .i32⟩
  | 122 => ⟨S1x1x256, .i32⟩
  | 123 => ⟨S8x1x256, .i32⟩
  | 124 => ⟨S8x1x256, .i32⟩
  | 125 => ⟨S8x1x256, .i32⟩
  | 126 => ⟨S_, .i32⟩
  | 127 => ⟨S128x256, .i32⟩
  | _ => ⟨S2x16384x768, .f32⟩

abbrev hbmTy0_2 (i : Nat) : BufTy := match i % 128 with
  | 0 => ⟨S128x256, .i1⟩
  | 1 => ⟨S1x128x256, .i1⟩
  | 2 => ⟨S_, .i32⟩
  | 3 => ⟨S128x256, .i32⟩
  | 4 => ⟨S128x256, .i1⟩
  | 5 => ⟨S1x128x256, .i1⟩
  | 6 => ⟨S1x128x256, .i1⟩
  | 7 => ⟨S_, .i32⟩
  | 8 => ⟨S8x1x256, .i32⟩
  | 9 => ⟨S8x1x256, .i1⟩
  | 10 => ⟨S8x128x256, .i1⟩
  | 11 => ⟨S8x128x256, .i1⟩
  | 12 => ⟨S8x128x256, .i1⟩
  | 13 => ⟨S1x8x1x128x256, .i1⟩
  | 14 => ⟨S_, .f32⟩
  | 15 => ⟨S_, .f32⟩
  | 16 => ⟨S32x8x12x128x256, .i1⟩
  | 17 => ⟨S32x8x12x128x256, .f32⟩
  | 18 => ⟨S32x8x12x128x256, .f32⟩
  | 19 => ⟨S_, .f32⟩
  | 20 => ⟨S32x8x12x128, .f32⟩
  | 21 => ⟨S32x8x12x128x1, .f32⟩
  | 22 => ⟨S32x8x12x128x256, .f32⟩
  | 23 => ⟨S32x8x12x128x256, .f32⟩
  | 24 => ⟨S32x8x12x128x256, .f32⟩
  | 25 => ⟨S_, .f32⟩
  | 26 => ⟨S32x8x12x128, .f32⟩
  | 27 => ⟨S32x8x12x128x1, .f32⟩
  | 28 => ⟨S32x8x12x128x256, .f32⟩
  | 29 => ⟨S32x8x12x128x256, .f32⟩
  | 30 => ⟨S32x8x12x64x128, .f32⟩
  | 31 => ⟨S32x8x128x12x64, .f32⟩
  | 32 => ⟨S32x8x12x128x1, .f32⟩
  | 33 => ⟨S32x8x12x128x1, .f32⟩
  | 34 => ⟨S32x8x12x128, .f32⟩
  | 35 => ⟨S32x1024x12x64, .f32⟩
  | 36 => ⟨S2x16x1024x12x64, .f32⟩
  | 37 => ⟨S2x1024x16x12x64, .f32⟩
  | 38 => ⟨S2x16384x12x64, .f32⟩
  | 39 => ⟨S32x8x128x12, .f32⟩
  | 40 => ⟨S32x1024x12, .f32⟩
  | 41 => ⟨S2x16x1024x12, .f32⟩
  | 42 => ⟨S2x1024x16x12, .f32⟩
  | 43 => ⟨S2x16384x12, .f32⟩
  | 44 => ⟨S1x2x16384x12x64, .f32⟩
  | 45 => ⟨S1x2x16384x12x64, .f32⟩
  | 46 => ⟨S1x2x16384x12x64, .f32⟩
  | 47 => ⟨S3x2x16384x12x64, .f32⟩
  | 48 => ⟨S1x2x16384x12, .f32⟩
  | 49 => ⟨S1x2x16384x12, .f32⟩
  | 50 => ⟨S1x2x16384x12, .f32⟩
  | 51 => ⟨S3x2x16384x12, .f32⟩
  | 52 => ⟨S_, .f32⟩
  | 53 => ⟨S2x16384x12, .f32⟩
  | 54 => ⟨S_, .f32⟩
  | 55 => ⟨S2x16384x12, .f32⟩
  | 56 => ⟨S2x16384x12, .f32⟩
  | 57 => ⟨S1x2x16384x12, .f32⟩
  | 58 => ⟨S3x2x16384x12, .f32⟩
  | 59 => ⟨S3x2x16384x12, .f32⟩
  | 60 => ⟨S3x2x16384x12, .f32⟩
  | 61 => ⟨S_, .f32⟩
  | 62 => ⟨S2x16384x12, .f32⟩
  | 63 => ⟨S1x2x16384x12, .f32⟩
  | 64 => ⟨S3x2x16384x12, .f32⟩
  | 65 => ⟨S3x2x16384x12, .f32⟩
  | 66 => ⟨S2x16384x12x64, .f32⟩
  | 67 => ⟨S2x16384x768, .f32⟩
  | 68 => ⟨S2x16384x768, .bf16⟩
  | _ => ⟨S2x16384x768, .f32⟩

abbrev hbmTy (i : Nat) : BufTy := match i / 128 with
  | 0 => hbmTy0_0 i
  | 1 => hbmTy0_1 i
  | 2 => hbmTy0_2 i
  | _ => ⟨S2x16384x768, .f32⟩

abbrev bufTy : (tb : Table) → Fin (tcTables nBuf tb) → BufTy
  | .hbm, ⟨i, _⟩ => hbmTy i
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_10 : Ref sig .tc := ⟨.hbm, 108, rfl⟩
abbrev main_call4_v0 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_11 : Ref sig .tc := ⟨.hbm, 115, rfl⟩
abbrev main_call5_v0 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_c_12 : Ref sig .tc := ⟨.hbm, 122, rfl⟩
abbrev main_call6_v0 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_c_13 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_c_14 : Ref sig .tc := ⟨.hbm, 145, rfl⟩
abbrev main_v117 : Ref sig .tc := ⟨.hbm, 146, rfl⟩
abbrev main_v118 : Ref sig .tc := ⟨.hbm, 147, rfl⟩
abbrev main_c_15 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_c_16 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_c_17 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_c_18 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_19 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v138 : Ref sig .tc := ⟨.hbm, 175, rfl⟩
abbrev main_cst_20 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_21 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_c_22 : Ref sig .tc := ⟨.hbm, 207, rfl⟩
abbrev main_call8_v0 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_c_23 : Ref sig .tc := ⟨.hbm, 214, rfl⟩
abbrev main_call9_v0 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_c_24 : Ref sig .tc := ⟨.hbm, 221, rfl⟩
abbrev main_call10_v0 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_c_25 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_c_26 : Ref sig .tc := ⟨.hbm, 244, rfl⟩
abbrev main_v198 : Ref sig .tc := ⟨.hbm, 245, rfl⟩
abbrev main_v199 : Ref sig .tc := ⟨.hbm, 246, rfl⟩
abbrev main_c_27 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_c_28 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_c_29 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_c_30 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_cst_31 : Ref sig .tc := ⟨.hbm, 270, rfl⟩
abbrev main_call11_v0 : Ref sig .tc := ⟨.hbm, 271, rfl⟩
abbrev main_call11_v1 : Ref sig .tc := ⟨.hbm, 272, rfl⟩
abbrev main_call11_v2 : Ref sig .tc := ⟨.hbm, 273, rfl⟩
abbrev main_v219 : Ref sig .tc := ⟨.hbm, 274, rfl⟩
abbrev main_cst_32 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_33 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_cst_34 : Ref sig .tc := ⟨.hbm, 308, rfl⟩
abbrev main_v251 : Ref sig .tc := ⟨.hbm, 309, rfl⟩
abbrev main_cst_35 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_cst_36 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩

abbrev nD : Nat := 1
abbrev τ : Topo := Topo.v7x

variable {F : FTy → Type} [FloatOps F]
-- ==== Kernel2.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_5 : BitVec 32 := 0#32
  let c8_i32 : BitVec 32 := 8#32
  let v19 : BitVec 32 := Scalar.addi c0_i32_5 c8_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  v20
def k0_off3 (k0_t1 : Fin k0_t1_loop.trips) : Fin 3 → Nat :=
  let c0_8 : Index := 0#32
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v22 : Index := Scalar.indexCast v21
  let c0_9 : Index := 0#32
  ![0, v22.toNat, 0]
def k0_off4 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v26 : Index := Scalar.indexCast v21
  let c0_10 : Index := 0#32
  ![v26.toNat, 0]
def k0_off5 (k0_t1 : Fin k0_t1_loop.trips) : Fin 3 → Nat :=
  let c0_11 : Index := 0#32
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v30 : Index := Scalar.indexCast v21
  let c0_12 : Index := 0#32
  ![0, v30.toNat, 0]
def k0_off6 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v34 : Index := Scalar.indexCast v21
  let c0_13 : Index := 0#32
  ![v34.toNat, 0]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S_ : Shape := ⟨0, ![]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S147456x1024, .f32⟩
  | .hbm, ⟨8, _⟩ => ⟨S288x512x1024, .f32⟩
  | .hbm, ⟨9, _⟩ => ⟨S288x1, .i32⟩
  | .hbm, ⟨10, _⟩ => ⟨S288x1024x2048, .f32⟩
  | .hbm, ⟨11, _⟩ => ⟨S288x512x2048, .f32⟩
  | .hbm, ⟨12, _⟩ => ⟨S288x1, .i32⟩
  | .hbm, ⟨13, _⟩ => ⟨S288x2048, .f32⟩
  | .hbm, ⟨14, _⟩ => ⟨S288x1x2048, .f32⟩
  | .hbm, ⟨15, _⟩ => ⟨S288x512x2048, .f32⟩
  | .hbm, ⟨16, _⟩ => ⟨S288x512x2048, .f32⟩
  | .hbm, ⟨17, _⟩ => ⟨S288x512x1024, .f32⟩
  | .hbm, ⟨18, _⟩ => ⟨S_, .f32⟩
  | .hbm, ⟨19, _⟩ => ⟨S288x512x1024, .f32⟩
  | .hbm, ⟨20, _⟩ => ⟨S288x512x1024, .f32⟩
  | .hbm, ⟨21, _⟩ => ⟨S288x512x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S288x512x1024, .f32⟩
  | .hbm, ⟨26, _⟩ => ⟨S288x512x1024, .f32⟩
  | .hbm, ⟨27, _⟩ => ⟨S_, .f32⟩
  | .hbm, ⟨28, _⟩ => ⟨S288x512x1024, .f32⟩
  | .hbm, ⟨29, _⟩ => ⟨S288x512x1024, .f32⟩
  | .hbm, ⟨30, _⟩ => ⟨S_, .f32⟩
  | .hbm, ⟨31, _⟩ => ⟨S288x512x1024, .f32⟩
  | .hbm, ⟨32, _⟩ => ⟨S288x512x1024, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S288x512x1024, .f32⟩
  | .hbm, ⟨37, _⟩ => ⟨S288x512x1024, .f32⟩
  | .hbm, ⟨38, _⟩ => ⟨S_, .f32⟩
  | .hbm, ⟨39, _⟩ => ⟨S288x512x1024, .f32⟩
  | .hbm, ⟨40, _⟩ => ⟨S288x512x1024, .f32⟩
  | .hbm, ⟨41, _⟩ => ⟨S288x512x1024, .f32⟩
  | .hbm, ⟨42, _⟩ => ⟨S_, .f32⟩
  | .hbm, ⟨43, _⟩ => ⟨S288x512x1024, .f32⟩
  | .hbm, ⟨44, _⟩ => ⟨S288x512x1024, .f32⟩
  | .hbm, ⟨45, _⟩ => ⟨S288x512x1024, .f32⟩
  | .hbm, ⟨46, _⟩ => ⟨S288x1, .i32⟩
  | .hbm, ⟨47, _⟩ => ⟨S288x1024x1024, .f32⟩
  | .hbm, ⟨48, _⟩ => ⟨S288x512x1024, .f32⟩
  | .hbm, ⟨49, _⟩ => ⟨S288x1, .i32⟩
  | .hbm, ⟨50, _⟩ => ⟨S288x1024, .f32⟩
  | .hbm, ⟨51, _⟩ => ⟨S288x1x1024, .f32⟩
  | .hbm, ⟨52, _⟩ => ⟨S288x512x1024, .f32⟩
  | .hbm, ⟨53, _⟩ => ⟨S288x512x1024, .f32⟩
  | .hbm, ⟨54, _⟩ => ⟨S288, .i32⟩
  | .hbm, ⟨55, _⟩ => ⟨S_, .i32⟩
  | .hbm, ⟨56, _⟩ => ⟨S288, .i32⟩
  | .hbm, ⟨57, _⟩ => ⟨S288, .i1⟩
  | .hbm, ⟨58, _⟩ => ⟨S288x1x1, .i1⟩
  | .hbm, ⟨59, _⟩ => ⟨S_, .f32⟩
  | .hbm, ⟨60, _⟩ => ⟨S_, .f32⟩
  | .hbm, ⟨61, _⟩ => ⟨S288x512x1024, .i1⟩
  | .hbm, ⟨62, _⟩ => ⟨S288x512x1024, .f32⟩
  | .hbm, ⟨63, _⟩ => ⟨S288x512x1024, .f32⟩
  | .hbm, ⟨64, _⟩ => ⟨S147456x1024, .f32⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_cst_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call3_v0 : Ref sig .tc := ⟨.hbm, 46, rfl⟩
abbrev main_v25 : Ref sig .tc := ⟨.hbm, 47, rfl⟩
abbrev main_v26 : Ref sig .tc := ⟨.hbm, 48, rfl⟩
abbrev main_call4_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1x1024 : Shape := ⟨3, ![2, 1, 1024]⟩
abbrev S1024x3336 : Shape := ⟨2, ![1024, 3336]⟩
abbrev S_ : Shape := ⟨0, ![]⟩
abbrev S1024x3456 : Shape := ⟨2, ![1024, 3456]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S2x16384x768 : Shape := ⟨3, ![2, 16384, 768]⟩
abbrev S2x16384x256 : Shape := ⟨3, ![2, 16384, 256]⟩
abbrev S2x16384x128 : Shape := ⟨3, ![2, 16384, 128]⟩
abbrev S1x512x1024 : Shape := ⟨3, ![1, 512, 1024]⟩
abbrev S1x1x1024 : Shape := ⟨3, ![1, 1, 1024]⟩
abbrev S512x128 : Shape := ⟨2, ![512, 128]⟩
abbrev S1x512x768 : Shape := ⟨3, ![1, 512, 768]⟩
abbrev S1x512x256 : Shape := ⟨3, ![1, 512, 256]⟩
abbrev S1x512x128 : Shape := ⟨3, ![1, 512, 128]⟩
abbrev S512x1024 : Shape := ⟨2, ![512, 1024]⟩
abbrev S1x1024 : Shape := ⟨2, ![1, 1024]⟩
abbrev S1024x128 : Shape := ⟨2, ![1024, 128]⟩
abbrev S1024x768 : Shape := ⟨2, ![1024, 768]⟩
abbrev S512x768 : Shape := ⟨2, ![512, 768]⟩
abbrev S1024x256 : Shape := ⟨2, ![1024, 256]⟩
abbrev S512x256 : Shape := ⟨2, ![512, 256]⟩

abbrev nBuf : Space → Nat
  | .hbm => 51
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x3336, .f32⟩
  | .hbm, ⟨4, _⟩ => ⟨S_, .i32⟩
  | .hbm, ⟨5, _⟩ => ⟨S_, .f32⟩
  | .hbm, ⟨6, _⟩ => ⟨S1024x3456, .f32⟩
  | .hbm, ⟨7, _⟩ => ⟨S1024x3456, .bf16⟩
  | .hbm, ⟨8, _⟩ => ⟨S16384, .i32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S16384, .f32⟩
  | .hbm, ⟨18, _⟩ => ⟨S16384x1, .f32⟩
  | .hbm, ⟨19, _⟩ => ⟨S1x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S_, .f32⟩
  | .hbm, ⟨26, _⟩ => ⟨S16384x48, .f32⟩
  | .hbm, ⟨27, _⟩ => ⟨S_, .f32⟩
  | .hbm, ⟨28, _⟩ => ⟨S16384x8, .f32⟩
  | .hbm, ⟨29, _⟩ => ⟨S_, .f32⟩
  | .hbm, ⟨30, _⟩ => ⟨S16384x48, .f32⟩
  | .hbm, ⟨31, _⟩ => ⟨S16384x48, .f32⟩
  | .hbm, ⟨32, _⟩ => ⟨S16384x64, .f32⟩
  | .hbm, ⟨33, _⟩ => ⟨S16384x8, .f32⟩
  | .hbm, ⟨34, _⟩ => ⟨S16384x64, .f32⟩
  | .hbm, ⟨35, _⟩ => ⟨S16384x64, .f32⟩
  | .hbm, ⟨36, _⟩ => ⟨S1x16384x1x64, .f32⟩
  | .hbm, ⟨37, _⟩ => ⟨S1x16384x2x64, .f32⟩
  | .hbm, ⟨38, _⟩ => ⟨S16384x128, .f32⟩
  | .hbm, ⟨39, _⟩ => ⟨S1x16384x1x64, .f32⟩
  | .hbm, ⟨40, _⟩ => ⟨S1x16384x2x64, .f32⟩
  | .hbm, ⟨41, _⟩ => ⟨S16384x128, .f32⟩
  | .hbm, ⟨42, _⟩ => ⟨S1x16384x1x64, .f32⟩
  | .hbm, ⟨43, _⟩ => ⟨S1x16384x2x64, .f32⟩
  | .hbm, ⟨44, _⟩ => ⟨S16384x128, .f32⟩
  | .hbm, ⟨45, _⟩ => ⟨S2x16384x768, .f32⟩
  | .hbm, ⟨46, _⟩ => ⟨S2x16384x768, .f32⟩
  | .hbm, ⟨47, _⟩ => ⟨S2x16384x768, .f32⟩
  | .hbm, ⟨48, _⟩ => ⟨S2x16384x768, .f32⟩
  | .hbm, ⟨49, _⟩ => ⟨S2x16384x256, .f32⟩
  | .hbm, ⟨50, _⟩ => ⟨S2x16384x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1024x3456, .bf16⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x256, .f32⟩
  | .local _ .vmem, ⟨22, _⟩ => ⟨S1x512x256, .f32⟩
  | .local _ .vmem, ⟨23, _⟩ => ⟨S1x512x128, .f32⟩
  | .local _ .vmem, ⟨24, _⟩ => ⟨S1x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v34_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S2x16384x1024 : Shape := ⟨3, ![2, 16384, 1024]⟩
abbrev S2x1x1024 : Shape := ⟨3, ![2, 1, 1024]⟩
abbrev S1024x3336 : Shape := ⟨2, ![1024, 3336]⟩
abbrev S16384 : Shape := ⟨1, ![16384]⟩
abbrev S_ : Shape := ⟨0, ![]⟩
abbrev S2x16384x3336 : Shape := ⟨3, ![2, 16384, 3336]⟩
abbrev S2x16384x768 : Shape := ⟨3, ![2, 16384, 768]⟩
abbrev S2x16384x12x64 : Shape := ⟨4, ![2, 16384, 12, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S2x16384x12x16 : Shape := ⟨4, ![2, 16384, 12, 16]⟩
abbrev S2x16384x12x8 : Shape := ⟨4, ![2, 16384, 12, 8]⟩
abbrev S2x16384x12x48 : Shape := ⟨4, ![2, 16384, 12, 48]⟩
abbrev S2x16384x8 : Shape := ⟨3, ![2, 16384, 8]⟩
abbrev S2x16384x128 : Shape := ⟨3, ![2, 16384, 128]⟩
abbrev S2x16384x256 : Shape := ⟨3, ![2, 16384, 256]⟩

abbrev nBuf : Space → Nat
  | .hbm => 99
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x3336, .f32⟩
  | .hbm, ⟨4, _⟩ => ⟨S16384, .i32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x3336, .f32⟩
  | .hbm, ⟨13, _⟩ => ⟨S2x16384x768, .f32⟩
  | .hbm, ⟨14, _⟩ => ⟨S2x16384x12x64, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S16384, .f32⟩
  | .hbm, ⟨24, _⟩ => ⟨S16384x1, .f32⟩
  | .hbm, ⟨25, _⟩ => ⟨S1x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S1x16384x1x8, .f32⟩
  | .hbm, ⟨31, _⟩ => ⟨S16384x8, .f32⟩
  | .hbm, ⟨32, _⟩ => ⟨S1x16384x1x8, .f32⟩
  | .hbm, ⟨33, _⟩ => ⟨S2x16384x12x16, .f32⟩
  | .hbm, ⟨34, _⟩ => ⟨S2x16384x12x8, .f32⟩
  | .hbm, ⟨35, _⟩ => ⟨S2x16384x12x8, .f32⟩
  | .hbm, ⟨36, _⟩ => ⟨S2x16384x12x8, .f32⟩
  | .hbm, ⟨37, _⟩ => ⟨S2x16384x12x8, .f32⟩
  | .hbm, ⟨38, _⟩ => ⟨S2x16384x12x8, .f32⟩
  | .hbm, ⟨39, _⟩ => ⟨S2x16384x12x8, .f32⟩
  | .hbm, ⟨40, _⟩ => ⟨S2x16384x12x8, .f32⟩
  | .hbm, ⟨41, _⟩ => ⟨S2x16384x12x8, .f32⟩
  | .hbm, ⟨42, _⟩ => ⟨S2x16384x12x8, .f32⟩
  | .hbm, ⟨43, _⟩ => ⟨S2x16384x12x8, .f32⟩
  | .hbm, ⟨44, _⟩ => ⟨S2x16384x12x8, .f32⟩
  | .hbm, ⟨45, _⟩ => ⟨S2x16384x12x8, .f32⟩
  | .hbm, ⟨46, _⟩ => ⟨S2x16384x12x16, .f32⟩
  | .hbm, ⟨47, _⟩ => ⟨S2x16384x12x48, .f32⟩
  | .hbm, ⟨48, _⟩ => ⟨S2x16384x12x64, .f32⟩
  | .hbm, ⟨49, _⟩ => ⟨S2x16384x768, .f32⟩
  | .hbm, ⟨50, _⟩ => ⟨S2x16384x12x64, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S16384, .f32⟩
  | .hbm, ⟨60, _⟩ => ⟨S16384x1, .f32⟩
  | .hbm, ⟨61, _⟩ => ⟨S1x8, .f32⟩
  | .hbm, ⟨62, _⟩ => ⟨S16384x8, .f32⟩
  | .hbm, ⟨63, _⟩ => ⟨S16384x8, .f32⟩
  | .hbm, ⟨64, _⟩ => ⟨S16384x8, .f32⟩
  | .hbm, ⟨65, _⟩ => ⟨S16384x8, .f32⟩
  | .hbm, ⟨66, _⟩ => ⟨S1x16384x1x8, .f32⟩
  | .hbm, ⟨67, _⟩ => ⟨S16384x8, .f32⟩
  | .hbm, ⟨68, _⟩ => ⟨S1x16384x1x8, .f32⟩
  | .hbm, ⟨69, _⟩ => ⟨S2x16384x12x16, .f32⟩
  | .hbm, ⟨70, _⟩ => ⟨S2x16384x12x8, .f32⟩
  | .hbm, ⟨71, _⟩ => ⟨S2x16384x12x8, .f32⟩
  | .hbm, ⟨72, _⟩ => ⟨S2x16384x12x8, .f32⟩
  | .hbm, ⟨73, _⟩ => ⟨S2x16384x12x8, .f32⟩
  | .hbm, ⟨74, _⟩ => ⟨S2x16384x12x8, .f32⟩
  | .hbm, ⟨75, _⟩ => ⟨S2x16384x12x8, .f32⟩
  | .hbm, ⟨76, _⟩ => ⟨S2x16384x12x8, .f32⟩
  | .hbm, ⟨77, _⟩ => ⟨S2x16384x12x8, .f32⟩
  | .hbm, ⟨78, _⟩ => ⟨S2x16384x12x8, .f32⟩
  | .hbm, ⟨79, _⟩ => ⟨S2x16384x12x8, .f32⟩
  | .hbm, ⟨80, _⟩ => ⟨S2x16384x12x8, .f32⟩
  | .hbm, ⟨81, _⟩ => ⟨S2x16384x12x8, .f32⟩
  | .hbm, ⟨82, _⟩ => ⟨S2x16384x12x16, .f32⟩
  | .hbm, ⟨83, _⟩ => ⟨S2x16384x12x48, .f32⟩
  | .hbm, ⟨84, _⟩ => ⟨S2x16384x12x64, .f32⟩
  | .hbm, ⟨85, _⟩ => ⟨S2x16384x768, .f32⟩
  | .hbm, ⟨86, _⟩ => ⟨S2x16384x12x64, .f32⟩
  | .hbm, ⟨87, _⟩ => ⟨S2x16384x8, .f32⟩
  | .hbm, ⟨88, _⟩ => ⟨S_, .i32⟩
  | .hbm, ⟨89, _⟩ => ⟨S_, .f32⟩
  | .hbm, ⟨90, _⟩ => ⟨S2x16384x128, .f32⟩
  | .hbm, ⟨91, _⟩ => ⟨S2x16384x768, .f32⟩
  | .hbm, ⟨92, _⟩ => ⟨S_, .f32⟩
  | .hbm, ⟨93, _⟩ => ⟨S2x16384x768, .f32⟩
  | .hbm, ⟨94, _⟩ => ⟨S2x16384x768, .f32⟩
  | .hbm, ⟨95, _⟩ => ⟨S2x16384x768, .f32⟩
  | .hbm, ⟨96, _⟩ => ⟨S2x16384x768, .f32⟩
  | .hbm, ⟨97, _⟩ => ⟨S2x16384x768, .f32⟩
  | .hbm, ⟨98, _⟩ => ⟨S2x16384x256, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_c : Ref sig .tc := ⟨.hbm, 88, rfl⟩
abbrev main_call0_v0 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩

abbrev nD : Nat := 1
abbrev τ : Topo := Topo.v7x

variable {F : FTy → Type} [FloatOps F]
-- ==== Proof.Off.lean ====
/- The closed forms of the offsets the three branch loops read and write at: the query rows a trip's chain `u` takes
   (`k0_off1`, `k0_off4`, `k0_off7`), the key rows its band starts at (`k0_off2`, `k0_off5`, `k0_off8`) and the rows of the
   branch's plane its results go to (`k0_off3`, `k0_off6`, `k0_off9`). -/
module

public import proofs.«01_k».proof.Proof.Gen.KernelIdeal.Loops

@[expose] public section

namespace Cert.KernelIdeal.Hand

open Idealize.ShloMosaic Cert.KernelIdeal

theorem off1_0 : ∀ k : Fin k0_t1_loop.trips, k0_off1 k 0#32 = ![0, 512 * k.val + 0, 0] := by decide +kernel
instance closed1_0 (k : Fin k0_t1_loop.trips) : ClosedOff (k0_off1 k 0#32) := ⟨![0, 512 * k.val + 0, 0], off1_0 k⟩
theorem off1_1 : ∀ k : Fin k0_t1_loop.trips, k0_off1 k 1#32 = ![0, 512 * k.val + 128, 0] := by decide +kernel
instance closed1_1 (k : Fin k0_t1_loop.trips) : ClosedOff (k0_off1 k 1#32) := ⟨![0, 512 * k.val + 128, 0], off1_1 k⟩
theorem off1_2 : ∀ k : Fin k0_t1_loop.trips, k0_off1 k 2#32 = ![0, 512 * k.val + 256, 0] := by decide +kernel
instance closed1_2 (k : Fin k0_t1_loop.trips) : ClosedOff (k0_off1 k 2#32) := ⟨![0, 512 * k.val + 256, 0], off1_2 k⟩
theorem off1_3 : ∀ k : Fin k0_t1_loop.trips, k0_off1 k 3#32 = ![0, 512 * k.val + 384, 0] := by decide +kernel
instance closed1_3 (k : Fin k0_t1_loop.trips) : ClosedOff (k0_off1 k 3#32) := ⟨![0, 512 * k.val + 384, 0], off1_3 k⟩
theorem off2_0 : ∀ k : Fin k0_t1_loop.trips, k0_off2 k 0#32 = ![512 * k.val + 1920, 0] := by decide +kernel
instance closed2_0 (k : Fin k0_t1_loop.trips) : ClosedOff (k0_off2 k 0#32) := ⟨![512 * k.val + 1920, 0], off2_0 k⟩
theorem off2_1 : ∀ k : Fin k0_t1_loop.trips, k0_off2 k 1#32 = ![512 * k.val + 2048, 0] := by decide +kernel
instance closed2_1 (k : Fin k0_t1_loop.trips) : ClosedOff (k0_off2 k 1#32) := ⟨![512 * k.val + 2048, 0], off2_1 k⟩
theorem off2_2 : ∀ k : Fin k0_t1_loop.trips, k0_off2 k 2#32 = ![512 * k.val + 2176, 0] := by decide +kernel
instance closed2_2 (k : Fin k0_t1_loop.trips) : ClosedOff (k0_off2 k 2#32) := ⟨![512 * k.val + 2176, 0], off2_2 k⟩
theorem off2_3 : ∀ k : Fin k0_t1_loop.trips, k0_off2 k 3#32 = ![512 * k.val + 2304, 0] := by decide +kernel
instance closed2_3 (k : Fin k0_t1_loop.trips) : ClosedOff (k0_off2 k 3#32) := ⟨![512 * k.val + 2304, 0], off2_3 k⟩
theorem off3_0 : ∀ k : Fin k0_t1_loop.trips, k0_off3 k 0#32 = ![0, 512 * k.val + 0, 0] := by decide +kernel
instance closed3_0 (k : Fin k0_t1_loop.trips) : ClosedOff (k0_off3 k 0#32) := ⟨![0, 512 * k.val + 0, 0], off3_0 k⟩
theorem off3_1 : ∀ k : Fin k0_t1_loop.trips, k0_off3 k 1#32 = ![0, 512 * k.val + 128, 0] := by decide +kernel
instance closed3_1 (k : Fin k0_t1_loop.trips) : ClosedOff (k0_off3 k 1#32) := ⟨![0, 512 * k.val + 128, 0], off3_1 k⟩
theorem off3_2 : ∀ k : Fin k0_t1_loop.trips, k0_off3 k 2#32 = ![0, 512 * k.val + 256, 0] := by decide +kernel
instance closed3_2 (k : Fin k0_t1_loop.trips) : ClosedOff (k0_off3 k 2#32) := ⟨![0, 512 * k.val + 256, 0], off3_2 k⟩
theorem off3_3 : ∀ k : Fin k0_t1_loop.trips, k0_off3 k 3#32 = ![0, 512 * k.val + 384, 0] := by decide +kernel
instance closed3_3 (k : Fin k0_t1_loop.trips) : ClosedOff (k0_off3 k 3#32) := ⟨![0, 512 * k.val + 384, 0], off3_3 k⟩
theorem off4_0 : ∀ k : Fin k0_t2_loop.trips, k0_off4 k 0#32 = ![0, 512 * k.val + 0, 0] := by decide +kernel
instance closed4_0 (k : Fin k0_t2_loop.trips) : ClosedOff (k0_off4 k 0#32) := ⟨![0, 512 * k.val + 0, 0], off4_0 k⟩
theorem off4_1 : ∀ k : Fin k0_t2_loop.trips, k0_off4 k 1#32 = ![0, 512 * k.val + 1, 0] := by decide +kernel
instance closed4_1 (k : Fin k0_t2_loop.trips) : ClosedOff (k0_off4 k 1#32) := ⟨![0, 512 * k.val + 1, 0], off4_1 k⟩
theorem off4_2 : ∀ k : Fin k0_t2_loop.trips, k0_off4 k 2#32 = ![0, 512 * k.val + 2, 0] := by decide +kernel
instance closed4_2 (k : Fin k0_t2_loop.trips) : ClosedOff (k0_off4 k 2#32) := ⟨![0, 512 * k.val + 2, 0], off4_2 k⟩
theorem off4_3 : ∀ k : Fin k0_t2_loop.trips, k0_off4 k 3#32 = ![0, 512 * k.val + 3, 0] := by decide +kernel
instance closed4_3 (k : Fin k0_t2_loop.trips) : ClosedOff (k0_off4 k 3#32) := ⟨![0, 512 * k.val + 3, 0], off4_3 k⟩
theorem off5_0 : ∀ k : Fin k0_t2_loop.trips, k0_off5 k 0#32 = ![512 * k.val + 1536, 0] := by decide +kernel
instance closed5_0 (k : Fin k0_t2_loop.trips) : ClosedOff (k0_off5 k 0#32) := ⟨![512 * k.val + 1536, 0], off5_0 k⟩
theorem off5_1 : ∀ k : Fin k0_t2_loop.trips, k0_off5 k 1#32 = ![512 * k.val + 1537, 0] := by decide +kernel
instance closed5_1 (k : Fin k0_t2_loop.trips) : ClosedOff (k0_off5 k 1#32) := ⟨![512 * k.val + 1537, 0], off5_1 k⟩
theorem off5_2 : ∀ k : Fin k0_t2_loop.trips, k0_off5 k 2#32 = ![512 * k.val + 1538, 0] := by decide +kernel
instance closed5_2 (k : Fin k0_t2_loop.trips) : ClosedOff (k0_off5 k 2#32) := ⟨![512 * k.val + 1538, 0], off5_2 k⟩
theorem off5_3 : ∀ k : Fin k0_t2_loop.trips, k0_off5 k 3#32 = ![512 * k.val + 1539, 0] := by decide +kernel
instance closed5_3 (k : Fin k0_t2_loop.trips) : ClosedOff (k0_off5 k 3#32) := ⟨![512 * k.val + 1539, 0], off5_3 k⟩
theorem off6_0 : ∀ k : Fin k0_t2_loop.trips, k0_off6 k 0#32 = ![1, 512 * k.val + 0, 0] := by decide +kernel
instance closed6_0 (k : Fin k0_t2_loop.trips) : ClosedOff (k0_off6 k 0#32) := ⟨![1, 512 * k.val + 0, 0], off6_0 k⟩
theorem off6_1 : ∀ k : Fin k0_t2_loop.trips, k0_off6 k 1#32 = ![1, 512 * k.val + 1, 0] := by decide +kernel
instance closed6_1 (k : Fin k0_t2_loop.trips) : ClosedOff (k0_off6 k 1#32) := ⟨![1, 512 * k.val + 1, 0], off6_1 k⟩
theorem off6_2 : ∀ k : Fin k0_t2_loop.trips, k0_off6 k 2#32 = ![1, 512 * k.val + 2, 0] := by decide +kernel
instance closed6_2 (k : Fin k0_t2_loop.trips) : ClosedOff (k0_off6 k 2#32) := ⟨![1, 512 * k.val + 2, 0], off6_2 k⟩
theorem off6_3 : ∀ k : Fin k0_t2_loop.trips, k0_off6 k 3#32 = ![1, 512 * k.val + 3, 0] := by decide +kernel
instance closed6_3 (k : Fin k0_t2_loop.trips) : ClosedOff (k0_off6 k 3#32) := ⟨![1, 512 * k.val + 3, 0], off6_3 k⟩
theorem off7_0 : ∀ k : Fin k0_t3_loop.trips, k0_off7 k 0#32 = ![0, 4 * k.val + 0, 0] := by decide +kernel
instance closed7_0 (k : Fin k0_t3_loop.trips) : ClosedOff (k0_off7 k 0#32) := ⟨![0, 4 * k.val + 0, 0], off7_0 k⟩
theorem off7_1 : ∀ k : Fin k0_t3_loop.trips, k0_off7 k 1#32 = ![0, 4 * k.val + 1, 0] := by decide +kernel
instance closed7_1 (k : Fin k0_t3_loop.trips) : ClosedOff (k0_off7 k 1#32) := ⟨![0, 4 * k.val + 1, 0], off7_1 k⟩
theorem off7_2 : ∀ k : Fin k0_t3_loop.trips, k0_off7 k 2#32 = ![0, 4 * k.val + 2, 0] := by decide +kernel
instance closed7_2 (k : Fin k0_t3_loop.trips) : ClosedOff (k0_off7 k 2#32) := ⟨![0, 4 * k.val + 2, 0], off7_2 k⟩
theorem off7_3 : ∀ k : Fin k0_t3_loop.trips, k0_off7 k 3#32 = ![0, 4 * k.val + 3, 0] := by decide +kernel
instance closed7_3 (k : Fin k0_t3_loop.trips) : ClosedOff (k0_off7 k 3#32) := ⟨![0, 4 * k.val + 3, 0], off7_3 k⟩
theorem off8_0 : ∀ k : Fin k0_t3_loop.trips, k0_off8 k 0#32 = ![4 * k.val + 0, 0] := by decide +kernel
instance closed8_0 (k : Fin k0_t3_loop.trips) : ClosedOff (k0_off8 k 0#32) := ⟨![4 * k.val + 0, 0], off8_0 k⟩
theorem off8_1 : ∀ k : Fin k0_t3_loop.trips, k0_off8 k 1#32 = ![4 * k.val + 1, 0] := by decide +kernel
instance closed8_1 (k : Fin k0_t3_loop.trips) : ClosedOff (k0_off8 k 1#32) := ⟨![4 * k.val + 1, 0], off8_1 k⟩
theorem off8_2 : ∀ k : Fin k0_t3_loop.trips, k0_off8 k 2#32 = ![4 * k.val + 2, 0] := by decide +kernel
instance closed8_2 (k : Fin k0_t3_loop.trips) : ClosedOff (k0_off8 k 2#32) := ⟨![4 * k.val + 2, 0], off8_2 k⟩
theorem off8_3 : ∀ k : Fin k0_t3_loop.trips, k0_off8 k 3#32 = ![4 * k.val + 3, 0] := by decide +kernel
instance closed8_3 (k : Fin k0_t3_loop.trips) : ClosedOff (k0_off8 k 3#32) := ⟨![4 * k.val + 3, 0], off8_3 k⟩
theorem off9_0 : ∀ k : Fin k0_t3_loop.trips, k0_off9 k 0#32 = ![2, 4 * k.val + 0, 0] := by decide +kernel
instance closed9_0 (k : Fin k0_t3_loop.trips) : ClosedOff (k0_off9 k 0#32) := ⟨![2, 4 * k.val + 0, 0], off9_0 k⟩
theorem off9_1 : ∀ k : Fin k0_t3_loop.trips, k0_off9 k 1#32 = ![2, 4 * k.val + 1, 0] := by decide +kernel
instance closed9_1 (k : Fin k0_t3_loop.trips) : ClosedOff (k0_off9 k 1#32) := ⟨![2, 4 * k.val + 1, 0], off9_1 k⟩
theorem off9_2 : ∀ k : Fin k0_t3_loop.trips, k0_off9 k 2#32 = ![2, 4 * k.val + 2, 0] := by decide +kernel
instance closed9_2 (k : Fin k0_t3_loop.trips) : ClosedOff (k0_off9 k 2#32) := ⟨![2, 4 * k.val + 2, 0], off9_2 k⟩
theorem off9_3 : ∀ k : Fin k0_t3_loop.trips, k0_off9 k 3#32 = ![2, 4 * k.val + 3, 0] := by decide +kernel
instance closed9_3 (k : Fin k0_t3_loop.trips) : ClosedOff (k0_off9 k 3#32) := ⟨![2, 4 * k.val + 3, 0], off9_3 k⟩

end Cert.KernelIdeal.Hand
-- ==== Proof.Pay.lean ====
/- What one chain of a branch loop computes, written once for all three loops: from a block of 128 query rows, the 256 key
   rows and value rows of its band and the two masks, the scores of each of the lane block's two heads, their row maxima,
   exponentials, row sums and weighted sums of the values, and the three [128, 128] blocks stored from them. And the whole
   of what one grid point leaves in its output block. -/
module

public import proofs.«01_k».proof.Proof.Off
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-! ## One chain -/

/-- The query block with the lanes of the second head zeroed, in bf16. -/
def q0V (q : Vec F S1x128x128 .f32) : FVec F S128x128 .bf16 :=
  truncf .bf16 (select k0_pay3 (shapeCast S128x128 q shapeCasts_S1x128x128_S128x128) (broadcast S128x128 (Scalar.ofBits .f32 0x00000000#32 : F .f32))) bitsLt_bf16_f32

/-- The query block with the lanes of the first head zeroed, in bf16. -/
def q1V (q : Vec F S1x128x128 .f32) : FVec F S128x128 .bf16 :=
  truncf .bf16 (select k0_pay3 (broadcast S128x128 (Scalar.ofBits .f32 0x00000000#32 : F .f32)) (shapeCast S128x128 q shapeCasts_S1x128x128_S128x128)) bitsLt_bf16_f32

/-- The additive mask: the band's mask, and the mask of the first tile's missing keys where `fl` is set. -/
def maskV (b0 b1 : Vec F S1x128x256 .f32) (fl : BitVec 1) : FVec F S128x256 .f32 :=
  addf (shapeCast S128x256 b0 shapeCasts_S1x128x256_S128x256)
    (mulf (shapeCast S128x256 b1 shapeCasts_S1x128x256_S128x256)
      (broadcast S128x256 (Scalar.select fl (Scalar.ofBits .f32 0x3F800000#32 : F .f32) (Scalar.ofBits .f32 0x00000000#32))))

/-- The scores of a head: its queries against the band's keys, plus the mask. -/
def sV (q : FVec F S128x128 .bf16) (k : Vec F S256x128 .f32) (mask : FVec F S128x256 .f32) : FVec F S128x256 .f32 :=
  addf (matmul dot_S128x128_S256x128_S128x256_1_1_0_0_n_n none q (truncf .bf16 k bitsLt_bf16_f32 : FVec F S256x128 .bf16)
    (constant S128x256 .f32 0x00000000#32)) mask

/-- The row maxima of the scores. -/
def mV (s : FVec F S128x256 .f32) : FVec F S128x1 .f32 :=
  shapeCast S128x1 (multiReduction .maximumf [1] S128 s 0xFF800000#32 reduces_S128x256_S128 (.inl rfl) rfl) shapeCasts_S128_S128x1

/-- The exponentials of the scores less their row maximum. -/
def pV (s : FVec F S128x256 .f32) : FVec F S128x256 .f32 :=
  exp (subf s (broadcastTo S128x256 (mV s) broadcasts_S128x1_S128x256))

/-- Their row sums. -/
def lV (s : FVec F S128x256 .f32) : FVec F S128x1 .f32 :=
  shapeCast S128x1 (multiReduction .add [1] S128 (pV s) 0x00000000#32 reduces_S128x256_S128 (.inl rfl) rfl) shapeCasts_S128_S128x1

/-- The sums of the band's values weighted by them. -/
def oV (s : FVec F S128x256 .f32) (v : Vec F S256x128 .f32) : FVec F S128x128 .f32 :=
  matmul dot_S128x256_S256x128_S128x128_1_0_0_1_n_n none (truncf .bf16 (pV s) bitsLt_bf16_f32 : FVec F S128x256 .bf16)
    (truncf .bf16 v bitsLt_bf16_f32 : FVec F S256x128 .bf16) (constant S128x128 .f32 0x00000000#32)

/-- A column of each head spread over that head's lanes. -/
def colV (a b : FVec F S128x1 .f32) : Vec F S1x128x128 .f32 :=
  shapeCast S1x128x128 (select k0_pay3
    (broadcastTo S128x128 (shapeCast S128x1 a shapeCasts_S128x1_S128x1) broadcasts_S128x1_S128x128)
    (broadcastTo S128x128 (shapeCast S128x1 b shapeCasts_S128x1_S128x1) broadcasts_S128x1_S128x128)) shapeCasts_S128x128_S1x128x128

/-- The block of weighted sums, each head on its own lanes. -/
def accV (q : Vec F S1x128x128 .f32) (k v : Vec F S256x128 .f32) (mask : FVec F S128x256 .f32) : Vec F S1x128x128 .f32 :=
  shapeCast S1x128x128 (select k0_pay3 (oV (sV (q0V q) k mask) v) (oV (sV (q1V q) k mask) v)) shapeCasts_S128x128_S1x128x128

/-- The block of row maxima. -/
def mstV (q : Vec F S1x128x128 .f32) (k : Vec F S256x128 .f32) (mask : FVec F S128x256 .f32) : Vec F S1x128x128 .f32 :=
  colV (mV (sV (q0V q) k mask)) (mV (sV (q1V q) k mask))

/-- The block of row sums. -/
def lstV (q : Vec F S1x128x128 .f32) (k : Vec F S256x128 .f32) (mask : FVec F S128x256 .f32) : Vec F S1x128x128 .f32 :=
  colV (lV (sV (q0V q) k mask)) (lV (sV (q1V q) k mask))

/-! ## The chains of the three loops: trip `k`, chain `u` -/

/-- Whether the keys before the band's middle are missing: the grid point is a sequence's first tile and the block index
    of the chain within its class, the quotient of the chain's number `n` by `d`, is zero. -/
def flagV (v0 : BitVec 1) (d n : BitVec 32) : BitVec 1 := Scalar.andi v0 (Scalar.cmpi .eq (Scalar.divsi n d) 0#32)

/-- The same flag in the first loop: only chain 0 can be the first block, the numbers of the others being positive. -/
def flag1V (v0 : BitVec 1) (n : BitVec 32) (u : Fin 4) : BitVec 1 :=
  match u.val with
  | 0 => flagV v0 1#32 n
  | _ => Scalar.andi v0 0#1

/-- The number of a chain, `4 * k + u`, as the program computes it. -/
def numV (k : ℕ) (u : Fin 4) : BitVec 32 :=
  Scalar.addi (Scalar.muli (Scf.iv 0#32 1#32 k) 4#32) (BitVec.ofNat 32 u.val)

/-- The mask a chain adds. -/
def mkV (B : Vec F S2x128x256 .f32) (fl : BitVec 1) : FVec F S128x256 .f32 :=
  maskV (View.ld B (Rect.unit (s := S2x128x256) ![0, 0, 0] S1x128x256.size inb_S2x128x256_S1x128x256_0_0_0))
    (View.ld B (Rect.unit (s := S2x128x256) ![1, 0, 0] S1x128x256.size inb_S2x128x256_S1x128x256_1_0_0)) fl

theorem spq4 : ∀ a, 0 < (![1, 4, 1] : Fin 3 → ℕ) a := by decide
theorem spo4 : ∀ a, 0 < (![1, 4, 1] : Fin 3 → ℕ) a := by decide
theorem spk4 : ∀ a, 0 < (![4, 1] : Fin 2 → ℕ) a := by decide

theorem spq16 : ∀ a, 0 < (![1, 16, 1] : Fin 3 → ℕ) a := by decide
theorem spo16 : ∀ a, 0 < (![1, 16, 1] : Fin 3 → ℕ) a := by decide
theorem spk16 : ∀ a, 0 < (![16, 1] : Fin 2 → ℕ) a := by decide

/-- The query rows of a chain of loop 1. -/
abbrev rq1 (k : Fin k0_t1_loop.trips) (u : Fin 4) : Rect S1x2048x128 := Rect.unit (s := S1x2048x128) (k0_off1 k (BitVec.ofNat 32 u.val)) S1x128x128.size (k0_off1_inb k u)

/-- The band rows of a chain of loop 1. -/
abbrev rk1 (k : Fin k0_t1_loop.trips) (u : Fin 4) : Rect S4096x128 := Rect.unit (s := S4096x128) (k0_off2 k (BitVec.ofNat 32 u.val)) S256x128.size (k0_off2_inb k u)

/-- The rows of the planes of a chain of loop 1. -/
abbrev ro1 (k : Fin k0_t1_loop.trips) (u : Fin 4) : Rect S3x2048x128 := Rect.unit (s := S3x2048x128) (k0_off3 k (BitVec.ofNat 32 u.val)) S1x128x128.size (k0_off3_inb k u)

/-- What a chain of loop 1 stores into the plane of weighted sums; -/
def acc1 (Q : Vec F S1x2048x128 .f32) (K W : Vec F S4096x128 .f32) (B : Vec F S2x128x256 .f32) (v0 : BitVec 1) (k : Fin k0_t1_loop.trips) (u : Fin 4) : Vec F S1x128x128 .f32 :=
  accV (View.ld Q (rq1 k u)) (View.ld K (rk1 k u)) (View.ld W (rk1 k u)) (mkV B (flag1V v0 (numV k.val u) u))

/-- into the plane of row maxima; -/
def mst1 (Q : Vec F S1x2048x128 .f32) (K : Vec F S4096x128 .f32) (B : Vec F S2x128x256 .f32) (v0 : BitVec 1) (k : Fin k0_t1_loop.trips) (u : Fin 4) : Vec F S1x128x128 .f32 :=
  mstV (View.ld Q (rq1 k u)) (View.ld K (rk1 k u)) (mkV B (flag1V v0 (numV k.val u) u))

/-- into the plane of row sums. -/
def lst1 (Q : Vec F S1x2048x128 .f32) (K : Vec F S4096x128 .f32) (B : Vec F S2x128x256 .f32) (v0 : BitVec 1) (k : Fin k0_t1_loop.trips) (u : Fin 4) : Vec F S1x128x128 .f32 :=
  lstV (View.ld Q (rq1 k u)) (View.ld K (rk1 k u)) (mkV B (flag1V v0 (numV k.val u) u))

/-- The query rows of a chain of loop 2. -/
abbrev rq2 (k : Fin k0_t2_loop.trips) (u : Fin 4) : Rect S1x2048x128 := ⟨⟨k0_off4 k (BitVec.ofNat 32 u.val), S1x128x128.size, ![1, 4, 1], k0_off4_inb k u⟩, spq4⟩

/-- The band rows of a chain of loop 2. -/
abbrev rk2 (k : Fin k0_t2_loop.trips) (u : Fin 4) : Rect S4096x128 := ⟨⟨k0_off5 k (BitVec.ofNat 32 u.val), S256x128.size, ![4, 1], k0_off5_inb k u⟩, spk4⟩

/-- The rows of the planes of a chain of loop 2. -/
abbrev ro2 (k : Fin k0_t2_loop.trips) (u : Fin 4) : Rect S3x2048x128 := ⟨⟨k0_off6 k (BitVec.ofNat 32 u.val), S1x128x128.size, ![1, 4, 1], k0_off6_inb k u⟩, spo4⟩

/-- What a chain of loop 2 stores into the plane of weighted sums; -/
def acc2 (Q : Vec F S1x2048x128 .f32) (K W : Vec F S4096x128 .f32) (B : Vec F S2x128x256 .f32) (v0 : BitVec 1) (k : Fin k0_t2_loop.trips) (u : Fin 4) : Vec F S1x128x128 .f32 :=
  accV (View.ld Q (rq2 k u)) (View.ld K (rk2 k u)) (View.ld W (rk2 k u)) (mkV B (flagV v0 4#32 (numV k.val u)))

/-- into the plane of row maxima; -/
def mst2 (Q : Vec F S1x2048x128 .f32) (K : Vec F S4096x128 .f32) (B : Vec F S2x128x256 .f32) (v0 : BitVec 1) (k : Fin k0_t2_loop.trips) (u : Fin 4) : Vec F S1x128x128 .f32 :=
  mstV (View.ld Q (rq2 k u)) (View.ld K (rk2 k u)) (mkV B (flagV v0 4#32 (numV k.val u)))

/-- into the plane of row sums. -/
def lst2 (Q : Vec F S1x2048x128 .f32) (K : Vec F S4096x128 .f32) (B : Vec F S2x128x256 .f32) (v0 : BitVec 1) (k : Fin k0_t2_loop.trips) (u : Fin 4) : Vec F S1x128x128 .f32 :=
  lstV (View.ld Q (rq2 k u)) (View.ld K (rk2 k u)) (mkV B (flagV v0 4#32 (numV k.val u)))

/-- The query rows of a chain of loop 3. -/
abbrev rq3 (k : Fin k0_t3_loop.trips) (u : Fin 4) : Rect S1x2048x128 := ⟨⟨k0_off7 k (BitVec.ofNat 32 u.val), S1x128x128.size, ![1, 16, 1], k0_off7_inb k u⟩, spq16⟩

/-- The band rows of a chain of loop 3. -/
abbrev rk3 (k : Fin k0_t3_loop.trips) (u : Fin 4) : Rect S4096x128 := ⟨⟨k0_off8 k (BitVec.ofNat 32 u.val), S256x128.size, ![16, 1], k0_off8_inb k u⟩, spk16⟩

/-- The rows of the planes of a chain of loop 3. -/
abbrev ro3 (k : Fin k0_t3_loop.trips) (u : Fin 4) : Rect S3x2048x128 := ⟨⟨k0_off9 k (BitVec.ofNat 32 u.val), S1x128x128.size, ![1, 16, 1], k0_off9_inb k u⟩, spo16⟩

/-- What a chain of loop 3 stores into the plane of weighted sums; -/
def acc3 (Q : Vec F S1x2048x128 .f32) (K W : Vec F S4096x128 .f32) (B : Vec F S2x128x256 .f32) (v0 : BitVec 1) (k : Fin k0_t3_loop.trips) (u : Fin 4) : Vec F S1x128x128 .f32 :=
  accV (View.ld Q (rq3 k u)) (View.ld K (rk3 k u)) (View.ld W (rk3 k u)) (mkV B (Scalar.andi v0 (Scalar.cmpi .eq 0#32 0#32)))

/-- into the plane of row maxima; -/
def mst3 (Q : Vec F S1x2048x128 .f32) (K : Vec F S4096x128 .f32) (B : Vec F S2x128x256 .f32) (v0 : BitVec 1) (k : Fin k0_t3_loop.trips) (u : Fin 4) : Vec F S1x128x128 .f32 :=
  mstV (View.ld Q (rq3 k u)) (View.ld K (rk3 k u)) (mkV B (Scalar.andi v0 (Scalar.cmpi .eq 0#32 0#32)))

/-- into the plane of row sums. -/
def lst3 (Q : Vec F S1x2048x128 .f32) (K : Vec F S4096x128 .f32) (B : Vec F S2x128x256 .f32) (v0 : BitVec 1) (k : Fin k0_t3_loop.trips) (u : Fin 4) : Vec F S1x128x128 .f32 :=
  lstV (View.ld Q (rq3 k u)) (View.ld K (rk3 k u)) (mkV B (Scalar.andi v0 (Scalar.cmpi .eq 0#32 0#32)))

end Cert.KernelIdeal.Hand

end
-- ==== Proof.Held.lean ====
/- What one trip of a branch loop of the kernel's body holds: the query tile, the key and value buffers and the two masks
   it reads, and the three planes (weighted sums, row maxima, row denominators) it writes. -/
module

public import proofs.«01_k».proof.Proof.Off
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

/-- What a trip of a branch loop holds: the buffers it reads at their contents, the three planes it writes. -/
abbrev Held (c : Dev nD) (arg3 : Memref sig .tc .vmem S1x2048x128 .f32) (arg9 arg10 : Memref sig .tc .vmem S4096x128 .f32)
    (arg11 arg12 arg13 : Memref sig .tc .vmem S3x2048x128 .f32) (arg14 : Memref sig .tc .vmem S2x128x256 .f32)
    (Q : BufTy.Contents (Elt F) arg3.view.ty) (K : BufTy.Contents (Elt F) arg9.view.ty)
    (W : BufTy.Contents (Elt F) arg10.view.ty) (B : BufTy.Contents (Elt F) arg14.view.ty)
    (f11 : BufTy.Contents (Elt F) arg11.view.ty) (f12 : BufTy.Contents (Elt F) arg12.view.ty)
    (f13 : BufTy.Contents (Elt F) arg13.view.ty) : sProp 𝕄 :=
  iprop((arg3.view.loc (c : Thread nD τ) ↦[arg3.view.set]{fullShare} Q) ∗ (arg9.view.loc (c : Thread nD τ) ↦[arg9.view.set]{fullShare} K)
    ∗ (arg10.view.loc (c : Thread nD τ) ↦[arg10.view.set]{fullShare} W) ∗ (arg14.view.loc (c : Thread nD τ) ↦[arg14.view.set]{fullShare} B)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13))

/-- The pieces of a plane. -/
abbrev Pieces (F : FTy → Type) : Type := List (View.Piece (Elt F) S3x2048x128 .f32)

end Cert.KernelIdeal.Hand

end
-- ==== Proof.T1.lean ====
/- One trip of branch loop 1 of the kernel's body, at a symbolic trip: the pieces it writes into the three planes. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 1: the pieces it writes into the three planes. -/
@[irreducible] def trip1 (k : Fin k0_t1_loop.trips) :
    { L : Pieces F × Pieces F × Pieces F // ∀ (E : Set ℕ) (f11 : BufTy.Contents (Elt F) arg11.view.ty) (f12 : BufTy.Contents (Elt F) arg12.view.ty) (f13 : BufTy.Contents (Elt F) arg13.view.ty),
      Held (F := F) c arg3 arg9 arg10 arg11 arg12 arg13 arg14 Q K W B f11 f12 f13
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 v0 k PUnit.unit)
          (fun _ => Held (F := F) c arg3 arg9 arg10 arg11 arg12 arg13 arg14 Q K W B (arg11.view.writes (Elt F) f11 L.1) (arg12.view.writes (Elt F) f12 L.2.1) (arg13.view.writes (Elt F) f13 L.2.2)) } := by
  have hk : k.val < 4 := Nat.lt_of_lt_of_le k.isLt k0_t1_abs.2.1
  refine ⟨⟨?_, ?_, ?_⟩, fun E f11 f12 f13 => ?run⟩
  case run =>
    unfold k0_t1_body
    iintro ⟨H3, H9, H10, H14, H11, H12, H13⟩
    sl_exec
    sl_step
    sl_close

end Cert.KernelIdeal.Hand

end
-- ==== Proof.P1.lean ====
/- The pieces one trip of a branch loop writes, spelled by the chains: each of the four chains' three blocks, at the rows of
   the chain's queries -/
module

public import proofs.«01_k».proof.Proof.Pay
public import proofs.«01_k».proof.Proof.T1

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

theorem trips1 : k0_t1_loop.trips = 4 := by decide +kernel

/-- The pieces a trip of loop 1 writes, last first: the four chains' blocks. -/
abbrev four1 (P : Fin k0_t1_loop.trips → Fin 4 → Vec F S1x128x128 .f32) (k : Fin k0_t1_loop.trips) : Pieces F :=
  [⟨ro1 k 3, P k 3⟩, ⟨ro1 k 2, P k 2⟩, ⟨ro1 k 1, P k 1⟩, ⟨ro1 k 0, P k 0⟩]

theorem trip1_fst (k : Fin k0_t1_loop.trips) : (trip1 (F := F) 𝒱 c bd i arg3 harg3 arg4 harg4 arg5 harg5 arg6 harg6 arg7 harg7 arg8 harg8 arg9 harg9 arg10 harg10 arg11 harg11 arg12 harg12 arg13 harg13 arg14 harg14 v0 Q K W B k).1.1
    = four1 (acc1 (arg3.view.read (Elt F) Q) (arg9.view.read (Elt F) K) (arg10.view.read (Elt F) W) (arg14.view.read (Elt F) B) v0) k := by
  unfold trip1; rfl

theorem trip1_snd (k : Fin k0_t1_loop.trips) : (trip1 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.1
    = four1 (mst1 (arg3.view.read (Elt F) Q) (arg9.view.read (Elt F) K) (arg14.view.read (Elt F) B) v0) k := by
  unfold trip1; rfl

theorem trip1_trd (k : Fin k0_t1_loop.trips) : (trip1 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.2
    = four1 (lst1 (arg3.view.read (Elt F) Q) (arg9.view.read (Elt F) K) (arg14.view.read (Elt F) B) v0) k := by
  unfold trip1; rfl

end Cert.KernelIdeal.Hand

end
-- ==== Proof.L1.lean ====
/- Branch loop 1 by its invariant: before trip `k` the buffers it reads are as they were, and each of the three planes holds
   the pieces of the trips before `k`. -/
module

public import proofs.«01_k».proof.Proof.P1

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 1, its pieces spelled by the chains. -/
theorem trip1_run (k : Fin k0_t1_loop.trips) (E : Set ℕ) (f11 : BufTy.Contents (Elt F) arg11.view.ty) (f12 : BufTy.Contents (Elt F) arg12.view.ty) (f13 : BufTy.Contents (Elt F) arg13.view.ty) :
    Held (F := F) c arg3 arg9 arg10 arg11 arg12 arg13 arg14 Q K W B f11 f12 f13
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 v0 k PUnit.unit)
        (fun _ => Held (F := F) c arg3 arg9 arg10 arg11 arg12 arg13 arg14 Q K W B (arg11.view.writes (Elt F) f11 (four1 (acc1 (arg3.view.read (Elt F) Q) (arg9.view.read (Elt F) K) (arg10.view.read (Elt F) W) (arg14.view.read (Elt F) B) v0) k)) (arg12.view.writes (Elt F) f12 (four1 (mst1 (arg3.view.read (Elt F) Q) (arg9.view.read (Elt F) K) (arg14.view.read (Elt F) B) v0) k)) (arg13.view.writes (Elt F) f13 (four1 (lst1 (arg3.view.read (Elt F) Q) (arg9.view.read (Elt F) K) (arg14.view.read (Elt F) B) v0) k))) := by
  rw [← trip1_fst 𝒱 c bd i arg3 harg3 arg4 harg4 arg5 harg5 arg6 harg6 arg7 harg7 arg8 harg8 arg9 harg9 arg10 harg10 arg11 harg11 arg12 harg12 arg13 harg13 arg14 harg14 v0 Q K W B k, ← trip1_snd 𝒱 c bd i arg3 harg3 arg4 harg4 arg5 harg5 arg6 harg6 arg7 harg7 arg8 harg8 arg9 harg9 arg10 harg10 arg11 harg11 arg12 harg12 arg13 harg13 arg14 harg14 v0 Q K W B k, ← trip1_trd 𝒱 c bd i arg3 harg3 arg4 harg4 arg5 harg5 arg6 harg6 arg7 harg7 arg8 harg8 arg9 harg9 arg10 harg10 arg11 harg11 arg12 harg12 arg13 harg13 arg14 harg14 v0 Q K W B k]
  exact (trip1 (F := F) 𝒱 c bd i arg3 harg3 arg4 harg4 arg5 harg5 arg6 harg6 arg7 harg7 arg8 harg8 arg9 harg9 arg10 harg10 arg11 harg11 arg12 harg12 arg13 harg13 arg14 harg14 v0 Q K W B k).2 E f11 f12 f13

/-- The pieces of the trips of loop 1 before `k`, last first. -/
def before1 (P : Fin k0_t1_loop.trips → Fin 4 → Vec F S1x128x128 .f32) : ℕ → Pieces F
  | 0 => []
  | k + 1 => (if h : k < k0_t1_loop.trips then four1 P ⟨k, h⟩ else []) ++ before1 P k

theorem before1_succ (P : Fin k0_t1_loop.trips → Fin 4 → Vec F S1x128x128 .f32) (k : Fin k0_t1_loop.trips) :
    before1 P (k.val + 1) = four1 P k ++ before1 P k.val := by
  rw [before1, dif_pos k.isLt]

/-- A piece of the trips before `k` is a chain's block of one of them, and every such block is there. -/
theorem mem_before1 (P : Fin k0_t1_loop.trips → Fin 4 → Vec F S1x128x128 .f32) (p : View.Piece (Elt F) S3x2048x128 .f32) (n : ℕ) :
    p ∈ before1 P n ↔ ∃ (k : Fin k0_t1_loop.trips) (u : Fin 4), k.val < n ∧ p = ⟨ro1 k u, P k u⟩ := by
  induction n with
  | zero => simp [before1]
  | succ n ih =>
    rw [before1, List.mem_append, ih]
    constructor
    · rintro (h | ⟨k, u, hk, e⟩)
      · by_cases hn : n < k0_t1_loop.trips
        · rw [dif_pos hn] at h
          simp only [four1, List.mem_cons, List.not_mem_nil, or_false] at h
          rcases h with h | h | h | h
          · exact ⟨⟨n, hn⟩, 3, n.lt_succ_self, h⟩
          · exact ⟨⟨n, hn⟩, 2, n.lt_succ_self, h⟩
          · exact ⟨⟨n, hn⟩, 1, n.lt_succ_self, h⟩
          · exact ⟨⟨n, hn⟩, 0, n.lt_succ_self, h⟩
        · rw [dif_neg hn] at h; cases h
      · exact ⟨k, u, hk.trans n.lt_succ_self, e⟩
    · rintro ⟨k, u, hk, e⟩
      rcases Nat.lt_succ_iff_lt_or_eq.mp hk with hk | hk
      · exact .inr ⟨k, u, hk, e⟩
      · subst hk
        refine .inl ?_
        rw [dif_pos k.isLt, e]
        simp only [four1, List.mem_cons, List.not_mem_nil, or_false]
        fin_cases u
        · exact .inr (.inr (.inr rfl))
        · exact .inr (.inr (.inl rfl))
        · exact .inr (.inl rfl)
        · exact .inl rfl

/-- What branch loop 1 holds before trip `k`: what it reads, and each plane at the pieces of the trips before. -/
abbrev inv1 (G11 : BufTy.Contents (Elt F) arg11.view.ty) (G12 : BufTy.Contents (Elt F) arg12.view.ty) (G13 : BufTy.Contents (Elt F) arg13.view.ty) (k : ℕ) (_ : Unit) : sProp 𝕄 :=
  iprop((arg3.view.loc (c : Thread nD τ) ↦[arg3.view.set]{fullShare} Q) ∗ (arg9.view.loc (c : Thread nD τ) ↦[arg9.view.set]{fullShare} K) ∗ (arg10.view.loc (c : Thread nD τ) ↦[arg10.view.set]{fullShare} W) ∗ (arg14.view.loc (c : Thread nD τ) ↦[arg14.view.set]{fullShare} B) ∗ (∃ f, (arg11.view.loc (c : Thread nD τ) ↦[arg11.view.set]{fullShare} f) ∗ ⌜f = arg11.view.writes (Elt F) G11 (before1 (acc1 (arg3.view.read (Elt F) Q) (arg9.view.read (Elt F) K) (arg10.view.read (Elt F) W) (arg14.view.read (Elt F) B) v0) k)⌝) ∗ (∃ f, (arg12.view.loc (c : Thread nD τ) ↦[arg12.view.set]{fullShare} f) ∗ ⌜f = arg12.view.writes (Elt F) G12 (before1 (mst1 (arg3.view.read (Elt F) Q) (arg9.view.read (Elt F) K) (arg14.view.read (Elt F) B) v0) k)⌝) ∗ (∃ f, (arg13.view.loc (c : Thread nD τ) ↦[arg13.view.set]{fullShare} f) ∗ ⌜f = arg13.view.writes (Elt F) G13 (before1 (lst1 (arg3.view.read (Elt F) Q) (arg9.view.read (Elt F) K) (arg14.view.read (Elt F) B) v0) k)⌝))

set_option warn.classDefReducibility false in
/-- Branch loop 1 by its invariant. -/
@[sl_loop] def loop1 (E : Set ℕ) (G11 : BufTy.Contents (Elt F) arg11.view.ty) (G12 : BufTy.Contents (Elt F) arg12.view.ty) (G13 : BufTy.Contents (Elt F) arg13.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v0 where
  inv := inv1 (F := F) c arg3 arg9 arg10 arg11 arg12 arg13 arg14 v0 Q K W B G11 G12 G13
  step k acc := by
    iintro ⟨H3, H9, H10, H14, ⟨%f11, H11, %h11⟩, ⟨%f12, H12, %h12⟩, ⟨%f13, H13, %h13⟩⟩
    iapply (wp_wand_r Idealize.ShloMosaic.frame (wpE (defs₀ (F := F)) 𝒱 (c : Thread nD τ) bd) E)
    isplitl [H3 H9 H10 H14 H11 H12 H13]
    · iapply (trip1_run (F := F) 𝒱 c bd i arg3 harg3 arg4 harg4 arg5 harg5 arg6 harg6 arg7 harg7 arg8 harg8 arg9 harg9 arg10 harg10 arg11 harg11 arg12 harg12 arg13 harg13 arg14 harg14 v0 Q K W B k E f11 f12 f13)
      isplitl [H3]; · iexact H3
      isplitl [H9]; · iexact H9
      isplitl [H10]; · iexact H10
      isplitl [H14]; · iexact H14
      isplitl [H11]; · iexact H11
      isplitl [H12]; · iexact H12
      iexact H13
    · iintro %_ ⟨H3, H9, H10, H14, H11, H12, H13⟩
      isplitl [H3]; · iexact H3
      isplitl [H9]; · iexact H9
      isplitl [H10]; · iexact H10
      isplitl [H14]; · iexact H14
      rw [before1_succ, before1_succ, before1_succ]
      isplitl [H11]
      · iexists _; isplitl [H11]; · iexact H11
        ipureintro; rw [h11, ← View.writes_append]
      isplitl [H12]
      · iexists _; isplitl [H12]; · iexact H12
        ipureintro; rw [h12, ← View.writes_append]
      iexists _; isplitl [H13]; · iexact H13
      ipureintro; rw [h13, ← View.writes_append]

end Cert.KernelIdeal.Hand

end
-- ==== Proof.T2.lean ====
/- One trip of branch loop 2 of the kernel's body, at a symbolic trip: the pieces it writes into the three planes. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 2: the pieces it writes into the three planes. -/
@[irreducible] def trip2 (k : Fin k0_t2_loop.trips) :
    { L : Pieces F × Pieces F × Pieces F // ∀ (E : Set ℕ) (f11 : BufTy.Contents (Elt F) arg11.view.ty) (f12 : BufTy.Contents (Elt F) arg12.view.ty) (f13 : BufTy.Contents (Elt F) arg13.view.ty),
      Held (F := F) c arg3 arg9 arg10 arg11 arg12 arg13 arg14 Q K W B f11 f12 f13
      ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 v0 k PUnit.unit)
          (fun _ => Held (F := F) c arg3 arg9 arg10 arg11 arg12 arg13 arg14 Q K W B (arg11.view.writes (Elt F) f11 L.1) (arg12.view.writes (Elt F) f12 L.2.1) (arg13.view.writes (Elt F) f13 L.2.2)) } := by
  have hk : k.val < 4 := Nat.lt_of_lt_of_le k.isLt k0_t2_abs.2.1
  refine ⟨⟨?_, ?_, ?_⟩, fun E f11 f12 f13 => ?run⟩
  case run =>
    unfold k0_t2_body
    iintro ⟨H3, H9, H10, H14, H11, H12, H13⟩
    sl_exec
    sl_step
    sl_close

end Cert.KernelIdeal.Hand

end
-- ==== Proof.P2.lean ====
/- The pieces one trip of a branch loop writes, spelled by the chains: each of the four chains' three blocks, at the rows of
   the chain's queries -/
module

public import proofs.«01_k».proof.Proof.Pay
public import proofs.«01_k».proof.Proof.T2

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

theorem trips2 : k0_t2_loop.trips = 4 := by decide +kernel

/-- The pieces a trip of loop 2 writes, last first: the four chains' blocks. -/
abbrev four2 (P : Fin k0_t2_loop.trips → Fin 4 → Vec F S1x128x128 .f32) (k : Fin k0_t2_loop.trips) : Pieces F :=
  [⟨ro2 k 3, P k 3⟩, ⟨ro2 k 2, P k 2⟩, ⟨ro2 k 1, P k 1⟩, ⟨ro2 k 0, P k 0⟩]

theorem trip2_fst (k : Fin k0_t2_loop.trips) : (trip2 (F := F) 𝒱 c bd i arg3 harg3 arg4 harg4 arg5 harg5 arg6 harg6 arg7 harg7 arg8 harg8 arg9 harg9 arg10 harg10 arg11 harg11 arg12 harg12 arg13 harg13 arg14 harg14 v0 Q K W B k).1.1
    = four2 (acc2 (arg3.view.read (Elt F) Q) (arg9.view.read (Elt F) K) (arg10.view.read (Elt F) W) (arg14.view.read (Elt F) B) v0) k := by
  unfold trip2; rfl

theorem trip2_snd (k : Fin k0_t2_loop.trips) : (trip2 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.1
    = four2 (mst2 (arg3.view.read (Elt F) Q) (arg9.view.read (Elt F) K) (arg14.view.read (Elt F) B) v0) k := by
  unfold trip2; rfl

theorem trip2_trd (k : Fin k0_t2_loop.trips) : (trip2 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.2
    = four2 (lst2 (arg3.view.read (Elt F) Q) (arg9.view.read (Elt F) K) (arg14.view.read (Elt F) B) v0) k := by
  unfold trip2; rfl

end Cert.KernelIdeal.Hand

end
-- ==== Proof.L2.lean ====
/- Branch loop 2 by its invariant: before trip `k` the buffers it reads are as they were, and each of the three planes holds
   the pieces of the trips before `k`. -/
module

public import proofs.«01_k».proof.Proof.P2

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 2, its pieces spelled by the chains. -/
theorem trip2_run (k : Fin k0_t2_loop.trips) (E : Set ℕ) (f11 : BufTy.Contents (Elt F) arg11.view.ty) (f12 : BufTy.Contents (Elt F) arg12.view.ty) (f13 : BufTy.Contents (Elt F) arg13.view.ty) :
    Held (F := F) c arg3 arg9 arg10 arg11 arg12 arg13 arg14 Q K W B f11 f12 f13
    ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 v0 k PUnit.unit)
        (fun _ => Held (F := F) c arg3 arg9 arg10 arg11 arg12 arg13 arg14 Q K W B (arg11.view.writes (Elt F) f11 (four2 (acc2 (arg3.view.read (Elt F) Q) (arg9.view.read (Elt F) K) (arg10.view.read (Elt F) W) (arg14.view.read (Elt F) B) v0) k)) (arg12.view.writes (Elt F) f12 (four2 (mst2 (arg3.view.read (Elt F) Q) (arg9.view.read (Elt F) K) (arg14.view.read (Elt F) B) v0) k)) (arg13.view.writes (Elt F) f13 (four2 (lst2 (arg3.view.read (Elt F) Q) (arg9.view.read (Elt F) K) (arg14.view.read (Elt F) B) v0) k))) := by
  rw [← trip2_fst 𝒱 c bd i arg3 harg3 arg4 harg4 arg5 harg5 arg6 harg6 arg7 harg7 arg8 harg8 arg9 harg9 arg10 harg10 arg11 harg11 arg12 harg12 arg13 harg13 arg14 harg14 v0 Q K W B k, ← trip2_snd 𝒱 c bd i arg3 harg3 arg4 harg4 arg5 harg5 arg6 harg6 arg7 harg7 arg8 harg8 arg9 harg9 arg10 harg10 arg11 harg11 arg12 harg12 arg13 harg13 arg14 harg14 v0 Q K W B k, ← trip2_trd 𝒱 c bd i arg3 harg3 arg4 harg4 arg5 harg5 arg6 harg6 arg7 harg7 arg8 harg8 arg9 harg9 arg10 harg10 arg11 harg11 arg12 harg12 arg13 harg13 arg14 harg14 v0 Q K W B k]
  exact (trip2 (F := F) 𝒱 c bd i arg3 harg3 arg4 harg4 arg5 harg5 arg6 harg6 arg7 harg7 arg8 harg8 arg9 harg9 arg10 harg10 arg11 harg11 arg12 harg12 arg13 harg13 arg14 harg14 v0 Q K W B k).2 E f11 f12 f13

/-- The pieces of the trips of loop 2 before `k`, last first. -/
def before2 (P : Fin k0_t2_loop.trips → Fin 4 → Vec F S1x128x128 .f32) : ℕ → Pieces F
  | 0 => []
  | k + 1 => (if h : k < k0_t2_loop.trips then four2 P ⟨k, h⟩ else []) ++ before2 P k

theorem before2_succ (P : Fin k0_t2_loop.trips → Fin 4 → Vec F S1x128x128 .f32) (k : Fin k0_t2_loop.trips) :
    before2 P (k.val + 1) = four2 P k ++ before2 P k.val := by
  rw [before2, dif_pos k.isLt]

/-- A piece of the trips before `k` is a chain's block of one of them, and every such block is there. -/
theorem mem_before2 (P : Fin k0_t2_loop.trips → Fin 4 → Vec F S1x128x128 .f32) (p : View.Piece (Elt F) S3x2048x128 .f32) (n : ℕ) :
    p ∈ before2 P n ↔ ∃ (k : Fin k0_t2_loop.trips) (u : Fin 4), k.val < n ∧ p = ⟨ro2 k u, P k u⟩ := by
  induction n with
  | zero => simp [before2]
  | succ n ih =>
    rw [before2, List.mem_append, ih]
    constructor
    · rintro (h | ⟨k, u, hk, e⟩)
      · by_cases hn : n < k0_t2_loop.trips
        · rw [dif_pos hn] at h
          simp only [four2, List.mem_cons, List.not_mem_nil, or_false] at h
          rcases h with h | h | h | h
          · exact ⟨⟨n, hn⟩, 3, n.lt_succ_self, h⟩
          · exact ⟨⟨n, hn⟩, 2, n.lt_succ_self, h⟩
          · exact ⟨⟨n, hn⟩, 1, n.lt_succ_self, h⟩
          · exact ⟨⟨n, hn⟩, 0, n.lt_succ_self, h⟩
        · rw [dif_neg hn] at h; cases h
      · exact ⟨k, u, hk.trans n.lt_succ_self, e⟩
    · rintro ⟨k, u, hk, e⟩
      rcases Nat.lt_succ_iff_lt_or_eq.mp hk with hk | hk
      · exact .inr ⟨k, u, hk, e⟩
      · subst hk
        refine .inl ?_
        rw [dif_pos k.isLt, e]
        simp only [four2, List.mem_cons, List.not_mem_nil, or_false]
        fin_cases u
        · exact .inr (.inr (.inr rfl))
        · exact .inr (.inr (.inl rfl))
        · exact .inr (.inl rfl)
        · exact .inl rfl

/-- What branch loop 2 holds before trip `k`: what it reads, and each plane at the pieces of the trips before. -/
abbrev inv2 (G11 : BufTy.Contents (Elt F) arg11.view.ty) (G12 : BufTy.Contents (Elt F) arg12.view.ty) (G13 : BufTy.Contents (Elt F) arg13.view.ty) (k : ℕ) (_ : Unit) : sProp 𝕄 :=
  iprop((arg3.view.loc (c : Thread nD τ) ↦[arg3.view.set]{fullShare} Q) ∗ (arg9.view.loc (c : Thread nD τ) ↦[arg9.view.set]{fullShare} K) ∗ (arg10.view.loc (c : Thread nD τ) ↦[arg10.view.set]{fullShare} W) ∗ (arg14.view.loc (c : Thread nD τ) ↦[arg14.view.set]{fullShare} B) ∗ (∃ f, (arg11.view.loc (c : Thread nD τ) ↦[arg11.view.set]{fullShare} f) ∗ ⌜f = arg11.view.writes (Elt F) G11 (before2 (acc2 (arg3.view.read (Elt F) Q) (arg9.view.read (Elt F) K) (arg10.view.read (Elt F) W) (arg14.view.read (Elt F) B) v0) k)⌝) ∗ (∃ f, (arg12.view.loc (c : Thread nD τ) ↦[arg12.view.set]{fullShare} f) ∗ ⌜f = arg12.view.writes (Elt F) G12 (before2 (mst2 (arg3.view.read (Elt F) Q) (arg9.view.read (Elt F) K) (arg14.view.read (Elt F) B) v0) k)⌝) ∗ (∃ f, (arg13.view.loc (c : Thread nD τ) ↦[arg13.view.set]{fullShare} f) ∗ ⌜f = arg13.view.writes (Elt F) G13 (before2 (lst2 (arg3.view.read (Elt F) Q) (arg9.view.read (Elt F) K) (arg14.view.read (Elt F) B) v0) k)⌝))

set_option warn.classDefReducibility false in
/-- Branch loop 2 by its invariant. -/
@[sl_loop] def loop2 (E : Set ℕ) (G11 : BufTy.Contents (Elt F) arg11.view.ty) (G12 : BufTy.Contents (Elt F) arg12.view.ty) (G13 : BufTy.Contents (Elt F) arg13.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v0 where
  inv := inv2 (F := F) c arg3 arg9 arg10 arg11 arg12 arg13 arg14 v0 Q K W B G11 G12 G13
  step k acc := by
    iintro ⟨H3, H9, H10, H14, ⟨%f11, H11, %h11⟩, ⟨%f12, H12, %h12⟩, ⟨%f13, H13, %h13⟩⟩
    iapply (wp_wand_r Idealize.ShloMosaic.frame (wpE (defs₀ (F := F)) 𝒱 (c : Thread nD τ) bd) E)
    isplitl [H3 H9 H10 H14 H11 H12 H13]
    · iapply (trip2_run (F := F) 𝒱 c bd i arg3 harg3 arg4 harg4 arg5 harg5 arg6 harg6 arg7 harg7 arg8 harg8 arg9 harg9 arg10 harg10 arg11 harg11 arg12 harg12 arg13 harg13 arg14 harg14 v0 Q K W B k E f11 f12 f13)
      isplitl [H3]; · iexact H3
      isplitl [H9]; · iexact H9
      isplitl [H10]; · iexact H10
      isplitl [H14]; · iexact H14
      isplitl [H11]; · iexact H11
      isplitl [H12]; · iexact H12
      iexact H13
    · iintro %_ ⟨H3, H9, H10, H14, H11, H12, H13⟩
      isplitl [H3]; · iexact H3
      isplitl [H9]; · iexact H9
      isplitl [H10]; · iexact H10
      isplitl [H14]; · iexact H14
      rw [before2_succ, before2_succ, before2_succ]
      isplitl [H11]
      · iexists _; isplitl [H11]; · iexact H11
        ipureintro; rw [h11, ← View.writes_append]
      isplitl [H12]
      · iexists _; isplitl [H12]; · iexact H12
        ipureintro; rw [h12, ← View.writes_append]
      iexists _; isplitl [H13]; · iexact H13
      ipureintro; rw [h13, ← View.writes_append]

end Cert.KernelIdeal.Hand

end
-- ==== Proof.T3.lean ====
/- One trip of branch loop 3 of the kernel's body, at a symbolic trip: the pieces it writes into the three planes. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 3: the pieces it writes into the three planes. -/
@[irreducible] def trip3 (k : Fin k0_t3_loop.trips) :
    { L : Pieces F × Pieces F × Pieces F // ∀ (E : Set ℕ) (f11 : BufTy.Contents (Elt F) arg11.view.ty) (f12 : BufTy.Contents (Elt F) arg12.view.ty) (f13 : BufTy.Contents (Elt F) arg13.view.ty),
      Held (F := F) c arg3 arg9 arg10 arg11 arg12 arg13 arg14 Q K W B f11 f12 f13
      ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 v0 k PUnit.unit)
          (fun _ => Held (F := F) c arg3 arg9 arg10 arg11 arg12 arg13 arg14 Q K W B (arg11.view.writes (Elt F) f11 L.1) (arg12.view.writes (Elt F) f12 L.2.1) (arg13.view.writes (Elt F) f13 L.2.2)) } := by
  have hk : k.val < 4 := Nat.lt_of_lt_of_le k.isLt k0_t3_abs.2.1
  refine ⟨⟨?_, ?_, ?_⟩, fun E f11 f12 f13 => ?run⟩
  case run =>
    unfold k0_t3_body
    iintro ⟨H3, H9, H10, H14, H11, H12, H13⟩
    sl_exec
    sl_step
    sl_close

end Cert.KernelIdeal.Hand

end
-- ==== Proof.P3.lean ====
/- The pieces one trip of a branch loop writes, spelled by the chains: each of the four chains' three blocks, at the rows of
   the chain's queries -/
module

public import proofs.«01_k».proof.Proof.Pay
public import proofs.«01_k».proof.Proof.T3

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

theorem trips3 : k0_t3_loop.trips = 4 := by decide +kernel

/-- The pieces a trip of loop 3 writes, last first: the four chains' blocks. -/
abbrev four3 (P : Fin k0_t3_loop.trips → Fin 4 → Vec F S1x128x128 .f32) (k : Fin k0_t3_loop.trips) : Pieces F :=
  [⟨ro3 k 3, P k 3⟩, ⟨ro3 k 2, P k 2⟩, ⟨ro3 k 1, P k 1⟩, ⟨ro3 k 0, P k 0⟩]

theorem trip3_fst (k : Fin k0_t3_loop.trips) : (trip3 (F := F) 𝒱 c bd i arg3 harg3 arg4 harg4 arg5 harg5 arg6 harg6 arg7 harg7 arg8 harg8 arg9 harg9 arg10 harg10 arg11 harg11 arg12 harg12 arg13 harg13 arg14 harg14 v0 Q K W B k).1.1
    = four3 (acc3 (arg3.view.read (Elt F) Q) (arg9.view.read (Elt F) K) (arg10.view.read (Elt F) W) (arg14.view.read (Elt F) B) v0) k := by
  unfold trip3; rfl

theorem trip3_snd (k : Fin k0_t3_loop.trips) : (trip3 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.1
    = four3 (mst3 (arg3.view.read (Elt F) Q) (arg9.view.read (Elt F) K) (arg14.view.read (Elt F) B) v0) k := by
  unfold trip3; rfl

theorem trip3_trd (k : Fin k0_t3_loop.trips) : (trip3 (F := F) 𝒱 c bd i arg3 harg3 arg4 harg4 arg5 harg5 arg6 harg6 arg7 harg7 arg8 harg8 arg9 harg9 arg10 harg10 arg11 harg11 arg12 harg12 arg13 harg13 arg14 harg14 v0 Q K W B k).1.2.2
    = four3 (lst3 (arg3.view.read (Elt F) Q) (arg9.view.read (Elt F) K) (arg14.view.read (Elt F) B) v0) k := by
  unfold trip3; rfl

end Cert.KernelIdeal.Hand

end
-- ==== Proof.L3.lean ====
/- Branch loop 3 by its invariant: before trip `k` the buffers it reads are as they were, and each of the three planes holds
   the pieces of the trips before `k`. -/
module

public import proofs.«01_k».proof.Proof.P3

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- One trip of branch loop 3, its pieces spelled by the chains. -/
theorem trip3_run (k : Fin k0_t3_loop.trips) (E : Set ℕ) (f11 : BufTy.Contents (Elt F) arg11.view.ty) (f12 : BufTy.Contents (Elt F) arg12.view.ty) (f13 : BufTy.Contents (Elt F) arg13.view.ty) :
    Held (F := F) c arg3 arg9 arg10 arg11 arg12 arg13 arg14 Q K W B f11 f12 f13
    ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 v0 k PUnit.unit)
        (fun _ => Held (F := F) c arg3 arg9 arg10 arg11 arg12 arg13 arg14 Q K W B (arg11.view.writes (Elt F) f11 (four3 (acc3 (arg3.view.read (Elt F) Q) (arg9.view.read (Elt F) K) (arg10.view.read (Elt F) W) (arg14.view.read (Elt F) B) v0) k)) (arg12.view.writes (Elt F) f12 (four3 (mst3 (arg3.view.read (Elt F) Q) (arg9.view.read (Elt F) K) (arg14.view.read (Elt F) B) v0) k)) (arg13.view.writes (Elt F) f13 (four3 (lst3 (arg3.view.read (Elt F) Q) (arg9.view.read (Elt F) K) (arg14.view.read (Elt F) B) v0) k))) := by
  rw [← trip3_fst 𝒱 c bd i arg3 harg3 arg4 harg4 arg5 harg5 arg6 harg6 arg7 harg7 arg8 harg8 arg9 harg9 arg10 harg10 arg11 harg11 arg12 harg12 arg13 harg13 arg14 harg14 v0 Q K W B k, ← trip3_snd 𝒱 c bd i arg3 harg3 arg4 harg4 arg5 harg5 arg6 harg6 arg7 harg7 arg8 harg8 arg9 harg9 arg10 harg10 arg11 harg11 arg12 harg12 arg13 harg13 arg14 harg14 v0 Q K W B k, ← trip3_trd 𝒱 c bd i arg3 harg3 arg4 harg4 arg5 harg5 arg6 harg6 arg7 harg7 arg8 harg8 arg9 harg9 arg10 harg10 arg11 harg11 arg12 harg12 arg13 harg13 arg14 harg14 v0 Q K W B k]
  exact (trip3 (F := F) 𝒱 c bd i arg3 harg3 arg4 harg4 arg5 harg5 arg6 harg6 arg7 harg7 arg8 harg8 arg9 harg9 arg10 harg10 arg11 harg11 arg12 harg12 arg13 harg13 arg14 harg14 v0 Q K W B k).2 E f11 f12 f13

/-- The pieces of the trips of loop 3 before `k`, last first. -/
def before3 (P : Fin k0_t3_loop.trips → Fin 4 → Vec F S1x128x128 .f32) : ℕ → Pieces F
  | 0 => []
  | k + 1 => (if h : k < k0_t3_loop.trips then four3 P ⟨k, h⟩ else []) ++ before3 P k

theorem before3_succ (P : Fin k0_t3_loop.trips → Fin 4 → Vec F S1x128x128 .f32) (k : Fin k0_t3_loop.trips) :
    before3 P (k.val + 1) = four3 P k ++ before3 P k.val := by
  rw [before3, dif_pos k.isLt]

/-- A piece of the trips before `k` is a chain's block of one of them, and every such block is there. -/
theorem mem_before3 (P : Fin k0_t3_loop.trips → Fin 4 → Vec F S1x128x128 .f32) (p : View.Piece (Elt F) S3x2048x128 .f32) (n : ℕ) :
    p ∈ before3 P n ↔ ∃ (k : Fin k0_t3_loop.trips) (u : Fin 4), k.val < n ∧ p = ⟨ro3 k u, P k u⟩ := by
  induction n with
  | zero => simp [before3]
  | succ n ih =>
    rw [before3, List.mem_append, ih]
    constructor
    · rintro (h | ⟨k, u, hk, e⟩)
      · by_cases hn : n < k0_t3_loop.trips
        · rw [dif_pos hn] at h
          simp only [four3, List.mem_cons, List.not_mem_nil, or_false] at h
          rcases h with h | h | h | h
          · exact ⟨⟨n, hn⟩, 3, n.lt_succ_self, h⟩
          · exact ⟨⟨n, hn⟩, 2, n.lt_succ_self, h⟩
          · exact ⟨⟨n, hn⟩, 1, n.lt_succ_self, h⟩
          · exact ⟨⟨n, hn⟩, 0, n.lt_succ_self, h⟩
        · rw [dif_neg hn] at h; cases h
      · exact ⟨k, u, hk.trans n.lt_succ_self, e⟩
    · rintro ⟨k, u, hk, e⟩
      rcases Nat.lt_succ_iff_lt_or_eq.mp hk with hk | hk
      · exact .inr ⟨k, u, hk, e⟩
      · subst hk
        refine .inl ?_
        rw [dif_pos k.isLt, e]
        simp only [four3, List.mem_cons, List.not_mem_nil, or_false]
        fin_cases u
        · exact .inr (.inr (.inr rfl))
        · exact .inr (.inr (.inl rfl))
        · exact .inr (.inl rfl)
        · exact .inl rfl

/-- What branch loop 3 holds before trip `k`: what it reads, and each plane at the pieces of the trips before. -/
abbrev inv3 (G11 : BufTy.Contents (Elt F) arg11.view.ty) (G12 : BufTy.Contents (Elt F) arg12.view.ty) (G13 : BufTy.Contents (Elt F) arg13.view.ty) (k : ℕ) (_ : Unit) : sProp 𝕄 :=
  iprop((arg3.view.loc (c : Thread nD τ) ↦[arg3.view.set]{fullShare} Q) ∗ (arg9.view.loc (c : Thread nD τ) ↦[arg9.view.set]{fullShare} K) ∗ (arg10.view.loc (c : Thread nD τ) ↦[arg10.view.set]{fullShare} W) ∗ (arg14.view.loc (c : Thread nD τ) ↦[arg14.view.set]{fullShare} B) ∗ (∃ f, (arg11.view.loc (c : Thread nD τ) ↦[arg11.view.set]{fullShare} f) ∗ ⌜f = arg11.view.writes (Elt F) G11 (before3 (acc3 (arg3.view.read (Elt F) Q) (arg9.view.read (Elt F) K) (arg10.view.read (Elt F) W) (arg14.view.read (Elt F) B) v0) k)⌝) ∗ (∃ f, (arg12.view.loc (c : Thread nD τ) ↦[arg12.view.set]{fullShare} f) ∗ ⌜f = arg12.view.writes (Elt F) G12 (before3 (mst3 (arg3.view.read (Elt F) Q) (arg9.view.read (Elt F) K) (arg14.view.read (Elt F) B) v0) k)⌝) ∗ (∃ f, (arg13.view.loc (c : Thread nD τ) ↦[arg13.view.set]{fullShare} f) ∗ ⌜f = arg13.view.writes (Elt F) G13 (before3 (lst3 (arg3.view.read (Elt F) Q) (arg9.view.read (Elt F) K) (arg14.view.read (Elt F) B) v0) k)⌝))

set_option warn.classDefReducibility false in
/-- Branch loop 3 by its invariant. -/
@[sl_loop] def loop3 (E : Set ℕ) (G11 : BufTy.Contents (Elt F) arg11.view.ty) (G12 : BufTy.Contents (Elt F) arg12.view.ty) (G13 : BufTy.Contents (Elt F) arg13.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v0 where
  inv := inv3 (F := F) c arg3 arg9 arg10 arg11 arg12 arg13 arg14 v0 Q K W B G11 G12 G13
  step k acc := by
    iintro ⟨H3, H9, H10, H14, ⟨%f11, H11, %h11⟩, ⟨%f12, H12, %h12⟩, ⟨%f13, H13, %h13⟩⟩
    iapply (wp_wand_r Idealize.ShloMosaic.frame (wpE (defs₀ (F := F)) 𝒱 (c : Thread nD τ) bd) E)
    isplitl [H3 H9 H10 H14 H11 H12 H13]
    · iapply (trip3_run (F := F) 𝒱 c bd i arg3 harg3 arg4 harg4 arg5 harg5 arg6 harg6 arg7 harg7 arg8 harg8 arg9 harg9 arg10 harg10 arg11 harg11 arg12 harg12 arg13 harg13 arg14 harg14 v0 Q K W B k E f11 f12 f13)
      isplitl [H3]; · iexact H3
      isplitl [H9]; · iexact H9
      isplitl [H10]; · iexact H10
      isplitl [H14]; · iexact H14
      isplitl [H11]; · iexact H11
      isplitl [H12]; · iexact H12
      iexact H13
    · iintro %_ ⟨H3, H9, H10, H14, H11, H12, H13⟩
      isplitl [H3]; · iexact H3
      isplitl [H9]; · iexact H9
      isplitl [H10]; · iexact H10
      isplitl [H14]; · iexact H14
      rw [before3_succ, before3_succ, before3_succ]
      isplitl [H11]
      · iexists _; isplitl [H11]; · iexact H11
        ipureintro; rw [h11, ← View.writes_append]
      isplitl [H12]
      · iexists _; isplitl [H12]; · iexact H12
        ipureintro; rw [h12, ← View.writes_append]
      iexists _; isplitl [H13]; · iexact H13
      ipureintro; rw [h13, ← View.writes_append]

end Cert.KernelIdeal.Hand

end
-- ==== Proof.Planes.lean ====
/- What the three loops leave in a plane: at row `n` of branch `r`, the element of the chain that owns the row. Every row
   belongs to one chain of one trip. And the buffers of keys and values, the two masks and the output block, each as a
   function of an index. -/
module

public import proofs.«01_k».proof.Proof.L1
public import proofs.«01_k».proof.Proof.L2
public import proofs.«01_k».proof.Proof.L3
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem offs1 : ∀ (k : Fin k0_t1_loop.trips) (u : Fin 4), k0_off1 k (BitVec.ofNat 32 u.val) = ![0, 512 * k.val + 128 * u.val, 0] := by decide +kernel

theorem offs2 : ∀ (k : Fin k0_t1_loop.trips) (u : Fin 4), k0_off2 k (BitVec.ofNat 32 u.val) = ![512 * k.val + 1920 + 128 * u.val, 0] := by decide +kernel

theorem offs3 : ∀ (k : Fin k0_t1_loop.trips) (u : Fin 4), k0_off3 k (BitVec.ofNat 32 u.val) = ![0, 512 * k.val + 128 * u.val, 0] := by decide +kernel

theorem offs4 : ∀ (k : Fin k0_t2_loop.trips) (u : Fin 4), k0_off4 k (BitVec.ofNat 32 u.val) = ![0, 512 * k.val + u.val, 0] := by decide +kernel

theorem offs5 : ∀ (k : Fin k0_t2_loop.trips) (u : Fin 4), k0_off5 k (BitVec.ofNat 32 u.val) = ![512 * k.val + 1536 + u.val, 0] := by decide +kernel

theorem offs6 : ∀ (k : Fin k0_t2_loop.trips) (u : Fin 4), k0_off6 k (BitVec.ofNat 32 u.val) = ![1, 512 * k.val + u.val, 0] := by decide +kernel

theorem offs7 : ∀ (k : Fin k0_t3_loop.trips) (u : Fin 4), k0_off7 k (BitVec.ofNat 32 u.val) = ![0, 4 * k.val + u.val, 0] := by decide +kernel

theorem offs8 : ∀ (k : Fin k0_t3_loop.trips) (u : Fin 4), k0_off8 k (BitVec.ofNat 32 u.val) = ![4 * k.val + u.val, 0] := by decide +kernel

theorem offs9 : ∀ (k : Fin k0_t3_loop.trips) (u : Fin 4), k0_off9 k (BitVec.ofNat 32 u.val) = ![2, 4 * k.val + u.val, 0] := by decide +kernel

/-- The chain of loop 1 that owns row `n`, and the row's place in it; of loop 2; of loop 3. -/
abbrev k1 (n : Fin 2048) : Fin k0_t1_loop.trips := ⟨n.val / 512, by rw [trips1]; omega⟩
abbrev u1 (n : Fin 2048) : Fin 4 := ⟨n.val / 128 % 4, by omega⟩
abbrev i1 (n : Fin 2048) : Fin 128 := ⟨n.val % 128, by omega⟩
abbrev k2 (n : Fin 2048) : Fin k0_t2_loop.trips := ⟨n.val / 512, by rw [trips2]; omega⟩
abbrev u2 (n : Fin 2048) : Fin 4 := ⟨n.val % 4, by omega⟩
abbrev i2 (n : Fin 2048) : Fin 128 := ⟨n.val / 4 % 128, by omega⟩
abbrev k3 (n : Fin 2048) : Fin k0_t3_loop.trips := ⟨n.val % 16 / 4, by rw [trips3]; omega⟩
abbrev u3 (n : Fin 2048) : Fin 4 := ⟨n.val % 4, by omega⟩
abbrev i3 (n : Fin 2048) : Fin 128 := ⟨n.val / 16, by omega⟩

/-- A plane after the three loops. -/
def plane (P1 : Fin k0_t1_loop.trips → Fin 4 → Vec F S1x128x128 .f32) (P2 : Fin k0_t2_loop.trips → Fin 4 → Vec F S1x128x128 .f32)
    (P3 : Fin k0_t3_loop.trips → Fin 4 → Vec F S1x128x128 .f32) : Vec F S3x2048x128 .f32 := fun y =>
  if (y 0).val = 0 then P1 (k1 (y 1)) (u1 (y 1)) (ix3 (0 : Fin 1) (i1 (y 1)) (y 2))
  else if (y 0).val = 1 then P2 (k2 (y 1)) (u2 (y 1)) (ix3 (0 : Fin 1) (i2 (y 1)) (y 2))
  else P3 (k3 (y 1)) (u3 (y 1)) (ix3 (0 : Fin 1) (i3 (y 1)) (y 2))

/-- Row `i` of chain `u` of trip `k` of loop 1. -/
def row1 (k : Fin k0_t1_loop.trips) (u : Fin 4) (i : Fin 128) : Fin 2048 :=
  ⟨512 * k.val + 128 * u.val + i.val, by have := Nat.lt_of_lt_of_eq k.isLt trips1; omega⟩

theorem k1_row (k : Fin k0_t1_loop.trips) (u : Fin 4) (i : Fin 128) : k1 (row1 k u i) = k :=
  Fin.ext (by have := Nat.lt_of_lt_of_eq k.isLt trips1; simp only [row1]; omega)

theorem u1_row (k : Fin k0_t1_loop.trips) (u : Fin 4) (i : Fin 128) : u1 (row1 k u i) = u :=
  Fin.ext (by have := Nat.lt_of_lt_of_eq k.isLt trips1; simp only [row1]; omega)

theorem i1_row (k : Fin k0_t1_loop.trips) (u : Fin 4) (i : Fin 128) : i1 (row1 k u i) = i :=
  Fin.ext (by have := Nat.lt_of_lt_of_eq k.isLt trips1; simp only [row1]; omega)

theorem row1_of (n : Fin 2048) : row1 (k1 n) (u1 n) (i1 n) = n :=
  Fin.ext (by simp only [row1]; omega)

/-- The place of a block's element in the planes. -/
theorem emb1 (k : Fin k0_t1_loop.trips) (u : Fin 4) (i : Fin 128) (l : Fin 128) :
    (ro1 k u).idx (ix3 (0 : Fin 1) i l) = ix3 (0 : Fin 3) (row1 k u i) l := by
  have e := offs3 k u
  funext a
  match a with
  | ⟨0, _⟩ =>
    refine Fin.ext ?_
    show k0_off3 k (BitVec.ofNat 32 u.val) 0 + 1 * 0 = 0
    rw [e]; rfl
  | ⟨1, _⟩ =>
    refine Fin.ext ?_
    show k0_off3 k (BitVec.ofNat 32 u.val) 1 + 1 * i.val = 512 * k.val + 128 * u.val + i.val
    rw [e]; show 512 * k.val + 128 * u.val + 1 * i.val = _; omega
  | ⟨2, _⟩ =>
    refine Fin.ext ?_
    show k0_off3 k (BitVec.ofNat 32 u.val) 2 + 1 * l.val = l.val
    rw [e]; show 0 + 1 * l.val = _; omega

/-- The plane at a row of branch 0. -/
theorem plane_at1 (P1 : Fin k0_t1_loop.trips → Fin 4 → Vec F S1x128x128 .f32) (P2 : Fin k0_t2_loop.trips → Fin 4 → Vec F S1x128x128 .f32)
    (P3 : Fin k0_t3_loop.trips → Fin 4 → Vec F S1x128x128 .f32) (n : Fin 2048) (l : Fin 128) :
    plane P1 P2 P3 (ix3 (0 : Fin 3) n l) = P1 (k1 n) (u1 n) (ix3 (0 : Fin 1) (i1 n) l) := by
  unfold plane
  rw [if_pos (by rfl)]
  rfl

/-- Row `i` of chain `u` of trip `k` of loop 2. -/
def row2 (k : Fin k0_t2_loop.trips) (u : Fin 4) (i : Fin 128) : Fin 2048 :=
  ⟨512 * k.val + u.val + 4 * i.val, by have := Nat.lt_of_lt_of_eq k.isLt trips2; omega⟩

theorem k2_row (k : Fin k0_t2_loop.trips) (u : Fin 4) (i : Fin 128) : k2 (row2 k u i) = k :=
  Fin.ext (by have := Nat.lt_of_lt_of_eq k.isLt trips2; simp only [row2]; omega)

theorem u2_row (k : Fin k0_t2_loop.trips) (u : Fin 4) (i : Fin 128) : u2 (row2 k u i) = u :=
  Fin.ext (by have := Nat.lt_of_lt_of_eq k.isLt trips2; simp only [row2]; omega)

theorem i2_row (k : Fin k0_t2_loop.trips) (u : Fin 4) (i : Fin 128) : i2 (row2 k u i) = i :=
  Fin.ext (by have := Nat.lt_of_lt_of_eq k.isLt trips2; simp only [row2]; omega)

theorem row2_of (n : Fin 2048) : row2 (k2 n) (u2 n) (i2 n) = n :=
  Fin.ext (by simp only [row2]; omega)

/-- The place of a block's element in the planes. -/
theorem emb2 (k : Fin k0_t2_loop.trips) (u : Fin 4) (i : Fin 128) (l : Fin 128) :
    (ro2 k u).idx (ix3 (0 : Fin 1) i l) = ix3 (1 : Fin 3) (row2 k u i) l := by
  have e := offs6 k u
  funext a
  match a with
  | ⟨0, _⟩ =>
    refine Fin.ext ?_
    show k0_off6 k (BitVec.ofNat 32 u.val) 0 + 1 * 0 = 1
    rw [e]; rfl
  | ⟨1, _⟩ =>
    refine Fin.ext ?_
    show k0_off6 k (BitVec.ofNat 32 u.val) 1 + 4 * i.val = 512 * k.val + u.val + 4 * i.val
    rw [e]; show 512 * k.val + u.val + 4 * i.val = _; omega
  | ⟨2, _⟩ =>
    refine Fin.ext ?_
    show k0_off6 k (BitVec.ofNat 32 u.val) 2 + 1 * l.val = l.val
    rw [e]; show 0 + 1 * l.val = _; omega

/-- The plane at a row of branch 1. -/
theorem plane_at2 (P1 : Fin k0_t1_loop.trips → Fin 4 → Vec F S1x128x128 .f32) (P2 : Fin k0_t2_loop.trips → Fin 4 → Vec F S1x128x128 .f32)
    (P3 : Fin k0_t3_loop.trips → Fin 4 → Vec F S1x128x128 .f32) (n : Fin 2048) (l : Fin 128) :
    plane P1 P2 P3 (ix3 (1 : Fin 3) n l) = P2 (k2 n) (u2 n) (ix3 (0 : Fin 1) (i2 n) l) := by
  unfold plane
  rw [if_neg (by simp), if_pos (by rfl)]
  rfl

/-- Row `i` of chain `u` of trip `k` of loop 3. -/
def row3 (k : Fin k0_t3_loop.trips) (u : Fin 4) (i : Fin 128) : Fin 2048 :=
  ⟨4 * k.val + u.val + 16 * i.val, by have := Nat.lt_of_lt_of_eq k.isLt trips3; omega⟩

theorem k3_row (k : Fin k0_t3_loop.trips) (u : Fin 4) (i : Fin 128) : k3 (row3 k u i) = k :=
  Fin.ext (by have := Nat.lt_of_lt_of_eq k.isLt trips3; simp only [row3]; omega)

theorem u3_row (k : Fin k0_t3_loop.trips) (u : Fin 4) (i : Fin 128) : u3 (row3 k u i) = u :=
  Fin.ext (by have := Nat.lt_of_lt_of_eq k.isLt trips3; simp only [row3]; omega)

theorem i3_row (k : Fin k0_t3_loop.trips) (u : Fin 4) (i : Fin 128) : i3 (row3 k u i) = i :=
  Fin.ext (by have := Nat.lt_of_lt_of_eq k.isLt trips3; simp only [row3]; omega)

theorem row3_of (n : Fin 2048) : row3 (k3 n) (u3 n) (i3 n) = n :=
  Fin.ext (by simp only [row3]; omega)

/-- The place of a block's element in the planes. -/
theorem emb3 (k : Fin k0_t3_loop.trips) (u : Fin 4) (i : Fin 128) (l : Fin 128) :
    (ro3 k u).idx (ix3 (0 : Fin 1) i l) = ix3 (2 : Fin 3) (row3 k u i) l := by
  have e := offs9 k u
  funext a
  match a with
  | ⟨0, _⟩ =>
    refine Fin.ext ?_
    show k0_off9 k (BitVec.ofNat 32 u.val) 0 + 1 * 0 = 2
    rw [e]; rfl
  | ⟨1, _⟩ =>
    refine Fin.ext ?_
    show k0_off9 k (BitVec.ofNat 32 u.val) 1 + 16 * i.val = 4 * k.val + u.val + 16 * i.val
    rw [e]; show 4 * k.val + u.val + 16 * i.val = _; omega
  | ⟨2, _⟩ =>
    refine Fin.ext ?_
    show k0_off9 k (BitVec.ofNat 32 u.val) 2 + 1 * l.val = l.val
    rw [e]; show 0 + 1 * l.val = _; omega

/-- The plane at a row of branch 2. -/
theorem plane_at3 (P1 : Fin k0_t1_loop.trips → Fin 4 → Vec F S1x128x128 .f32) (P2 : Fin k0_t2_loop.trips → Fin 4 → Vec F S1x128x128 .f32)
    (P3 : Fin k0_t3_loop.trips → Fin 4 → Vec F S1x128x128 .f32) (n : Fin 2048) (l : Fin 128) :
    plane P1 P2 P3 (ix3 (2 : Fin 3) n l) = P3 (k3 n) (u3 n) (ix3 (0 : Fin 1) (i3 n) l) := by
  unfold plane
  rw [if_neg (by simp), if_neg (by simp)]
  rfl

/-- The pieces of the three loops. -/
abbrev allPieces (P1 : Fin k0_t1_loop.trips → Fin 4 → Vec F S1x128x128 .f32) (P2 : Fin k0_t2_loop.trips → Fin 4 → Vec F S1x128x128 .f32)
    (P3 : Fin k0_t3_loop.trips → Fin 4 → Vec F S1x128x128 .f32) : Pieces F :=
  before3 P3 k0_t3_loop.trips ++ (before2 P2 k0_t2_loop.trips ++ before1 P1 k0_t1_loop.trips)

variable (P1 : Fin k0_t1_loop.trips → Fin 4 → Vec F S1x128x128 .f32) (P2 : Fin k0_t2_loop.trips → Fin 4 → Vec F S1x128x128 .f32)
  (P3 : Fin k0_t3_loop.trips → Fin 4 → Vec F S1x128x128 .f32)

/-- Each piece is the plane read at the piece's rows. -/
theorem plane_pieces (p : View.Piece (Elt F) S3x2048x128 .f32) (hp : p ∈ allPieces P1 P2 P3) (x : p.1.shape.Idx) :
    p.2 x = plane P1 P2 P3 (p.1.emb x) := by
  rw [allPieces, List.mem_append, List.mem_append, mem_before3, mem_before2, mem_before1] at hp
  rcases hp with ⟨k, u, _, e⟩ | ⟨k, u, _, e⟩ | ⟨k, u, _, e⟩
  · subst e
    obtain ⟨a, i, l, rfl⟩ : ∃ (a : Fin 1) (i l : Fin 128), x = ix3 a i l := ⟨x 0, x 1, x 2, eq_ix3 (n0 := 1) (n1 := 128) (n2 := 128) x⟩
    obtain rfl : a = 0 := Subsingleton.elim _ _
    show P3 k u (ix3 0 i l) = plane P1 P2 P3 ((ro3 k u).idx (ix3 (0 : Fin 1) i l))
    rw [emb3, plane_at3, k3_row, u3_row, i3_row]
  · subst e
    obtain ⟨a, i, l, rfl⟩ : ∃ (a : Fin 1) (i l : Fin 128), x = ix3 a i l := ⟨x 0, x 1, x 2, eq_ix3 (n0 := 1) (n1 := 128) (n2 := 128) x⟩
    obtain rfl : a = 0 := Subsingleton.elim _ _
    show P2 k u (ix3 0 i l) = plane P1 P2 P3 ((ro2 k u).idx (ix3 (0 : Fin 1) i l))
    rw [emb2, plane_at2, k2_row, u2_row, i2_row]
  · subst e
    obtain ⟨a, i, l, rfl⟩ : ∃ (a : Fin 1) (i l : Fin 128), x = ix3 a i l := ⟨x 0, x 1, x 2, eq_ix3 (n0 := 1) (n1 := 128) (n2 := 128) x⟩
    obtain rfl : a = 0 := Subsingleton.elim _ _
    show P1 k u (ix3 0 i l) = plane P1 P2 P3 ((ro1 k u).idx (ix3 (0 : Fin 1) i l))
    rw [emb1, plane_at1, k1_row, u1_row, i1_row]

/-- Every element of the planes lies in a piece. -/
theorem plane_cover (y : S3x2048x128.Idx) : ∃ p ∈ allPieces P1 P2 P3, y ∈ p.1.set := by
  obtain ⟨r, n, l, rfl⟩ : ∃ (r : Fin 3) (n : Fin 2048) (l : Fin 128), y = ix3 r n l := ⟨y 0, y 1, y 2, eq_ix3 (n0 := 3) (n1 := 2048) (n2 := 128) y⟩
  obtain rfl | rfl | rfl : r = 0 ∨ r = 1 ∨ r = 2 := by omega
  · refine ⟨⟨ro1 (k1 n) (u1 n), P1 (k1 n) (u1 n)⟩, ?_, ?_⟩
    · rw [allPieces, List.mem_append, List.mem_append, mem_before3, mem_before2, mem_before1]
      exact .inr (.inr ⟨_, _, (k1 n).isLt, rfl⟩)
    · have e := emb1 (k1 n) (u1 n) (i1 n) l
      rw [row1_of] at e
      rw [← e]; exact LoadRect.idx_mem _ _
  · refine ⟨⟨ro2 (k2 n) (u2 n), P2 (k2 n) (u2 n)⟩, ?_, ?_⟩
    · rw [allPieces, List.mem_append, List.mem_append, mem_before3, mem_before2, mem_before1]
      exact .inr (.inl ⟨_, _, (k2 n).isLt, rfl⟩)
    · have e := emb2 (k2 n) (u2 n) (i2 n) l
      rw [row2_of] at e
      rw [← e]; exact LoadRect.idx_mem _ _
  · refine ⟨⟨ro3 (k3 n) (u3 n), P3 (k3 n) (u3 n)⟩, ?_, ?_⟩
    · rw [allPieces, List.mem_append, List.mem_append, mem_before3, mem_before2, mem_before1]
      exact .inl ⟨_, _, (k3 n).isLt, rfl⟩
    · have e := emb3 (k3 n) (u3 n) (i3 n) l
      rw [row3_of] at e
      rw [← e]; exact LoadRect.idx_mem _ _

/-- What a plane's buffer reads after the three loops. -/
theorem read_planes (v : View sig .tc .vmem S3x2048x128 .f32) (f : BufTy.Contents (Elt F) v.ty) :
    v.read (Elt F) (v.writes (Elt F) f (allPieces P1 P2 P3)) = plane P1 P2 P3 := by
  rw [View.read_writes_eq_canon v f _ (plane_cover P1 P2 P3)]
  funext y
  exact View.canon_apply_of_pieces (plane P1 P2 P3) _ (plane_pieces P1 P2 P3) y (plane_cover P1 P2 P3 y)

end Cert.KernelIdeal.Hand

end
-- ==== Proof.Out.lean ====
/- The key and value buffers, the masks and the output block, each as a function of an index. -/
module

public import proofs.«01_k».proof.Proof.Planes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-! ## The two-tile buffers of keys and values, and the masks -/

/-- The buffer of two tiles: the tile before on rows 0 to 2047, the tile itself below. -/
def twoV (Xp Xc : Vec F S1x2048x128 .f32) : Vec F S4096x128 .f32 := fun y =>
  if h : (y 0).val < 2048 then Xp (ix3 (0 : Fin 1) (⟨(y 0).val, h⟩ : Fin 2048) (y 1 : Fin 128))
  else Xc (ix3 (0 : Fin 1) (⟨(y 0).val - 2048, by have := (y 0).isLt; change (y 0).val < 4096 at this; omega⟩ : Fin 2048) (y 1 : Fin 128))

abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0
abbrev rTile : Rect S1x2048x128 := Rect.unit (s := S1x2048x128) ![0, 0, 0] S1x2048x128.size inb_S1x2048x128_S1x2048x128_0_0_0

/-- A tile's 2048 rows as a block of two axes. -/
theorem flat_apply (X : Vec F S1x2048x128 .f32) (a : Fin 2048) (b : Fin 128) :
    (k0_pay252 (View.ld X rTile) : FVec F S2048x128 .f32) (ix2 a b) = X (ix3 (0 : Fin 1) a b) := by
  pointwise [k0_pay252]

theorem embLo (a : Fin 2048) (b : Fin 128) : rLo.idx (ix2 a b) = ix2 (⟨a.val, by omega⟩ : Fin 4096) b := by
  funext x
  match x with
  | ⟨0, _⟩ => exact Fin.ext (show 0 + 1 * a.val = a.val by omega)
  | ⟨1, _⟩ => exact Fin.ext (show 0 + 1 * b.val = b.val by omega)

theorem embHi (a : Fin 2048) (b : Fin 128) : rHi.idx (ix2 a b) = ix2 (⟨2048 + a.val, by omega⟩ : Fin 4096) b := by
  funext x
  match x with
  | ⟨0, _⟩ => exact Fin.ext (show 2048 + 1 * a.val = 2048 + a.val by omega)
  | ⟨1, _⟩ => exact Fin.ext (show 0 + 1 * b.val = b.val by omega)

theorem twoV_lo (Xp Xc : Vec F S1x2048x128 .f32) (a : Fin 4096) (b : Fin 128) (h : a.val < 2048) :
    twoV Xp Xc (ix2 a b) = Xp (ix3 (0 : Fin 1) ⟨a.val, h⟩ b) := dif_pos (show (ix2 a b (0 : Fin 2)).val < 2048 from h)

theorem twoV_hi (Xp Xc : Vec F S1x2048x128 .f32) (a : Fin 4096) (b : Fin 128) (h : 2048 ≤ a.val) :
    twoV Xp Xc (ix2 a b) = Xc (ix3 (0 : Fin 1) ⟨a.val - 2048, by omega⟩ b) :=
  dif_neg (show ¬ (ix2 a b (0 : Fin 2)).val < 2048 from Nat.not_lt.mpr h)

/-- After the two stores the buffer holds the two tiles. -/
theorem read_two (v : View sig .tc .vmem S4096x128 .f32) (f : BufTy.Contents (Elt F) v.ty) (Xp Xc : Vec F S1x2048x128 .f32) :
    v.read (Elt F) (v.writes (Elt F) f [⟨rHi, k0_pay252 (View.ld Xc rTile)⟩, ⟨rLo, k0_pay252 (View.ld Xp rTile)⟩]) = twoV Xp Xc := by
  have cov : ∀ y : S4096x128.Idx, ∃ p ∈ ([⟨rHi, k0_pay252 (View.ld Xc rTile)⟩, ⟨rLo, k0_pay252 (View.ld Xp rTile)⟩] : List (View.Piece (Elt F) S4096x128 .f32)), y ∈ p.1.set := by
    intro y
    obtain ⟨a, b, rfl⟩ : ∃ (a : Fin 4096) (b : Fin 128), y = ix2 a b := ⟨y 0, y 1, eq_ix2 (n0 := 4096) (n1 := 128) y⟩
    by_cases h : a.val < 2048
    · refine ⟨_, .tail _ (.head _), ?_⟩
      have e := embLo ⟨a.val, h⟩ b
      rw [show ix2 a b = _ from e.symm]; exact LoadRect.idx_mem _ _
    · refine ⟨_, .head _, ?_⟩
      have e := embHi ⟨a.val - 2048, by omega⟩ b
      rw [show ix2 a b = _ from (congrArg (ix2 · b) (Fin.ext (show a.val = 2048 + (a.val - 2048) by omega))).trans e.symm]; exact LoadRect.idx_mem _ _
  funext y
  rw [View.read_writes_eq_canon _ _ _ cov]
  refine View.canon_apply_of_pieces _ _ ?_ y (cov y)
  intro p hp x
  rcases List.mem_cons.mp hp with rfl | hp
  · obtain ⟨a, b, rfl⟩ : ∃ (a : Fin 2048) (b : Fin 128), x = ix2 a b := ⟨x 0, x 1, eq_ix2 (n0 := 2048) (n1 := 128) x⟩
    show (k0_pay252 (View.ld Xc rTile) : FVec F S2048x128 .f32) (ix2 a b) = twoV Xp Xc (rHi.idx (ix2 a b))
    rw [flat_apply, embHi, twoV_hi _ _ _ _ (show 2048 ≤ 2048 + a.val by omega)]
    exact congrArg (fun z => Xc (ix3 0 z b)) (Fin.ext (show a.val = 2048 + a.val - 2048 by omega))
  · obtain rfl := List.mem_singleton.mp hp
    obtain ⟨a, b, rfl⟩ : ∃ (a : Fin 2048) (b : Fin 128), x = ix2 a b := ⟨x 0, x 1, eq_ix2 (n0 := 2048) (n1 := 128) x⟩
    show (k0_pay252 (View.ld Xp rTile) : FVec F S2048x128 .f32) (ix2 a b) = twoV Xp Xc (rLo.idx (ix2 a b))
    rw [flat_apply, embLo, twoV_lo _ _ _ _ (show a.val < 2048 by omega)]

/-- The two masks: the band's, and that of the missing keys. -/
def biasV : Vec F S2x128x256 .f32 := fun y =>
  if (y 0).val = 0 then (k0_pay1 (F := F) k0_pay256 k0_pay257 k0_pay258) (ix3 (0 : Fin 1) (y 1 : Fin 128) (y 2 : Fin 256))
  else (k0_pay2 (F := F) (iota .tc S128x256 32 [1] iota_S128x256_d1_w32)) (ix3 (0 : Fin 1) (y 1 : Fin 128) (y 2 : Fin 256))

abbrev rB0 : Rect S2x128x256 := Rect.unit (s := S2x128x256) ![0, 0, 0] S1x128x256.size inb_S2x128x256_S1x128x256_0_0_0
abbrev rB1 : Rect S2x128x256 := Rect.unit (s := S2x128x256) ![1, 0, 0] S1x128x256.size inb_S2x128x256_S1x128x256_1_0_0

theorem read_bias (v : View sig .tc .vmem S2x128x256 .f32) (f : BufTy.Contents (Elt F) v.ty) :
    v.read (Elt F) (v.writes (Elt F) f [⟨rB1, k0_pay2 (F := F) (iota .tc S128x256 32 [1] iota_S128x256_d1_w32)⟩,
      ⟨rB0, k0_pay1 (F := F) k0_pay256 k0_pay257 k0_pay258⟩]) = biasV := by
  have e0 : ∀ (a : Fin 128) (b : Fin 256), rB0.idx (ix3 (0 : Fin 1) a b) = ix3 (0 : Fin 2) a b := fun a b => by
    funext x
    match x with
    | ⟨0, _⟩ => rfl
    | ⟨1, _⟩ => exact Fin.ext (show 0 + 1 * a.val = a.val by omega)
    | ⟨2, _⟩ => exact Fin.ext (show 0 + 1 * b.val = b.val by omega)
  have e1 : ∀ (a : Fin 128) (b : Fin 256), rB1.idx (ix3 (0 : Fin 1) a b) = ix3 (1 : Fin 2) a b := fun a b => by
    funext x
    match x with
    | ⟨0, _⟩ => rfl
    | ⟨1, _⟩ => exact Fin.ext (show 0 + 1 * a.val = a.val by omega)
    | ⟨2, _⟩ => exact Fin.ext (show 0 + 1 * b.val = b.val by omega)
  have cov : ∀ y : S2x128x256.Idx, ∃ p ∈ ([⟨rB1, k0_pay2 (F := F) (iota .tc S128x256 32 [1] iota_S128x256_d1_w32)⟩,
      ⟨rB0, k0_pay1 (F := F) k0_pay256 k0_pay257 k0_pay258⟩] : List (View.Piece (Elt F) S2x128x256 .f32)), y ∈ p.1.set := by
    intro y
    obtain ⟨r, a, b, rfl⟩ : ∃ (r : Fin 2) (a : Fin 128) (b : Fin 256), y = ix3 r a b := ⟨y 0, y 1, y 2, eq_ix3 (n0 := 2) (n1 := 128) (n2 := 256) y⟩
    obtain rfl | rfl : r = 0 ∨ r = 1 := by omega
    · refine ⟨_, .tail _ (.head _), ?_⟩
      rw [← e0]; exact LoadRect.idx_mem _ _
    · refine ⟨_, .head _, ?_⟩
      rw [← e1]; exact LoadRect.idx_mem _ _
  funext y
  rw [View.read_writes_eq_canon _ _ _ cov]
  refine View.canon_apply_of_pieces _ _ ?_ y (cov y)
  intro p hp x
  rcases List.mem_cons.mp hp with rfl | hp
  · obtain ⟨r, a, b, rfl⟩ : ∃ (r : Fin 1) (a : Fin 128) (b : Fin 256), x = ix3 r a b := ⟨x 0, x 1, x 2, eq_ix3 (n0 := 1) (n1 := 128) (n2 := 256) x⟩
    obtain rfl : r = 0 := Subsingleton.elim _ _
    show (k0_pay2 (F := F) (iota .tc S128x256 32 [1] iota_S128x256_d1_w32)) (ix3 0 a b) = biasV (rB1.idx (ix3 (0 : Fin 1) a b))
    rw [e1]; exact (if_neg (show ¬ (1 : ℕ) = 0 by omega)).symm
  · obtain rfl := List.mem_singleton.mp hp
    obtain ⟨r, a, b, rfl⟩ : ∃ (r : Fin 1) (a : Fin 128) (b : Fin 256), x = ix3 r a b := ⟨x 0, x 1, x 2, eq_ix3 (n0 := 1) (n1 := 128) (n2 := 256) x⟩
    obtain rfl : r = 0 := Subsingleton.elim _ _
    show (k0_pay1 (F := F) k0_pay256 k0_pay257 k0_pay258) (ix3 0 a b) = biasV (rB0.idx (ix3 (0 : Fin 1) a b))
    rw [e0]; exact (if_pos rfl).symm

/-! ## The last loop: the three branches combined, 128 rows a trip -/

abbrev r10 (k : Fin k0_t4_loop.trips) : Rect S3x2048x128 := Rect.unit (s := S3x2048x128) (k0_off10 k) S1x128x128.size (k0_off10_inb k)
abbrev r11 (k : Fin k0_t4_loop.trips) : Rect S3x2048x128 := Rect.unit (s := S3x2048x128) (k0_off11 k) S1x128x128.size (k0_off11_inb k)
abbrev r12 (k : Fin k0_t4_loop.trips) : Rect S3x2048x128 := Rect.unit (s := S3x2048x128) (k0_off12 k) S1x128x128.size (k0_off12_inb k)
abbrev r13 (k : Fin k0_t4_loop.trips) : Rect S1x2048x128 := Rect.unit (s := S1x2048x128) (k0_off13 k) S1x128x128.size (k0_off13_inb k)

/-- The 128 output rows of a trip, from the planes of weighted sums `A`, row maxima `M` and row sums `L`. -/
def combB (A M L : Vec F S3x2048x128 .f32) (k : Fin k0_t4_loop.trips) : Vec F S1x128x128 .bf16 :=
  k0_pay8 (k0_pay249 (View.ld M (r10 k)) (View.ld M (r11 k)) (View.ld M (r12 k)))
    (k0_pay250 (View.ld M (r10 k)) (View.ld M (r11 k)) (View.ld M (r12 k)) (View.ld A (r10 k)) (View.ld A (r11 k)) (View.ld A (r12 k)))
    (k0_pay251 (View.ld M (r10 k)) (View.ld M (r11 k)) (View.ld M (r12 k)) (View.ld L (r10 k)) (View.ld L (r11 k))) (View.ld L (r12 k))

theorem trips4 : k0_t4_loop.trips = 16 := by decide

/-- The output block. -/
def combV (A M L : Vec F S3x2048x128 .f32) : Vec F S1x2048x128 .bf16 := fun y =>
  combB A M L ⟨(y 1).val / 128, by have := (y 1).isLt; change (y 1).val < 2048 at this; rw [trips4]; omega⟩
    (ix3 (0 : Fin 1) (⟨(y 1).val % 128, by omega⟩ : Fin 128) (y 2 : Fin 128))

variable (X11 : BufTy.Contents (Elt F) arg11.view.ty) (X12 : BufTy.Contents (Elt F) arg12.view.ty) (X13 : BufTy.Contents (Elt F) arg13.view.ty)

theorem tripL4 (k : Fin k0_t4_loop.trips) :
    tripL_k0_t4 (F := F) 𝒱 c bd i arg3 harg3 arg4 harg4 arg5 harg5 arg6 harg6 arg7 harg7 arg8 harg8 arg9 harg9 arg10 harg10 arg11 harg11 arg12 harg12 arg13 harg13 arg14 harg14 X11 X12 X13 k
      = [⟨r13 k, combB (arg11.view.read (Elt F) X11) (arg12.view.read (Elt F) X12) (arg13.view.read (Elt F) X13) k⟩] := by
  unfold tripL_k0_t4 trip_k0_t4; rfl

theorem mem_pb4 (n : ℕ) (hn : n ≤ k0_t4_loop.trips) (p : View.Piece (Elt F) S1x2048x128 .bf16) :
    p ∈ pb_k0_t4 (F := F) 𝒱 c bd i arg3 harg3 arg4 harg4 arg5 harg5 arg6 harg6 arg7 harg7 arg8 harg8 arg9 harg9 arg10 harg10 arg11 harg11 arg12 harg12 arg13 harg13 arg14 harg14 X11 X12 X13 n
      ↔ ∃ k : Fin k0_t4_loop.trips, k.val < n ∧ p = ⟨r13 k, combB (arg11.view.read (Elt F) X11) (arg12.view.read (Elt F) X12) (arg13.view.read (Elt F) X13) k⟩ := by
  induction n with
  | zero => simp [pb_k0_t4]
  | succ n ih =>
    have e := pb_k0_t4_succ (F := F) 𝒱 c bd i arg3 harg3 arg4 harg4 arg5 harg5 arg6 harg6 arg7 harg7 arg8 harg8 arg9 harg9 arg10 harg10 arg11 harg11 arg12 harg12 arg13 harg13 arg14 harg14 X11 X12 X13 ⟨n, hn⟩
    dsimp only at e
    rw [e, tripL4, List.mem_append, List.mem_singleton, ih (Nat.le_of_succ_le hn)]
    constructor
    · rintro (h | ⟨k, hk, h⟩)
      · exact ⟨⟨n, hn⟩, n.lt_succ_self, h⟩
      · exact ⟨k, hk.trans n.lt_succ_self, h⟩
    · rintro ⟨k, hk, h⟩
      rcases Nat.lt_succ_iff_lt_or_eq.mp hk with hk | hk
      · exact .inr ⟨k, hk, h⟩
      · subst hk; exact .inl h

theorem offs13 : ∀ k : Fin k0_t4_loop.trips, k0_off13 k = ![0, 128 * k.val, 0] := by decide +kernel

theorem emb13 (k : Fin k0_t4_loop.trips) (i : Fin 128) (l : Fin 128) (n : Fin 2048) (hn : n.val = 128 * k.val + i.val) :
    (r13 k).idx (ix3 (0 : Fin 1) i l) = ix3 (0 : Fin 1) n l := by
  have e := offs13 k
  funext a
  match a with
  | ⟨0, _⟩ =>
    refine Fin.ext ?_
    show k0_off13 k 0 + 1 * 0 = 0
    rw [e]; rfl
  | ⟨1, _⟩ =>
    refine Fin.ext ?_
    show k0_off13 k 1 + 1 * i.val = n.val
    rw [e, hn]; show 128 * k.val + 1 * i.val = _; omega
  | ⟨2, _⟩ =>
    refine Fin.ext ?_
    show k0_off13 k 2 + 1 * l.val = l.val
    rw [e]; show 0 + 1 * l.val = _; omega

/-- The output block after the last loop. -/
theorem read_comb (f : BufTy.Contents (Elt F) arg8.view.ty) :
    arg8.view.read (Elt F) (arg8.view.writes (Elt F) f (pb_k0_t4 (F := F) 𝒱 c bd i arg3 harg3 arg4 harg4 arg5 harg5 arg6 harg6 arg7 harg7 arg8 harg8 arg9 harg9 arg10 harg10 arg11 harg11 arg12 harg12 arg13 harg13 arg14 harg14 X11 X12 X13 k0_t4_loop.trips))
      = combV (arg11.view.read (Elt F) X11) (arg12.view.read (Elt F) X12) (arg13.view.read (Elt F) X13) := by
  have cov : ∀ y : S1x2048x128.Idx, ∃ p ∈ pb_k0_t4 (F := F) 𝒱 c bd i arg3 harg3 arg4 harg4 arg5 harg5 arg6 harg6 arg7 harg7 arg8 harg8 arg9 harg9 arg10 harg10 arg11 harg11 arg12 harg12 arg13 harg13 arg14 harg14 X11 X12 X13 k0_t4_loop.trips, y ∈ p.1.set := by
    intro y
    obtain ⟨r, n, l, rfl⟩ : ∃ (r : Fin 1) (n : Fin 2048) (l : Fin 128), y = ix3 r n l := ⟨y 0, y 1, y 2, eq_ix3 (n0 := 1) (n1 := 2048) (n2 := 128) y⟩
    obtain rfl : r = 0 := Subsingleton.elim _ _
    have hk : n.val / 128 < k0_t4_loop.trips := by rw [trips4]; omega
    refine ⟨_, (mem_pb4 (F := F) 𝒱 c bd i arg3 harg3 arg4 harg4 arg5 harg5 arg6 harg6 arg7 harg7 arg8 harg8 arg9 harg9 arg10 harg10 arg11 harg11 arg12 harg12 arg13 harg13 arg14 harg14 X11 X12 X13 _ le_rfl _).mpr ⟨⟨n.val / 128, hk⟩, hk, rfl⟩, ?_⟩
    have e := emb13 ⟨n.val / 128, hk⟩ ⟨n.val % 128, by omega⟩ l n (by dsimp only; omega)
    rw [← e]; exact LoadRect.idx_mem _ _
  rw [View.read_writes_eq_canon _ _ _ cov]
  funext y
  refine View.canon_apply_of_pieces _ _ ?_ y (cov y)
  intro p hp x
  obtain ⟨k, -, rfl⟩ := (mem_pb4 (F := F) 𝒱 c bd i arg3 harg3 arg4 harg4 arg5 harg5 arg6 harg6 arg7 harg7 arg8 harg8 arg9 harg9 arg10 harg10 arg11 harg11 arg12 harg12 arg13 harg13 arg14 harg14 X11 X12 X13 _ le_rfl p).mp hp
  obtain ⟨r, a, l, rfl⟩ : ∃ (r : Fin 1) (a : Fin 128) (l : Fin 128), x = ix3 r a l := ⟨x 0, x 1, x 2, eq_ix3 (n0 := 1) (n1 := 128) (n2 := 128) x⟩
  obtain rfl : r = 0 := Subsingleton.elim _ _
  have hk : k.val < 16 := Nat.lt_of_lt_of_eq k.isLt trips4
  have ek : (⟨(128 * k.val + a.val) / 128, lt_of_lt_of_eq (b := 16) (by omega) trips4.symm⟩ : Fin k0_t4_loop.trips) = k := Fin.ext (by dsimp only; omega)
  have ea : (⟨(128 * k.val + a.val) % 128, by omega⟩ : Fin 128) = a := Fin.ext (by dsimp only; omega)
  show combB _ _ _ k (ix3 0 a l) = combV _ _ _ ((r13 k).idx (ix3 (0 : Fin 1) a l))
  rw [emb13 k a l ⟨128 * k.val + a.val, by omega⟩ rfl]
  show _ = combB _ _ _ ⟨(128 * k.val + a.val) / 128, _⟩ (ix3 (0 : Fin 1) ⟨(128 * k.val + a.val) % 128, _⟩ l)
  rw [ek, ea]

end Cert.KernelIdeal.Hand

end
-- ==== Proof.Body.lean ====
/- The body of the kernel at a grid point, from its tiles to its output block. -/
module

public import proofs.«01_k».proof.Proof.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

variable (𝒱 : Variants) (c : Dev nD) (bd : Option 𝒱.V) (i : grid0.Coords)
  (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S3x2048x128 .f32) (harg11 : arg11.IsWhole) (arg12 : Memref sig .tc .vmem S3x2048x128 .f32) (harg12 : arg12.IsWhole) (arg13 : Memref sig .tc .vmem S3x2048x128 .f32) (harg13 : arg13.IsWhole) (arg14 : Memref sig .tc .vmem S2x128x256 .f32) (harg14 : arg14.IsWhole)
  (v0 : BitVec 1)
  (Q : BufTy.Contents (Elt F) arg3.view.ty) (K : BufTy.Contents (Elt F) arg9.view.ty)
  (W : BufTy.Contents (Elt F) arg10.view.ty) (B : BufTy.Contents (Elt F) arg14.view.ty)

/-- Whether a grid point is on its sequence's first tile. -/
def firstV (i : grid0.Coords) : BitVec 1 := Scalar.cmpi .eq (BitVec.ofNat 32 (i 1).val) 0#32

/-- The output block of a grid point, from its query tile `Q`, the key tile `Kc` and the one before it `Kp`, the value
    tiles `Vc` and `Vp`. -/
def outV (v0 : BitVec 1) (Q Kc Kp Vc Vp : Vec F S1x2048x128 .f32) : Vec F S1x2048x128 .bf16 :=
  combV
    (plane (acc1 Q (twoV Kp Kc) (twoV Vp Vc) biasV v0) (acc2 Q (twoV Kp Kc) (twoV Vp Vc) biasV v0) (acc3 Q (twoV Kp Kc) (twoV Vp Vc) biasV v0))
    (plane (mst1 Q (twoV Kp Kc) biasV v0) (mst2 Q (twoV Kp Kc) biasV v0) (mst3 Q (twoV Kp Kc) biasV v0))
    (plane (lst1 Q (twoV Kp Kc) biasV v0) (lst2 Q (twoV Kp Kc) biasV v0) (lst3 Q (twoV Kp Kc) biasV v0))

set_option maxHeartbeats 4000000 in
/-- The body at a grid point: from the query tile, the key and value tiles and anything in the output block and the scratch
    buffers, it ends with the inputs as they were and the output block at `outV` of them. -/
theorem body_run (x3 x4 x5 x6 x7 : Vec F S1x2048x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outV (firstV i) x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp Idealize.ShloMosaic.frame (wpE (defs₀ (F := F)) 𝒱 (c : Thread nD τ) bd) E (cc0_attn_prompt i arg3 harg3 arg4 harg4 arg5 harg5 arg6 harg6 arg7 harg7 arg8 harg8 arg9 harg9 arg10 harg10 arg11 harg11 arg12 harg12 arg13 harg13 arg14 harg14) K := by
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg3.eq_unread h3
  obtain rfl := harg4.eq_unread h4
  obtain rfl := harg5.eq_unread h5
  obtain rfl := harg6.eq_unread h6
  obtain rfl := harg7.eq_unread h7
  sl_unfold [cc0_attn_prompt]
  sl_exec
  sl_step
  have e9 : arg9.view.read (Elt F) (arg9.view.writes (Elt F) arg9.view.junk (body_run.sl.H9_2 c arg4 harg4 arg5 harg5 x4 x5))
      = twoV (arg5.view.read (Elt F) (harg5.unread x5)) (arg4.view.read (Elt F) (harg4.unread x4)) :=
    read_two arg9.view arg9.view.junk (arg5.view.read (Elt F) (harg5.unread x5)) (arg4.view.read (Elt F) (harg4.unread x4))
  have e10 : arg10.view.read (Elt F) (arg10.view.writes (Elt F) arg10.view.junk (body_run.sl.H10_2 c arg6 harg6 arg7 harg7 x6 x7))
      = twoV (arg7.view.read (Elt F) (harg7.unread x7)) (arg6.view.read (Elt F) (harg6.unread x6)) :=
    read_two arg10.view arg10.view.junk (arg7.view.read (Elt F) (harg7.unread x7)) (arg6.view.read (Elt F) (harg6.unread x6))
  have e14 : arg14.view.read (Elt F) (arg14.view.writes (Elt F) arg14.view.junk body_run.sl.H14_2) = biasV :=
    read_bias arg14.view arg14.view.junk
  rw [harg5.read_unread, harg4.read_unread] at e9
  rw [harg7.read_unread, harg6.read_unread] at e10
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    refine (read_comb (F := F) 𝒱 c bd i arg3 harg3 arg4 harg4 arg5 harg5 arg6 harg6 arg7 harg7 arg8 harg8 arg9 harg9 arg10 harg10 arg11 harg11 arg12 harg12 arg13 harg13 arg14 harg14 _ _ _ f8).trans ?_
    rw [e9, e10, e14, harg3.read_unread]
    refine (congrArg₂ (fun a m => combV a m _) (read_planes _ _ _ arg11.view f11) (read_planes _ _ _ arg12.view f12)).trans ?_
    exact congrArg (combV _ _) (read_planes _ _ _ arg13.view f13)
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.Run.lean ====
/- The kernel's pipeline: what each window holds after a grid point, the body at every point, the run of the program and
   its arguments at the end. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The output block at a grid point, from the blocks of the five input windows. -/
def outsAt (c : Dev nD) (t : Fin cfg0.N) : Vec F S1x2048x128 .bf16 :=
  outV (firstV (grid0.coords t)) (iblk m c 0 t) (iblk m c 1 t) (iblk m c 2 t) (iblk m c 3 t) (iblk m c 4 t)

/-- What the pipeline holds on core `c`: the arrays as launched; after a point each input's staging buffer at its block and
    the output's at `outsAt`; the scratch buffers at anything. Two windows read the keys and two the values, each on a
    share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant between points: the six scratch buffers at some contents, the generator register at some state. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
          ∗ (∃ r, prngReg c r)) := by
  unfold Pipeline.ΦA; rw [scopedRest0_eq]; simp only [owns_whole]; try rfl

/-- The body at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5,
    show (dats m 0 c).Φ t.castSucc = Pipeline.ΦA spec0 c from rfl, phi_eq]
  unfold outsAt
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩⟩
  iapply (body_run (F := F) Variants.none c none (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [S0 S1 S2 S3 S4 S5 Hg]
  · isplitr [Hg]; swap; · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every run of the program ends, each array at what the pipeline leaves in it and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

/-- Every run of the program ends with its arguments as launched and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.KernelIdeal.Hand

end
-- ==== Proof.Mix.lean ====
/-
  Three softmaxes over three bands of scores, mixed. One form weighs the bands by the exponentials of
  their greatest scores and divides once; the other normalises each band and weighs the results by the
  softmax of the bands' log-sum-exps. Over the extended reals, where no score is plus infinity and each
  band has a finite one, they are equal, whatever the values are.
-/
module

public import Idealize.ShloMosaic.PureOps.Ideal.Laws

@[expose] public section

noncomputable section

namespace Cert.Mix

open Idealize.ShloMosaic

/-- The greatest score of a band. -/
def top (s : Fin 256 → EReal) : EReal := Finset.univ.fold max ⊥ s

/-- The exponential of a score less the greatest. -/
def wt (s : Fin 256 → EReal) (j : Fin 256) : EReal := Ideal.exp (s j - top s)

/-- The sum of the band's exponentials. -/
def den (s : Fin 256 → EReal) : EReal := ∑ j, wt s j

/-- The sum of the band's values weighted by them. -/
def num (s v : Fin 256 → EReal) : EReal := ∑ j, wt s j * v j

/-- The band's normalised weighted sum. -/
def avg (s v : Fin 256 → EReal) : EReal := ∑ j, v j * Ideal.div (wt s j) (den s)

/-- The band's log-sum-exp. -/
def lse (s : Fin 256 → EReal) : EReal := top s + Ideal.log (den s)

/-- No score is plus infinity and some score is finite. -/
def Good (s : Fin 256 → EReal) : Prop := (∀ j, s j ≠ ⊤) ∧ ∃ j, s j ≠ ⊥

/-- The greatest score is at least every score, and is one of them or minus infinity. -/
theorem le_top (s : Fin 256 → EReal) (j : Fin 256) : s j ≤ top s :=
  (Finset.le_fold_max (s j)).2 (Or.inr ⟨j, Finset.mem_univ j, le_rfl⟩)

theorem top_lt (s : Fin 256 → EReal) (h : ∀ j, s j ≠ ⊤) : top s < ⊤ :=
  (Finset.fold_max_lt ⊤).2 ⟨bot_lt_top, fun j _ => lt_top_iff_ne_top.2 (h j)⟩

/-- The greatest score of such a band is finite. -/
theorem top_real {s : Fin 256 → EReal} (h : Good s) : ∃ r : ℝ, top s = r := by
  obtain ⟨j, hj⟩ := h.2
  have h1 : top s ≠ ⊤ := (top_lt s h.1).ne
  have h2 : top s ≠ ⊥ := fun e => hj (le_bot_iff.1 (e ▸ le_top s j))
  exact ⟨(top s).toReal, (EReal.coe_toReal h1 h2).symm⟩

/-- A masked score has weight zero. -/
theorem wt_bot {s : Fin 256 → EReal} {j : Fin 256} (hj : s j = ⊥) : wt s j = 0 := by
  rw [wt, hj, sub_eq_add_neg, EReal.bot_add, Ideal.exp_bot]

/-- A weight is a real at least zero, and positive at a finite score. -/
theorem wt_real {s : Fin 256 → EReal} (h : Good s) (j : Fin 256) :
    ∃ r : ℝ, 0 ≤ r ∧ wt s j = r ∧ (s j ≠ ⊥ → 0 < r) := by
  obtain ⟨T, hT⟩ := top_real h
  by_cases hj : s j = ⊥
  · exact ⟨0, le_rfl, (wt_bot hj).trans EReal.coe_zero.symm, fun hn => absurd hj hn⟩
  · have e := EReal.coe_toReal (h.1 j) hj
    refine ⟨Real.exp ((s j).toReal - T), (Real.exp_pos _).le, ?_, fun _ => Real.exp_pos _⟩
    rw [wt, hT, ← e, ← EReal.coe_sub, Ideal.exp_coe, EReal.toReal_coe]

/-- The weights as reals, with a positive sum. -/
theorem weights {s : Fin 256 → EReal} (h : Good s) :
    ∃ p : Fin 256 → ℝ, (∀ j, 0 ≤ p j) ∧ (∀ j, wt s j = p j) ∧ 0 < ∑ j, p j := by
  choose p h0 he hp using wt_real h
  obtain ⟨j, hj⟩ := h.2
  exact ⟨p, h0, he, Finset.sum_pos' (fun j _ => h0 j) ⟨j, Finset.mem_univ j, hp j hj⟩⟩

/-- A sum of reals is the real sum. -/
theorem coe_sum {n : ℕ} (p : Fin n → ℝ) : ∑ j, (p j : EReal) = ((∑ j, p j : ℝ) : EReal) := by
  induction (Finset.univ : Finset (Fin n)) using Finset.induction_on with
  | empty => simp
  | insert a t ha ih => rw [Finset.sum_insert ha, Finset.sum_insert ha, ih, EReal.coe_add]

/-- The sum of the weights is a positive real. -/
theorem den_real {s : Fin 256 → EReal} (h : Good s) : ∃ d : ℝ, 0 < d ∧ den s = d := by
  obtain ⟨p, -, he, hs⟩ := weights h
  exact ⟨_, hs, by rw [den, Finset.sum_congr rfl fun j _ => he j, coe_sum]⟩

/-- Values at masked scores do not matter. -/
theorem num_congr {s v w : Fin 256 → EReal} (h : ∀ j, s j ≠ ⊥ → v j = w j) : num s v = num s w := by
  refine Finset.sum_congr rfl fun j _ => ?_
  by_cases hj : s j = ⊥
  · rw [wt_bot hj, zero_mul, zero_mul]
  · rw [h j hj]

/-- So too for the normalised sum. -/
theorem avg_congr {s v w : Fin 256 → EReal} (hs : Good s) (h : ∀ j, s j ≠ ⊥ → v j = w j) : avg s v = avg s w := by
  obtain ⟨d, hd, e⟩ := den_real hs
  refine Finset.sum_congr rfl fun j _ => ?_
  by_cases hj : s j = ⊥
  · rw [wt_bot hj, Ideal.div, e, if_neg (fun z => hd.ne' (EReal.coe_eq_zero.1 z)), zero_mul, mul_zero, mul_zero]
  · rw [h j hj]

/-- A real at least zero distributes over a sum of extended reals. -/
theorem sum_mul_real {n : ℕ} (f : Fin n → EReal) {c : ℝ} (hc : 0 ≤ c) : (∑ j, f j) * (c : EReal) = ∑ j, f j * (c : EReal) := by
  induction (Finset.univ : Finset (Fin n)) using Finset.induction_on with
  | empty => simp
  | insert a t ha ih =>
    rw [Finset.sum_insert ha, Finset.sum_insert ha, ← ih,
      EReal.right_distrib_of_nonneg_of_ne_top (EReal.coe_nonneg.2 hc) (EReal.coe_ne_top c)]

/-- A quotient of reals, the divisor not zero. -/
theorem div_real (x : EReal) {d : ℝ} (hd : d ≠ 0) : Ideal.div x d = x * ((d⁻¹ : ℝ) : EReal) := by
  rw [Ideal.div, if_neg (fun e => hd (EReal.coe_eq_zero.1 e)), EReal.coe_inv]

/-- The normalised weighted sum is the weighted sum over the sum of the weights. -/
theorem avg_eq {s : Fin 256 → EReal} (h : Good s) (v : Fin 256 → EReal) {d : ℝ} (hd : 0 < d) (e : den s = d) :
    avg s v = num s v * ((d⁻¹ : ℝ) : EReal) := by
  rw [avg, num, sum_mul_real _ (inv_nonneg.2 hd.le)]
  refine Finset.sum_congr rfl fun j _ => ?_
  rw [e, div_real _ hd.ne', mul_comm (wt s j) (v j), mul_assoc]

/-- The three bands mixed by the exponentials of their greatest scores, one division. -/
def mixed (s1 s2 s3 v1 v2 v3 : Fin 256 → EReal) : EReal :=
  let m := max (max (top s1) (top s2)) (top s3)
  Ideal.div
    (Ideal.exp (top s1 - m) * num s1 v1 + Ideal.exp (top s2 - m) * num s2 v2 + Ideal.exp (top s3 - m) * num s3 v3)
    (Ideal.exp (top s1 - m) * den s1 + Ideal.exp (top s2 - m) * den s2 + Ideal.exp (top s3 - m) * den s3)

/-- The weight the softmax of three numbers gives one of them, the greatest called `X`. -/
def soft (X l1 l2 l3 l : EReal) : EReal :=
  Ideal.div (Ideal.exp (l - X)) (Ideal.exp (l1 - X) + Ideal.exp (l2 - X) + Ideal.exp (l3 - X))

/-- The two forms agree. -/
theorem mixed_eq {s1 s2 s3 : Fin 256 → EReal} (h1 : Good s1) (h2 : Good s2) (h3 : Good s3)
    (v1 v2 v3 : Fin 256 → EReal) (X : EReal) (hX : X = max (max (lse s1) (lse s2)) (lse s3)) :
    mixed s1 s2 s3 v1 v2 v3
      = avg s1 v1 * soft X (lse s1) (lse s2) (lse s3) (lse s1)
        + avg s2 v2 * soft X (lse s1) (lse s2) (lse s3) (lse s2)
        + avg s3 v3 * soft X (lse s1) (lse s2) (lse s3) (lse s3) := by
  obtain ⟨T1, hT1⟩ := top_real h1
  obtain ⟨T2, hT2⟩ := top_real h2
  obtain ⟨T3, hT3⟩ := top_real h3
  obtain ⟨d1, p1, hd1⟩ := den_real h1
  obtain ⟨d2, p2, hd2⟩ := den_real h2
  obtain ⟨d3, p3, hd3⟩ := den_real h3
  have l1 : lse s1 = ((T1 + Real.log d1 : ℝ) : EReal) := by
    rw [lse, hT1, hd1, Ideal.log_coe, if_neg (not_le.2 p1), EReal.coe_add]
  have l2 : lse s2 = ((T2 + Real.log d2 : ℝ) : EReal) := by
    rw [lse, hT2, hd2, Ideal.log_coe, if_neg (not_le.2 p2), EReal.coe_add]
  have l3 : lse s3 = ((T3 + Real.log d3 : ℝ) : EReal) := by
    rw [lse, hT3, hd3, Ideal.log_coe, if_neg (not_le.2 p3), EReal.coe_add]
  obtain ⟨x, hx⟩ : ∃ x : ℝ, X = x :=
    ⟨max (max (T1 + Real.log d1) (T2 + Real.log d2)) (T3 + Real.log d3), by
      rw [hX, l1, l2, l3, EReal.coe_strictMono.monotone.map_max, EReal.coe_strictMono.monotone.map_max]⟩
  obtain ⟨m, hm⟩ : ∃ m : ℝ, max (max (top s1) (top s2)) (top s3) = m :=
    ⟨max (max T1 T2) T3, by
      rw [hT1, hT2, hT3, EReal.coe_strictMono.monotone.map_max, EReal.coe_strictMono.monotone.map_max]⟩
  have f : ∀ T d : ℝ, 0 < d → Real.exp (T + Real.log d - x) = Real.exp (T - m) * d * Real.exp (m - x) := fun T d hd => by
    rw [show T + Real.log d - x = (T - m) + Real.log d + (m - x) by ring, Real.exp_add, Real.exp_add, Real.exp_log hd]
  have ex := Real.exp_pos (m - x)
  have a1 := Real.exp_pos (T1 - m)
  have a2 := Real.exp_pos (T2 - m)
  have a3 := Real.exp_pos (T3 - m)
  set e := Real.exp (m - x)
  set A1 := Real.exp (T1 - m)
  set A2 := Real.exp (T2 - m)
  set A3 := Real.exp (T3 - m)
  have D : 0 < A1 * d1 + A2 * d2 + A3 * d3 := by positivity
  have D' : 0 < A1 * d1 * e + A2 * d2 * e + A3 * d3 * e := by positivity
  have hs : ∀ T d A : ℝ, 0 < d → Real.exp (T - m) = A →
      soft X (lse s1) (lse s2) (lse s3) ((T + Real.log d : ℝ) : EReal)
        = ((A * d * e * (A1 * d1 * e + A2 * d2 * e + A3 * d3 * e)⁻¹ : ℝ) : EReal) := fun T d A hd hA => by
    rw [soft, l1, l2, l3, hx, ← EReal.coe_sub, ← EReal.coe_sub, ← EReal.coe_sub, ← EReal.coe_sub, Ideal.exp_coe, Ideal.exp_coe,
      Ideal.exp_coe, Ideal.exp_coe, f _ _ hd, f _ _ p1, f _ _ p2, f _ _ p3, hA, ← EReal.coe_add, ← EReal.coe_add,
      div_real _ D'.ne', ← EReal.coe_mul]
  rw [avg_eq h1 v1 p1 hd1, avg_eq h2 v2 p2 hd2, avg_eq h3 v3 p3 hd3]
  rw [show soft X (lse s1) (lse s2) (lse s3) (lse s1) = _ from (congrArg _ l1).trans (hs T1 d1 A1 p1 rfl),
    show soft X (lse s1) (lse s2) (lse s3) (lse s2) = _ from (congrArg _ l2).trans (hs T2 d2 A2 p2 rfl),
    show soft X (lse s1) (lse s2) (lse s3) (lse s3) = _ from (congrArg _ l3).trans (hs T3 d3 A3 p3 rfl)]
  rw [mixed]
  rw [hm, hT1, hT2, hT3, hd1, hd2, hd3, ← EReal.coe_sub, ← EReal.coe_sub, ← EReal.coe_sub, Ideal.exp_coe, Ideal.exp_coe,
    Ideal.exp_coe, ← EReal.coe_mul, ← EReal.coe_mul, ← EReal.coe_mul, ← EReal.coe_add, ← EReal.coe_add, div_real _ D.ne']
  have hn : (0 : EReal) ≤ (((A1 * d1 + A2 * d2 + A3 * d3)⁻¹ : ℝ) : EReal) := EReal.coe_nonneg.2 (inv_nonneg.2 D.le)
  rw [EReal.right_distrib_of_nonneg_of_ne_top hn (EReal.coe_ne_top _), EReal.right_distrib_of_nonneg_of_ne_top hn (EReal.coe_ne_top _)]
  have g : ∀ (n : EReal) (A d : ℝ), 0 < d →
      (A : EReal) * n * (((A1 * d1 + A2 * d2 + A3 * d3)⁻¹ : ℝ) : EReal)
        = n * ((d⁻¹ : ℝ) : EReal) * ((A * d * e * (A1 * d1 * e + A2 * d2 * e + A3 * d3 * e)⁻¹ : ℝ) : EReal) := fun n A d hd => by
    rw [mul_comm (A : EReal) n, mul_assoc, mul_assoc, ← EReal.coe_mul, ← EReal.coe_mul]
    congr 2
    rw [show A1 * d1 * e + A2 * d2 * e + A3 * d3 * e = (A1 * d1 + A2 * d2 + A3 * d3) * e by ring]
    field_simp
  rw [g _ A1 d1 p1, g _ A2 d2 p2, g _ A3 d3 p3]

end Cert.Mix

end
-- ==== Proof.Chain.lean ====
/- What a chain computes, read at an index over the extended reals: the scores of a head are the products over the
   head's 64 lanes plus the mask; the stored blocks are the band's greatest score, sum of weights and weighted sum. -/
module

public import proofs.«01_k».proof.Proof.Pay
public import proofs.«01_k».proof.Proof.Mix
public import Idealize.ShloMosaic.Lib.Pipeline.Value
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe
open Cert.KernelIdeal Cert.KernelIdeal.Gen

/-- Whether a lane is the first head's. -/
theorem pay3_apply (i : Fin 128) (l : Fin 128) : (k0_pay3 (ix2 i l) = 1#1) = (l.val < 64) := by
  have h : ∀ l : Fin 128, (Scalar.cmpi .slt (BitVec.ofNat 32 l.val) 64#32 = 1#1) ↔ l.val < 64 := by decide +kernel
  refine propext ?_
  rw [← h l]
  pointwise [k0_pay3]
  exact Iff.rfl

/-- A selection whose condition is that proposition. -/
theorem sel_if {α : Type} {c : BitVec 1} {p : Prop} [Decidable p] (h : (c = 1#1) = p) (a b : α) :
    Scalar.select c a b = if p then a else b := by
  have e : Scalar.select c a b = if c = 1#1 then a else b := rfl
  rw [e]; simp only [h]

theorem q0V_apply (q : Vec Ideal S1x128x128 .f32) (i l : Fin 128) :
    q0V q (ix2 i l) = if l.val < 64 then q (ix3 (0 : Fin 1) i l) else 0 := by
  pointwise [q0V]
  exact sel_if (pay3_apply i l) _ _

theorem q1V_apply (q : Vec Ideal S1x128x128 .f32) (i l : Fin 128) :
    q1V q (ix2 i l) = if l.val < 64 then 0 else q (ix3 (0 : Fin 1) i l) := by
  pointwise [q1V]
  exact sel_if (pay3_apply i l) _ _

theorem sV_apply (q : FVec Ideal S128x128 .bf16) (k : Vec Ideal S256x128 .f32) (mask : FVec Ideal S128x256 .f32) (i : Fin 128) (j : Fin 256) :
    sV q k mask (ix2 i j) = (∑ l : Fin 128, q (ix2 i l) * k (ix2 j l)) + mask (ix2 i j) := by
  pointwise [sV]

/-- The word of minus infinity. -/
theorem ofBits_bot : Ideal.ofBits FTy.f32 4286578688#32 = ⊥ := by
  simp [Ideal.ofBits, Ideal.ieee]

theorem mV_apply (s : FVec Ideal S128x256 .f32) (i : Fin 128) :
    mV s (ix2 i (0 : Fin 1)) = Mix.top fun j => s (ix2 i j) := by
  pointwise [mV, Mix.top]
  rw [ofBits_bot]

theorem pV_apply (s : FVec Ideal S128x256 .f32) (i : Fin 128) (j : Fin 256) :
    pV s (ix2 i j) = Mix.wt (fun j => s (ix2 i j)) j := by
  pointwise [pV, Mix.wt, mV_apply]

theorem lV_apply (s : FVec Ideal S128x256 .f32) (i : Fin 128) :
    lV s (ix2 i (0 : Fin 1)) = Mix.den fun j => s (ix2 i j) := by
  pointwise [lV, pV_apply, Mix.den]

theorem oV_apply (s : FVec Ideal S128x256 .f32) (v : Vec Ideal S256x128 .f32) (i l : Fin 128) :
    oV s v (ix2 i l) = Mix.num (fun j => s (ix2 i j)) fun j => v (ix2 j l) := by
  pointwise [oV, pV_apply, Mix.num]

theorem colV_apply (a b : FVec Ideal S128x1 .f32) (i l : Fin 128) :
    colV a b (ix3 (0 : Fin 1) i l) = if l.val < 64 then a (ix2 i (0 : Fin 1)) else b (ix2 i (0 : Fin 1)) := by
  pointwise [colV]
  exact sel_if (pay3_apply i l) _ _

/-! ## The scores of the head a lane belongs to -/

/-- Lane `x` of the head that lane `l` belongs to. -/
def hl (l : Fin 128) (x : Fin 64) : Fin 128 := ⟨64 * (l.val / 64) + x.val, by omega⟩

/-- Zeroing the other head's lanes leaves the sum over this head's lanes. -/
theorem sum_lo (a b : Fin 128 → EReal) (l : Fin 128) (hlt : l.val < 64) :
    (∑ y : Fin 128, (if y.val < 64 then a y else 0) * b y) = ∑ x : Fin 64, a (hl l x) * b (hl l x) := by
  have e := Fin.sum_univ_add (a := 64) (b := 64) fun y : Fin (64 + 64) => (if y.val < 64 then a y else 0) * b y
  refine e.trans ?_
  rw [Finset.sum_eq_zero (s := Finset.univ) (f := fun x : Fin 64 => (if (Fin.natAdd 64 x).val < 64 then a (Fin.natAdd 64 x) else 0) * b (Fin.natAdd 64 x))
    (fun x _ => by rw [if_neg (by simp), zero_mul]), add_zero]
  refine Finset.sum_congr rfl fun x _ => ?_
  have h : (Fin.castAdd 64 x : Fin 128) = hl l x := Fin.ext (by simp only [hl, Fin.val_castAdd]; omega)
  rw [if_pos (by simp), h]

theorem sum_hi (a b : Fin 128 → EReal) (l : Fin 128) (hge : ¬ l.val < 64) :
    (∑ y : Fin 128, (if y.val < 64 then 0 else a y) * b y) = ∑ x : Fin 64, a (hl l x) * b (hl l x) := by
  have e := Fin.sum_univ_add (a := 64) (b := 64) fun y : Fin (64 + 64) => (if y.val < 64 then 0 else a y) * b y
  refine e.trans ?_
  rw [Finset.sum_eq_zero (s := Finset.univ) (f := fun x : Fin 64 => (if (Fin.castAdd 64 x).val < 64 then 0 else a (Fin.castAdd 64 x)) * b (Fin.castAdd 64 x))
    (fun x _ => by rw [if_pos (by simp), zero_mul]), zero_add]
  refine Finset.sum_congr rfl fun x _ => ?_
  have h : (Fin.natAdd 64 x : Fin 128) = hl l x := Fin.ext (by simp only [hl, Fin.val_natAdd]; omega)
  rw [if_neg (by simp), h]

/-- The scores of a row for the head lane `l` belongs to. -/
def scoreV (q : Vec Ideal S1x128x128 .f32) (k : Vec Ideal S256x128 .f32) (mask : FVec Ideal S128x256 .f32) (i l : Fin 128) (j : Fin 256) : EReal :=
  (∑ x : Fin 64, q (ix3 (0 : Fin 1) i (hl l x)) * k (ix2 j (hl l x))) + mask (ix2 i j)

theorem s_lo (q : Vec Ideal S1x128x128 .f32) (k : Vec Ideal S256x128 .f32) (mask : FVec Ideal S128x256 .f32) (i l : Fin 128) (h : l.val < 64) :
    (fun j : Fin 256 => sV (q0V q) k mask (ix2 i j)) = scoreV q k mask i l := by
  funext j
  rw [sV_apply, scoreV, ← sum_lo (fun y => q (ix3 (0 : Fin 1) i y)) (fun y => k (ix2 j y)) l h]
  simp only [q0V_apply]

theorem s_hi (q : Vec Ideal S1x128x128 .f32) (k : Vec Ideal S256x128 .f32) (mask : FVec Ideal S128x256 .f32) (i l : Fin 128) (h : ¬ l.val < 64) :
    (fun j : Fin 256 => sV (q1V q) k mask (ix2 i j)) = scoreV q k mask i l := by
  funext j
  rw [sV_apply, scoreV, ← sum_hi (fun y => q (ix3 (0 : Fin 1) i y)) (fun y => k (ix2 j y)) l h]
  simp only [q1V_apply]

/-- What a chain stores: the weighted sum, -/
theorem accV_apply (q : Vec Ideal S1x128x128 .f32) (k v : Vec Ideal S256x128 .f32) (mask : FVec Ideal S128x256 .f32) (i l : Fin 128) :
    accV q k v mask (ix3 (0 : Fin 1) i l) = Mix.num (scoreV q k mask i l) fun j => v (ix2 j l) := by
  have e : accV q k v mask (ix3 (0 : Fin 1) i l) =
      if l.val < 64 then oV (sV (q0V q) k mask) v (ix2 i l) else oV (sV (q1V q) k mask) v (ix2 i l) := by
    pointwise [accV]
    exact sel_if (pay3_apply i l) _ _
  rw [e]
  split
  · next h => rw [oV_apply, s_lo q k mask i l h]
  · next h => rw [oV_apply, s_hi q k mask i l h]

/-- the greatest score, -/
theorem mstV_apply (q : Vec Ideal S1x128x128 .f32) (k : Vec Ideal S256x128 .f32) (mask : FVec Ideal S128x256 .f32) (i l : Fin 128) :
    mstV q k mask (ix3 (0 : Fin 1) i l) = Mix.top (scoreV q k mask i l) := by
  rw [mstV, colV_apply]
  split
  · next h => rw [mV_apply, s_lo q k mask i l h]
  · next h => rw [mV_apply, s_hi q k mask i l h]

/-- and the sum of the weights. -/
theorem lstV_apply (q : Vec Ideal S1x128x128 .f32) (k : Vec Ideal S256x128 .f32) (mask : FVec Ideal S128x256 .f32) (i l : Fin 128) :
    lstV q k mask (ix3 (0 : Fin 1) i l) = Mix.den (scoreV q k mask i l) := by
  rw [lstV, colV_apply]
  split
  · next h => rw [lV_apply, s_lo q k mask i l h]
  · next h => rw [lV_apply, s_hi q k mask i l h]
end Cert.KernelIdeal.Hand
end
-- ==== Proof.Mask.lean ====
/- The additive mask and the last combination, read at an index over the extended reals. -/
module

public import proofs.«01_k».proof.Proof.Chain
public import proofs.«01_k».proof.Proof.Out

@[expose] public section

set_option maxRecDepth 16384

noncomputable section

namespace Cert.KernelIdeal.Hand

open Idealize.ShloMosaic Idealize.ShloMosaic.TcCoe
open Cert.KernelIdeal Cert.KernelIdeal.Gen

theorem band_words : ∀ (i : Fin 128) (j : Fin 256),
    (Scalar.andi (Scalar.cmpi .sge (BitVec.ofNat 32 i.val + 128#32 - BitVec.ofNat 32 j.val) 0#32)
      (Scalar.cmpi .sle (BitVec.ofNat 32 i.val + 128#32 - BitVec.ofNat 32 j.val) 128#32) = 1#1) ↔ (i.val ≤ j.val ∧ j.val ≤ i.val + 128) := by
  decide +kernel

theorem prev_words : ∀ j : Fin 256, (Scalar.cmpi .sge (BitVec.ofNat 32 j.val) 128#32 = 1#1) ↔ 128 ≤ j.val := by decide +kernel

/-- The band's mask: zero in the band, minus infinity outside. -/
theorem band_apply (i : Fin 128) (j : Fin 256) :
    (k0_pay1 (F := Ideal) k0_pay256 k0_pay257 k0_pay258) (ix3 (0 : Fin 1) i j) = if i.val ≤ j.val ∧ j.val ≤ i.val + 128 then 0 else ⊥ := by
  rw [← sel_if (propext (band_words i j))]
  pointwise [k0_pay1, k0_pay256, k0_pay257, k0_pay258]
  rw [show (Named.named κ "mask" 0xF149F2CA#32 : Ideal .f32) = ⊥ from rfl]
  rfl

/-- The mask of the missing keys. -/
theorem prev_apply (i : Fin 128) (j : Fin 256) :
    (k0_pay2 (F := Ideal) (iota .tc S128x256 32 [1] iota_S128x256_d1_w32)) (ix3 (0 : Fin 1) i j) = if 128 ≤ j.val then 0 else ⊥ := by
  rw [← sel_if (propext (prev_words j))]
  pointwise [k0_pay2]
  rw [show (Named.named κ "mask" 0xF149F2CA#32 : Ideal .f32) = ⊥ from rfl]
  rfl

theorem rB0_idx (a : Fin 128) (b : Fin 256) : rB0.idx (ix3 (0 : Fin 1) a b) = ix3 (0 : Fin 2) a b := by
  funext x
  match x with
  | ⟨0, _⟩ => rfl
  | ⟨1, _⟩ => exact Fin.ext (show 0 + 1 * a.val = a.val by omega)
  | ⟨2, _⟩ => exact Fin.ext (show 0 + 1 * b.val = b.val by omega)

theorem rB1_idx (a : Fin 128) (b : Fin 256) : rB1.idx (ix3 (0 : Fin 1) a b) = ix3 (1 : Fin 2) a b := by
  funext x
  match x with
  | ⟨0, _⟩ => rfl
  | ⟨1, _⟩ => exact Fin.ext (show 0 + 1 * a.val = a.val by omega)
  | ⟨2, _⟩ => exact Fin.ext (show 0 + 1 * b.val = b.val by omega)

theorem maskV_apply (b0 b1 : Vec Ideal S1x128x256 .f32) (fl : BitVec 1) (i : Fin 128) (j : Fin 256) :
    maskV b0 b1 fl (ix2 i j) = b0 (ix3 (0 : Fin 1) i j) + b1 (ix3 (0 : Fin 1) i j) * (if fl = 1#1 then 1 else 0) := by
  pointwise [maskV]
  obtain rfl | rfl : fl = 1#1 ∨ fl = 0#1 := by revert fl; decide
  · rw [if_pos rfl, mul_one]; rfl
  · rw [if_neg (by decide), mul_zero]; rfl

/-- The mask of a chain, `fl` telling that the keys of the block before are missing. -/
theorem mkV_apply (fl : BitVec 1) (i : Fin 128) (j : Fin 256) :
    mkV (biasV (F := Ideal)) fl (ix2 i j) = (if i.val ≤ j.val ∧ j.val ≤ i.val + 128 then 0 else ⊥) + (if 128 ≤ j.val then 0 else ⊥) * (if fl = 1#1 then 1 else 0) := by
  rw [mkV, maskV_apply, ← band_apply, ← prev_apply i]
  have e0 : View.ld (biasV (F := Ideal)) rB0 (ix3 (0 : Fin 1) i j) = (k0_pay1 (F := Ideal) k0_pay256 k0_pay257 k0_pay258) (ix3 (0 : Fin 1) i j) := by
    show biasV (rB0.idx _) = _
    rw [rB0_idx]; exact if_pos rfl
  have e1 : View.ld (biasV (F := Ideal)) rB1 (ix3 (0 : Fin 1) i j) = (k0_pay2 (F := Ideal) (iota .tc S128x256 32 [1] iota_S128x256_d1_w32)) (ix3 (0 : Fin 1) i j) := by
    show biasV (rB1.idx _) = _
    rw [rB1_idx]; exact if_neg (show ¬ (1 : ℕ) = 0 by omega)
  exact congrArg₂ (· + ·) e0 (congrArg (· * _) e1)

/-- So the scores of a chain: the products where the key is in the band and not missing, minus infinity elsewhere. -/
theorem scoreV_mk (q : Vec Ideal S1x128x128 .f32) (k : Vec Ideal S256x128 .f32) (fl : BitVec 1) (i l : Fin 128) (j : Fin 256) :
    scoreV q k (mkV (biasV (F := Ideal)) fl) i l j =
      if i.val ≤ j.val ∧ j.val ≤ i.val + 128 ∧ (fl = 1#1 → 128 ≤ j.val) then ∑ x : Fin 64, q (ix3 (0 : Fin 1) i (hl l x)) * k (ix2 j (hl l x)) else ⊥ := by
  rw [scoreV, mkV_apply]
  by_cases h1 : i.val ≤ j.val ∧ j.val ≤ i.val + 128
  · rw [if_pos h1]
    by_cases h2 : fl = 1#1
    · rw [if_pos h2]
      by_cases h3 : 128 ≤ j.val
      · have hA : i.val ≤ j.val ∧ j.val ≤ i.val + 128 ∧ (fl = 1#1 → 128 ≤ j.val) := ⟨h1.1, h1.2, fun _ => h3⟩
        rw [if_pos h3, if_pos hA, zero_mul, add_zero, add_zero]
      · have hA : ¬ (i.val ≤ j.val ∧ j.val ≤ i.val + 128 ∧ (fl = 1#1 → 128 ≤ j.val)) := fun h => h3 (h.2.2 h2)
        rw [if_neg h3, if_neg hA, mul_one, zero_add, EReal.add_bot]
    · have hA : i.val ≤ j.val ∧ j.val ≤ i.val + 128 ∧ (fl = 1#1 → 128 ≤ j.val) := ⟨h1.1, h1.2, fun h => absurd h h2⟩
      rw [if_neg h2, if_pos hA, mul_zero, add_zero, add_zero]
  · have hA : ¬ (i.val ≤ j.val ∧ j.val ≤ i.val + 128 ∧ (fl = 1#1 → 128 ≤ j.val)) := fun h => h1 ⟨h.1, h.2.1⟩
    rw [if_neg h1, if_neg hA, EReal.bot_add, EReal.add_bot]

/-! ## The last combination -/

theorem offs10 : ∀ k : Fin k0_t4_loop.trips, k0_off10 k = ![0, 128 * k.val, 0] := by decide +kernel
theorem offs11 : ∀ k : Fin k0_t4_loop.trips, k0_off11 k = ![1, 128 * k.val, 0] := by decide +kernel
theorem offs12 : ∀ k : Fin k0_t4_loop.trips, k0_off12 k = ![2, 128 * k.val, 0] := by decide +kernel

/-- The combination of three weighted sums `a`, greatest scores `m` and sums of weights `d`. -/
def comb3 (a0 a1 a2 m0 m1 m2 d0 d1 d2 : EReal) : EReal :=
  let m := max (max m0 m1) m2
  Ideal.div (Ideal.exp (m0 - m) * a0 + Ideal.exp (m1 - m) * a1 + Ideal.exp (m2 - m) * a2)
    (Ideal.exp (m0 - m) * d0 + Ideal.exp (m1 - m) * d1 + Ideal.exp (m2 - m) * d2)

theorem comb_blocks (a0 a1 a2 m0 m1 m2 d0 d1 d2 : Vec Ideal S1x128x128 .f32) (i l : Fin 128) :
    k0_pay8 (k0_pay249 m0 m1 m2) (k0_pay250 m0 m1 m2 a0 a1 a2) (k0_pay251 m0 m1 m2 d0 d1) d2 (ix3 (0 : Fin 1) i l)
      = comb3 (a0 (ix3 (0 : Fin 1) i l)) (a1 (ix3 (0 : Fin 1) i l)) (a2 (ix3 (0 : Fin 1) i l)) (m0 (ix3 (0 : Fin 1) i l)) (m1 (ix3 (0 : Fin 1) i l))
          (m2 (ix3 (0 : Fin 1) i l)) (d0 (ix3 (0 : Fin 1) i l)) (d1 (ix3 (0 : Fin 1) i l)) (d2 (ix3 (0 : Fin 1) i l)) := by
  pointwise [k0_pay8, k0_pay249, k0_pay250, k0_pay251, k0_pay243, k0_pay244, k0_pay245, k0_pay246, k0_pay247, k0_pay248, comb3]

/-- The output block at an index, from the three planes. -/
theorem combV_apply (A M L : Vec Ideal S3x2048x128 .f32) (n : Fin 2048) (l : Fin 128) :
    combV A M L (ix3 (0 : Fin 1) n l) = comb3 (A (ix3 (0 : Fin 3) n l)) (A (ix3 (1 : Fin 3) n l)) (A (ix3 (2 : Fin 3) n l))
      (M (ix3 (0 : Fin 3) n l)) (M (ix3 (1 : Fin 3) n l)) (M (ix3 (2 : Fin 3) n l))
      (L (ix3 (0 : Fin 3) n l)) (L (ix3 (1 : Fin 3) n l)) (L (ix3 (2 : Fin 3) n l)) := by
  have hk : n.val / 128 < k0_t4_loop.trips := by rw [trips4]; omega
  have e0 : (r10 ⟨n.val / 128, hk⟩).idx (ix3 (0 : Fin 1) (⟨n.val % 128, by omega⟩ : Fin 128) l) = ix3 (0 : Fin 3) n l := by
    have e := offs10 ⟨n.val / 128, hk⟩
    funext x
    match x with
    | ⟨0, _⟩ => exact Fin.ext (show k0_off10 _ 0 + 1 * 0 = 0 by rw [e]; rfl)
    | ⟨1, _⟩ => exact Fin.ext (show k0_off10 _ 1 + 1 * (n.val % 128) = n.val by rw [e]; show 128 * (n.val / 128) + _ = _; omega)
    | ⟨2, _⟩ => exact Fin.ext (show k0_off10 _ 2 + 1 * l.val = l.val by rw [e]; show 0 + _ = _; omega)
  have e1 : (r11 ⟨n.val / 128, hk⟩).idx (ix3 (0 : Fin 1) (⟨n.val % 128, by omega⟩ : Fin 128) l) = ix3 (1 : Fin 3) n l := by
    have e := offs11 ⟨n.val / 128, hk⟩
    funext x
    match x with
    | ⟨0, _⟩ => exact Fin.ext (show k0_off11 _ 0 + 1 * 0 = 1 by rw [e]; rfl)
    | ⟨1, _⟩ => exact Fin.ext (show k0_off11 _ 1 + 1 * (n.val % 128) = n.val by rw [e]; show 128 * (n.val / 128) + _ = _; omega)
    | ⟨2, _⟩ => exact Fin.ext (show k0_off11 _ 2 + 1 * l.val = l.val by rw [e]; show 0 + _ = _; omega)
  have e2 : (r12 ⟨n.val / 128, hk⟩).idx (ix3 (0 : Fin 1) (⟨n.val % 128, by omega⟩ : Fin 128) l) = ix3 (2 : Fin 3) n l := by
    have e := offs12 ⟨n.val / 128, hk⟩
    funext x
    match x with
    | ⟨0, _⟩ => exact Fin.ext (show k0_off12 _ 0 + 1 * 0 = 2 by rw [e]; rfl)
    | ⟨1, _⟩ => exact Fin.ext (show k0_off12 _ 1 + 1 * (n.val % 128) = n.val by rw [e]; show 128 * (n.val / 128) + _ = _; omega)
    | ⟨2, _⟩ => exact Fin.ext (show k0_off12 _ 2 + 1 * l.val = l.val by rw [e]; show 0 + _ = _; omega)
  show combB A M L ⟨n.val / 128, hk⟩ (ix3 (0 : Fin 1) (⟨n.val % 128, by omega⟩ : Fin 128) l) = _
  have f0 : ∀ X : Vec Ideal S3x2048x128 .f32, View.ld X (r10 ⟨n.val / 128, hk⟩) (ix3 (0 : Fin 1) (⟨n.val % 128, by omega⟩ : Fin 128) l) = X (ix3 (0 : Fin 3) n l) :=
    fun X => congrArg X e0
  have f1 : ∀ X : Vec Ideal S3x2048x128 .f32, View.ld X (r11 ⟨n.val / 128, hk⟩) (ix3 (0 : Fin 1) (⟨n.val % 128, by omega⟩ : Fin 128) l) = X (ix3 (1 : Fin 3) n l) :=
    fun X => congrArg X e1
  have f2 : ∀ X : Vec Ideal S3x2048x128 .f32, View.ld X (r12 ⟨n.val / 128, hk⟩) (ix3 (0 : Fin 1) (⟨n.val % 128, by omega⟩ : Fin 128) l) = X (ix3 (2 : Fin 3) n l) :=
    fun X => congrArg X e2
  refine (comb_blocks _ _ _ _ _ _ _ _ _ _ _).trans ?_
  rw [f0 A, f0 M, f0 L, f1 A, f1 M, f1 L, f2 A, f2 M, f2 L]

end Cert.KernelIdeal.Hand
end
-- ==== Proof.Spec.lean ====
/- The attention at one element: three bands of 256 keys, at distances 1, 4 and 16, mixed. -/
module

public import proofs.«01_k».proof.Proof.Mix
public import Idealize.ShloMosaic.Lib.Pointwise

@[expose] public section

noncomputable section

namespace Cert.Spec

open Idealize.ShloMosaic

/-- An array of queries, keys or values: batch, position, lane. -/
abbrev Arr : Type := (⟨3, ![2, 16384, 768]⟩ : Shape).Idx → EReal

/-- Lane `x` of the head that lane `w` belongs to. -/
def lane (w : Fin 768) (x : Fin 64) : Fin 768 := ⟨64 * (w.val / 64) + x.val, by omega⟩

/-- The position of key `j` of position `N`'s band at distance `d`: the block of 128 of every `d`-th positions that `N` is
    in and the block before it. Out of range only where `ok` fails. -/
def key (d : ℕ) (N : Fin 16384) (j : Fin 256) : Fin 16384 :=
  ⟨(d * (128 * (N.val / d / 128) + j.val) + N.val % d - 128 * d) % 16384, Nat.mod_lt _ (by omega)⟩

/-- Key `j` is in `N`'s window of the 128 before it and itself, and is not before the first position. -/
def ok (d : ℕ) (N : Fin 16384) (j : Fin 256) : Prop :=
  N.val / d % 128 ≤ j.val ∧ j.val ≤ N.val / d % 128 + 128 ∧ (128 ≤ N.val / d ∨ 128 ≤ j.val)

instance (d : ℕ) (N : Fin 16384) (j : Fin 256) : Decidable (ok d N j) := by unfold ok; infer_instance

/-- The score of key `j`, for the head of lane `w`; minus infinity where the key does not count. -/
def sc (d : ℕ) (Q K : Arr) (b : Fin 2) (N : Fin 16384) (w : Fin 768) (j : Fin 256) : EReal :=
  if ok d N j then ∑ x : Fin 64, Q (ix3 b N (lane w x)) * K (ix3 b (key d N j) (lane w x)) else ⊥

/-- The value of key `j`, on lane `w`. -/
def vl (d : ℕ) (V : Arr) (b : Fin 2) (N : Fin 16384) (w : Fin 768) (j : Fin 256) : EReal := V (ix3 b (key d N j) w)

/-- A score that is not minus infinity belongs to a key that counts. -/
theorem ok_of_sc {d : ℕ} {Q K : Arr} {b : Fin 2} {N : Fin 16384} {w : Fin 768} {j : Fin 256} (h : sc d Q K b N w j ≠ ⊥) : ok d N j := by
  by_contra hn
  exact h (if_neg hn)

/-- The attention at an element. -/
def attn (Q K V : Arr) (b : Fin 2) (N : Fin 16384) (w : Fin 768) : EReal :=
  Mix.mixed (sc 1 Q K b N w) (sc 4 Q K b N w) (sc 16 Q K b N w) (vl 1 V b N w) (vl 4 V b N w) (vl 16 V b N w)

end Cert.Spec

end
-- ==== Proof.Tile.lean ====
/- One output block is the attention at its elements, given that its five input blocks are the arrays' blocks. -/
module

public import proofs.«01_k».proof.Proof.Mask
public import proofs.«01_k».proof.Proof.Spec
public import proofs.«01_k».proof.Proof.Body

@[expose] public section

set_option maxRecDepth 16384

noncomputable section

namespace Cert.KernelIdeal.Hand

open Idealize.ShloMosaic Idealize.ShloMosaic.TcCoe
open Cert.KernelIdeal Cert.KernelIdeal.Gen

/-- Row `n` of tile `i`; lane `l` of the pair of heads `p`. -/
def gr (i : Fin 8) (n : Fin 2048) : Fin 16384 := ⟨2048 * i.val + n.val, by omega⟩
def gl (p : Fin 6) (l : Fin 128) : Fin 768 := ⟨128 * p.val + l.val, by omega⟩

theorem gl_hl (p : Fin 6) (l : Fin 128) (x : Fin 64) : gl p (hl l x) = Spec.lane (gl p l) x :=
  Fin.ext (by simp only [gl, hl, Spec.lane]; omega)

/-- The block is tile `i`, heads `p`, of batch `b`. -/
def IsTile (A : Spec.Arr) (b : Fin 2) (i : Fin 8) (p : Fin 6) (X : Vec Ideal S1x2048x128 .f32) : Prop :=
  ∀ (n : Fin 2048) (l : Fin 128), X (ix3 (0 : Fin 1) n l) = A (ix3 b (gr i n) (gl p l))

/-- The block is the tile before, if there is one. -/
def IsPrev (A : Spec.Arr) (b : Fin 2) (i : Fin 8) (p : Fin 6) (X : Vec Ideal S1x2048x128 .f32) : Prop :=
  ∀ (n : Fin 2048) (l : Fin 128) (R : Fin 16384), R.val + 2048 = 2048 * i.val + n.val → X (ix3 (0 : Fin 1) n l) = A (ix3 b R (gl p l))

theorem two_apply {A : Spec.Arr} {b : Fin 2} {i : Fin 8} {p : Fin 6} {Xp Xc : Vec Ideal S1x2048x128 .f32} (hp : IsPrev A b i p Xp) (hc : IsTile A b i p Xc)
    (r : Fin 4096) (l : Fin 128) (R : Fin 16384) (hR : R.val + 2048 = 2048 * i.val + r.val) :
    twoV Xp Xc (ix2 r l) = A (ix3 b R (gl p l)) := by
  by_cases h : r.val < 2048
  · rw [twoV_lo _ _ _ _ h]; exact hp _ _ _ hR
  · rw [twoV_hi _ _ _ _ (by omega), hc]
    exact congrArg (fun z => A (ix3 b z (gl p l))) (Fin.ext (show 2048 * i.val + (r.val - 2048) = R.val by omega))

theorem flags1 (v0 : BitVec 1) (k : Fin k0_t1_loop.trips) (u : Fin 4) : flag1V v0 (numV k.val u) u = 1#1 ↔ (v0 = 1#1 ∧ k.val = 0 ∧ u.val = 0) := by
  obtain rfl | rfl : v0 = 1#1 ∨ v0 = 0#1 := by revert v0; decide
  · revert k u; decide +kernel
  · revert k u; decide +kernel

theorem flags2 (v0 : BitVec 1) (k : Fin k0_t2_loop.trips) (u : Fin 4) : flagV v0 4#32 (numV k.val u) = 1#1 ↔ (v0 = 1#1 ∧ k.val = 0) := by
  obtain rfl | rfl : v0 = 1#1 ∨ v0 = 0#1 := by revert v0; decide
  · revert k u; decide +kernel
  · revert k u; decide +kernel

theorem flags3 (v0 : BitVec 1) : Scalar.andi v0 (Scalar.cmpi .eq 0#32 0#32) = 1#1 ↔ v0 = 1#1 := by
  revert v0; decide

/-! ## The branch at distance 1 -/

theorem qidx1 (n : Fin 2048) (y : Fin 128) : (rq1 (k1 n) (u1 n)).idx (ix3 (0 : Fin 1) (i1 n) y) = ix3 (0 : Fin 1) n y := by
  have e := offs1 (k1 n) (u1 n)
  funext x
  match x with
  | ⟨0, _⟩ => exact Fin.ext (show k0_off1 _ _ 0 + 1 * 0 = 0 by rw [e]; rfl)
  | ⟨1, _⟩ => exact Fin.ext (show k0_off1 _ _ 1 + 1 * (i1 n).val = n.val by rw [e]; show 512 * (n.val / 512) + 128 * (n.val / 128 % 4) + _ = _; dsimp only [k1, u1, i1]; omega)
  | ⟨2, _⟩ => exact Fin.ext (show k0_off1 _ _ 2 + 1 * y.val = y.val by rw [e]; show 0 + _ = _; omega)

theorem kidx1 (n : Fin 2048) (j : Fin 256) (y : Fin 128) :
    (rk1 (k1 n) (u1 n)).idx (ix2 j y) = ix2 (⟨1920 + 128 * (n.val / 128) + j.val, by omega⟩ : Fin 4096) y := by
  have e := offs2 (k1 n) (u1 n)
  funext x
  match x with
  | ⟨0, _⟩ => exact Fin.ext (show k0_off2 _ _ 0 + 1 * j.val = 1920 + 128 * (n.val / 128) + j.val by rw [e]; show 512 * (n.val / 512) + 1920 + 128 * (n.val / 128 % 4) + _ = _; omega)
  | ⟨1, _⟩ => exact Fin.ext (show k0_off2 _ _ 1 + 1 * y.val = y.val by rw [e]; show 0 + _ = _; omega)

/-- A key that counts is in the two tiles, at its place. -/
theorem place1 (i : Fin 8) (n : Fin 2048) (j : Fin 256) (h : Spec.ok 1 (gr i n) j) :
    (Spec.key 1 (gr i n) j).val + 2048 = 2048 * i.val + (1920 + 128 * (n.val / 128) + j.val) := by
  simp only [Spec.ok, Spec.key, gr] at h ⊢
  omega

theorem ok1 (v0 : BitVec 1) (i : Fin 8) (hv : v0 = 1#1 ↔ i.val = 0) (n : Fin 2048) (j : Fin 256) :
    ((i1 n).val ≤ j.val ∧ j.val ≤ (i1 n).val + 128 ∧ (flag1V v0 (numV (k1 n).val (u1 n)) (u1 n) = 1#1 → 128 ≤ j.val)) ↔ Spec.ok 1 (gr i n) j := by
  rw [flags1, hv]
  simp only [Spec.ok, gr, k1, u1, i1]
  omega

theorem scores1 {Q K : Spec.Arr} {b : Fin 2} {i : Fin 8} {p : Fin 6} {Qc Kc Kp : Vec Ideal S1x2048x128 .f32} {v0 : BitVec 1}
    (hv : v0 = 1#1 ↔ i.val = 0) (hq : IsTile Q b i p Qc) (hc : IsTile K b i p Kc) (hp : IsPrev K b i p Kp) (n : Fin 2048) (l : Fin 128) :
    scoreV (View.ld Qc (rq1 (k1 n) (u1 n))) (View.ld (twoV Kp Kc) (rk1 (k1 n) (u1 n))) (mkV (biasV (F := Ideal)) (flag1V v0 (numV (k1 n).val (u1 n)) (u1 n))) (i1 n) l
      = Spec.sc 1 Q K b (gr i n) (gl p l) := by
  funext j
  rw [scoreV_mk, Spec.sc]
  by_cases h : Spec.ok 1 (gr i n) j
  · rw [if_pos h, if_pos ((ok1 v0 i hv n j).mpr h)]
    refine Finset.sum_congr rfl fun x _ => ?_
    have e1 : View.ld Qc (rq1 (k1 n) (u1 n)) (ix3 (0 : Fin 1) (i1 n) (hl l x)) = Q (ix3 b (gr i n) (Spec.lane (gl p l) x)) := by
      rw [← gl_hl, ← hq]; exact congrArg Qc (qidx1 n _)
    have e2 : View.ld (twoV Kp Kc) (rk1 (k1 n) (u1 n)) (ix2 j (hl l x)) = K (ix3 b (Spec.key 1 (gr i n) j) (Spec.lane (gl p l) x)) := by
      rw [← gl_hl]
      exact (congrArg (twoV Kp Kc) (kidx1 n j _)).trans (two_apply hp hc _ _ _ (place1 i n j h))
    rw [e1, e2]
  · rw [if_neg h, if_neg (fun h' => h ((ok1 v0 i hv n j).mp h'))]

theorem values1 {V : Spec.Arr} {b : Fin 2} {i : Fin 8} {p : Fin 6} {Vc Vp : Vec Ideal S1x2048x128 .f32}
    (hc : IsTile V b i p Vc) (hp : IsPrev V b i p Vp) (n : Fin 2048) (l : Fin 128) (j : Fin 256) (h : Spec.ok 1 (gr i n) j) :
    View.ld (twoV Vp Vc) (rk1 (k1 n) (u1 n)) (ix2 j l) = Spec.vl 1 V b (gr i n) (gl p l) j :=
  (congrArg (twoV Vp Vc) (kidx1 n j _)).trans (two_apply hp hc _ _ _ (place1 i n j h))

/-! ## The branch at distance 4 -/

theorem qidx2 (n : Fin 2048) (y : Fin 128) : (rq2 (k2 n) (u2 n)).idx (ix3 (0 : Fin 1) (i2 n) y) = ix3 (0 : Fin 1) n y := by
  have e := offs4 (k2 n) (u2 n)
  funext x
  match x with
  | ⟨0, _⟩ => exact Fin.ext (show k0_off4 _ _ 0 + 1 * 0 = 0 by rw [e]; rfl)
  | ⟨1, _⟩ => exact Fin.ext (show k0_off4 _ _ 1 + 4 * (i2 n).val = n.val by rw [e]; show 512 * (n.val / 512) + n.val % 4 + _ = _; dsimp only [k2, u2, i2]; omega)
  | ⟨2, _⟩ => exact Fin.ext (show k0_off4 _ _ 2 + 1 * y.val = y.val by rw [e]; show 0 + _ = _; omega)

theorem kidx2 (n : Fin 2048) (j : Fin 256) (y : Fin 128) :
    (rk2 (k2 n) (u2 n)).idx (ix2 j y) = ix2 (⟨1536 + 512 * (n.val / 512) + n.val % 4 + 4 * j.val, by omega⟩ : Fin 4096) y := by
  have e := offs5 (k2 n) (u2 n)
  funext x
  match x with
  | ⟨0, _⟩ => exact Fin.ext (show k0_off5 _ _ 0 + 4 * j.val = 1536 + 512 * (n.val / 512) + n.val % 4 + 4 * j.val by rw [e]; show 512 * (n.val / 512) + 1536 + n.val % 4 + _ = _; omega)
  | ⟨1, _⟩ => exact Fin.ext (show k0_off5 _ _ 1 + 1 * y.val = y.val by rw [e]; show 0 + _ = _; omega)

/-- A key that counts is in the two tiles, at its place. -/
theorem place2 (i : Fin 8) (n : Fin 2048) (j : Fin 256) (h : Spec.ok 4 (gr i n) j) :
    (Spec.key 4 (gr i n) j).val + 2048 = 2048 * i.val + (1536 + 512 * (n.val / 512) + n.val % 4 + 4 * j.val) := by
  simp only [Spec.ok, Spec.key, gr] at h ⊢
  omega

theorem ok2 (v0 : BitVec 1) (i : Fin 8) (hv : v0 = 1#1 ↔ i.val = 0) (n : Fin 2048) (j : Fin 256) :
    ((i2 n).val ≤ j.val ∧ j.val ≤ (i2 n).val + 128 ∧ (flagV v0 4#32 (numV (k2 n).val (u2 n)) = 1#1 → 128 ≤ j.val)) ↔ Spec.ok 4 (gr i n) j := by
  rw [flags2, hv]
  simp only [Spec.ok, gr, k2, u2, i2]
  omega

theorem scores2 {Q K : Spec.Arr} {b : Fin 2} {i : Fin 8} {p : Fin 6} {Qc Kc Kp : Vec Ideal S1x2048x128 .f32} {v0 : BitVec 1}
    (hv : v0 = 1#1 ↔ i.val = 0) (hq : IsTile Q b i p Qc) (hc : IsTile K b i p Kc) (hp : IsPrev K b i p Kp) (n : Fin 2048) (l : Fin 128) :
    scoreV (View.ld Qc (rq2 (k2 n) (u2 n))) (View.ld (twoV Kp Kc) (rk2 (k2 n) (u2 n))) (mkV (biasV (F := Ideal)) (flagV v0 4#32 (numV (k2 n).val (u2 n)))) (i2 n) l
      = Spec.sc 4 Q K b (gr i n) (gl p l) := by
  funext j
  rw [scoreV_mk, Spec.sc]
  by_cases h : Spec.ok 4 (gr i n) j
  · rw [if_pos h, if_pos ((ok2 v0 i hv n j).mpr h)]
    refine Finset.sum_congr rfl fun x _ => ?_
    have e1 : View.ld Qc (rq2 (k2 n) (u2 n)) (ix3 (0 : Fin 1) (i2 n) (hl l x)) = Q (ix3 b (gr i n) (Spec.lane (gl p l) x)) := by
      rw [← gl_hl, ← hq]; exact congrArg Qc (qidx2 n _)
    have e2 : View.ld (twoV Kp Kc) (rk2 (k2 n) (u2 n)) (ix2 j (hl l x)) = K (ix3 b (Spec.key 4 (gr i n) j) (Spec.lane (gl p l) x)) := by
      rw [← gl_hl]
      exact (congrArg (twoV Kp Kc) (kidx2 n j _)).trans (two_apply hp hc _ _ _ (place2 i n j h))
    rw [e1, e2]
  · rw [if_neg h, if_neg (fun h' => h ((ok2 v0 i hv n j).mp h'))]

theorem values2 {V : Spec.Arr} {b : Fin 2} {i : Fin 8} {p : Fin 6} {Vc Vp : Vec Ideal S1x2048x128 .f32}
    (hc : IsTile V b i p Vc) (hp : IsPrev V b i p Vp) (n : Fin 2048) (l : Fin 128) (j : Fin 256) (h : Spec.ok 4 (gr i n) j) :
    View.ld (twoV Vp Vc) (rk2 (k2 n) (u2 n)) (ix2 j l) = Spec.vl 4 V b (gr i n) (gl p l) j :=
  (congrArg (twoV Vp Vc) (kidx2 n j _)).trans (two_apply hp hc _ _ _ (place2 i n j h))

/-! ## The branch at distance 16 -/

theorem qidx3 (n : Fin 2048) (y : Fin 128) : (rq3 (k3 n) (u3 n)).idx (ix3 (0 : Fin 1) (i3 n) y) = ix3 (0 : Fin 1) n y := by
  have e := offs7 (k3 n) (u3 n)
  funext x
  match x with
  | ⟨0, _⟩ => exact Fin.ext (show k0_off7 _ _ 0 + 1 * 0 = 0 by rw [e]; rfl)
  | ⟨1, _⟩ => exact Fin.ext (show k0_off7 _ _ 1 + 16 * (i3 n).val = n.val by rw [e]; show 4 * (n.val % 16 / 4) + n.val % 4 + _ = _; dsimp only [k3, u3, i3]; omega)
  | ⟨2, _⟩ => exact Fin.ext (show k0_off7 _ _ 2 + 1 * y.val = y.val by rw [e]; show 0 + _ = _; omega)

theorem kidx3 (n : Fin 2048) (j : Fin 256) (y : Fin 128) :
    (rk3 (k3 n) (u3 n)).idx (ix2 j y) = ix2 (⟨n.val % 16 + 16 * j.val, by omega⟩ : Fin 4096) y := by
  have e := offs8 (k3 n) (u3 n)
  funext x
  match x with
  | ⟨0, _⟩ => exact Fin.ext (show k0_off8 _ _ 0 + 16 * j.val = n.val % 16 + 16 * j.val by rw [e]; show 4 * (n.val % 16 / 4) + n.val % 4 + _ = _; omega)
  | ⟨1, _⟩ => exact Fin.ext (show k0_off8 _ _ 1 + 1 * y.val = y.val by rw [e]; show 0 + _ = _; omega)

/-- A key that counts is in the two tiles, at its place. -/
theorem place3 (i : Fin 8) (n : Fin 2048) (j : Fin 256) (h : Spec.ok 16 (gr i n) j) :
    (Spec.key 16 (gr i n) j).val + 2048 = 2048 * i.val + (n.val % 16 + 16 * j.val) := by
  simp only [Spec.ok, Spec.key, gr] at h ⊢
  omega

theorem ok3 (v0 : BitVec 1) (i : Fin 8) (hv : v0 = 1#1 ↔ i.val = 0) (n : Fin 2048) (j : Fin 256) :
    ((i3 n).val ≤ j.val ∧ j.val ≤ (i3 n).val + 128 ∧ (Scalar.andi v0 (Scalar.cmpi .eq 0#32 0#32) = 1#1 → 128 ≤ j.val)) ↔ Spec.ok 16 (gr i n) j := by
  rw [flags3, hv]
  simp only [Spec.ok, gr, k3, u3, i3]
  omega

theorem scores3 {Q K : Spec.Arr} {b : Fin 2} {i : Fin 8} {p : Fin 6} {Qc Kc Kp : Vec Ideal S1x2048x128 .f32} {v0 : BitVec 1}
    (hv : v0 = 1#1 ↔ i.val = 0) (hq : IsTile Q b i p Qc) (hc : IsTile K b i p Kc) (hp : IsPrev K b i p Kp) (n : Fin 2048) (l : Fin 128) :
    scoreV (View.ld Qc (rq3 (k3 n) (u3 n))) (View.ld (twoV Kp Kc) (rk3 (k3 n) (u3 n))) (mkV (biasV (F := Ideal)) (Scalar.andi v0 (Scalar.cmpi .eq 0#32 0#32))) (i3 n) l
      = Spec.sc 16 Q K b (gr i n) (gl p l) := by
  funext j
  rw [scoreV_mk, Spec.sc]
  by_cases h : Spec.ok 16 (gr i n) j
  · rw [if_pos h, if_pos ((ok3 v0 i hv n j).mpr h)]
    refine Finset.sum_congr rfl fun x _ => ?_
    have e1 : View.ld Qc (rq3 (k3 n) (u3 n)) (ix3 (0 : Fin 1) (i3 n) (hl l x)) = Q (ix3 b (gr i n) (Spec.lane (gl p l) x)) := by
      rw [← gl_hl, ← hq]; exact congrArg Qc (qidx3 n _)
    have e2 : View.ld (twoV Kp Kc) (rk3 (k3 n) (u3 n)) (ix2 j (hl l x)) = K (ix3 b (Spec.key 16 (gr i n) j) (Spec.lane (gl p l) x)) := by
      rw [← gl_hl]
      exact (congrArg (twoV Kp Kc) (kidx3 n j _)).trans (two_apply hp hc _ _ _ (place3 i n j h))
    rw [e1, e2]
  · rw [if_neg h, if_neg (fun h' => h ((ok3 v0 i hv n j).mp h'))]

theorem values3 {V : Spec.Arr} {b : Fin 2} {i : Fin 8} {p : Fin 6} {Vc Vp : Vec Ideal S1x2048x128 .f32}
    (hc : IsTile V b i p Vc) (hp : IsPrev V b i p Vp) (n : Fin 2048) (l : Fin 128) (j : Fin 256) (h : Spec.ok 16 (gr i n) j) :
    View.ld (twoV Vp Vc) (rk3 (k3 n) (u3 n)) (ix2 j l) = Spec.vl 16 V b (gr i n) (gl p l) j :=
  (congrArg (twoV Vp Vc) (kidx3 n j _)).trans (two_apply hp hc _ _ _ (place3 i n j h))

/-- The output block at an element. -/
theorem outV_apply {Q K V : Spec.Arr} {b : Fin 2} {i : Fin 8} {p : Fin 6} {Qc Kc Kp Vc Vp : Vec Ideal S1x2048x128 .f32} {v0 : BitVec 1}
    (hv : v0 = 1#1 ↔ i.val = 0) (hq : IsTile Q b i p Qc) (hkc : IsTile K b i p Kc) (hkp : IsPrev K b i p Kp)
    (hvc : IsTile V b i p Vc) (hvp : IsPrev V b i p Vp) (n : Fin 2048) (l : Fin 128) :
    outV v0 Qc Kc Kp Vc Vp (ix3 (0 : Fin 1) n l) = Spec.attn Q K V b (gr i n) (gl p l) := by
  have a1 : acc1 Qc (twoV Kp Kc) (twoV Vp Vc) biasV v0 (k1 n) (u1 n) (ix3 (0 : Fin 1) (i1 n) l)
      = Mix.num (Spec.sc 1 Q K b (gr i n) (gl p l)) (Spec.vl 1 V b (gr i n) (gl p l)) := by
    rw [acc1, accV_apply, scores1 hv hq hkc hkp n l]
    exact Mix.num_congr fun j h => values1 hvc hvp n l j (Spec.ok_of_sc h)
  have a2 : acc2 Qc (twoV Kp Kc) (twoV Vp Vc) biasV v0 (k2 n) (u2 n) (ix3 (0 : Fin 1) (i2 n) l)
      = Mix.num (Spec.sc 4 Q K b (gr i n) (gl p l)) (Spec.vl 4 V b (gr i n) (gl p l)) := by
    rw [acc2, accV_apply, scores2 hv hq hkc hkp n l]
    exact Mix.num_congr fun j h => values2 hvc hvp n l j (Spec.ok_of_sc h)
  have a3 : acc3 Qc (twoV Kp Kc) (twoV Vp Vc) biasV v0 (k3 n) (u3 n) (ix3 (0 : Fin 1) (i3 n) l)
      = Mix.num (Spec.sc 16 Q K b (gr i n) (gl p l)) (Spec.vl 16 V b (gr i n) (gl p l)) := by
    rw [acc3, accV_apply, scores3 hv hq hkc hkp n l]
    exact Mix.num_congr fun j h => values3 hvc hvp n l j (Spec.ok_of_sc h)
  have m1 : mst1 Qc (twoV Kp Kc) biasV v0 (k1 n) (u1 n) (ix3 (0 : Fin 1) (i1 n) l) = Mix.top (Spec.sc 1 Q K b (gr i n) (gl p l)) := by
    rw [mst1, mstV_apply, scores1 hv hq hkc hkp n l]
  have m2 : mst2 Qc (twoV Kp Kc) biasV v0 (k2 n) (u2 n) (ix3 (0 : Fin 1) (i2 n) l) = Mix.top (Spec.sc 4 Q K b (gr i n) (gl p l)) := by
    rw [mst2, mstV_apply, scores2 hv hq hkc hkp n l]
  have m3 : mst3 Qc (twoV Kp Kc) biasV v0 (k3 n) (u3 n) (ix3 (0 : Fin 1) (i3 n) l) = Mix.top (Spec.sc 16 Q K b (gr i n) (gl p l)) := by
    rw [mst3, mstV_apply, scores3 hv hq hkc hkp n l]
  have l1 : lst1 Qc (twoV Kp Kc) biasV v0 (k1 n) (u1 n) (ix3 (0 : Fin 1) (i1 n) l) = Mix.den (Spec.sc 1 Q K b (gr i n) (gl p l)) := by
    rw [lst1, lstV_apply, scores1 hv hq hkc hkp n l]
  have l2 : lst2 Qc (twoV Kp Kc) biasV v0 (k2 n) (u2 n) (ix3 (0 : Fin 1) (i2 n) l) = Mix.den (Spec.sc 4 Q K b (gr i n) (gl p l)) := by
    rw [lst2, lstV_apply, scores2 hv hq hkc hkp n l]
  have l3 : lst3 Qc (twoV Kp Kc) biasV v0 (k3 n) (u3 n) (ix3 (0 : Fin 1) (i3 n) l) = Mix.den (Spec.sc 16 Q K b (gr i n) (gl p l)) := by
    rw [lst3, lstV_apply, scores3 hv hq hkc hkp n l]
  rw [outV, combV_apply]
  simp only [plane_at1, plane_at2, plane_at3]
  rw [a1, a2, a3, m1, m2, m3, l1, l2, l3]
  rfl

end Cert.KernelIdeal.Hand

end
-- ==== Proof.Value.lean ====
/- The result array after the kernel's run: the attention at every element. -/
module

public import proofs.«01_k».proof.Proof.Tile
public import proofs.«01_k».proof.Proof.Run

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

/-- The windows' blocks at a point: batch `t / 48`, tile `t / 6 % 8` (for the second key and value windows the tile before,
    or the first), pair of heads `t % 6`. -/
theorem idx0 : ∀ t : Fin cfg0.N, win0_0.index t = ![t.val / 48, t.val / 6 % 8, t.val % 6] ∧ win0_1.index t = ![t.val / 48, t.val / 6 % 8, t.val % 6]
    ∧ win0_2.index t = ![t.val / 48, t.val / 6 % 8 - 1, t.val % 6] ∧ win0_3.index t = ![t.val / 48, t.val / 6 % 8, t.val % 6]
    ∧ win0_4.index t = ![t.val / 48, t.val / 6 % 8 - 1, t.val % 6] ∧ win0_5.index t = ![t.val / 48, t.val / 6 % 8, t.val % 6] :=
  (by decide +kernel : ∀ t : Fin grid0.N, _)

theorem coord0 : ∀ t : Fin cfg0.N, (firstV (grid0.coords t) = 1#1 ↔ t.val / 6 % 8 = 0) ∧ t.val < 96 :=
  (by decide +kernel : ∀ t : Fin grid0.N, _)

variable (m : (ℓ : Loc nD τ sig) → Buf (Elt Ideal) ℓ) (ρ : Dev nD → PrngReg)

abbrev pb (t : Fin cfg0.N) : Fin 2 := ⟨t.val / 48, by have := (coord0 t).2; omega⟩
abbrev pi (t : Fin cfg0.N) : Fin 8 := ⟨t.val / 6 % 8, by omega⟩
abbrev pp (t : Fin cfg0.N) : Fin 6 := ⟨t.val % 6, by omega⟩

theorem tile0 (c : Dev nD) (t : Fin cfg0.N) : IsTile (m ((c : Thread nD τ).loc main_arg0)) (pb t) (pi t) (pp t) (iblk m c 0 t) := fun n l => by
  blk_ext [iblk, V, gr, gl, idx0 t]

theorem tile1 (c : Dev nD) (t : Fin cfg0.N) : IsTile (m ((c : Thread nD τ).loc main_arg1)) (pb t) (pi t) (pp t) (iblk m c 1 t) := fun n l => by
  blk_ext [iblk, V, gr, gl, idx0 t]

theorem tile2 (c : Dev nD) (t : Fin cfg0.N) : IsPrev (m ((c : Thread nD τ).loc main_arg1)) (pb t) (pi t) (pp t) (iblk m c 2 t) := fun n l R hR => by
  dsimp only at hR
  blk_ext [iblk, V, gl, idx0 t]

theorem tile3 (c : Dev nD) (t : Fin cfg0.N) : IsTile (m ((c : Thread nD τ).loc main_arg2)) (pb t) (pi t) (pp t) (iblk m c 3 t) := fun n l => by
  blk_ext [iblk, V, gr, gl, idx0 t]

theorem tile4 (c : Dev nD) (t : Fin cfg0.N) : IsPrev (m ((c : Thread nD τ).loc main_arg2)) (pb t) (pi t) (pp t) (iblk m c 4 t) := fun n l R hR => by
  dsimp only at hR
  blk_ext [iblk, V, gl, idx0 t]

/-- The result array. -/
def attnV (c : Dev nD) : FVec Ideal S2x16384x768 .bf16 := fun y =>
  Spec.attn (m ((c : Thread nD τ).loc main_arg0)) (m ((c : Thread nD τ).loc main_arg1)) (m ((c : Thread nD τ).loc main_arg2)) (y 0 : Fin 2) (y 1 : Fin 16384) (y 2 : Fin 768)

/-- What a point leaves in its output block. -/
theorem outsAt_apply (c : Dev nD) (t : Fin cfg0.N) (n : Fin 2048) (l : Fin 128) :
    outsAt m c t (ix3 (0 : Fin 1) n l) = attnV m c (ix3 (pb t) (gr (pi t) n) (gl (pp t) l)) :=
  outV_apply (coord0 t).1 (tile0 m c t) (tile1 m c t) (tile2 m c t) (tile3 m c t) (tile4 m c t) n l

/-- The array after the run. -/
theorem final (c : Dev nD) : (dats m 0 c).arrAt 5 (cfgs 0).N = attnV m c := by
  refine (dats m 0 c).arrAt_eq_of_covers 5 _ (by decide +kernel) fun t hf y => ?_
  blk_simp
  rw [after0_5]
  obtain ⟨r, n, l, rfl⟩ : ∃ (r : Fin 1) (n : Fin 2048) (l : Fin 128), y = ix3 r n l := ⟨y 0, y 1, y 2, eq_ix3 (n0 := 1) (n1 := 2048) (n2 := 128) y⟩
  obtain rfl : r = 0 := Subsingleton.elim _ _
  refine (outsAt_apply m c t n l).trans ?_
  blk_ext [gr, gl, idx0 t]

end Cert.KernelIdeal.Hand

end
-- ==== Proof.Words.lean ====
/- The comparisons of positions by which a band is masked, on words. -/
module

public import Idealize.ShloMosaic.Lib.Pointwise

@[expose] public section

set_option maxRecDepth 16384

noncomputable section

namespace Cert.Words

open Idealize.ShloMosaic

/-- Query `i` of a block against key `j` of the block and the one before: the distance is at least 0 and at most 128. -/
theorem band_words : ∀ (i : Fin 128) (j : Fin 256),
    (IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32) = 1#1)
      ↔ (i.val ≤ j.val ∧ j.val ≤ i.val + 128) := by
  decide +kernel

/-- Key `j` of block `b` and the one before is not before the first position. -/
theorem first_words : ∀ (b : Fin 128) (j : Fin 256),
    (IntOp.cmpi .sge (IntOp.addi (IntOp.muli (IntOp.subi (BitVec.ofNat 32 b.val) 1#32) 128#32) (BitVec.ofNat 32 j.val)) 0#32 = 1#1)
      ↔ 128 ≤ 128 * b.val + j.val := by
  decide +kernel

theorem andi_one (c d : BitVec 1) : IntOp.andi c d = 1#1 ↔ c = 1#1 ∧ d = 1#1 := by revert c d; decide

theorem sel_if {α : Type} {c : BitVec 1} {p : Prop} [Decidable p] (h : c = 1#1 ↔ p) (a b : α) :
    Scalar.select c a b = if p then a else b := by
  have e : Scalar.select c a b = if c = 1#1 then a else b := rfl
  rw [e]; simp only [h]

/-- The word of minus infinity. -/
theorem ofBits_bot : (FloatOps.ofBits .f32 0xFF800000#32 : Ideal .f32) = ⊥ := by
  show Ideal.ofBits FTy.f32 4286578688#32 = ⊥
  simp [Ideal.ofBits, Ideal.ieee]

theorem ofBits_zero : (FloatOps.ofBits .f32 0x00000000#32 : Ideal .f32) = 0 := Ideal.ofBits_zero_f32

end Cert.Words

end
-- ==== Proof.Branch1.lean ====
/- The branch at distance 1 of the reference at an element: the band's normalised weighted sum and its log-sum-exp. -/
module

public import proofs.«01_k».proof.Proof.Spec
public import proofs.«01_k».proof.Proof.Words
public import proofs.«01_k».proof.Proof.Gen.ReferenceIdeal.Read
public import Idealize.ShloMosaic.Lib.KernelVsHost
public import Idealize.ShloMosaic.Lib.Pipeline.Value
public import Idealize.ShloMosaic.Lib.Pipeline.ValueKit

@[expose] public section

set_option maxRecDepth 16384

noncomputable section

namespace Cert.Branch1

open Idealize.ShloMosaic Idealize.ShloMosaic.TcCoe
open Cert.ReferenceIdeal Cert.ReferenceIdeal.Gen Cert.ReferenceIdeal.Read

/-- Position `t` of residue class `r` (batch and residue together) in the argument. -/
def row (r : Fin 2) (t : Fin 16384) : Fin 16384 := ⟨1 * t.val + r.val % 1, by omega⟩
def bat (r : Fin 2) : Fin 2 := ⟨r.val / 1, by omega⟩
def ln (h : Fin 12) (e : Fin 64) : Fin 768 := ⟨64 * h.val + e.val, by omega⟩

variable (x0 x1 x2 : (⟨S2x16384x768, .f32⟩ : BufTy).Contents (Elt Ideal))

/-! ## Queries, keys and values by residue class -/

theorem q86 (r : Fin 2) (t : Fin 16384) (h : Fin 12) (e : Fin 64) :
    val_main_v5 (F := Ideal) x0 (ix4 r t h e) = x0 (ix3 (bat r) (row r t) (ln h e)) := by
  rw [val_main_v5_apply, show idx_main_v5 (ix4 r t h e) = ix5 (bat r) (⟨r.val % 1, by omega⟩ : Fin 1) t h e from by blk_ext [idx_main_v5, bat],
    val_main_v4_apply, show idx_main_v4 (ix5 (bat r) (⟨r.val % 1, by omega⟩ : Fin 1) t h e) = ix5 (bat r) t (⟨r.val % 1, by omega⟩ : Fin 1) h e from by blk_ext [idx_main_v4],
    val_main_v3_apply, show idx_main_v3 (ix5 (bat r) t (⟨r.val % 1, by omega⟩ : Fin 1) h e) = ix4 (bat r) (row r t) h e from by blk_ext [idx_main_v3, row, bat],
    val_main_v0_apply, show idx_main_v0 (ix4 (bat r) (row r t) h e) = ix3 (bat r) (row r t) (ln h e) from by blk_ext [idx_main_v0, row, bat, ln]]

theorem k91 (r : Fin 2) (t : Fin 16384) (h : Fin 12) (e : Fin 64) :
    val_main_v10 (F := Ideal) x1 (ix4 r t h e) = x1 (ix3 (bat r) (row r t) (ln h e)) := q86 x1 r t h e

theorem w96 (r : Fin 2) (t : Fin 16384) (h : Fin 12) (e : Fin 64) :
    val_main_v15 (F := Ideal) x2 (ix4 r t h e) = x2 (ix3 (bat r) (row r t) (ln h e)) := q86 x2 r t h e

/-- The queries, by blocks of 128. -/
theorem q88 (r : Fin 2) (g : Fin 128) (i : Fin 128) (h : Fin 12) (e : Fin 64) :
    val_main_v7 (F := Ideal) x0 (ix5 r g i h e) = x0 (ix3 (bat r) (row r ⟨128 * g.val + i.val, by omega⟩) (ln h e)) := by
  rw [val_main_v7_apply, show idx_main_v7 (ix5 r g i h e) = ix4 r (⟨128 * g.val + i.val, by omega⟩ : Fin 16384) h e from by blk_ext [idx_main_v7],
    ← q86 x0 r ⟨128 * g.val + i.val, by omega⟩ h e]
  unfold val_main_v6
  exact pad_apply_of_inside _ _ _ _ _ _ _ _ _ fun a => by
    match a with
    | ⟨0, _⟩ => show r.val = 0 + r.val * 1; omega
    | ⟨1, _⟩ => show 128 * g.val + i.val = 0 + (128 * g.val + i.val) * 1; omega
    | ⟨2, _⟩ => show h.val = 0 + h.val * 1; omega
    | ⟨3, _⟩ => show e.val = 0 + e.val * 1; omega

/-- The padded keys: the positions after the first 128. -/
theorem k93 (r : Fin 2) (g : Fin 129) (i : Fin 128) (h : Fin 12) (e : Fin 64) (t : Fin 16384) (ht : t.val + 128 = 128 * g.val + i.val) :
    val_main_v12 (F := Ideal) x1 (ix5 r g i h e) = x1 (ix3 (bat r) (row r t) (ln h e)) := by
  rw [val_main_v12_apply, show idx_main_v12 (ix5 r g i h e) = ix4 r (⟨128 * g.val + i.val, by omega⟩ : Fin 16512) h e from by blk_ext [idx_main_v12],
    ← k91 x1 r t h e]
  unfold val_main_v11
  exact pad_apply_of_inside _ _ _ _ _ _ _ _ _ fun a => by
    match a with
    | ⟨0, _⟩ => show r.val = 0 + r.val * 1; omega
    | ⟨1, _⟩ => show 128 * g.val + i.val = 128 + t.val * 1; omega
    | ⟨2, _⟩ => show h.val = 0 + h.val * 1; omega
    | ⟨3, _⟩ => show e.val = 0 + e.val * 1; omega

/-- The keys a block sees: of the block before it and its own. -/
theorem k101 (r : Fin 2) (g : Fin 128) (j : Fin 256) (h : Fin 12) (e : Fin 64) (t : Fin 16384) (ht : t.val + 128 = 128 * g.val + j.val) :
    val_main_v20 (F := Ideal) x1 (ix5 r g j h e) = x1 (ix3 (bat r) (row r t) (ln h e)) := by
  unfold val_main_v20
  by_cases hj : j.val < 128
  · rw [concatenate_pair_apply_left (s₁ := S2x128x128x12x64) (t := S2x128x256x12x64) 2 _ _ _ (ix5 r g j h e) rfl (ix5 r g (⟨j.val, hj⟩ : Fin 128) h e) (fun b => by
      match b with
      | ⟨0, _⟩ => rfl
      | ⟨1, _⟩ => rfl
      | ⟨2, _⟩ => rfl
      | ⟨3, _⟩ => rfl
      | ⟨4, _⟩ => rfl)]
    rw [val_main_v18_apply, show idx_main_v18 (ix5 r g (⟨j.val, hj⟩ : Fin 128) h e) = ix5 r (⟨g.val, by omega⟩ : Fin 129) (⟨j.val, hj⟩ : Fin 128) h e from by blk_ext [idx_main_v18]]
    exact k93 x1 r _ _ h e t ht
  · rw [concatenate_pair_apply_right (s₁ := S2x128x128x12x64) (s₂ := S2x128x128x12x64) (t := S2x128x256x12x64) 2 _ _ _ (ix5 r g j h e) rfl rfl (ix5 r g (⟨j.val - 128, by omega⟩ : Fin 128) h e) (fun b hb => by
      match b with
      | ⟨0, _⟩ => rfl
      | ⟨1, _⟩ => rfl
      | ⟨2, _⟩ => exact absurd rfl hb
      | ⟨3, _⟩ => rfl
      | ⟨4, _⟩ => rfl) (show j.val - 128 + 128 = j.val by omega)]
    rw [val_main_v19_apply, show idx_main_v19 (ix5 r g (⟨j.val - 128, by omega⟩ : Fin 128) h e) = ix5 r (⟨g.val + 1, by omega⟩ : Fin 129) (⟨j.val - 128, by omega⟩ : Fin 128) h e from by blk_ext [idx_main_v19]]
    exact k93 x1 r _ _ h e t (by show t.val + 128 = 128 * (g.val + 1) + (j.val - 128); omega)

/-- The same for the values. -/
theorem w104 (r : Fin 2) (g : Fin 128) (j : Fin 256) (h : Fin 12) (e : Fin 64) (t : Fin 16384) (ht : t.val + 128 = 128 * g.val + j.val) :
    val_main_v23 (F := Ideal) x2 (ix5 r g j h e) = x2 (ix3 (bat r) (row r t) (ln h e)) := k101 x2 r g j h e t ht

/-! ## The scores -/

theorem dot105 (r : Fin 2) (g : Fin 128) (h : Fin 12) (i : Fin 128) (j : Fin 256) :
    val_main_v24 (F := Ideal) x0 x1 (ix5 r g h i j)
      = ∑ x : Fin 64, val_main_v7 (F := Ideal) x0 (ix5 r g i h x) * val_main_v20 (F := Ideal) x1 (ix5 r g j h x) := by
  rw [val_main_v24_apply]
  refine Finset.sum_congr rfl fun x _ => ?_
  rw [show lidx_main_v24 (ix5 r g h i j) x = ix5 r g i h x from by blk_ext [lidx_main_v24],
    show ridx_main_v24 (ix5 r g h i j) x = ix5 r g j h x from by blk_ext [ridx_main_v24]]

theorem mask7 (r : Fin 2) (g : Fin 128) (h : Fin 12) (i : Fin 128) (j : Fin 256) :
    val_main_call3_v1 (F := Ideal) (ix5 r g h i j) = 1#1 ↔ ((i.val ≤ j.val ∧ j.val ≤ i.val + 128) ∧ 128 ≤ 128 * g.val + j.val) := by
  rw [← Words.band_words i j, ← Words.first_words ⟨g.val, by omega⟩ j, ← Words.andi_one]
  simp only [val_main_call3_v1_apply, val_main_v56_apply, val_main_v55_apply, val_main_v54_apply, val_main_v53_apply, val_main_v52_apply,
    val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_c_2_apply, val_main_c_3_apply, val_main_c_4_apply, val_main_c_5_apply, val_main_c_6_apply, val_main_c_7_apply]
  exact Iff.rfl

/-- The position of a block's query, and the lane of a head, from the other way round. -/
theorem ok_iff (r : Fin 2) (g : Fin 128) (i : Fin 128) (j : Fin 256) :
    ((i.val ≤ j.val ∧ j.val ≤ i.val + 128) ∧ 128 ≤ 128 * g.val + j.val) ↔ Spec.ok 1 (row r ⟨128 * g.val + i.val, by omega⟩) j := by
  simp only [Spec.ok, row]
  omega

theorem key_eq (r : Fin 2) (g : Fin 128) (i : Fin 128) (j : Fin 256) (hok : Spec.ok 1 (row r ⟨128 * g.val + i.val, by omega⟩) j) :
    ∃ t : Fin 16384, t.val + 128 = 128 * g.val + j.val ∧ row r t = Spec.key 1 (row r ⟨128 * g.val + i.val, by omega⟩) j := by
  rw [← ok_iff] at hok
  refine ⟨⟨128 * g.val + j.val - 128, by omega⟩, by dsimp only; omega, Fin.ext ?_⟩
  simp only [Spec.key, row]
  omega

theorem lane_ln (h : Fin 12) (e : Fin 64) (x : Fin 64) : Spec.lane (ln h e) x = ln h x :=
  Fin.ext (by simp only [Spec.lane, ln]; omega)

/-- The masked scores. -/
theorem s138 (r : Fin 2) (g : Fin 128) (h : Fin 12) (i : Fin 128) (e : Fin 64) (j : Fin 256) :
    val_main_v57 (F := Ideal) x0 x1 (ix5 r g h i j) = Spec.sc 1 x0 x1 (bat r) (row r ⟨128 * g.val + i.val, by omega⟩) (ln h e) j := by
  rw [val_main_v57_apply, Words.sel_if ((mask7 r g h i j).trans (ok_iff r g i j)), Spec.sc]
  by_cases hok : Spec.ok 1 (row r ⟨128 * g.val + i.val, by omega⟩) j
  · rw [if_pos hok, if_pos hok, dot105]
    obtain ⟨t, ht, hk⟩ := key_eq r g i j hok
    refine Finset.sum_congr rfl fun x _ => ?_
    rw [q88, k101 x1 r g j h x t ht, hk, lane_ln]
  · rw [if_neg hok, if_neg hok]
    exact Words.ofBits_bot

/-! ## The softmax of the band -/

theorem m139 (r : Fin 2) (g : Fin 128) (h : Fin 12) (i : Fin 128) (e : Fin 64) :
    val_main_v58 (F := Ideal) x0 x1 (ix4 r g h i) = Mix.top (Spec.sc 1 x0 x1 (bat r) (row r ⟨128 * g.val + i.val, by omega⟩) (ln h e)) := by
  unfold val_main_v58
  have ee : (fun j : Fin 256 => val_main_v57 (F := Ideal) x0 x1 (ix5 r g h i j)) = Spec.sc 1 x0 x1 (bat r) (row r ⟨128 * g.val + i.val, by omega⟩) (ln h e) :=
    funext fun j => s138 x0 x1 r g h i e j
  rw [← ee]
  generalize val_main_v57 (F := Ideal) x0 x1 = y
  simp only [pointwise]
  exact congrArg (fun z => Finset.univ.fold max z fun j : Fin 256 => y (ix5 r g h i j)) Words.ofBits_bot

theorem p143 (r : Fin 2) (g : Fin 128) (h : Fin 12) (i : Fin 128) (e : Fin 64) (j : Fin 256) :
    val_main_v62 (F := Ideal) x0 x1 (ix5 r g h i j) = Mix.wt (Spec.sc 1 x0 x1 (bat r) (row r ⟨128 * g.val + i.val, by omega⟩) (ln h e)) j := by
  rw [val_main_v62_apply, val_main_v61_apply, val_main_v60_apply, val_main_v59_apply, s138 x0 x1 r g h i e,
    show idx_main_v59 (idx_main_v60 (ix5 r g h i j)) = ix4 r g h i from by blk_ext [idx_main_v59, idx_main_v60], m139 x0 x1 r g h i e]
  rfl

theorem d144 (r : Fin 2) (g : Fin 128) (h : Fin 12) (i : Fin 128) (e : Fin 64) :
    val_main_v63 (F := Ideal) x0 x1 (ix4 r g h i) = Mix.den (Spec.sc 1 x0 x1 (bat r) (row r ⟨128 * g.val + i.val, by omega⟩) (ln h e)) := by
  rw [val_main_v63_apply, val_main_cst_9_apply, Words.ofBits_zero, zero_add]
  refine Finset.sum_congr rfl fun j _ => ?_
  rw [show idx_main_v63 (ix4 r g h i) j = ix5 r g h i j from by blk_ext [idx_main_v63], p143 x0 x1 r g h i e]

theorem n147 (r : Fin 2) (g : Fin 128) (h : Fin 12) (i : Fin 128) (e : Fin 64) (j : Fin 256) :
    val_main_v66 (F := Ideal) x0 x1 (ix5 r g h i j)
      = Ideal.div (Mix.wt (Spec.sc 1 x0 x1 (bat r) (row r ⟨128 * g.val + i.val, by omega⟩) (ln h e)) j)
          (Mix.den (Spec.sc 1 x0 x1 (bat r) (row r ⟨128 * g.val + i.val, by omega⟩) (ln h e))) := by
  rw [val_main_v66_apply, val_main_v65_apply, val_main_v64_apply, p143 x0 x1 r g h i e,
    show idx_main_v64 (idx_main_v65 (ix5 r g h i j)) = ix4 r g h i from by blk_ext [idx_main_v64, idx_main_v65], d144 x0 x1 r g h i e]
  rfl

theorem o148 (r : Fin 2) (g : Fin 128) (h : Fin 12) (i : Fin 128) (e : Fin 64)
    (good : Mix.Good (Spec.sc 1 x0 x1 (bat r) (row r ⟨128 * g.val + i.val, by omega⟩) (ln h e))) :
    val_main_v67 (F := Ideal) x0 x1 x2 (ix5 r g h e i)
      = Mix.avg (Spec.sc 1 x0 x1 (bat r) (row r ⟨128 * g.val + i.val, by omega⟩) (ln h e)) (Spec.vl 1 x2 (bat r) (row r ⟨128 * g.val + i.val, by omega⟩) (ln h e)) := by
  rw [val_main_v67_apply]
  have ee : (∑ k : Fin 256, (val_main_v23 (F := Ideal) x2) (lidx_main_v67 (ix5 r g h e i) k) * (val_main_v66 (F := Ideal) x0 x1) (ridx_main_v67 (ix5 r g h e i) k))
      = Mix.avg (Spec.sc 1 x0 x1 (bat r) (row r ⟨128 * g.val + i.val, by omega⟩) (ln h e)) (fun j => val_main_v23 (F := Ideal) x2 (ix5 r g j h e)) := by
    refine Finset.sum_congr rfl fun j _ => ?_
    rw [show lidx_main_v67 (ix5 r g h e i) j = ix5 r g j h e from by blk_ext [lidx_main_v67],
      show ridx_main_v67 (ix5 r g h e i) j = ix5 r g h i j from by blk_ext [ridx_main_v67], n147 x0 x1 r g h i e]
  refine ee.trans (Mix.avg_congr good fun j hj => ?_)
  obtain ⟨t, ht, hk⟩ := key_eq r g i j (Spec.ok_of_sc hj)
  rw [w104 x2 r g j h e t ht, hk, Spec.vl]

theorem l151 (r : Fin 2) (g : Fin 128) (h : Fin 12) (i : Fin 128) (e : Fin 64) :
    val_main_v70 (F := Ideal) x0 x1 (ix5 r g h i (0 : Fin 1))
      = Mix.lse (Spec.sc 1 x0 x1 (bat r) (row r ⟨128 * g.val + i.val, by omega⟩) (ln h e)) := by
  rw [val_main_v70_apply, val_main_v69_apply, val_main_v64_apply, val_main_v59_apply,
    show idx_main_v59 (ix5 r g h i (0 : Fin 1)) = ix4 r g h i from by blk_ext [idx_main_v59],
    show idx_main_v64 (ix5 r g h i (0 : Fin 1)) = ix4 r g h i from by blk_ext [idx_main_v64], m139 x0 x1 r g h i e, d144 x0 x1 r g h i e]
  rfl

/-! ## Back to the positions -/

/-- The residue class of a position, its block there and its place in the block. -/
def cls (b : Fin 2) (N : Fin 16384) : Fin 2 := ⟨1 * b.val + N.val % 1, by omega⟩
def blk (N : Fin 16384) : Fin 128 := ⟨N.val / 1 / 128, by omega⟩
def plc (N : Fin 16384) : Fin 128 := ⟨N.val / 1 % 128, by omega⟩

theorem bat_cls (b : Fin 2) (N : Fin 16384) : bat (cls b N) = b := Fin.ext (by simp only [bat, cls]; omega)
theorem row_cls (b : Fin 2) (N : Fin 16384) (hb : 128 * (blk N).val + (plc N).val < 16384) : row (cls b N) ⟨128 * (blk N).val + (plc N).val, hb⟩ = N :=
  Fin.ext (by simp only [row, cls, blk, plc]; omega)

/-- A position of a class, by its block and its place. -/
theorem back5 (c : Fin 2) (t : Fin 16384) (h : Fin 12) (e : Fin 64) :
    idx_main_v72 (ix4 c t h e) = ix5 c (⟨t.val / 128, by omega⟩ : Fin 128) (⟨t.val % 128, by omega⟩ : Fin 128) h e := by
  blk_ext [idx_main_v72]

theorem back4 (c : Fin 2) (t : Fin 16384) (h : Fin 12) :
    idx_main_v77 (ix3 c t h) = ix4 c (⟨t.val / 128, by omega⟩ : Fin 128) (⟨t.val % 128, by omega⟩ : Fin 128) h := by
  blk_ext [idx_main_v77]

/-- The branch's result at an element: the band's normalised weighted sum. -/
theorem out_apply (b : Fin 2) (N : Fin 16384) (h : Fin 12) (e : Fin 64) (good : Mix.Good (Spec.sc 1 x0 x1 b N (ln h e))) :
    val_main_v75 (F := Ideal) x0 x1 x2 (ix4 b N h e) = Mix.avg (Spec.sc 1 x0 x1 b N (ln h e)) (Spec.vl 1 x2 b N (ln h e)) := by
  have eo := o148 x0 x1 x2 (cls b N) (blk N) h (plc N) e
  rw [row_cls, bat_cls] at eo
  rw [← eo good, val_main_v75_apply, show idx_main_v75 (ix4 b N h e) = ix5 b (⟨N.val / 1, by omega⟩ : Fin 16384) (⟨N.val % 1, by omega⟩ : Fin 1) h e from by blk_ext [idx_main_v75],
    val_main_v74_apply, show idx_main_v74 (ix5 b (⟨N.val / 1, by omega⟩ : Fin 16384) (⟨N.val % 1, by omega⟩ : Fin 1) h e)
      = ix5 b (⟨N.val % 1, by omega⟩ : Fin 1) (⟨N.val / 1, by omega⟩ : Fin 16384) h e from by blk_ext [idx_main_v74],
    val_main_v73_apply, show idx_main_v73 (ix5 b (⟨N.val % 1, by omega⟩ : Fin 1) (⟨N.val / 1, by omega⟩ : Fin 16384) h e)
      = ix4 (cls b N) (⟨N.val / 1, by omega⟩ : Fin 16384) h e from by blk_ext [idx_main_v73, cls],
    val_main_v72_apply, show idx_main_v72 (ix4 (cls b N) (⟨N.val / 1, by omega⟩ : Fin 16384) h e) = ix5 (cls b N) (blk N) (plc N) h e from back5 _ _ _ _,
    val_main_v68_apply, show idx_main_v68 (ix5 (cls b N) (blk N) (plc N) h e) = ix5 (cls b N) (blk N) h e (plc N) from by blk_ext [idx_main_v68]]

/-- The branch's log-sum-exp. -/
theorem lse_apply (b : Fin 2) (N : Fin 16384) (h : Fin 12) (e : Fin 64) :
    val_main_v80 (F := Ideal) x0 x1 (ix3 b N h) = Mix.lse (Spec.sc 1 x0 x1 b N (ln h e)) := by
  have eo := l151 x0 x1 (cls b N) (blk N) h (plc N) e
  rw [row_cls, bat_cls] at eo
  rw [← eo, val_main_v80_apply, show idx_main_v80 (ix3 b N h) = ix4 b (⟨N.val / 1, by omega⟩ : Fin 16384) (⟨N.val % 1, by omega⟩ : Fin 1) h from by blk_ext [idx_main_v80],
    val_main_v79_apply, show idx_main_v79 (ix4 b (⟨N.val / 1, by omega⟩ : Fin 16384) (⟨N.val % 1, by omega⟩ : Fin 1) h)
      = ix4 b (⟨N.val % 1, by omega⟩ : Fin 1) (⟨N.val / 1, by omega⟩ : Fin 16384) h from by blk_ext [idx_main_v79],
    val_main_v78_apply, show idx_main_v78 (ix4 b (⟨N.val % 1, by omega⟩ : Fin 1) (⟨N.val / 1, by omega⟩ : Fin 16384) h)
      = ix3 (cls b N) (⟨N.val / 1, by omega⟩ : Fin 16384) h from by blk_ext [idx_main_v78, cls],
    val_main_v77_apply, show idx_main_v77 (ix3 (cls b N) (⟨N.val / 1, by omega⟩ : Fin 16384) h) = ix4 (cls b N) (blk N) (plc N) h from back4 _ _ _,
    val_main_v76_apply, show idx_main_v76 (ix4 (cls b N) (blk N) (plc N) h) = ix4 (cls b N) (blk N) h (plc N) from by blk_ext [idx_main_v76],
    val_main_v71_apply, show idx_main_v71 (ix4 (cls b N) (blk N) h (plc N)) = ix5 (cls b N) (blk N) h (plc N) (0 : Fin 1) from by blk_ext [idx_main_v71]]

end Cert.Branch1

end
-- ==== Proof.Branch4.lean ====
/- The branch at distance 4 of the reference at an element: the band's normalised weighted sum and its log-sum-exp. -/
module

public import proofs.«01_k».proof.Proof.Spec
public import proofs.«01_k».proof.Proof.Words
public import proofs.«01_k».proof.Proof.Gen.ReferenceIdeal.Read
public import Idealize.ShloMosaic.Lib.KernelVsHost
public import Idealize.ShloMosaic.Lib.Pipeline.Value
public import Idealize.ShloMosaic.Lib.Pipeline.ValueKit

@[expose] public section

set_option maxRecDepth 16384

noncomputable section

namespace Cert.Branch4

open Idealize.ShloMosaic Idealize.ShloMosaic.TcCoe
open Cert.ReferenceIdeal Cert.ReferenceIdeal.Gen Cert.ReferenceIdeal.Read

/-- Position `t` of residue class `r` (batch and residue together) in the argument. -/
def row (r : Fin 8) (t : Fin 4096) : Fin 16384 := ⟨4 * t.val + r.val % 4, by omega⟩
def bat (r : Fin 8) : Fin 2 := ⟨r.val / 4, by omega⟩
def ln (h : Fin 12) (e : Fin 64) : Fin 768 := ⟨64 * h.val + e.val, by omega⟩

variable (x0 x1 x2 : (⟨S2x16384x768, .f32⟩ : BufTy).Contents (Elt Ideal))

/-! ## Queries, keys and values by residue class -/

theorem q86 (r : Fin 8) (t : Fin 4096) (h : Fin 12) (e : Fin 64) :
    val_main_v86 (F := Ideal) x0 (ix4 r t h e) = x0 (ix3 (bat r) (row r t) (ln h e)) := by
  rw [val_main_v86_apply, show idx_main_v86 (ix4 r t h e) = ix5 (bat r) (⟨r.val % 4, by omega⟩ : Fin 4) t h e from by blk_ext [idx_main_v86, bat],
    val_main_v85_apply, show idx_main_v85 (ix5 (bat r) (⟨r.val % 4, by omega⟩ : Fin 4) t h e) = ix5 (bat r) t (⟨r.val % 4, by omega⟩ : Fin 4) h e from by blk_ext [idx_main_v85],
    val_main_v84_apply, show idx_main_v84 (ix5 (bat r) t (⟨r.val % 4, by omega⟩ : Fin 4) h e) = ix4 (bat r) (row r t) h e from by blk_ext [idx_main_v84, row, bat],
    val_main_v81_apply, show idx_main_v81 (ix4 (bat r) (row r t) h e) = ix3 (bat r) (row r t) (ln h e) from by blk_ext [idx_main_v81, row, bat, ln]]

theorem k91 (r : Fin 8) (t : Fin 4096) (h : Fin 12) (e : Fin 64) :
    val_main_v91 (F := Ideal) x1 (ix4 r t h e) = x1 (ix3 (bat r) (row r t) (ln h e)) := q86 x1 r t h e

theorem w96 (r : Fin 8) (t : Fin 4096) (h : Fin 12) (e : Fin 64) :
    val_main_v96 (F := Ideal) x2 (ix4 r t h e) = x2 (ix3 (bat r) (row r t) (ln h e)) := q86 x2 r t h e

/-- The queries, by blocks of 128. -/
theorem q88 (r : Fin 8) (g : Fin 32) (i : Fin 128) (h : Fin 12) (e : Fin 64) :
    val_main_v88 (F := Ideal) x0 (ix5 r g i h e) = x0 (ix3 (bat r) (row r ⟨128 * g.val + i.val, by omega⟩) (ln h e)) := by
  rw [val_main_v88_apply, show idx_main_v88 (ix5 r g i h e) = ix4 r (⟨128 * g.val + i.val, by omega⟩ : Fin 4096) h e from by blk_ext [idx_main_v88],
    ← q86 x0 r ⟨128 * g.val + i.val, by omega⟩ h e]
  unfold val_main_v87
  exact pad_apply_of_inside _ _ _ _ _ _ _ _ _ fun a => by
    match a with
    | ⟨0, _⟩ => show r.val = 0 + r.val * 1; omega
    | ⟨1, _⟩ => show 128 * g.val + i.val = 0 + (128 * g.val + i.val) * 1; omega
    | ⟨2, _⟩ => show h.val = 0 + h.val * 1; omega
    | ⟨3, _⟩ => show e.val = 0 + e.val * 1; omega

/-- The padded keys: the positions after the first 128. -/
theorem k93 (r : Fin 8) (g : Fin 33) (i : Fin 128) (h : Fin 12) (e : Fin 64) (t : Fin 4096) (ht : t.val + 128 = 128 * g.val + i.val) :
    val_main_v93 (F := Ideal) x1 (ix5 r g i h e) = x1 (ix3 (bat r) (row r t) (ln h e)) := by
  rw [val_main_v93_apply, show idx_main_v93 (ix5 r g i h e) = ix4 r (⟨128 * g.val + i.val, by omega⟩ : Fin 4224) h e from by blk_ext [idx_main_v93],
    ← k91 x1 r t h e]
  unfold val_main_v92
  exact pad_apply_of_inside _ _ _ _ _ _ _ _ _ fun a => by
    match a with
    | ⟨0, _⟩ => show r.val = 0 + r.val * 1; omega
    | ⟨1, _⟩ => show 128 * g.val + i.val = 128 + t.val * 1; omega
    | ⟨2, _⟩ => show h.val = 0 + h.val * 1; omega
    | ⟨3, _⟩ => show e.val = 0 + e.val * 1; omega

/-- The keys a block sees: of the block before it and its own. -/
theorem k101 (r : Fin 8) (g : Fin 32) (j : Fin 256) (h : Fin 12) (e : Fin 64) (t : Fin 4096) (ht : t.val + 128 = 128 * g.val + j.val) :
    val_main_v101 (F := Ideal) x1 (ix5 r g j h e) = x1 (ix3 (bat r) (row r t) (ln h e)) := by
  unfold val_main_v101
  by_cases hj : j.val < 128
  · rw [concatenate_pair_apply_left (s₁ := S8x32x128x12x64) (t := S8x32x256x12x64) 2 _ _ _ (ix5 r g j h e) rfl (ix5 r g (⟨j.val, hj⟩ : Fin 128) h e) (fun b => by
      match b with
      | ⟨0, _⟩ => rfl
      | ⟨1, _⟩ => rfl
      | ⟨2, _⟩ => rfl
      | ⟨3, _⟩ => rfl
      | ⟨4, _⟩ => rfl)]
    rw [val_main_v99_apply, show idx_main_v99 (ix5 r g (⟨j.val, hj⟩ : Fin 128) h e) = ix5 r (⟨g.val, by omega⟩ : Fin 33) (⟨j.val, hj⟩ : Fin 128) h e from by blk_ext [idx_main_v99]]
    exact k93 x1 r _ _ h e t ht
  · rw [concatenate_pair_apply_right (s₁ := S8x32x128x12x64) (s₂ := S8x32x128x12x64) (t := S8x32x256x12x64) 2 _ _ _ (ix5 r g j h e) rfl rfl (ix5 r g (⟨j.val - 128, by omega⟩ : Fin 128) h e) (fun b hb => by
      match b with
      | ⟨0, _⟩ => rfl
      | ⟨1, _⟩ => rfl
      | ⟨2, _⟩ => exact absurd rfl hb
      | ⟨3, _⟩ => rfl
      | ⟨4, _⟩ => rfl) (show j.val - 128 + 128 = j.val by omega)]
    rw [val_main_v100_apply, show idx_main_v100 (ix5 r g (⟨j.val - 128, by omega⟩ : Fin 128) h e) = ix5 r (⟨g.val + 1, by omega⟩ : Fin 33) (⟨j.val - 128, by omega⟩ : Fin 128) h e from by blk_ext [idx_main_v100]]
    exact k93 x1 r _ _ h e t (by show t.val + 128 = 128 * (g.val + 1) + (j.val - 128); omega)

/-- The same for the values. -/
theorem w104 (r : Fin 8) (g : Fin 32) (j : Fin 256) (h : Fin 12) (e : Fin 64) (t : Fin 4096) (ht : t.val + 128 = 128 * g.val + j.val) :
    val_main_v104 (F := Ideal) x2 (ix5 r g j h e) = x2 (ix3 (bat r) (row r t) (ln h e)) := k101 x2 r g j h e t ht

/-! ## The scores -/

theorem dot105 (r : Fin 8) (g : Fin 32) (h : Fin 12) (i : Fin 128) (j : Fin 256) :
    val_main_v105 (F := Ideal) x0 x1 (ix5 r g h i j)
      = ∑ x : Fin 64, val_main_v88 (F := Ideal) x0 (ix5 r g i h x) * val_main_v101 (F := Ideal) x1 (ix5 r g j h x) := by
  rw [val_main_v105_apply]
  refine Finset.sum_congr rfl fun x _ => ?_
  rw [show lidx_main_v105 (ix5 r g h i j) x = ix5 r g i h x from by blk_ext [lidx_main_v105],
    show ridx_main_v105 (ix5 r g h i j) x = ix5 r g j h x from by blk_ext [ridx_main_v105]]

theorem mask7 (r : Fin 8) (g : Fin 32) (h : Fin 12) (i : Fin 128) (j : Fin 256) :
    val_main_call7_v1 (F := Ideal) (ix5 r g h i j) = 1#1 ↔ ((i.val ≤ j.val ∧ j.val ≤ i.val + 128) ∧ 128 ≤ 128 * g.val + j.val) := by
  rw [← Words.band_words i j, ← Words.first_words ⟨g.val, by omega⟩ j, ← Words.andi_one]
  simp only [val_main_call7_v1_apply, val_main_v137_apply, val_main_v136_apply, val_main_v135_apply, val_main_v134_apply, val_main_v133_apply,
    val_main_v132_apply, val_main_v131_apply, val_main_v130_apply, val_main_v129_apply, val_main_v128_apply, val_main_v127_apply, val_main_v126_apply,
    val_main_v125_apply, val_main_v124_apply, val_main_v123_apply, val_main_v122_apply, val_main_v121_apply, val_main_v120_apply, val_main_v119_apply,
    val_main_v118_apply, val_main_v117_apply, val_main_v116_apply, val_main_v115_apply, val_main_v114_apply, val_main_v113_apply, val_main_v112_apply,
    val_main_v111_apply, val_main_v110_apply, val_main_v109_apply, val_main_v108_apply, val_main_v107_apply, val_main_v106_apply,
    val_main_c_13_apply, val_main_c_14_apply, val_main_c_15_apply, val_main_c_16_apply, val_main_c_17_apply, val_main_c_18_apply]
  exact Iff.rfl

/-- The position of a block's query, and the lane of a head, from the other way round. -/
theorem ok_iff (r : Fin 8) (g : Fin 32) (i : Fin 128) (j : Fin 256) :
    ((i.val ≤ j.val ∧ j.val ≤ i.val + 128) ∧ 128 ≤ 128 * g.val + j.val) ↔ Spec.ok 4 (row r ⟨128 * g.val + i.val, by omega⟩) j := by
  simp only [Spec.ok, row]
  omega

theorem key_eq (r : Fin 8) (g : Fin 32) (i : Fin 128) (j : Fin 256) (hok : Spec.ok 4 (row r ⟨128 * g.val + i.val, by omega⟩) j) :
    ∃ t : Fin 4096, t.val + 128 = 128 * g.val + j.val ∧ row r t = Spec.key 4 (row r ⟨128 * g.val + i.val, by omega⟩) j := by
  rw [← ok_iff] at hok
  refine ⟨⟨128 * g.val + j.val - 128, by omega⟩, by dsimp only; omega, Fin.ext ?_⟩
  simp only [Spec.key, row]
  omega

theorem lane_ln (h : Fin 12) (e : Fin 64) (x : Fin 64) : Spec.lane (ln h e) x = ln h x :=
  Fin.ext (by simp only [Spec.lane, ln]; omega)

/-- The masked scores. -/
theorem s138 (r : Fin 8) (g : Fin 32) (h : Fin 12) (i : Fin 128) (e : Fin 64) (j : Fin 256) :
    val_main_v138 (F := Ideal) x0 x1 (ix5 r g h i j) = Spec.sc 4 x0 x1 (bat r) (row r ⟨128 * g.val + i.val, by omega⟩) (ln h e) j := by
  rw [val_main_v138_apply, Words.sel_if ((mask7 r g h i j).trans (ok_iff r g i j)), Spec.sc]
  by_cases hok : Spec.ok 4 (row r ⟨128 * g.val + i.val, by omega⟩) j
  · rw [if_pos hok, if_pos hok, dot105]
    obtain ⟨t, ht, hk⟩ := key_eq r g i j hok
    refine Finset.sum_congr rfl fun x _ => ?_
    rw [q88, k101 x1 r g j h x t ht, hk, lane_ln]
  · rw [if_neg hok, if_neg hok]
    exact Words.ofBits_bot

/-! ## The softmax of the band -/

theorem m139 (r : Fin 8) (g : Fin 32) (h : Fin 12) (i : Fin 128) (e : Fin 64) :
    val_main_v139 (F := Ideal) x0 x1 (ix4 r g h i) = Mix.top (Spec.sc 4 x0 x1 (bat r) (row r ⟨128 * g.val + i.val, by omega⟩) (ln h e)) := by
  unfold val_main_v139
  have ee : (fun j : Fin 256 => val_main_v138 (F := Ideal) x0 x1 (ix5 r g h i j)) = Spec.sc 4 x0 x1 (bat r) (row r ⟨128 * g.val + i.val, by omega⟩) (ln h e) :=
    funext fun j => s138 x0 x1 r g h i e j
  rw [← ee]
  generalize val_main_v138 (F := Ideal) x0 x1 = y
  simp only [pointwise]
  exact congrArg (fun z => Finset.univ.fold max z fun j : Fin 256 => y (ix5 r g h i j)) Words.ofBits_bot

theorem p143 (r : Fin 8) (g : Fin 32) (h : Fin 12) (i : Fin 128) (e : Fin 64) (j : Fin 256) :
    val_main_v143 (F := Ideal) x0 x1 (ix5 r g h i j) = Mix.wt (Spec.sc 4 x0 x1 (bat r) (row r ⟨128 * g.val + i.val, by omega⟩) (ln h e)) j := by
  rw [val_main_v143_apply, val_main_v142_apply, val_main_v141_apply, val_main_v140_apply, s138 x0 x1 r g h i e,
    show idx_main_v140 (idx_main_v141 (ix5 r g h i j)) = ix4 r g h i from by blk_ext [idx_main_v140, idx_main_v141], m139 x0 x1 r g h i e]
  rfl

theorem d144 (r : Fin 8) (g : Fin 32) (h : Fin 12) (i : Fin 128) (e : Fin 64) :
    val_main_v144 (F := Ideal) x0 x1 (ix4 r g h i) = Mix.den (Spec.sc 4 x0 x1 (bat r) (row r ⟨128 * g.val + i.val, by omega⟩) (ln h e)) := by
  rw [val_main_v144_apply, val_main_cst_21_apply, Words.ofBits_zero, zero_add]
  refine Finset.sum_congr rfl fun j _ => ?_
  rw [show idx_main_v144 (ix4 r g h i) j = ix5 r g h i j from by blk_ext [idx_main_v144], p143 x0 x1 r g h i e]

theorem n147 (r : Fin 8) (g : Fin 32) (h : Fin 12) (i : Fin 128) (e : Fin 64) (j : Fin 256) :
    val_main_v147 (F := Ideal) x0 x1 (ix5 r g h i j)
      = Ideal.div (Mix.wt (Spec.sc 4 x0 x1 (bat r) (row r ⟨128 * g.val + i.val, by omega⟩) (ln h e)) j)
          (Mix.den (Spec.sc 4 x0 x1 (bat r) (row r ⟨128 * g.val + i.val, by omega⟩) (ln h e))) := by
  rw [val_main_v147_apply, val_main_v146_apply, val_main_v145_apply, p143 x0 x1 r g h i e,
    show idx_main_v145 (idx_main_v146 (ix5 r g h i j)) = ix4 r g h i from by blk_ext [idx_main_v145, idx_main_v146], d144 x0 x1 r g h i e]
  rfl

theorem o148 (r : Fin 8) (g : Fin 32) (h : Fin 12) (i : Fin 128) (e : Fin 64)
    (good : Mix.Good (Spec.sc 4 x0 x1 (bat r) (row r ⟨128 * g.val + i.val, by omega⟩) (ln h e))) :
    val_main_v148 (F := Ideal) x0 x1 x2 (ix5 r g h e i)
      = Mix.avg (Spec.sc 4 x0 x1 (bat r) (row r ⟨128 * g.val + i.val, by omega⟩) (ln h e)) (Spec.vl 4 x2 (bat r) (row r ⟨128 * g.val + i.val, by omega⟩) (ln h e)) := by
  rw [val_main_v148_apply]
  have ee : (∑ k : Fin 256, (val_main_v104 (F := Ideal) x2) (lidx_main_v148 (ix5 r g h e i) k) * (val_main_v147 (F := Ideal) x0 x1) (ridx_main_v148 (ix5 r g h e i) k))
      = Mix.avg (Spec.sc 4 x0 x1 (bat r) (row r ⟨128 * g.val + i.val, by omega⟩) (ln h e)) (fun j => val_main_v104 (F := Ideal) x2 (ix5 r g j h e)) := by
    refine Finset.sum_congr rfl fun j _ => ?_
    rw [show lidx_main_v148 (ix5 r g h e i) j = ix5 r g j h e from by blk_ext [lidx_main_v148],
      show ridx_main_v148 (ix5 r g h e i) j = ix5 r g h i j from by blk_ext [ridx_main_v148], n147 x0 x1 r g h i e]
  refine ee.trans (Mix.avg_congr good fun j hj => ?_)
  obtain ⟨t, ht, hk⟩ := key_eq r g i j (Spec.ok_of_sc hj)
  rw [w104 x2 r g j h e t ht, hk, Spec.vl]

theorem l151 (r : Fin 8) (g : Fin 32) (h : Fin 12) (i : Fin 128) (e : Fin 64) :
    val_main_v151 (F := Ideal) x0 x1 (ix5 r g h i (0 : Fin 1))
      = Mix.lse (Spec.sc 4 x0 x1 (bat r) (row r ⟨128 * g.val + i.val, by omega⟩) (ln h e)) := by
  rw [val_main_v151_apply, val_main_v150_apply, val_main_v145_apply, val_main_v140_apply,
    show idx_main_v140 (ix5 r g h i (0 : Fin 1)) = ix4 r g h i from by blk_ext [idx_main_v140],
    show idx_main_v145 (ix5 r g h i (0 : Fin 1)) = ix4 r g h i from by blk_ext [idx_main_v145], m139 x0 x1 r g h i e, d144 x0 x1 r g h i e]
  rfl

/-! ## Back to the positions -/

/-- The residue class of a position, its block there and its place in the block. -/
def cls (b : Fin 2) (N : Fin 16384) : Fin 8 := ⟨4 * b.val + N.val % 4, by omega⟩
def blk (N : Fin 16384) : Fin 32 := ⟨N.val / 4 / 128, by omega⟩
def plc (N : Fin 16384) : Fin 128 := ⟨N.val / 4 % 128, by omega⟩

theorem bat_cls (b : Fin 2) (N : Fin 16384) : bat (cls b N) = b := Fin.ext (by simp only [bat, cls]; omega)
theorem row_cls (b : Fin 2) (N : Fin 16384) (hb : 128 * (blk N).val + (plc N).val < 4096) : row (cls b N) ⟨128 * (blk N).val + (plc N).val, hb⟩ = N :=
  Fin.ext (by simp only [row, cls, blk, plc]; omega)

/-- A position of a class, by its block and its place. -/
theorem back5 (c : Fin 8) (t : Fin 4096) (h : Fin 12) (e : Fin 64) :
    idx_main_v153 (ix4 c t h e) = ix5 c (⟨t.val / 128, by omega⟩ : Fin 32) (⟨t.val % 128, by omega⟩ : Fin 128) h e := by
  blk_ext [idx_main_v153]

theorem back4 (c : Fin 8) (t : Fin 4096) (h : Fin 12) :
    idx_main_v158 (ix3 c t h) = ix4 c (⟨t.val / 128, by omega⟩ : Fin 32) (⟨t.val % 128, by omega⟩ : Fin 128) h := by
  blk_ext [idx_main_v158]

/-- The branch's result at an element: the band's normalised weighted sum. -/
theorem out_apply (b : Fin 2) (N : Fin 16384) (h : Fin 12) (e : Fin 64) (good : Mix.Good (Spec.sc 4 x0 x1 b N (ln h e))) :
    val_main_v156 (F := Ideal) x0 x1 x2 (ix4 b N h e) = Mix.avg (Spec.sc 4 x0 x1 b N (ln h e)) (Spec.vl 4 x2 b N (ln h e)) := by
  have eo := o148 x0 x1 x2 (cls b N) (blk N) h (plc N) e
  rw [row_cls, bat_cls] at eo
  rw [← eo good, val_main_v156_apply, show idx_main_v156 (ix4 b N h e) = ix5 b (⟨N.val / 4, by omega⟩ : Fin 4096) (⟨N.val % 4, by omega⟩ : Fin 4) h e from by blk_ext [idx_main_v156],
    val_main_v155_apply, show idx_main_v155 (ix5 b (⟨N.val / 4, by omega⟩ : Fin 4096) (⟨N.val % 4, by omega⟩ : Fin 4) h e)
      = ix5 b (⟨N.val % 4, by omega⟩ : Fin 4) (⟨N.val / 4, by omega⟩ : Fin 4096) h e from by blk_ext [idx_main_v155],
    val_main_v154_apply, show idx_main_v154 (ix5 b (⟨N.val % 4, by omega⟩ : Fin 4) (⟨N.val / 4, by omega⟩ : Fin 4096) h e)
      = ix4 (cls b N) (⟨N.val / 4, by omega⟩ : Fin 4096) h e from by blk_ext [idx_main_v154, cls],
    val_main_v153_apply, show idx_main_v153 (ix4 (cls b N) (⟨N.val / 4, by omega⟩ : Fin 4096) h e) = ix5 (cls b N) (blk N) (plc N) h e from back5 _ _ _ _,
    val_main_v149_apply, show idx_main_v149 (ix5 (cls b N) (blk N) (plc N) h e) = ix5 (cls b N) (blk N) h e (plc N) from by blk_ext [idx_main_v149]]

/-- The branch's log-sum-exp. -/
theorem lse_apply (b : Fin 2) (N : Fin 16384) (h : Fin 12) (e : Fin 64) :
    val_main_v161 (F := Ideal) x0 x1 (ix3 b N h) = Mix.lse (Spec.sc 4 x0 x1 b N (ln h e)) := by
  have eo := l151 x0 x1 (cls b N) (blk N) h (plc N) e
  rw [row_cls, bat_cls] at eo
  rw [← eo, val_main_v161_apply, show idx_main_v161 (ix3 b N h) = ix4 b (⟨N.val / 4, by omega⟩ : Fin 4096) (⟨N.val % 4, by omega⟩ : Fin 4) h from by blk_ext [idx_main_v161],
    val_main_v160_apply, show idx_main_v160 (ix4 b (⟨N.val / 4, by omega⟩ : Fin 4096) (⟨N.val % 4, by omega⟩ : Fin 4) h)
      = ix4 b (⟨N.val % 4, by omega⟩ : Fin 4) (⟨N.val / 4, by omega⟩ : Fin 4096) h from by blk_ext [idx_main_v160],
    val_main_v159_apply, show idx_main_v159 (ix4 b (⟨N.val % 4, by omega⟩ : Fin 4) (⟨N.val / 4, by omega⟩ : Fin 4096) h)
      = ix3 (cls b N) (⟨N.val / 4, by omega⟩ : Fin 4096) h from by blk_ext [idx_main_v159, cls],
    val_main_v158_apply, show idx_main_v158 (ix3 (cls b N) (⟨N.val / 4, by omega⟩ : Fin 4096) h) = ix4 (cls b N) (blk N) (plc N) h from back4 _ _ _,
    val_main_v157_apply, show idx_main_v157 (ix4 (cls b N) (blk N) (plc N) h) = ix4 (cls b N) (blk N) h (plc N) from by blk_ext [idx_main_v157],
    val_main_v152_apply, show idx_main_v152 (ix4 (cls b N) (blk N) h (plc N)) = ix5 (cls b N) (blk N) h (plc N) (0 : Fin 1) from by blk_ext [idx_main_v152]]

end Cert.Branch4

end
-- ==== Proof.Branch16.lean ====
/- The branch at distance 16 of the reference at an element: the band's normalised weighted sum and its log-sum-exp. -/
module

public import proofs.«01_k».proof.Proof.Spec
public import proofs.«01_k».proof.Proof.Words
public import proofs.«01_k».proof.Proof.Gen.ReferenceIdeal.Read
public import Idealize.ShloMosaic.Lib.KernelVsHost
public import Idealize.ShloMosaic.Lib.Pipeline.Value
public import Idealize.ShloMosaic.Lib.Pipeline.ValueKit

@[expose] public section

set_option maxRecDepth 16384

noncomputable section

namespace Cert.Branch16

open Idealize.ShloMosaic Idealize.ShloMosaic.TcCoe
open Cert.ReferenceIdeal Cert.ReferenceIdeal.Gen Cert.ReferenceIdeal.Read

/-- Position `t` of residue class `r` (batch and residue together) in the argument. -/
def row (r : Fin 32) (t : Fin 1024) : Fin 16384 := ⟨16 * t.val + r.val % 16, by omega⟩
def bat (r : Fin 32) : Fin 2 := ⟨r.val / 16, by omega⟩
def ln (h : Fin 12) (e : Fin 64) : Fin 768 := ⟨64 * h.val + e.val, by omega⟩

variable (x0 x1 x2 : (⟨S2x16384x768, .f32⟩ : BufTy).Contents (Elt Ideal))

/-! ## Queries, keys and values by residue class -/

theorem q86 (r : Fin 32) (t : Fin 1024) (h : Fin 12) (e : Fin 64) :
    val_main_v167 (F := Ideal) x0 (ix4 r t h e) = x0 (ix3 (bat r) (row r t) (ln h e)) := by
  rw [val_main_v167_apply, show idx_main_v167 (ix4 r t h e) = ix5 (bat r) (⟨r.val % 16, by omega⟩ : Fin 16) t h e from by blk_ext [idx_main_v167, bat],
    val_main_v166_apply, show idx_main_v166 (ix5 (bat r) (⟨r.val % 16, by omega⟩ : Fin 16) t h e) = ix5 (bat r) t (⟨r.val % 16, by omega⟩ : Fin 16) h e from by blk_ext [idx_main_v166],
    val_main_v165_apply, show idx_main_v165 (ix5 (bat r) t (⟨r.val % 16, by omega⟩ : Fin 16) h e) = ix4 (bat r) (row r t) h e from by blk_ext [idx_main_v165, row, bat],
    val_main_v162_apply, show idx_main_v162 (ix4 (bat r) (row r t) h e) = ix3 (bat r) (row r t) (ln h e) from by blk_ext [idx_main_v162, row, bat, ln]]

theorem k91 (r : Fin 32) (t : Fin 1024) (h : Fin 12) (e : Fin 64) :
    val_main_v172 (F := Ideal) x1 (ix4 r t h e) = x1 (ix3 (bat r) (row r t) (ln h e)) := q86 x1 r t h e

theorem w96 (r : Fin 32) (t : Fin 1024) (h : Fin 12) (e : Fin 64) :
    val_main_v177 (F := Ideal) x2 (ix4 r t h e) = x2 (ix3 (bat r) (row r t) (ln h e)) := q86 x2 r t h e

/-- The queries, by blocks of 128. -/
theorem q88 (r : Fin 32) (g : Fin 8) (i : Fin 128) (h : Fin 12) (e : Fin 64) :
    val_main_v169 (F := Ideal) x0 (ix5 r g i h e) = x0 (ix3 (bat r) (row r ⟨128 * g.val + i.val, by omega⟩) (ln h e)) := by
  rw [val_main_v169_apply, show idx_main_v169 (ix5 r g i h e) = ix4 r (⟨128 * g.val + i.val, by omega⟩ : Fin 1024) h e from by blk_ext [idx_main_v169],
    ← q86 x0 r ⟨128 * g.val + i.val, by omega⟩ h e]
  unfold val_main_v168
  exact pad_apply_of_inside _ _ _ _ _ _ _ _ _ fun a => by
    match a with
    | ⟨0, _⟩ => show r.val = 0 + r.val * 1; omega
    | ⟨1, _⟩ => show 128 * g.val + i.val = 0 + (128 * g.val + i.val) * 1; omega
    | ⟨2, _⟩ => show h.val = 0 + h.val * 1; omega
    | ⟨3, _⟩ => show e.val = 0 + e.val * 1; omega

/-- The padded keys: the positions after the first 128. -/
theorem k93 (r : Fin 32) (g : Fin 9) (i : Fin 128) (h : Fin 12) (e : Fin 64) (t : Fin 1024) (ht : t.val + 128 = 128 * g.val + i.val) :
    val_main_v174 (F := Ideal) x1 (ix5 r g i h e) = x1 (ix3 (bat r) (row r t) (ln h e)) := by
  rw [val_main_v174_apply, show idx_main_v174 (ix5 r g i h e) = ix4 r (⟨128 * g.val + i.val, by omega⟩ : Fin 1152) h e from by blk_ext [idx_main_v174],
    ← k91 x1 r t h e]
  unfold val_main_v173
  exact pad_apply_of_inside _ _ _ _ _ _ _ _ _ fun a => by
    match a with
    | ⟨0, _⟩ => show r.val = 0 + r.val * 1; omega
    | ⟨1, _⟩ => show 128 * g.val + i.val = 128 + t.val * 1; omega
    | ⟨2, _⟩ => show h.val = 0 + h.val * 1; omega
    | ⟨3, _⟩ => show e.val = 0 + e.val * 1; omega

/-- The keys a block sees: of the block before it and its own. -/
theorem k101 (r : Fin 32) (g : Fin 8) (j : Fin 256) (h : Fin 12) (e : Fin 64) (t : Fin 1024) (ht : t.val + 128 = 128 * g.val + j.val) :
    val_main_v182 (F := Ideal) x1 (ix5 r g j h e) = x1 (ix3 (bat r) (row r t) (ln h e)) := by
  unfold val_main_v182
  by_cases hj : j.val < 128
  · rw [concatenate_pair_apply_left (s₁ := S32x8x128x12x64) (t := S32x8x256x12x64) 2 _ _ _ (ix5 r g j h e) rfl (ix5 r g (⟨j.val, hj⟩ : Fin 128) h e) (fun b => by
      match b with
      | ⟨0, _⟩ => rfl
      | ⟨1, _⟩ => rfl
      | ⟨2, _⟩ => rfl
      | ⟨3, _⟩ => rfl
      | ⟨4, _⟩ => rfl)]
    rw [val_main_v180_apply, show idx_main_v180 (ix5 r g (⟨j.val, hj⟩ : Fin 128) h e) = ix5 r (⟨g.val, by omega⟩ : Fin 9) (⟨j.val, hj⟩ : Fin 128) h e from by blk_ext [idx_main_v180]]
    exact k93 x1 r _ _ h e t ht
  · rw [concatenate_pair_apply_right (s₁ := S32x8x128x12x64) (s₂ := S32x8x128x12x64) (t := S32x8x256x12x64) 2 _ _ _ (ix5 r g j h e) rfl rfl (ix5 r g (⟨j.val - 128, by omega⟩ : Fin 128) h e) (fun b hb => by
      match b with
      | ⟨0, _⟩ => rfl
      | ⟨1, _⟩ => rfl
      | ⟨2, _⟩ => exact absurd rfl hb
      | ⟨3, _⟩ => rfl
      | ⟨4, _⟩ => rfl) (show j.val - 128 + 128 = j.val by omega)]
    rw [val_main_v181_apply, show idx_main_v181 (ix5 r g (⟨j.val - 128, by omega⟩ : Fin 128) h e) = ix5 r (⟨g.val + 1, by omega⟩ : Fin 9) (⟨j.val - 128, by omega⟩ : Fin 128) h e from by blk_ext [idx_main_v181]]
    exact k93 x1 r _ _ h e t (by show t.val + 128 = 128 * (g.val + 1) + (j.val - 128); omega)

/-- The same for the values. -/
theorem w104 (r : Fin 32) (g : Fin 8) (j : Fin 256) (h : Fin 12) (e : Fin 64) (t : Fin 1024) (ht : t.val + 128 = 128 * g.val + j.val) :
    val_main_v185 (F := Ideal) x2 (ix5 r g j h e) = x2 (ix3 (bat r) (row r t) (ln h e)) := k101 x2 r g j h e t ht

/-! ## The scores -/

theorem dot105 (r : Fin 32) (g : Fin 8) (h : Fin 12) (i : Fin 128) (j : Fin 256) :
    val_main_v186 (F := Ideal) x0 x1 (ix5 r g h i j)
      = ∑ x : Fin 64, val_main_v169 (F := Ideal) x0 (ix5 r g i h x) * val_main_v182 (F := Ideal) x1 (ix5 r g j h x) := by
  rw [val_main_v186_apply]
  refine Finset.sum_congr rfl fun x _ => ?_
  rw [show lidx_main_v186 (ix5 r g h i j) x = ix5 r g i h x from by blk_ext [lidx_main_v186],
    show ridx_main_v186 (ix5 r g h i j) x = ix5 r g j h x from by blk_ext [ridx_main_v186]]

theorem mask7 (r : Fin 32) (g : Fin 8) (h : Fin 12) (i : Fin 128) (j : Fin 256) :
    val_main_call11_v1 (F := Ideal) (ix5 r g h i j) = 1#1 ↔ ((i.val ≤ j.val ∧ j.val ≤ i.val + 128) ∧ 128 ≤ 128 * g.val + j.val) := by
  rw [← Words.band_words i j, ← Words.first_words ⟨g.val, by omega⟩ j, ← Words.andi_one]
  simp only [val_main_call11_v1_apply, val_main_v218_apply, val_main_v217_apply, val_main_v216_apply, val_main_v215_apply, val_main_v214_apply,
    val_main_v213_apply, val_main_v212_apply, val_main_v211_apply, val_main_v210_apply, val_main_v209_apply, val_main_v208_apply, val_main_v207_apply,
    val_main_v206_apply, val_main_v205_apply, val_main_v204_apply, val_main_v203_apply, val_main_v202_apply, val_main_v201_apply, val_main_v200_apply,
    val_main_v199_apply, val_main_v198_apply, val_main_v197_apply, val_main_v196_apply, val_main_v195_apply, val_main_v194_apply, val_main_v193_apply,
    val_main_v192_apply, val_main_v191_apply, val_main_v190_apply, val_main_v189_apply, val_main_v188_apply, val_main_v187_apply,
    val_main_c_25_apply, val_main_c_26_apply, val_main_c_27_apply, val_main_c_28_apply, val_main_c_29_apply, val_main_c_30_apply]
  exact Iff.rfl

/-- The position of a block's query, and the lane of a head, from the other way round. -/
theorem ok_iff (r : Fin 32) (g : Fin 8) (i : Fin 128) (j : Fin 256) :
    ((i.val ≤ j.val ∧ j.val ≤ i.val + 128) ∧ 128 ≤ 128 * g.val + j.val) ↔ Spec.ok 16 (row r ⟨128 * g.val + i.val, by omega⟩) j := by
  simp only [Spec.ok, row]
  omega

theorem key_eq (r : Fin 32) (g : Fin 8) (i : Fin 128) (j : Fin 256) (hok : Spec.ok 16 (row r ⟨128 * g.val + i.val, by omega⟩) j) :
    ∃ t : Fin 1024, t.val + 128 = 128 * g.val + j.val ∧ row r t = Spec.key 16 (row r ⟨128 * g.val + i.val, by omega⟩) j := by
  rw [← ok_iff] at hok
  refine ⟨⟨128 * g.val + j.val - 128, by omega⟩, by dsimp only; omega, Fin.ext ?_⟩
  simp only [Spec.key, row]
  omega

theorem lane_ln (h : Fin 12) (e : Fin 64) (x : Fin 64) : Spec.lane (ln h e) x = ln h x :=
  Fin.ext (by simp only [Spec.lane, ln]; omega)

/-- The masked scores. -/
theorem s138 (r : Fin 32) (g : Fin 8) (h : Fin 12) (i : Fin 128) (e : Fin 64) (j : Fin 256) :
    val_main_v219 (F := Ideal) x0 x1 (ix5 r g h i j) = Spec.sc 16 x0 x1 (bat r) (row r ⟨128 * g.val + i.val, by omega⟩) (ln h e) j := by
  rw [val_main_v219_apply, Words.sel_if ((mask7 r g h i j).trans (ok_iff r g i j)), Spec.sc]
  by_cases hok : Spec.ok 16 (row r ⟨128 * g.val + i.val, by omega⟩) j
  · rw [if_pos hok, if_pos hok, dot105]
    obtain ⟨t, ht, hk⟩ := key_eq r g i j hok
    refine Finset.sum_congr rfl fun x _ => ?_
    rw [q88, k101 x1 r g j h x t ht, hk, lane_ln]
  · rw [if_neg hok, if_neg hok]
    exact Words.ofBits_bot

/-! ## The softmax of the band -/

theorem m139 (r : Fin 32) (g : Fin 8) (h : Fin 12) (i : Fin 128) (e : Fin 64) :
    val_main_v220 (F := Ideal) x0 x1 (ix4 r g h i) = Mix.top (Spec.sc 16 x0 x1 (bat r) (row r ⟨128 * g.val + i.val, by omega⟩) (ln h e)) := by
  unfold val_main_v220
  have ee : (fun j : Fin 256 => val_main_v219 (F := Ideal) x0 x1 (ix5 r g h i j)) = Spec.sc 16 x0 x1 (bat r) (row r ⟨128 * g.val + i.val, by omega⟩) (ln h e) :=
    funext fun j => s138 x0 x1 r g h i e j
  rw [← ee]
  generalize val_main_v219 (F := Ideal) x0 x1 = y
  simp only [pointwise]
  exact congrArg (fun z => Finset.univ.fold max z fun j : Fin 256 => y (ix5 r g h i j)) Words.ofBits_bot

theorem p143 (r : Fin 32) (g : Fin 8) (h : Fin 12) (i : Fin 128) (e : Fin 64) (j : Fin 256) :
    val_main_v224 (F := Ideal) x0 x1 (ix5 r g h i j) = Mix.wt (Spec.sc 16 x0 x1 (bat r) (row r ⟨128 * g.val + i.val, by omega⟩) (ln h e)) j := by
  rw [val_main_v224_apply, val_main_v223_apply, val_main_v222_apply, val_main_v221_apply, s138 x0 x1 r g h i e,
    show idx_main_v221 (idx_main_v222 (ix5 r g h i j)) = ix4 r g h i from by blk_ext [idx_main_v221, idx_main_v222], m139 x0 x1 r g h i e]
  rfl

theorem d144 (r : Fin 32) (g : Fin 8) (h : Fin 12) (i : Fin 128) (e : Fin 64) :
    val_main_v225 (F := Ideal) x0 x1 (ix4 r g h i) = Mix.den (Spec.sc 16 x0 x1 (bat r) (row r ⟨128 * g.val + i.val, by omega⟩) (ln h e)) := by
  rw [val_main_v225_apply, val_main_cst_33_apply, Words.ofBits_zero, zero_add]
  refine Finset.sum_congr rfl fun j _ => ?_
  rw [show idx_main_v225 (ix4 r g h i) j = ix5 r g h i j from by blk_ext [idx_main_v225], p143 x0 x1 r g h i e]

theorem n147 (r : Fin 32) (g : Fin 8) (h : Fin 12) (i : Fin 128) (e : Fin 64) (j : Fin 256) :
    val_main_v228 (F := Ideal) x0 x1 (ix5 r g h i j)
      = Ideal.div (Mix.wt (Spec.sc 16 x0 x1 (bat r) (row r ⟨128 * g.val + i.val, by omega⟩) (ln h e)) j)
          (Mix.den (Spec.sc 16 x0 x1 (bat r) (row r ⟨128 * g.val + i.val, by omega⟩) (ln h e))) := by
  rw [val_main_v228_apply, val_main_v227_apply, val_main_v226_apply, p143 x0 x1 r g h i e,
    show idx_main_v226 (idx_main_v227 (ix5 r g h i j)) = ix4 r g h i from by blk_ext [idx_main_v226, idx_main_v227], d144 x0 x1 r g h i e]
  rfl

theorem o148 (r : Fin 32) (g : Fin 8) (h : Fin 12) (i : Fin 128) (e : Fin 64)
    (good : Mix.Good (Spec.sc 16 x0 x1 (bat r) (row r ⟨128 * g.val + i.val, by omega⟩) (ln h e))) :
    val_main_v229 (F := Ideal) x0 x1 x2 (ix5 r g h e i)
      = Mix.avg (Spec.sc 16 x0 x1 (bat r) (row r ⟨128 * g.val + i.val, by omega⟩) (ln h e)) (Spec.vl 16 x2 (bat r) (row r ⟨128 * g.val + i.val, by omega⟩) (ln h e)) := by
  rw [val_main_v229_apply]
  have ee : (∑ k : Fin 256, (val_main_v185 (F := Ideal) x2) (lidx_main_v229 (ix5 r g h e i) k) * (val_main_v228 (F := Ideal) x0 x1) (ridx_main_v229 (ix5 r g h e i) k))
      = Mix.avg (Spec.sc 16 x0 x1 (bat r) (row r ⟨128 * g.val + i.val, by omega⟩) (ln h e)) (fun j => val_main_v185 (F := Ideal) x2 (ix5 r g j h e)) := by
    refine Finset.sum_congr rfl fun j _ => ?_
    rw [show lidx_main_v229 (ix5 r g h e i) j = ix5 r g j h e from by blk_ext [lidx_main_v229],
      show ridx_main_v229 (ix5 r g h e i) j = ix5 r g h i j from by blk_ext [ridx_main_v229], n147 x0 x1 r g h i e]
  refine ee.trans (Mix.avg_congr good fun j hj => ?_)
  obtain ⟨t, ht, hk⟩ := key_eq r g i j (Spec.ok_of_sc hj)
  rw [w104 x2 r g j h e t ht, hk, Spec.vl]

theorem l151 (r : Fin 32) (g : Fin 8) (h : Fin 12) (i : Fin 128) (e : Fin 64) :
    val_main_v232 (F := Ideal) x0 x1 (ix5 r g h i (0 : Fin 1))
      = Mix.lse (Spec.sc 16 x0 x1 (bat r) (row r ⟨128 * g.val + i.val, by omega⟩) (ln h e)) := by
  rw [val_main_v232_apply, val_main_v231_apply, val_main_v226_apply, val_main_v221_apply,
    show idx_main_v221 (ix5 r g h i (0 : Fin 1)) = ix4 r g h i from by blk_ext [idx_main_v221],
    show idx_main_v226 (ix5 r g h i (0 : Fin 1)) = ix4 r g h i from by blk_ext [idx_main_v226], m139 x0 x1 r g h i e, d144 x0 x1 r g h i e]
  rfl

/-! ## Back to the positions -/

/-- The residue class of a position, its block there and its place in the block. -/
def cls (b : Fin 2) (N : Fin 16384) : Fin 32 := ⟨16 * b.val + N.val % 16, by omega⟩
def blk (N : Fin 16384) : Fin 8 := ⟨N.val / 16 / 128, by omega⟩
def plc (N : Fin 16384) : Fin 128 := ⟨N.val / 16 % 128, by omega⟩

theorem bat_cls (b : Fin 2) (N : Fin 16384) : bat (cls b N) = b := Fin.ext (by simp only [bat, cls]; omega)
theorem row_cls (b : Fin 2) (N : Fin 16384) (hb : 128 * (blk N).val + (plc N).val < 1024) : row (cls b N) ⟨128 * (blk N).val + (plc N).val, hb⟩ = N :=
  Fin.ext (by simp only [row, cls, blk, plc]; omega)

/-- A position of a class, by its block and its place. -/
theorem back5 (c : Fin 32) (t : Fin 1024) (h : Fin 12) (e : Fin 64) :
    idx_main_v234 (ix4 c t h e) = ix5 c (⟨t.val / 128, by omega⟩ : Fin 8) (⟨t.val % 128, by omega⟩ : Fin 128) h e := by
  blk_ext [idx_main_v234]

theorem back4 (c : Fin 32) (t : Fin 1024) (h : Fin 12) :
    idx_main_v239 (ix3 c t h) = ix4 c (⟨t.val / 128, by omega⟩ : Fin 8) (⟨t.val % 128, by omega⟩ : Fin 128) h := by
  blk_ext [idx_main_v239]

/-- The branch's result at an element: the band's normalised weighted sum. -/
theorem out_apply (b : Fin 2) (N : Fin 16384) (h : Fin 12) (e : Fin 64) (good : Mix.Good (Spec.sc 16 x0 x1 b N (ln h e))) :
    val_main_v237 (F := Ideal) x0 x1 x2 (ix4 b N h e) = Mix.avg (Spec.sc 16 x0 x1 b N (ln h e)) (Spec.vl 16 x2 b N (ln h e)) := by
  have eo := o148 x0 x1 x2 (cls b N) (blk N) h (plc N) e
  rw [row_cls, bat_cls] at eo
  rw [← eo good, val_main_v237_apply, show idx_main_v237 (ix4 b N h e) = ix5 b (⟨N.val / 16, by omega⟩ : Fin 1024) (⟨N.val % 16, by omega⟩ : Fin 16) h e from by blk_ext [idx_main_v237],
    val_main_v236_apply, show idx_main_v236 (ix5 b (⟨N.val / 16, by omega⟩ : Fin 1024) (⟨N.val % 16, by omega⟩ : Fin 16) h e)
      = ix5 b (⟨N.val % 16, by omega⟩ : Fin 16) (⟨N.val / 16, by omega⟩ : Fin 1024) h e from by blk_ext [idx_main_v236],
    val_main_v235_apply, show idx_main_v235 (ix5 b (⟨N.val % 16, by omega⟩ : Fin 16) (⟨N.val / 16, by omega⟩ : Fin 1024) h e)
      = ix4 (cls b N) (⟨N.val / 16, by omega⟩ : Fin 1024) h e from by blk_ext [idx_main_v235, cls],
    val_main_v234_apply, show idx_main_v234 (ix4 (cls b N) (⟨N.val / 16, by omega⟩ : Fin 1024) h e) = ix5 (cls b N) (blk N) (plc N) h e from back5 _ _ _ _,
    val_main_v230_apply, show idx_main_v230 (ix5 (cls b N) (blk N) (plc N) h e) = ix5 (cls b N) (blk N) h e (plc N) from by blk_ext [idx_main_v230]]

/-- The branch's log-sum-exp. -/
theorem lse_apply (b : Fin 2) (N : Fin 16384) (h : Fin 12) (e : Fin 64) :
    val_main_v242 (F := Ideal) x0 x1 (ix3 b N h) = Mix.lse (Spec.sc 16 x0 x1 b N (ln h e)) := by
  have eo := l151 x0 x1 (cls b N) (blk N) h (plc N) e
  rw [row_cls, bat_cls] at eo
  rw [← eo, val_main_v242_apply, show idx_main_v242 (ix3 b N h) = ix4 b (⟨N.val / 16, by omega⟩ : Fin 1024) (⟨N.val % 16, by omega⟩ : Fin 16) h from by blk_ext [idx_main_v242],
    val_main_v241_apply, show idx_main_v241 (ix4 b (⟨N.val / 16, by omega⟩ : Fin 1024) (⟨N.val % 16, by omega⟩ : Fin 16) h)
      = ix4 b (⟨N.val % 16, by omega⟩ : Fin 16) (⟨N.val / 16, by omega⟩ : Fin 1024) h from by blk_ext [idx_main_v241],
    val_main_v240_apply, show idx_main_v240 (ix4 b (⟨N.val % 16, by omega⟩ : Fin 16) (⟨N.val / 16, by omega⟩ : Fin 1024) h)
      = ix3 (cls b N) (⟨N.val / 16, by omega⟩ : Fin 1024) h from by blk_ext [idx_main_v240, cls],
    val_main_v239_apply, show idx_main_v239 (ix3 (cls b N) (⟨N.val / 16, by omega⟩ : Fin 1024) h) = ix4 (cls b N) (blk N) (plc N) h from back4 _ _ _,
    val_main_v238_apply, show idx_main_v238 (ix4 (cls b N) (blk N) (plc N) h) = ix4 (cls b N) (blk N) h (plc N) from by blk_ext [idx_main_v238],
    val_main_v233_apply, show idx_main_v233 (ix4 (cls b N) (blk N) h (plc N)) = ix5 (cls b N) (blk N) h (plc N) (0 : Fin 1) from by blk_ext [idx_main_v233]]

end Cert.Branch16

end
-- ==== Proof.Whole.lean ====
/- The reference's result at an element: the three branches mixed by the softmax of their log-sum-exps. -/
module

public import proofs.«01_k».proof.Proof.Branch1
public import proofs.«01_k».proof.Proof.Branch4
public import proofs.«01_k».proof.Proof.Branch16

@[expose] public section

set_option maxRecDepth 16384

noncomputable section

namespace Cert.Whole

open Idealize.ShloMosaic Idealize.ShloMosaic.TcCoe
open Cert.ReferenceIdeal Cert.ReferenceIdeal.Gen Cert.ReferenceIdeal.Read
open Branch1 (ln)

variable (x0 x1 x2 : (⟨S2x16384x768, .f32⟩ : BufTy).Contents (Elt Ideal))

/-! ## The branches side by side -/

theorem o0 (b : Fin 2) (N : Fin 16384) (h : Fin 12) (e : Fin 64) :
    val_main_v246 (F := Ideal) x0 x1 x2 (ix5 (0 : Fin 3) b N h e) = val_main_v75 (F := Ideal) x0 x1 x2 (ix4 b N h e) := by
  unfold val_main_v246
  refine (concatenate_apply_piece (t := S3x2x16384x12x64) 0 _ _ (ix5 (0 : Fin 3) b N h e) 0 (by show 0 < 3; decide) S1x2x16384x12x64 _ (by rfl) rfl 0 (by rfl) (ix5 (0 : Fin 1) b N h e) (fun a ha => by
      match a with
      | ⟨0, _⟩ => exact absurd rfl ha
      | ⟨1, _⟩ => rfl
      | ⟨2, _⟩ => rfl
      | ⟨3, _⟩ => rfl
      | ⟨4, _⟩ => rfl) (by rfl)).trans ?_
  rw [val_main_v243_apply]
  exact congrArg _ (by blk_ext [idx_main_v243])

theorem o1 (b : Fin 2) (N : Fin 16384) (h : Fin 12) (e : Fin 64) :
    val_main_v246 (F := Ideal) x0 x1 x2 (ix5 (1 : Fin 3) b N h e) = val_main_v156 (F := Ideal) x0 x1 x2 (ix4 b N h e) := by
  unfold val_main_v246
  refine (concatenate_apply_piece (t := S3x2x16384x12x64) 0 _ _ (ix5 (1 : Fin 3) b N h e) 1 (by show 1 < 3; decide) S1x2x16384x12x64 _ (by rfl) rfl 1 (by rfl) (ix5 (0 : Fin 1) b N h e) (fun a ha => by
      match a with
      | ⟨0, _⟩ => exact absurd rfl ha
      | ⟨1, _⟩ => rfl
      | ⟨2, _⟩ => rfl
      | ⟨3, _⟩ => rfl
      | ⟨4, _⟩ => rfl) (by rfl)).trans ?_
  rw [val_main_v244_apply]
  exact congrArg _ (by blk_ext [idx_main_v244])

theorem o2 (b : Fin 2) (N : Fin 16384) (h : Fin 12) (e : Fin 64) :
    val_main_v246 (F := Ideal) x0 x1 x2 (ix5 (2 : Fin 3) b N h e) = val_main_v237 (F := Ideal) x0 x1 x2 (ix4 b N h e) := by
  unfold val_main_v246
  refine (concatenate_apply_piece (t := S3x2x16384x12x64) 0 _ _ (ix5 (2 : Fin 3) b N h e) 2 (by show 2 < 3; decide) S1x2x16384x12x64 _ (by rfl) rfl 2 (by rfl) (ix5 (0 : Fin 1) b N h e) (fun a ha => by
      match a with
      | ⟨0, _⟩ => exact absurd rfl ha
      | ⟨1, _⟩ => rfl
      | ⟨2, _⟩ => rfl
      | ⟨3, _⟩ => rfl
      | ⟨4, _⟩ => rfl) (by rfl)).trans ?_
  rw [val_main_v245_apply]
  exact congrArg _ (by blk_ext [idx_main_v245])

theorem l0 (b : Fin 2) (N : Fin 16384) (h : Fin 12) :
    val_main_v250 (F := Ideal) x0 x1 (ix4 (0 : Fin 3) b N h) = val_main_v80 (F := Ideal) x0 x1 (ix3 b N h) := by
  unfold val_main_v250
  refine (concatenate_apply_piece (t := S3x2x16384x12) 0 _ _ (ix4 (0 : Fin 3) b N h) 0 (by show 0 < 3; decide) S1x2x16384x12 _ (by rfl) rfl 0 (by rfl) (ix4 (0 : Fin 1) b N h) (fun a ha => by
      match a with
      | ⟨0, _⟩ => exact absurd rfl ha
      | ⟨1, _⟩ => rfl
      | ⟨2, _⟩ => rfl
      | ⟨3, _⟩ => rfl) (by rfl)).trans ?_
  rw [val_main_v247_apply]
  exact congrArg _ (by blk_ext [idx_main_v247])

theorem l1 (b : Fin 2) (N : Fin 16384) (h : Fin 12) :
    val_main_v250 (F := Ideal) x0 x1 (ix4 (1 : Fin 3) b N h) = val_main_v161 (F := Ideal) x0 x1 (ix3 b N h) := by
  unfold val_main_v250
  refine (concatenate_apply_piece (t := S3x2x16384x12) 0 _ _ (ix4 (1 : Fin 3) b N h) 1 (by show 1 < 3; decide) S1x2x16384x12 _ (by rfl) rfl 1 (by rfl) (ix4 (0 : Fin 1) b N h) (fun a ha => by
      match a with
      | ⟨0, _⟩ => exact absurd rfl ha
      | ⟨1, _⟩ => rfl
      | ⟨2, _⟩ => rfl
      | ⟨3, _⟩ => rfl) (by rfl)).trans ?_
  rw [val_main_v248_apply]
  exact congrArg _ (by blk_ext [idx_main_v248])

theorem l2 (b : Fin 2) (N : Fin 16384) (h : Fin 12) :
    val_main_v250 (F := Ideal) x0 x1 (ix4 (2 : Fin 3) b N h) = val_main_v242 (F := Ideal) x0 x1 (ix3 b N h) := by
  unfold val_main_v250
  refine (concatenate_apply_piece (t := S3x2x16384x12) 0 _ _ (ix4 (2 : Fin 3) b N h) 2 (by show 2 < 3; decide) S1x2x16384x12 _ (by rfl) rfl 2 (by rfl) (ix4 (0 : Fin 1) b N h) (fun a ha => by
      match a with
      | ⟨0, _⟩ => exact absurd rfl ha
      | ⟨1, _⟩ => rfl
      | ⟨2, _⟩ => rfl
      | ⟨3, _⟩ => rfl) (by rfl)).trans ?_
  rw [val_main_v249_apply]
  exact congrArg _ (by blk_ext [idx_main_v249])

/-! ## Their softmax -/

/-- The greatest of the three numbers `y` holds at a position and head. -/
def big (y : (⟨S3x2x16384x12, .f32⟩ : BufTy).Contents (Elt Ideal)) (b : Fin 2) (N : Fin 16384) (h : Fin 12) : EReal :=
  max (max (y (ix4 (0 : Fin 3) b N h)) (y (ix4 (1 : Fin 3) b N h))) (y (ix4 (2 : Fin 3) b N h))

theorem fold3 (f : Fin 3 → EReal) : Finset.univ.fold max ⊥ f = max (max (f 0) (f 1)) (f 2) := by
  have e : (Finset.univ : Finset (Fin 3)) = {0, 1, 2} := by decide
  rw [e, Finset.fold_insert (by decide), Finset.fold_insert (by decide), Finset.fold_singleton, max_eq_left (bot_le : ⊥ ≤ f 2), max_assoc]

theorem m251 (b : Fin 2) (N : Fin 16384) (h : Fin 12) :
    val_main_v251 (F := Ideal) x0 x1 (ix3 b N h) = big (val_main_v250 (F := Ideal) x0 x1) b N h := by
  unfold val_main_v251
  generalize val_main_v250 (F := Ideal) x0 x1 = y
  simp only [pointwise]
  exact (congrArg (fun z => Finset.univ.fold max z fun j : Fin 3 => y (ix4 j b N h)) Words.ofBits_bot).trans (fold3 _)

theorem m253 (b : Fin 2) (N : Fin 16384) (h : Fin 12) :
    val_main_v253 (F := Ideal) x0 x1 (ix3 b N h) = big (val_main_v250 (F := Ideal) x0 x1) b N h := by
  rw [val_main_v253_apply, val_main_v252_apply, val_main_cst_35_apply, m251, Words.ofBits_bot]
  exact max_eq_right bot_le

theorem p257 (b : Fin 2) (N : Fin 16384) (h : Fin 12) (i : Fin 3) :
    val_main_v257 (F := Ideal) x0 x1 (ix4 i b N h)
      = Ideal.exp (val_main_v250 (F := Ideal) x0 x1 (ix4 i b N h) - big (val_main_v250 (F := Ideal) x0 x1) b N h) := by
  rw [val_main_v257_apply, val_main_v256_apply, val_main_v255_apply, val_main_v254_apply,
    show idx_main_v254 (idx_main_v255 (ix4 i b N h)) = ix3 b N h from by blk_ext [idx_main_v254, idx_main_v255], m253]
  rfl

theorem s261 (b : Fin 2) (N : Fin 16384) (h : Fin 12) (i : Fin 3) :
    val_main_v261 (F := Ideal) x0 x1 (ix4 i b N h)
      = Mix.soft (big (val_main_v250 (F := Ideal) x0 x1) b N h) (val_main_v250 (F := Ideal) x0 x1 (ix4 (0 : Fin 3) b N h))
          (val_main_v250 (F := Ideal) x0 x1 (ix4 (1 : Fin 3) b N h)) (val_main_v250 (F := Ideal) x0 x1 (ix4 (2 : Fin 3) b N h))
          (val_main_v250 (F := Ideal) x0 x1 (ix4 i b N h)) := by
  have e : ∀ j : Fin 3, idx_main_v258 (ix3 b N h) j = ix4 j b N h := fun j => by blk_ext [idx_main_v258]
  rw [val_main_v261_apply, val_main_v260_apply, val_main_v259_apply,
    show idx_main_v259 (idx_main_v260 (ix4 i b N h)) = ix3 b N h from by blk_ext [idx_main_v259, idx_main_v260],
    val_main_v258_apply, val_main_cst_36_apply, Words.ofBits_zero, zero_add, Fin.sum_univ_three, e, e, e, p257, p257, p257, p257]
  rfl

/-- The mixture at a position, a head and a lane of it. -/
theorem v262 (good : ∀ d b N w, Mix.Good (Spec.sc d x0 x1 b N w)) (b : Fin 2) (N : Fin 16384) (h : Fin 12) (e : Fin 64) :
    val_main_v262 (F := Ideal) x0 x1 x2 (ix4 b N h e) = Spec.attn x0 x1 x2 b N (ln h e) := by
  have eL : ∀ i : Fin 3, lidx_main_v262 (ix4 b N h e) i = ix5 i b N h e := fun i => by blk_ext [lidx_main_v262]
  have eR : ∀ i : Fin 3, ridx_main_v262 (ix4 b N h e) i = ix4 i b N h := fun i => by blk_ext [ridx_main_v262]
  have a0 : val_main_v80 (F := Ideal) x0 x1 (ix3 b N h) = Mix.lse (Spec.sc 1 x0 x1 b N (ln h e)) := Branch1.lse_apply x0 x1 b N h e
  have a1 : val_main_v161 (F := Ideal) x0 x1 (ix3 b N h) = Mix.lse (Spec.sc 4 x0 x1 b N (ln h e)) := Branch4.lse_apply x0 x1 b N h e
  have a2 : val_main_v242 (F := Ideal) x0 x1 (ix3 b N h) = Mix.lse (Spec.sc 16 x0 x1 b N (ln h e)) := Branch16.lse_apply x0 x1 b N h e
  have b0 : val_main_v75 (F := Ideal) x0 x1 x2 (ix4 b N h e) = Mix.avg (Spec.sc 1 x0 x1 b N (ln h e)) (Spec.vl 1 x2 b N (ln h e)) :=
    Branch1.out_apply x0 x1 x2 b N h e (good 1 b N (ln h e))
  have b1 : val_main_v156 (F := Ideal) x0 x1 x2 (ix4 b N h e) = Mix.avg (Spec.sc 4 x0 x1 b N (ln h e)) (Spec.vl 4 x2 b N (ln h e)) :=
    Branch4.out_apply x0 x1 x2 b N h e (good 4 b N (ln h e))
  have b2 : val_main_v237 (F := Ideal) x0 x1 x2 (ix4 b N h e) = Mix.avg (Spec.sc 16 x0 x1 b N (ln h e)) (Spec.vl 16 x2 b N (ln h e)) :=
    Branch16.out_apply x0 x1 x2 b N h e (good 16 b N (ln h e))
  rw [val_main_v262_apply, Fin.sum_univ_three, eL, eL, eL, eR, eR, eR, s261, s261, s261, big, o0, o1, o2, l0, l1, l2, a0, a1, a2, b0, b1, b2]
  exact (Mix.mixed_eq (good 1 b N (ln h e)) (good 4 b N (ln h e)) (good 16 b N (ln h e)) _ _ _ _ rfl).symm

/-- The reference's result at an element. -/
theorem result (good : ∀ d b N w, Mix.Good (Spec.sc d x0 x1 b N w)) (b : Fin 2) (N : Fin 16384) (w : Fin 768) :
    val_main_v264 (F := Ideal) x0 x1 x2 (ix3 b N w) = Spec.attn x0 x1 x2 b N w := by
  have hw : ln (⟨w.val / 64, by omega⟩ : Fin 12) (⟨w.val % 64, by omega⟩ : Fin 64) = w := Fin.ext (by simp only [ln]; omega)
  have hi : idx_main_v263 (ix3 b N w) = ix4 b N (⟨w.val / 64, by omega⟩ : Fin 12) (⟨w.val % 64, by omega⟩ : Fin 64) := by blk_ext [idx_main_v263]
  rw [val_main_v264_apply, val_main_v263_apply, hi]
  have ev := v262 x0 x1 x2 good b N (⟨w.val / 64, by omega⟩ : Fin 12) (⟨w.val % 64, by omega⟩ : Fin 64)
  rw [hw] at ev
  exact ev

end Cert.Whole

end
-- ==== Proof.Finite.lean ====
/- Where queries and keys are finite, every band of scores has a finite one and none is plus infinity. -/
module

public import proofs.«01_k».proof.Proof.Spec
public import proofs.«01_k».proof.Pre_finite_scores
public import Idealize.ShloMosaic.Lib.ReduceAll
public import Idealize.ShloMosaic.Lib.Pointwise

@[expose] public section

set_option maxRecDepth 16384

noncomputable section

namespace Cert.Spec

open Idealize.ShloMosaic

/-- Every element is a real. -/
def Real (A : Arr) : Prop := ∀ i, ∃ r : ℝ, A i = r

/-- A sum of products of reals is a real. -/
theorem dot_real {n : ℕ} {f g : Fin n → EReal} (hf : ∀ x, ∃ r : ℝ, f x = r) (hg : ∀ x, ∃ r : ℝ, g x = r) :
    ∃ r : ℝ, ∑ x, f x * g x = r := by
  choose p hp using hf
  choose q hq using hg
  exact ⟨∑ x, p x * q x, by rw [← Mix.coe_sum]; exact Finset.sum_congr rfl fun x _ => by rw [hp, hq, EReal.coe_mul]⟩

/-- A position is in its own band. -/
theorem ok_self (d : ℕ) (N : Fin 16384) : ok d N ⟨N.val / d % 128 + 128, by omega⟩ := by
  simp only [ok]; omega

theorem good {d : ℕ} {Q K : Arr} (hQ : Real Q) (hK : Real K) (b : Fin 2) (N : Fin 16384) (w : Fin 768) : Mix.Good (sc d Q K b N w) := by
  have hr : ∀ j, ∃ r : ℝ, ∑ x : Fin 64, Q (ix3 b N (lane w x)) * K (ix3 b (key d N j) (lane w x)) = r := fun j =>
    dot_real (fun x => hQ _) (fun x => hK _)
  refine ⟨fun j => ?_, ⟨⟨N.val / d % 128 + 128, by omega⟩, ?_⟩⟩
  · obtain ⟨r, e⟩ := hr j
    rw [sc]
    split
    · rw [e]; exact EReal.coe_ne_top r
    · exact bot_ne_top
  · obtain ⟨r, e⟩ := hr ⟨N.val / d % 128 + 128, by omega⟩
    rw [sc, if_pos (ok_self d N), e]
    exact EReal.coe_ne_bot r

end Cert.Spec

namespace Cert.Pre_finite_scores

open Idealize.ShloMosaic

instance : Subsingleton S_.Idx := ⟨fun a b => funext fun k => k.elim0⟩

/-- A magnitude below plus infinity is a real's. -/
theorem real_of_lt {x : EReal} (h : (FloatOps.cmpf .olt (FloatOps.hostAbsf (x : Ideal .f32)) (FloatOps.ofBits .f32 0x7F800000#32 : Ideal .f32)) = 1#1) :
    ∃ r : ℝ, x = r := by
  have top : (FloatOps.ofBits .f32 0x7F800000#32 : Ideal .f32) = ⊤ := by
    show Ideal.ofBits FTy.f32 2139095040#32 = ⊤
    simp [Ideal.ofBits, Ideal.ieee]
  rw [top] at h
  induction x using EReal.rec with
  | bot => exact absurd h (by simp [Ideal.cmpf_def, Ideal.cmp, Ideal.absf_def])
  | coe r => exact ⟨r, rfl⟩
  | top => exact absurd h (by simp [Ideal.cmpf_def, Ideal.cmp, Ideal.absf_def])

/-- What the precondition says of the queries and of the keys. -/
theorem real_of_fn [Facts] {q k v : FVec Ideal S2x16384x768 .f32} (h : fn (F := Ideal) q k v = fun _ => 1#1) :
    Spec.Real q ∧ Spec.Real k := by
  have e := congrFun h (Shape.Idx.first Facts.h_S_)
  unfold fn at e
  have e' := (show ∀ c d : BitVec 1, IntOp.andi c d = 1#1 → c = 1#1 ∧ d = 1#1 by decide) _ _ e
  refine ⟨fun i => ?_, fun i => ?_⟩
  · have f := Host.reduce_andi_all _ _ _ _ _ e'.1 i
    simp only [pointwise] at f
    exact real_of_lt f
  · have f := Host.reduce_andi_all _ _ _ _ _ e'.2 i
    simp only [pointwise] at f
    exact real_of_lt f

end Cert.Pre_finite_scores

end
-- ==== Proof.Twin.lean ====
/-
  The two printings of the kernel differ in one thing: where the first writes the mask's literal, the
  second names it. A reading of names that gives every name its literal back makes them one program,
  so the run of `Run` is also the run of the first.
-/
module

public import proofs.«01_k».proof.Proof.Gen.Kernel
public import proofs.«01_k».proof.Proof.Run

@[expose] public section
set_option maxRecDepth 65536
set_option maxHeartbeats 4000000
noncomputable section
namespace Cert.Twin
open Idealize.ShloMosaic Idealize.SL.Sem Idealize.ShloMosaic.TcCoe

/-- The reading of names that ignores the name: a named constant is the literal it was written as. -/
@[reducible] def plain (F : FTy → Type) [FloatOps F] : Named F := ⟨fun _ _ φ b => Scalar.ofBits φ b⟩

/-- The two bodies are one, names read plainly. -/
theorem body_eq (F : FTy → Type) [FloatOps F] :
    @Cert.Kernel.cc0_attn_prompt F _ Cert.Kernel.Gen.facts
      = @Cert.KernelIdeal.cc0_attn_prompt F _ (plain F) Cert.KernelIdeal.Gen.facts := rfl

/-- So are the two kernel tables. -/
theorem defs0_eq (F : FTy → Type) [FloatOps F] :
    @Cert.Kernel.defs₀ F _ Cert.Kernel.Gen.facts
      = @Cert.KernelIdeal.defs₀ F _ (plain F) Cert.KernelIdeal.Gen.facts := by
  unfold Cert.Kernel.defs₀ Cert.KernelIdeal.defs₀
  refine congrArg Defs.onTc ?_
  funext l a
  match l, a with
  | ⟨0, _⟩, (t, s) =>
    show @Cert.Kernel.cc0_attn_prompt F _ Cert.Kernel.Gen.facts _ _ _ _ _ _ _ _ _ _ _ _ _ _ _ _ _ _ _ _ _ _ _ _ _ = _
    rw [body_eq F]; rfl

/-- And the two body tables. -/
theorem defs_eq (F : FTy → Type) [FloatOps F] :
    @Cert.Kernel.defs F _ Cert.Kernel.Gen.facts
      = @Cert.KernelIdeal.defs F _ (plain F) Cert.KernelIdeal.Gen.facts := by
  unfold Cert.Kernel.defs Cert.KernelIdeal.defs
  rw [defs0_eq F]
  rfl

/-- The first printing runs to its end, leaves its arguments as they were and every counter at zero. -/
theorem frame_main {F : FTy → Type} [FloatOps F]
    (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F)))
      ⟨m, fun _ => 0, g⟩ (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1)
        ∧ r.2.mem ((c.tc : Thread Cert.Kernel.nD Cert.Kernel.τ).loc Cert.Kernel.main_arg2)
          = m ((c.tc : Thread Cert.Kernel.nD Cert.Kernel.τ).loc Cert.Kernel.main_arg2))
        ∧ r.2.sem = fun _ => 0) := by
  have h := @Cert.KernelIdeal.Hand.frame_main F _ (plain F) m g
  rw [defs_eq F]
  exact h

end Cert.Twin
end
-- ==== Proof.MCast.lean ====
/- The loop that converts an expert's weights: what the two buffers of converted weights hold after it. -/
module

public import proofs.«01_k».proof.Proof.Gen.Kernel2Ideal.Loops
public import Idealize.ShloMosaic.Lib.WritesUnit
public import Idealize.ShloMosaic.Lib.Pointwise
public import Idealize.ShloMosaic.Lib.Pipeline.FrameBody

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

theorem trips : k0_t1_loop.trips = 8 := by decide +kernel

/-- The trip that converts row `n`, and the row's place in the trip's rows. -/
abbrev kOf (n : Fin 1024) : Fin k0_t1_loop.trips := ⟨n.val / 128, by rw [trips]; omega⟩
abbrev iOf (n : Fin 1024) : Fin 128 := ⟨n.val % 128, by omega⟩

/-- The rows of the gate and up weights a trip reads, and the rows of their converted buffer it writes. -/
abbrev rLG (k : Fin k0_t1_loop.trips) : Rect S1x1024x2048 := Rect.unit (s := S1x1024x2048) (k0_off3 k) S1x128x2048.size (k0_off3_inb k)
abbrev rSG (k : Fin k0_t1_loop.trips) : Rect S1024x2048 := Rect.unit (s := S1024x2048) (k0_off4 k) S128x2048.size (k0_off4_inb k)

/-- The gate and up weights of an expert, converted. -/
def castG (x : Vec F S1x1024x2048 .f32) : Vec F S1024x2048 .bf16 := fun y =>
  k0_pay1 (View.ld x (rLG (kOf (y 0)))) (ix2 (iOf (y 0)) (y 1 : Fin 2048))

/-- The pieces of the trips before `n`, last first. -/
def pcsG (x : Vec F S1x1024x2048 .f32) : ℕ → List (View.Piece (Elt F) S1024x2048 .bf16)
  | 0 => []
  | n + 1 => (if h : n < k0_t1_loop.trips then [⟨rSG ⟨n, h⟩, k0_pay1 (View.ld x (rLG ⟨n, h⟩))⟩] else []) ++ pcsG x n

/-- After the trips before `n` the rows below `128 * n` are converted. -/
theorem read_pcsG (x : Vec F S1x1024x2048 .f32) (v : View sig .tc .vmem S1024x2048 .bf16) (f : BufTy.Contents (Elt F) v.ty) (n : ℕ) (hn : n ≤ 8)
    (a : Fin 1024) (b : Fin 2048) (h : a.val < 128 * n) :
    v.read (Elt F) (v.writes (Elt F) f (pcsG x n)) (ix2 a b) = castG x (ix2 a b) := by
  induction n with
  | zero => omega
  | succ n ih =>
    have hk : n < k0_t1_loop.trips := by rw [trips]; omega
    rw [pcsG, dif_pos hk, List.cons_append, List.nil_append]
    by_cases hl : a.val < 128 * n
    · refine (View.read_writes_cons_rows_of_not_mem v f (k0_off4_inb ⟨n, hk⟩) _ _ (ix2 a b) (k0_off4_eq ⟨n, hk⟩) (W := 128) rfl (.inl hl)).trans ?_
      exact ih (by omega) hl
    · have e : (⟨n, hk⟩ : Fin k0_t1_loop.trips) = kOf a := Fin.ext (by show n = a.val / 128; omega)
      refine (View.read_writes_cons_rows_of_mem v f (k0_off4_inb ⟨n, hk⟩) _ _ (ix2 a b) (ix2 (iOf a) b) (k0_off4_eq ⟨n, hk⟩) ?_ rfl).trans ?_
      · show a.val = 128 * n + a.val % 128; omega
      · show k0_pay1 (View.ld x (rLG ⟨n, hk⟩)) (ix2 (iOf a) b) = k0_pay1 (View.ld x (rLG (kOf a))) (ix2 (iOf a) b)
        rw [e]

theorem read_castG (x : Vec F S1x1024x2048 .f32) (v : View sig .tc .vmem S1024x2048 .bf16) (f : BufTy.Contents (Elt F) v.ty) :
    v.read (Elt F) (v.writes (Elt F) f (pcsG x 8)) = castG x := by
  funext y
  obtain ⟨a, b, rfl⟩ : ∃ (a : Fin 1024) (b : Fin 2048), y = ix2 a b := ⟨y 0, y 1, eq_ix2 (n0 := 1024) (n1 := 2048) y⟩
  exact read_pcsG x v f 8 le_rfl a b (by omega)

/-- The rows of the down weights a trip reads, and the rows of their converted buffer it writes. -/
abbrev rLD (k : Fin k0_t1_loop.trips) : Rect S1x1024x1024 := Rect.unit (s := S1x1024x1024) (k0_off5 k) S1x128x1024.size (k0_off5_inb k)
abbrev rSD (k : Fin k0_t1_loop.trips) : Rect S1024x1024 := Rect.unit (s := S1024x1024) (k0_off6 k) S128x1024.size (k0_off6_inb k)

/-- The down weights of an expert, converted. -/
def castD (x : Vec F S1x1024x1024 .f32) : Vec F S1024x1024 .bf16 := fun y =>
  k0_pay2 (View.ld x (rLD (kOf (y 0)))) (ix2 (iOf (y 0)) (y 1 : Fin 1024))

/-- The pieces of the trips before `n`, last first. -/
def pcsD (x : Vec F S1x1024x1024 .f32) : ℕ → List (View.Piece (Elt F) S1024x1024 .bf16)
  | 0 => []
  | n + 1 => (if h : n < k0_t1_loop.trips then [⟨rSD ⟨n, h⟩, k0_pay2 (View.ld x (rLD ⟨n, h⟩))⟩] else []) ++ pcsD x n

/-- After the trips before `n` the rows below `128 * n` are converted. -/
theorem read_pcsD (x : Vec F S1x1024x1024 .f32) (v : View sig .tc .vmem S1024x1024 .bf16) (f : BufTy.Contents (Elt F) v.ty) (n : ℕ) (hn : n ≤ 8)
    (a : Fin 1024) (b : Fin 1024) (h : a.val < 128 * n) :
    v.read (Elt F) (v.writes (Elt F) f (pcsD x n)) (ix2 a b) = castD x (ix2 a b) := by
  induction n with
  | zero => omega
  | succ n ih =>
    have hk : n < k0_t1_loop.trips := by rw [trips]; omega
    rw [pcsD, dif_pos hk, List.cons_append, List.nil_append]
    by_cases hl : a.val < 128 * n
    · refine (View.read_writes_cons_rows_of_not_mem v f (k0_off6_inb ⟨n, hk⟩) _ _ (ix2 a b) (k0_off6_eq ⟨n, hk⟩) (W := 128) rfl (.inl hl)).trans ?_
      exact ih (by omega) hl
    · have e : (⟨n, hk⟩ : Fin k0_t1_loop.trips) = kOf a := Fin.ext (by show n = a.val / 128; omega)
      refine (View.read_writes_cons_rows_of_mem v f (k0_off6_inb ⟨n, hk⟩) _ _ (ix2 a b) (ix2 (iOf a) b) (k0_off6_eq ⟨n, hk⟩) ?_ rfl).trans ?_
      · show a.val = 128 * n + a.val % 128; omega
      · show k0_pay2 (View.ld x (rLD ⟨n, hk⟩)) (ix2 (iOf a) b) = k0_pay2 (View.ld x (rLD (kOf a))) (ix2 (iOf a) b)
        rw [e]

theorem read_castD (x : Vec F S1x1024x1024 .f32) (v : View sig .tc .vmem S1024x1024 .bf16) (f : BufTy.Contents (Elt F) v.ty) :
    v.read (Elt F) (v.writes (Elt F) f (pcsD x 8)) = castD x := by
  funext y
  obtain ⟨a, b, rfl⟩ : ∃ (a : Fin 1024) (b : Fin 1024), y = ix2 a b := ⟨y 0, y 1, eq_ix2 (n0 := 1024) (n1 := 1024) y⟩
  exact read_pcsD x v f 8 le_rfl a b (by omega)

variable (𝒱 : Variants) (c : Dev nD) (bd : Option 𝒱.V) (i : grid0.Coords)
  (arg1 : Memref sig .tc .smem S288 .i32) (harg1 : arg1.IsWhole) (arg2 : Memref sig .tc .smem S1 .i32) (harg2 : arg2.IsWhole) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)

/-- The pieces one trip writes: the rows of the two weight blocks, converted. -/
theorem trip_fst (X4 : BufTy.Contents (Elt F) arg4.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 X4 X6 k).1 = [⟨rSG k, k0_pay1 (View.ld (arg4.view.read (Elt F) X4) (rLG k))⟩] := by
  unfold trip_k0_t1; rfl

theorem trip_snd (X4 : BufTy.Contents (Elt F) arg4.view.ty) (X6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 X4 X6 k).2.1 = [⟨rSD k, k0_pay2 (View.ld (arg6.view.read (Elt F) X6) (rLD k))⟩] := by
  unfold trip_k0_t1; rfl

/-- The pieces of the trips before `n`. -/
theorem pb_eq (X4 : BufTy.Contents (Elt F) arg4.view.ty) (X6 : BufTy.Contents (Elt F) arg6.view.ty) (n : ℕ) (hn : n ≤ 8) :
    pb_k0_t1 (F := F) 𝒱 c bd i arg1 harg1 arg2 harg2 arg3 harg3 arg4 harg4 arg5 harg5 arg6 harg6 arg7 harg7 arg8 harg8 arg9 harg9 arg10 harg10 X4 X6 n = (pcsG (arg4.view.read (Elt F) X4) n, pcsD (arg6.view.read (Elt F) X6) n) := by
  induction n with
  | zero => rfl
  | succ n ih =>
    have hk : n < k0_t1_loop.trips := by rw [trips]; omega
    refine (pb_k0_t1_succ (F := F) 𝒱 c bd i arg1 harg1 arg2 harg2 arg3 harg3 arg4 harg4 arg5 harg5 arg6 harg6 arg7 harg7 arg8 harg8 arg9 harg9 arg10 harg10 X4 X6 ⟨n, hk⟩).trans ?_
    have e := ih (by omega)
    rw [pcsG, pcsD, dif_pos hk, dif_pos hk]
    exact Prod.ext
      (congrArg₂ (· ++ ·) (trip_fst (F := F) 𝒱 c bd i arg1 harg1 arg2 harg2 arg3 harg3 arg4 harg4 arg5 harg5 arg6 harg6 arg7 harg7 arg8 harg8 arg9 harg9 arg10 harg10 X4 X6 ⟨n, hk⟩) (congrArg Prod.fst e))
      (congrArg₂ (· ++ ·) (trip_snd (F := F) 𝒱 c bd i arg1 harg1 arg2 harg2 arg3 harg3 arg4 harg4 arg5 harg5 arg6 harg6 arg7 harg7 arg8 harg8 arg9 harg9 arg10 harg10 X4 X6 ⟨n, hk⟩) (congrArg Prod.snd e))

end Cert.Kernel2Ideal.Hand

end
-- ==== Proof.MBody.lean ====
/- The body of the kernel at a grid point, from its blocks and the two tables to its output block. -/
module

public import proofs.«01_k».proof.Proof.MCast
public import Idealize.ShloMosaic.Lib.VecWindow
public import Idealize.ShloMosaic.Lib.WordCmp

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

/-- The word of a table at an offset. -/
abbrev wordAt (e : Vec F S288 .i32) (off : Fin 1 → ℕ) (h : ∀ a, off a + S1.size a ≤ S288.size a) : BitVec 32 :=
  e ((Rect.unit (s := S288) off S1.size h).emb (Shape.Idx.first (s := S1) (by decide)))

/-- Whether the body converts the weights at a grid point: at the first point, and where the block's expert is not the one
    before's. -/
def castCond (i : grid0.Coords) (e : Vec F S288 .i32) : BitVec 1 :=
  Scalar.cmpi .ne (Scalar.extui (Scalar.ori (Scalar.cmpi .eq (BitVec.ofNat 32 (i 0).val) 0#32)
    (Scalar.cmpi .ne (wordAt (F := F) e (k0_off1 i) (k0_off1_inb i)) (wordAt (F := F) e (k0_off2 i) (k0_off2_inb i))))) 0#32

/-- The number of live blocks. -/
abbrev liveV (n : Vec F S1 .i32) : BitVec 32 := n ((Rect.unit (s := S1) ![0] S1.size inb_S1_S1_0).emb (Shape.Idx.first (s := S1) (by decide)))

/-- The output block of a grid point: of a live block the experts' network of its rows, of any other zero. -/
def outV (i : grid0.Coords) (n : Vec F S1 .i32) (x3 : Vec F S512x1024 .bf16) (x4 : Vec F S1x1024x2048 .f32) (x5 : Vec F S1x1x2048 .f32)
    (x6 : Vec F S1x1024x1024 .f32) (x7 : Vec F S1x1x1024 .f32) : Vec F S512x1024 .f32 :=
  if k0_cond2 i (liveV (F := F) n) = 1#1 then k0_pay4 x3 (castG x4) x5 (castD x6) x7 else k0_pay3

/-- A block is live or it is not. -/
theorem cond3_iff (i : grid0.Coords) (n : BitVec 32) : k0_cond3 i n = 1#1 ↔ ¬ k0_cond2 i n = 1#1 := by
  unfold k0_cond3 k0_cond2
  simp only [Scalar.cmpi, Scalar.extui, IntOp.cmpi]
  generalize BitVec.ofNat 32 (i 0).val = a
  have h : n.sle a = !(a.slt n) := by
    simp only [BitVec.sle, BitVec.slt]
    by_cases h : a.toInt < n.toInt
    · simp [h]
    · simp [h, Int.not_lt.mp h]
  rw [h]
  generalize a.slt n = b
  revert b
  decide

variable (𝒱 : Variants) (c : Dev nD) (bd : Option 𝒱.V) (i : grid0.Coords)
  (arg1 : Memref sig .tc .smem S288 .i32) (harg1 : arg1.IsWhole) (arg2 : Memref sig .tc .smem S1 .i32) (harg2 : arg2.IsWhole) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)

set_option maxHeartbeats 4000000 in
/-- The body at a grid point: from the two tables, the five input blocks, anything in the output block, and the weights
    converted unless the point converts them, it ends with the output block at `outV` and the weights converted. -/
theorem body_run (f1 : BufTy.Contents (Elt F) arg1.view.ty) (f2 : BufTy.Contents (Elt F) arg2.view.ty)
    (x3 : Vec F S512x1024 .bf16) (x4 : Vec F S1x1024x2048 .f32) (x5 : Vec F S1x1x2048 .f32) (x6 : Vec F S1x1024x1024 .f32) (x7 : Vec F S1x1x1024 .f32)
    (x9 : Vec F S1024x2048 .bf16) (x10 : Vec F S1024x1024 .bf16)
    (hx : ¬ castCond (F := F) i (arg1.view.read (Elt F) f1) = 1#1 → x9 = castG x4 ∧ x10 = castD x6) (E : Set ℕ) (K : PUnit → sProp 𝕄) :
    iprop((arg1.view.loc (c : Thread nD τ) ↦{fullShare.right} f1) ∗ (arg2.view.loc (c : Thread nD τ) ↦{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
        ∗ (iprop((arg1.view.loc (c : Thread nD τ) ↦{fullShare.right} f1) ∗ (arg2.view.loc (c : Thread nD τ) ↦{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outV i (arg2.view.read (Elt F) f2) x3 x4 x5 x6 x7) ∗ owns (c : Thread nD τ) arg9 fullShare (castG x4) ∗ owns (c : Thread nD τ) arg10 fullShare (castD x6)) -∗ K ⟨⟩))
      ⊢ wp Idealize.ShloMosaic.frame (wpE (defs₀ (F := F)) 𝒱 (c : Thread nD τ) bd) E (cc0_moe_experts i arg1 harg1 arg2 harg2 arg3 harg3 arg4 harg4 arg5 harg5 arg6 harg6 arg7 harg7 arg8 harg8 arg9 harg9 arg10 harg10) K := by
  rw [cc0_moe_experts_eq_skeleton]
  unfold owns
  iintro ⟨H1, H2, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, Hk⟩
  obtain rfl := harg3.eq_unread h3
  obtain rfl := harg4.eq_unread h4
  obtain rfl := harg5.eq_unread h5
  obtain rfl := harg6.eq_unread h6
  obtain rfl := harg7.eq_unread h7
  sl_unfold [cc0_moe_experts_skel]
  sl_exec
  have hv : body_run.sl.v10 i arg1 f1 = castCond (F := F) i (arg1.view.read (Elt F) f1) := rfl
  by_cases hc : body_run.sl.v10 i arg1 f1 = 1#1
  · sl_exec
    sl_step
    have hr : body_run.sl.r_2 arg2 f2 = liveV (F := F) (arg2.view.read (Elt F) f2) := by unfold body_run.sl.r_2; rfl
    have e9 : arg9.view.read (Elt F) (arg9.view.writes (Elt F) f9 (pb_k0_t1 (F := F) 𝒱 c bd i arg1 harg1 arg2 harg2 arg3 harg3 arg4 harg4 arg5 harg5 arg6 harg6 arg7 harg7 arg8 harg8 arg9 harg9 arg10 harg10 (harg4.unread x4) (harg6.unread x6) (Scf.trips k0_t1_loop.lb k0_t1_loop.ub k0_t1_loop.st)).1) = castG x4 := by
      rw [show Scf.trips k0_t1_loop.lb k0_t1_loop.ub k0_t1_loop.st = 8 from trips, pb_eq _ _ _ _ _ _ _ _ _ _ _ _ _ _ _ _ _ _ _ _ _ _ _ _ _ _ 8 le_rfl, h4]
      exact read_castG x4 arg9.view f9
    have e10 : arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 (harg4.unread x4) (harg6.unread x6) (Scf.trips k0_t1_loop.lb k0_t1_loop.ub k0_t1_loop.st)).2) = castD x6 := by
      rw [show Scf.trips k0_t1_loop.lb k0_t1_loop.ub k0_t1_loop.st = 8 from trips, pb_eq _ _ _ _ _ _ _ _ _ _ _ _ _ _ _ _ _ _ _ _ _ _ _ _ _ _ 8 le_rfl, h6]
      exact read_castD x6 arg10.view f10
    iapply Hk
    isplitl [H1]; · iexact H1
    isplitl [H2]; · iexact H2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro
      unfold outV
      rw [← hr]
      by_cases h2 : k0_cond2 i (body_run.sl.r_2 arg2 f2) = 1#1
      · rw [if_pos h2, dif_neg (fun h => (cond3_iff _ _).mp h h2), dif_pos h2]
        refine (View.read_writes_full _ _ _ _ _).trans ?_
        unfold body_run.sl.r_3
        unfold body_run.sl.v20 body_run.sl.v48
        rw [View.readAt_full arg3.view, View.readAt_full arg9.view, View.readAt_full arg5.view, View.readAt_full arg10.view, View.readAt_full arg7.view, h3, h5, h7, e9, e10]
      · rw [if_neg h2, dif_pos ((cond3_iff _ _).mpr h2)]
        exact View.read_writes_full _ _ _ _ _
    isplitl [H9]
    · iexists _; isplitr; swap; · iexact H9
      ipureintro; exact e9
    iexists _; isplitr; swap; · iexact H10
    ipureintro; exact e10
  · obtain ⟨rfl, rfl⟩ := hx (fun h => hc (hv.trans h))
    sl_exec
    sl_step
    have hr : body_run.sl.r_4 arg2 f2 = liveV (F := F) (arg2.view.read (Elt F) f2) := by unfold body_run.sl.r_4; rfl
    iapply Hk
    isplitl [H1]; · iexact H1
    isplitl [H2]; · iexact H2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro
      unfold outV
      rw [← hr]
      by_cases h2 : k0_cond2 i (body_run.sl.r_4 arg2 f2) = 1#1
      · rw [if_pos h2, dif_neg (fun h => (cond3_iff _ _).mp h h2), dif_pos h2]
        refine (View.read_writes_full _ _ _ _ _).trans ?_
        unfold body_run.sl.r_5
        rw [View.readAt_full arg3.view, View.readAt_full arg9.view, View.readAt_full arg5.view, View.readAt_full arg10.view, View.readAt_full arg7.view, h3, h5, h7, h9, h10]
      · rw [if_neg h2, dif_pos ((cond3_iff _ _).mpr h2)]
        exact View.read_writes_full _ _ _ _ _
    isplitl [H9]
    · iexists _; isplitr; swap; · iexact H9
      ipureintro; exact h9
    iexists _; isplitr; swap; · iexact H10
    ipureintro; exact h10

end Cert.Kernel2Ideal.Hand

end
-- ==== Proof.MKit.lean ====
/- What the kernel is entered with: the arrays, the two tables, and each window's block at each grid point. -/
module

public import proofs.«01_k».proof.Proof.Gen.Kernel2Ideal.Launch
public import Idealize.ShloMosaic.Lib.Pipeline.FrameBody
public import Idealize.ShloMosaic.Lib.Tactic
public import Idealize.ShloMosaic.Lib.Pipeline.Frame
public import Idealize.ShloMosaic.Lib.Ring
public import Idealize.ShloMosaic.Lib.WordCmp
public import Idealize.ShloMosaic.Lib.StableHlo.Run

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The buffers of core `c` when the kernel is entered: as launched, and the two biases reshaped. -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := ⟨rfl, rfl⟩

/-- The program up to the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The arguments are as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The two biases as the kernel is handed them: a row of its own for each expert. -/
theorem V_main_v0 (c : Dev nD) : V m c main_v0
    = (shapeCast S32x1x2048 (m ((c : Thread nD τ).loc main_arg4) : Vec F S32x2048 .f32) shapeCasts_S32x2048_S32x1x2048 : Vec F S32x1x2048 .f32) := by
  unfold V
  after_results
  rfl

theorem V_main_v1 (c : Dev nD) : V m c main_v1
    = (shapeCast S32x1x1024 (m ((c : Thread nD τ).loc main_arg6) : Vec F S32x1024 .f32) shapeCasts_S32x1024_S32x1x1024 : Vec F S32x1x1024 .f32) := by
  unfold V
  after_results
  rfl

/-- The two tables: the expert of each block, and the number of live blocks. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables point at lies in its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- A table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c (Memref.whole main_arg1) (tbl m 0) ∗ tbPt c (Memref.whole main_arg2) (tbl m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel2Ideal.Hand

end
-- ==== Proof.MBlocks.lean ====
/- The blocks the windows hold at a grid point: the rows of the point, and the weights and biases of its expert. -/
module

public import proofs.«01_k».proof.Proof.MBody
public import proofs.«01_k».proof.Proof.MKit
public import Idealize.ShloMosaic.Lib.Pipeline.ValueKit

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The grid has one axis, its coordinate the point. -/
theorem coord (t : Fin grid0.N) : ((grid0.coords t) 0).val = t.val :=
  (by decide +kernel : ∀ t : Fin grid0.N, ((grid0.coords t) 0).val = t.val) t

/-- The point as a block of rows. -/
abbrev bk (t : Fin grid0.N) : Fin 288 := ⟨t.val, t.isLt⟩

/-- The expert of a block, as the table has it. -/
def be (t : Fin grid0.N) : BitVec 32 := (tbl m 0 : Vec F S288 .i32) (ix1 (bk t))

/-- The two words the body reads of the table: its block's expert, and the one before's. -/
theorem word1 (t : Fin grid0.N) : wordAt (F := F) (tbl m 0) (k0_off1 (grid0.coords t)) (k0_off1_inb (grid0.coords t)) = be m t := by
  unfold be
  refine congrArg (tbl m 0 : Vec F S288 .i32) (funext fun a => Fin.ext ?_)
  obtain rfl : a = 0 := Subsingleton.elim _ _
  exact (by decide +kernel : ∀ t : Fin grid0.N, k0_off1 (grid0.coords t) 0 + 1 * 0 = t.val) t

theorem word2 (s t : Fin grid0.N) (h : s.val + 1 = t.val) : wordAt (F := F) (tbl m 0) (k0_off2 (grid0.coords t)) (k0_off2_inb (grid0.coords t)) = be m s := by
  unfold be
  refine congrArg (tbl m 0 : Vec F S288 .i32) (funext fun a => Fin.ext ?_)
  obtain rfl : a = 0 := Subsingleton.elim _ _
  refine ((by decide +kernel : ∀ t : Fin grid0.N, k0_off2 (grid0.coords t) 0 + 1 * 0 = t.val - 1) t).trans ?_
  show t.val - 1 = s.val
  omega

/-- Where the weights are not converted, the block before is of the same expert. -/
theorem same_expert (t : Fin grid0.N) (h : ¬ castCond (F := F) (grid0.coords t) (tbl m 0) = 1#1) :
    ∃ s : Fin grid0.N, s.val + 1 = t.val ∧ be m s = be m t := by
  unfold castCond at h
  have key : ∀ (p q : Bool), ¬ (Scalar.cmpi .ne (Scalar.extui (Scalar.ori (BitVec.ofBool p) (BitVec.ofBool q))) 0#32 = 1#1) → p = false ∧ q = false := by decide
  obtain ⟨h0, h1⟩ := key _ _ h
  have ht : t.val ≠ 0 := by
    intro h'
    rw [coord, h'] at h0
    exact absurd h0 (by decide)
  have hs : t.val - 1 < grid0.N := lt_of_le_of_lt (Nat.sub_le _ _) t.isLt
  have e : (⟨t.val - 1, hs⟩ : Fin grid0.N).val + 1 = t.val := by show t.val - 1 + 1 = t.val; omega
  refine ⟨⟨t.val - 1, hs⟩, e, ?_⟩
  rw [word1, word2 m _ t e] at h1
  have h2 : (be m t != be m ⟨t.val - 1, hs⟩) = false := h1
  exact (by simpa using h2 : be m t = _).symm

variable (hO : Ok m)
include hO

/-- The blocks the windows point at. -/
theorem index1 (t : Fin (cfgM m hO).N) : ((cfgM m hO).win 1).index t = ![(be m t).toNat, 0, 0] := by
  rw [← word1]; rfl
theorem index2 (t : Fin (cfgM m hO).N) : ((cfgM m hO).win 2).index t = ![(be m t).toNat, 0, 0] := by
  rw [← word1]; rfl
theorem index3 (t : Fin (cfgM m hO).N) : ((cfgM m hO).win 3).index t = ![(be m t).toNat, 0, 0] := by
  rw [← word1]; rfl
theorem index4 (t : Fin (cfgM m hO).N) : ((cfgM m hO).win 4).index t = ![(be m t).toNat, 0, 0] := by
  rw [← word1]; rfl
theorem index0 (t : Fin (cfgM m hO).N) : ((cfgM m hO).win 0).index t = ![t.val, 0] :=
  (by decide +kernel : ∀ t : Fin grid0.N, cc0_transform_0 (grid0.coords t) = ![t.val, 0]) t
theorem index5 (t : Fin (cfgM m hO).N) : ((cfgM m hO).win 5).index t = ![t.val, 0] :=
  (by decide +kernel : ∀ t : Fin grid0.N, cc0_transform_5 (grid0.coords t) = ![t.val, 0]) t

/-- Every block's expert is one of the 32. -/
theorem be_lt (t : Fin grid0.N) : (be m t).toNat < 32 := by
  obtain ⟨h, -⟩ := hO.1 (grid0.coords t)
  have h0 := h 0
  have e : cc0_transform_1 k0_off1_inb numel1_S1 (tbl m) (grid0.coords t) = ![(be m t).toNat, 0, 0] := index1 m hO t
  rw [e] at h0
  have h1 : ((be m t).toNat + 1) * 1 ≤ 32 := h0
  omega

/-- The expert of a block. -/
def ex (t : Fin grid0.N) : Fin 32 := ⟨(be m t).toNat, be_lt m hO t⟩

/-- The windows' blocks: the block's rows, and its expert's weights and biases. -/
theorem blk0 (c : Dev nD) (t : Fin (cfgM m hO).N) (r : Fin 512) (d : Fin 1024) :
    (iblk m hO c 0 t : Vec F S512x1024 .bf16) (ix2 r d) = (m ((c : Thread nD τ).loc main_arg0) : Vec F S147456x1024 .bf16) (ix2 (⟨512 * t.val + r.val, by have : t.val < 288 := t.isLt; omega⟩ : Fin 147456) d) := by
  refine Eq.trans ?_ (congrFun (V_main_arg0 m c) _)
  blk_ext [iblk, index0 m hO t]

theorem blk1 (c : Dev nD) (t : Fin (cfgM m hO).N) (d : Fin 1024) (f : Fin 2048) :
    (iblk m hO c 1 t : Vec F S1x1024x2048 .f32) (ix3 (0 : Fin 1) d f) = (m ((c : Thread nD τ).loc main_arg3) : Vec F S32x1024x2048 .f32) (ix3 (ex m hO t) d f) := by
  refine Eq.trans ?_ (congrFun (V_main_arg3 m c) _)
  blk_ext [iblk, ex, index1 m hO t]

theorem blk2 (c : Dev nD) (t : Fin (cfgM m hO).N) (f : Fin 2048) :
    (iblk m hO c 2 t : Vec F S1x1x2048 .f32) (ix3 (0 : Fin 1) (0 : Fin 1) f) = (V m c main_v0 : Vec F S32x1x2048 .f32) (ix3 (ex m hO t) (0 : Fin 1) f) := by
  blk_ext [iblk, ex, index2 m hO t]

theorem blk3 (c : Dev nD) (t : Fin (cfgM m hO).N) (d : Fin 1024) (f : Fin 1024) :
    (iblk m hO c 3 t : Vec F S1x1024x1024 .f32) (ix3 (0 : Fin 1) d f) = (m ((c : Thread nD τ).loc main_arg5) : Vec F S32x1024x1024 .f32) (ix3 (ex m hO t) d f) := by
  refine Eq.trans ?_ (congrFun (V_main_arg5 m c) _)
  blk_ext [iblk, ex, index3 m hO t]

theorem blk4 (c : Dev nD) (t : Fin (cfgM m hO).N) (f : Fin 1024) :
    (iblk m hO c 4 t : Vec F S1x1x1024 .f32) (ix3 (0 : Fin 1) (0 : Fin 1) f) = (V m c main_v1 : Vec F S32x1x1024 .f32) (ix3 (ex m hO t) (0 : Fin 1) f) := by
  blk_ext [iblk, ex, index4 m hO t]

/-- Two points of one expert have the same weights. -/
theorem blk1_eq (c : Dev nD) (s t : Fin (cfgM m hO).N) (h : be m s = be m t) : iblk m hO c 1 s = iblk m hO c 1 t := by
  have e : ex m hO s = ex m hO t := Fin.ext (show (be m s).toNat = (be m t).toNat by rw [h])
  refine funext fun (y : (S1x1024x2048).Idx) => ?_
  obtain ⟨a, d, f, rfl⟩ : ∃ (a : Fin 1) (d : Fin 1024) (f : Fin 2048), y = ix3 a d f := ⟨y 0, y 1, y 2, eq_ix3 (n0 := 1) (n1 := 1024) (n2 := 2048) y⟩
  obtain rfl : a = 0 := Subsingleton.elim _ _
  exact (blk1 m hO c s d f).trans (by rw [e]; exact (blk1 m hO c t d f).symm)

theorem blk3_eq (c : Dev nD) (s t : Fin (cfgM m hO).N) (h : be m s = be m t) : iblk m hO c 3 s = iblk m hO c 3 t := by
  have e : ex m hO s = ex m hO t := Fin.ext (show (be m s).toNat = (be m t).toNat by rw [h])
  refine funext fun (y : (S1x1024x1024).Idx) => ?_
  obtain ⟨a, d, f, rfl⟩ : ∃ (a : Fin 1) (d : Fin 1024) (f : Fin 1024), y = ix3 a d f := ⟨y 0, y 1, y 2, eq_ix3 (n0 := 1) (n1 := 1024) (n2 := 1024) y⟩
  obtain rfl : a = 0 := Subsingleton.elim _ _
  exact (blk3 m hO c s d f).trans (by rw [e]; exact (blk3 m hO c t d f).symm)

end Cert.Kernel2Ideal.Hand

end
-- ==== Proof.MDat.lean ====
/- What the pipeline of the expert call holds at each point. -/
module

public import proofs.«01_k».proof.Proof.MBlocks

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg) (hO : Ok m)

/-- The weights of a grid point, converted. -/
def wG (c : Dev nD) (t : Fin (cfgM m hO).N) : Vec F S1024x2048 .bf16 := castG (iblk m hO c 1 t)
def wD (c : Dev nD) (t : Fin (cfgM m hO).N) : Vec F S1024x1024 .bf16 := castD (iblk m hO c 3 t)

/-- The output block at a grid point. -/
def outsAt (c : Dev nD) (t : Fin (cfgM m hO).N) : Vec F S512x1024 .f32 :=
  outV (grid0.coords t) (tbl m 1) (iblk m hO c 0 t) (iblk m hO c 1 t) (iblk m hO c 2 t) (iblk m hO c 3 t) (iblk m hO c 4 t)

/-- Before point `n`: the two scratch buffers hold the weights of the point before, converted (before the first, anything);
    the generator register at some state; the tables. -/
def Phi (c : Dev nD) (n : ℕ) : sProp 𝕄 :=
  iprop((∃ x9 : Vec F S1024x2048 .bf16, ∃ x10 : Vec F S1024x1024 .bf16, ⌜∀ t : Fin (cfgM m hO).N, t.val + 1 = n → x9 = wG m hO c t ∧ x10 = wD m hO c t⌝
      ∗ owns (c : Thread nD τ) (Memref.whole cc0_scratch0) fullShare x9 ∗ owns (c : Thread nD τ) (Memref.whole cc0_scratch1) fullShare x10)
    ∗ (∃ r, prngReg c r) ∗ Pipeline.ΦT pre0 (tbl m) c)

/-- What the pipeline holds on core `c`: the arrays as launched; after a point each input's staging buffer at its block and
    the output's at `outsAt`; between points `Phi`. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outsAt m hO c t
  Φ n := Phi m hO c n.val
  q _ := fullShare
  owed _ := 0

theorem A_eq (c : Dev nD) (w : Fin (cfgM m hO).W) : (dats m hO 0 c).A w = V m c (Pipeline.arrRef spec0 w) := rfl
theorem after0_0 (c : Dev nD) (t : Fin (cfgM m hO).N) : (dats m hO 0 c).after 0 t = iblk m hO c 0 t := by
  dsimp only [dats]; try rfl
theorem after0_1 (c : Dev nD) (t : Fin (cfgM m hO).N) : (dats m hO 0 c).after 1 t = iblk m hO c 1 t := by
  dsimp only [dats]; try rfl
theorem after0_2 (c : Dev nD) (t : Fin (cfgM m hO).N) : (dats m hO 0 c).after 2 t = iblk m hO c 2 t := by
  dsimp only [dats]; try rfl
theorem after0_3 (c : Dev nD) (t : Fin (cfgM m hO).N) : (dats m hO 0 c).after 3 t = iblk m hO c 3 t := by
  dsimp only [dats]; try rfl
theorem after0_4 (c : Dev nD) (t : Fin (cfgM m hO).N) : (dats m hO 0 c).after 4 t = iblk m hO c 4 t := by
  dsimp only [dats]; try rfl
theorem after0_5 (c : Dev nD) (t : Fin (cfgM m hO).N) : (dats m hO 0 c).after 5 t = outsAt m hO c t := by
  dsimp only [dats]; try rfl

/-- Each input's staging buffer holds its block when the body runs. -/
theorem before0_0 (c : Dev nD) (t : Fin (cfgM m hO).N) (d) : (dats m hO 0 c).before 0 t d = iblk m hO c 0 t :=
  before0_0_of m hO (dats m hO 0 c) (A_eq m hO c 0) (after0_0 m hO c) t d
theorem before0_1 (c : Dev nD) (t : Fin (cfgM m hO).N) (d) : (dats m hO 0 c).before 1 t d = iblk m hO c 1 t :=
  before0_1_of m hO (dats m hO 0 c) (A_eq m hO c 1) (after0_1 m hO c) t d
theorem before0_2 (c : Dev nD) (t : Fin (cfgM m hO).N) (d) : (dats m hO 0 c).before 2 t d = iblk m hO c 2 t :=
  before0_2_of m hO (dats m hO 0 c) (A_eq m hO c 2) (after0_2 m hO c) t d
theorem before0_3 (c : Dev nD) (t : Fin (cfgM m hO).N) (d) : (dats m hO 0 c).before 3 t d = iblk m hO c 3 t :=
  before0_3_of m hO (dats m hO 0 c) (A_eq m hO c 3) (after0_3 m hO c) t d
theorem before0_4 (c : Dev nD) (t : Fin (cfgM m hO).N) (d) : (dats m hO 0 c).before 4 t d = iblk m hO c 4 t :=
  before0_4_of m hO (dats m hO 0 c) (A_eq m hO c 4) (after0_4 m hO c) t d

/-- The two scratch buffers and the generator register. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

theorem hin (c : Dev nD) : iprop(Pipeline.ΦA (cfgM m hO).spec c ∗ Pipeline.ΦT (pcfgs (F := F) 0).pre (adm m hO).1 c) ⊢ (dats m hO 0 c).Φ 0 := by
  show iprop(Pipeline.ΦA spec0 c ∗ Pipeline.ΦT pre0 (tbl m) c) ⊢ Phi m hO c 0
  rw [phi_eq]
  unfold Phi
  iintro ⟨⟨⟨⟨%x9, S0⟩, ⟨%x10, S1⟩⟩, Hg⟩, HT⟩
  isplitl [S0 S1]
  · iexists x9, x10
    isplitr; · ipureintro; exact fun t h => absurd h (Nat.succ_ne_zero _)
    isplitl [S0]; · iexact S0
    iexact S1
  isplitl [Hg]; · iexact Hg
  iexact HT

theorem hout (c : Dev nD) : (dats m hO 0 c).Φ (Fin.last (cfgM m hO).N) ⊢ Pipeline.ΦA (cfgM m hO).spec c := by
  show Phi m hO c _ ⊢ Pipeline.ΦA spec0 c
  rw [phi_eq]
  unfold Phi
  iintro ⟨⟨%x9, %x10, -, S0, S1⟩, Hg, -⟩
  isplitl [S0 S1]
  · isplitl [S0]
    · iexists _; iexact S0
    iexists _; iexact S1
  iexact Hg

theorem never_idle (i : grid0.Coords) (n : BitVec 32) : (!(k0_cond2 i n == 1#1) && !(k0_cond3 i n == 1#1)) = false := by
  by_cases h : k0_cond2 i n = 1#1
  · rw [h]; rfl
  · rw [(cond3_iff _ _).mpr h]; exact Bool.and_false _

/-- The output's block is written at every point. -/
theorem idle5 (t : Fin (cfgM m hO).N) : (cfgM m hO).idle 5 ((cfgM m hO).grid.coords t) = false := never_idle _ _

end Cert.Kernel2Ideal.Hand

end
-- ==== Proof.MRun.lean ====
/- The run of the expert call: the body at every point, its result array, and its arguments at the end. -/
module

public import proofs.«01_k».proof.Proof.MDat

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The resource algebra of the run. -/
local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg) (hO : Ok m)

set_option maxHeartbeats 4000000 in
/-- The body at every point. -/
theorem body_obligation (c : Dev nD) : BodyObligation (dats (F := F) m hO 0 c) (defs₀ (F := F)) Variants.none () Set.univ := fun t => by
  rw [bigSep_W0, bigSep_W0]
  sl_whnfR [defs₀, Defs.onTc]
  rw [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  unfold Phi
  rw [PhiT_eq]
  iintro ⟨⟨⟨%x9, %x10, %hx, S0, S1⟩, Hg, ⟨T1, T2⟩⟩, Ho, ⟨%d0, H0⟩, ⟨%d1, H1⟩, ⟨%d2, H2⟩, ⟨%d3, H3⟩, ⟨%d4, H4⟩, ⟨%d5, H5⟩⟩
  iapply (body_run (F := F) Variants.none c none (grid0.coords t) _ _ _ _ _ _ _ _ _ _ _ _ _ _ _ _ _ _ _ _ (tbl m 0) (tbl m 1) (iblk m hO c 0 t) (iblk m hO c 1 t) (iblk m hO c 2 t) (iblk m hO c 3 t) (iblk m hO c 4 t) x9 x10 (fun h => by
    obtain ⟨s, hs, e⟩ := same_expert m t h
    obtain ⟨e9, e10⟩ := hx s hs
    exact ⟨e9.trans (congrArg castG (blk1_eq m hO c s t e)), e10.trans (congrArg castD (blk3_eq m hO c s t e))⟩) Set.univ _)
  isplitl [T1]; · iexact T1
  isplitl [T2]; · iexact T2
  isplitl [H0]; · iapply (show owns c.tc (((cfgM m hO).win 0).stage ((cfgM m hO).slots t 0)) fullShare ((dats m hO 0 c).before 0 t d0) ⊢ owns c.tc (((cfgM m hO).win 0).stage ((cfgM m hO).slots t 0)) fullShare (iblk m hO c 0 t) from by rw [before0_0 m hO c t d0]); iexact H0
  isplitl [H1]; · iapply (show owns c.tc (((cfgM m hO).win 1).stage ((cfgM m hO).slots t 1)) fullShare ((dats m hO 0 c).before 1 t d1) ⊢ owns c.tc (((cfgM m hO).win 1).stage ((cfgM m hO).slots t 1)) fullShare (iblk m hO c 1 t) from by rw [before0_1 m hO c t d1]); iexact H1
  isplitl [H2]; · iapply (show owns c.tc (((cfgM m hO).win 2).stage ((cfgM m hO).slots t 2)) fullShare ((dats m hO 0 c).before 2 t d2) ⊢ owns c.tc (((cfgM m hO).win 2).stage ((cfgM m hO).slots t 2)) fullShare (iblk m hO c 2 t) from by rw [before0_2 m hO c t d2]); iexact H2
  isplitl [H3]; · iapply (show owns c.tc (((cfgM m hO).win 3).stage ((cfgM m hO).slots t 3)) fullShare ((dats m hO 0 c).before 3 t d3) ⊢ owns c.tc (((cfgM m hO).win 3).stage ((cfgM m hO).slots t 3)) fullShare (iblk m hO c 3 t) from by rw [before0_3 m hO c t d3]); iexact H3
  isplitl [H4]; · iapply (show owns c.tc (((cfgM m hO).win 4).stage ((cfgM m hO).slots t 4)) fullShare ((dats m hO 0 c).before 4 t d4) ⊢ owns c.tc (((cfgM m hO).win 4).stage ((cfgM m hO).slots t 4)) fullShare (iblk m hO c 4 t) from by rw [before0_4 m hO c t d4]); iexact H4
  isplitl [H5]; · iexists _; iexact H5
  isplitl [S0]; · iexact S0
  isplitl [S1]; · iexact S1
  iintro ⟨T1, T2, H0, H1, H2, H3, H4, H5, S0, S1⟩
  isplitl [S0 S1 Hg T1 T2]
  · isplitl [S0 S1]
    · iexists _, _
      isplitr; swap
      · isplitl [S0]; · iexact S0
        iexact S1
      ipureintro
      intro s hs
      obtain rfl : s = t := Fin.ext (Nat.succ.inj hs)
      exact ⟨rfl, rfl⟩
    isplitl [Hg]; · iexact Hg
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  split
  · rename_i e; exact Bool.noConfusion (show false = true from e)
  · split
    · rename_i e; exact Bool.noConfusion ((idle5 m hO t).symm.trans e)
    · iexact H5

set_option backward.isDefEq.respectTransparency.types false in
/-- Every run of the program ends, each array at what the pipeline leaves in it and every semaphore counter at zero. -/
theorem run_main : θ_run defs (onTc (τ := τ) (main (F := F))) (s₀ m ρ)
    (fun r => Pipeline.FramePost (Pipeline.pin pcfgs (fun _ => adm m hO)) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c w => by fin_cases w <;> rfl)
    (howed := fun _ _ => rfl) (V := V m) (hmain := hmain m Variants.none) (hA := A_eq m hO) (hpf := V_pre m)
    (hin := hin m hO) (hout := hout m hO)

/-- Every run of the program ends with its arguments as launched and every semaphore counter at zero. -/
theorem frame_main (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ⟨?_, ?_, ?_, ?_, ?_, ?_, ?_⟩, h.2⟩) (run_main (F := F) m ρ hO)
  · exact ((h.1 c).1 0).trans (((dats m hO 0 c).arrAt_in 0 rfl _).trans ((A_eq m hO c 0).trans (V_main_arg0 m c)))
  · exact ((h.1 c).2 main_arg1 (show main_arg1 ∈ Pipeline.restRefs sig spec0 from by decide)).trans (V_main_arg1 m c)
  · exact ((h.1 c).2 main_arg2 (show main_arg2 ∈ Pipeline.restRefs sig spec0 from by decide)).trans (V_main_arg2 m c)
  · exact ((h.1 c).1 1).trans (((dats m hO 0 c).arrAt_in 1 rfl _).trans ((A_eq m hO c 1).trans (V_main_arg3 m c)))
  · exact ((h.1 c).2 main_arg4 (show main_arg4 ∈ Pipeline.restRefs sig spec0 from by decide)).trans (V_main_arg4 m c)
  · exact ((h.1 c).1 3).trans (((dats m hO 0 c).arrAt_in 3 rfl _).trans ((A_eq m hO c 3).trans (V_main_arg5 m c)))
  · exact ((h.1 c).2 main_arg6 (show main_arg6 ∈ Pipeline.restRefs sig spec0 from by decide)).trans (V_main_arg6 m c)

end Cert.Kernel2Ideal.Hand

end
-- ==== Proof.MTwin.lean ====
/-
  The two printings of the expert call have the same text, so the run of `MRun` is also the run of the first.
-/
module

public import proofs.«01_k».proof.Proof.Gen.Kernel2
public import proofs.«01_k».proof.Proof.MRun

@[expose] public section
set_option maxRecDepth 65536
set_option maxHeartbeats 4000000
noncomputable section
namespace Cert.Twin2
open Idealize.ShloMosaic Idealize.SL.Sem Idealize.ShloMosaic.TcCoe

/-- The two bodies are one. -/
theorem body_eq (F : FTy → Type) [FloatOps F] :
    @Cert.Kernel2.cc0_moe_experts F _ Cert.Kernel2.Gen.facts
      = @Cert.Kernel2Ideal.cc0_moe_experts F _ Cert.Kernel2Ideal.Gen.facts := rfl

/-- So are the two kernel tables. -/
theorem defs0_eq (F : FTy → Type) [FloatOps F] :
    @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext l a
  match l, a with
  | ⟨0, _⟩, (t, s) =>
    show @Cert.Kernel2.cc0_moe_experts F _ Cert.Kernel2.Gen.facts _ _ _ _ _ _ _ _ _ _ _ _ _ _ _ _ _ _ _ _ _ = _
    rw [body_eq F]; rfl

/-- And the two body tables. -/
theorem defs_eq (F : FTy → Type) [FloatOps F] :
    @Cert.Kernel2.defs F _ Cert.Kernel2.Gen.facts = @Cert.Kernel2Ideal.defs F _ Cert.Kernel2Ideal.Gen.facts := by
  unfold Cert.Kernel2.defs Cert.Kernel2Ideal.defs
  rw [defs0_eq F]
  rfl

/-- The first printing runs to its end when every expert named is one of the experts: its arguments stay as they were and
    every counter ends at zero. -/
theorem frame_main {F : FTy → Type} [FloatOps F]
    (m : (ℓ : Loc Cert.Kernel2.nD Cert.Kernel2.τ Cert.Kernel2.sig) → Buf (Elt F) ℓ)
    (g : Dev Cert.Kernel2.nD → PrngReg) (hO : @Cert.Kernel2Ideal.Hand.Ok F m) :
    θ_run (Cert.Kernel2.defs (F := F)) (onTc (τ := Cert.Kernel2.τ) (Cert.Kernel2.main (F := F)))
      ⟨m, fun _ => 0, g⟩ (fun r => (∀ c : Dev Cert.Kernel2.nD,
        r.2.mem ((c.tc : Thread Cert.Kernel2.nD Cert.Kernel2.τ).loc Cert.Kernel2.main_arg0)
          = m ((c.tc : Thread Cert.Kernel2.nD Cert.Kernel2.τ).loc Cert.Kernel2.main_arg0)
        ∧ r.2.mem ((c.tc : Thread Cert.Kernel2.nD Cert.Kernel2.τ).loc Cert.Kernel2.main_arg1)
          = m ((c.tc : Thread Cert.Kernel2.nD Cert.Kernel2.τ).loc Cert.Kernel2.main_arg1)
        ∧ r.2.mem ((c.tc : Thread Cert.Kernel2.nD Cert.Kernel2.τ).loc Cert.Kernel2.main_arg2)
          = m ((c.tc : Thread Cert.Kernel2.nD Cert.Kernel2.τ).loc Cert.Kernel2.main_arg2)
        ∧ r.2.mem ((c.tc : Thread Cert.Kernel2.nD Cert.Kernel2.τ).loc Cert.Kernel2.main_arg3)
          = m ((c.tc : Thread Cert.Kernel2.nD Cert.Kernel2.τ).loc Cert.Kernel2.main_arg3)
        ∧ r.2.mem ((c.tc : Thread Cert.Kernel2.nD Cert.Kernel2.τ).loc Cert.Kernel2.main_arg4)
          = m ((c.tc : Thread Cert.Kernel2.nD Cert.Kernel2.τ).loc Cert.Kernel2.main_arg4)
        ∧ r.2.mem ((c.tc : Thread Cert.Kernel2.nD Cert.Kernel2.τ).loc Cert.Kernel2.main_arg5)
          = m ((c.tc : Thread Cert.Kernel2.nD Cert.Kernel2.τ).loc Cert.Kernel2.main_arg5)
        ∧ r.2.mem ((c.tc : Thread Cert.Kernel2.nD Cert.Kernel2.τ).loc Cert.Kernel2.main_arg6)
          = m ((c.tc : Thread Cert.Kernel2.nD Cert.Kernel2.τ).loc Cert.Kernel2.main_arg6))
        ∧ r.2.sem = fun _ => 0) := by
  have h := @Cert.Kernel2Ideal.Hand.frame_main F _ m g hO
  rw [defs_eq F]
  exact h

end Cert.Twin2
end
-- ==== Proof.MSpec.lean ====
/- The mathematics of an expert: two products with a clipped gate between them, each with a bias. -/
module

public import Idealize.ShloMosaic.Lib.ValueIdx
public import Idealize.ShloMosaic.Lib.Pipeline.Value
public import Idealize.ShloMosaic.PureOps.Ideal.Laws

@[expose] public section

set_option maxRecDepth 16384

noncomputable section

namespace Cert.Expert

open Idealize.ShloMosaic

/-- The gate: the gate's half `g`, at most 7, times its own logistic at 1.702 times it; times one more than the other half
    `u`, kept between -7 and 7. -/
def gated (g u : Ideal .f32) : Ideal .f32 :=
  let a : Ideal .f32 := FloatOps.minimumf g (FloatOps.ofBits .f32 0x40E00000#32)
  let b : Ideal .f32 := FloatOps.minimumf (FloatOps.ofBits .f32 0x40E00000#32) (FloatOps.maximumf (FloatOps.ofBits .f32 0xC0E00000#32) u)
  let e : Ideal .f32 := FloatOps.exp (FloatOps.negf (FloatOps.mulf (FloatOps.ofBits .f32 0x3FD9DB23#32) a))
  FloatOps.mulf (FloatOps.mulf a (FloatOps.divf (FloatOps.ofBits .f32 0x3F800000#32) (FloatOps.addf (FloatOps.ofBits .f32 0x3F800000#32) e)))
    (FloatOps.addf b (FloatOps.ofBits .f32 0x3F800000#32))

/-- A row through the first weight matrix: element `f`. -/
def hid (x : Fin 1024 → EReal) (w : Fin 1024 → Fin 2048 → EReal) (b : Fin 2048 → EReal) (f : Fin 2048) : EReal :=
  (∑ d : Fin 1024, x d * w d f) + b f

/-- The gate over the two halves of that. -/
def mid (h : Fin 2048 → EReal) (f : Fin 1024) : EReal := gated (h ⟨f.val, by omega⟩) (h ⟨1024 + f.val, by omega⟩)

/-- The expert's result for a row: element `o`. -/
def ffn (x : Fin 1024 → EReal) (w : Fin 1024 → Fin 2048 → EReal) (b : Fin 2048 → EReal) (v : Fin 1024 → Fin 1024 → EReal) (a : Fin 1024 → EReal)
    (o : Fin 1024) : EReal :=
  (∑ f : Fin 1024, mid (hid x w b) f * v f o) + a o

end Cert.Expert

end
-- ==== Proof.MPay.lean ====
/- The expert call's arithmetic on a block, element by element. -/
module

public import proofs.«01_k».proof.Proof.MCast
public import proofs.«01_k».proof.Proof.MSpec
public import Idealize.ShloMosaic.Lib.MatmulPlain

@[expose] public section

set_option maxRecDepth 16384

noncomputable section

namespace Cert.Kernel2Ideal.Hand

open Idealize.ShloMosaic Idealize.ShloMosaic.TcCoe
open Cert.Kernel2Ideal Cert.Kernel2Ideal.Gen

/-- The block through the first weights. -/
def hidV (x : FVec Ideal S512x1024 .bf16) (w : FVec Ideal S1024x2048 .bf16) (b : FVec Ideal S1x1x2048 .f32) : FVec Ideal S512x2048 .f32 :=
  addf (matmul dot_S512x1024_S1024x2048_S512x2048_1_0_0_1_n_n none x w (constant S512x2048 .f32 0x00000000#32))
    (broadcastTo S512x2048 (shapeCast S1x2048 b shapeCasts_S1x1x2048_S1x2048) broadcasts_S1x2048_S512x2048)

theorem hidV_apply (x : FVec Ideal S512x1024 .bf16) (w : FVec Ideal S1024x2048 .bf16) (b : FVec Ideal S1x1x2048 .f32) (r : Fin 512) (f : Fin 2048) :
    hidV x w b (ix2 r f) = Expert.hid (fun d => x (ix2 r d)) (fun d f => w (ix2 d f)) (fun f => b (ix3 (0 : Fin 1) (0 : Fin 1) f)) f := by
  have e1 : matmul dot_S512x1024_S1024x2048_S512x2048_1_0_0_1_n_n none x w (constant S512x2048 .f32 0x00000000#32) (ix2 r f)
      = ∑ d : Fin 1024, x (ix2 r d) * w (ix2 d f) := by
    refine (Ideal.matmul_plain_apply (M := 512) (K := 1024) (N := 2048) none x w (constant S512x2048 .f32 0x00000000#32) r f).trans ?_
    show Ideal.ofBits .f32 0x00000000#32 + _ = _
    rw [Ideal.ofBits_zero_f32, zero_add]
    refine Finset.sum_congr rfl fun k _ => congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  have e2 : broadcastTo S512x2048 (shapeCast S1x2048 b shapeCasts_S1x1x2048_S1x2048) broadcasts_S1x2048_S512x2048 (ix2 r f)
      = b (ix3 (0 : Fin 1) (0 : Fin 1) f) := by
    refine (broadcastTo_apply _ broadcasts_S1x2048_S512x2048 (ix2 r f) (ix2 (0 : Fin 1) f) (fun a => match a with
      | ⟨0, _⟩ => rfl
      | ⟨1, _⟩ => rfl)).trans ?_
    exact shapeCast_apply b shapeCasts_S1x1x2048_S1x2048 (ix2 (0 : Fin 1) f) (ix3 (0 : Fin 1) (0 : Fin 1) f) (by
      rw [Shape.rowMajor_val_three, Shape.rowMajor_val_two]; rfl)
  unfold hidV Expert.hid
  exact congrArg₂ (· + ·) e1 e2

/-- The gate over a block. -/
def midV (h : FVec Ideal S512x2048 .f32) : FVec Ideal S512x1024 .f32 :=
  have v26 : FVec Ideal S512x1024 .f32 := extractStridedSlice S512x1024 ![0, 0] h slices_S512x2048_o0_0_S512x1024
  have v28 : FVec Ideal S512x1024 .f32 := minimumf v26 (broadcast S512x1024 (Scalar.ofBits .f32 0x40E00000#32 : Ideal .f32))
  have v29 : FVec Ideal S512x1024 .f32 := extractStridedSlice S512x1024 ![0, 1024] h slices_S512x2048_o0_1024_S512x1024
  have v31 : FVec Ideal S512x1024 .f32 := maximumf (broadcast S512x1024 (Scalar.ofBits .f32 0xC0E00000#32 : Ideal .f32)) v29
  have v33 : FVec Ideal S512x1024 .f32 := minimumf (broadcast S512x1024 (Scalar.ofBits .f32 0x40E00000#32 : Ideal .f32)) v31
  have v35 : FVec Ideal S512x1024 .f32 := mulf (broadcast S512x1024 (Scalar.ofBits .f32 0x3FD9DB23#32 : Ideal .f32)) v28
  have v38 : FVec Ideal S512x1024 .f32 := exp (subf (broadcast S512x1024 (Scalar.ofBits .f32 0x00000000#32 : Ideal .f32)) v35)
  have v40 : FVec Ideal S512x1024 .f32 := addf (broadcast S512x1024 (Scalar.ofBits .f32 0x3F800000#32 : Ideal .f32)) v38
  have v42 : FVec Ideal S512x1024 .f32 := divf (broadcast S512x1024 (Scalar.ofBits .f32 0x3F800000#32 : Ideal .f32)) v40
  mulf (mulf v28 v42) (addf v33 (broadcast S512x1024 (Scalar.ofBits .f32 0x3F800000#32 : Ideal .f32)))

theorem midV_apply (h : FVec Ideal S512x2048 .f32) (r : Fin 512) (f : Fin 1024) :
    midV h (ix2 r f) = Expert.mid (fun f => h (ix2 r f)) f := by
  have e1 : extractStridedSlice S512x1024 ![0, 0] h slices_S512x2048_o0_0_S512x1024 (ix2 r f) = h (ix2 r ⟨f.val, by omega⟩) :=
    extractStridedSlice_apply ![0, 0] h slices_S512x2048_o0_0_S512x1024 (ix2 r f) (ix2 r ⟨f.val, by omega⟩) (fun a => match a with
      | ⟨0, _⟩ => (Nat.zero_add _).symm
      | ⟨1, _⟩ => (Nat.zero_add _).symm)
  have e2 : extractStridedSlice S512x1024 ![0, 1024] h slices_S512x2048_o0_1024_S512x1024 (ix2 r f) = h (ix2 r ⟨1024 + f.val, by omega⟩) :=
    extractStridedSlice_apply ![0, 1024] h slices_S512x2048_o0_1024_S512x1024 (ix2 r f) (ix2 r ⟨1024 + f.val, by omega⟩) (fun a => match a with
      | ⟨0, _⟩ => (Nat.zero_add _).symm
      | ⟨1, _⟩ => rfl)
  have ez : ∀ x : Ideal .f32, FloatOps.subf (FloatOps.ofBits .f32 0x00000000#32) x = FloatOps.negf x := fun x => by
    show Ideal.ofBits .f32 0x00000000#32 - x = -x
    rw [Ideal.ofBits_zero_f32, zero_sub]
  unfold Expert.mid
  show _ = Expert.gated (h (ix2 r ⟨f.val, by omega⟩)) (h (ix2 r ⟨1024 + f.val, by omega⟩))
  rw [← e1, ← e2]
  unfold Expert.gated
  simp only [← ez]
  rfl

/-- The kernel's block is the two products about the gate. -/
theorem pay4_apply (x : FVec Ideal S512x1024 .bf16) (w : FVec Ideal S1024x2048 .bf16) (b : FVec Ideal S1x1x2048 .f32) (v : FVec Ideal S1024x1024 .bf16)
    (a : FVec Ideal S1x1x1024 .f32) (r : Fin 512) (o : Fin 1024) :
    (k0_pay4 (F := Ideal) x w b v a (ix2 r o) : EReal) = Expert.ffn (fun d => x (ix2 r d)) (fun d f => w (ix2 d f)) (fun f => b (ix3 (0 : Fin 1) (0 : Fin 1) f))
      (fun f o => v (ix2 f o)) (fun o => a (ix3 (0 : Fin 1) (0 : Fin 1) o)) o := by
  have e0 : k0_pay4 x w b v a = addf (matmul dot_S512x1024_S1024x1024_S512x1024_1_0_0_1_n_n none (truncf .bf16 (midV (hidV x w b)) bitsLt_bf16_f32) v
        (constant S512x1024 .f32 0x00000000#32))
      (broadcastTo S512x1024 (shapeCast S1x1024 a shapeCasts_S1x1x1024_S1x1024) broadcasts_S1x1024_S512x1024) := rfl
  have e1 : matmul dot_S512x1024_S1024x1024_S512x1024_1_0_0_1_n_n none (truncf .bf16 (midV (hidV x w b)) bitsLt_bf16_f32) v (constant S512x1024 .f32 0x00000000#32) (ix2 r o)
      = ∑ f : Fin 1024, midV (hidV x w b) (ix2 r f) * v (ix2 f o) := by
    refine (Ideal.matmul_plain_apply (M := 512) (K := 1024) (N := 1024) none (truncf .bf16 (midV (hidV x w b)) bitsLt_bf16_f32) v (constant S512x1024 .f32 0x00000000#32) r o).trans ?_
    show Ideal.ofBits .f32 0x00000000#32 + _ = _
    rw [Ideal.ofBits_zero_f32, zero_add]
    refine Finset.sum_congr rfl fun k _ => congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  have e2 : broadcastTo S512x1024 (shapeCast S1x1024 a shapeCasts_S1x1x1024_S1x1024) broadcasts_S1x1024_S512x1024 (ix2 r o)
      = a (ix3 (0 : Fin 1) (0 : Fin 1) o) := by
    refine (broadcastTo_apply _ broadcasts_S1x1024_S512x1024 (ix2 r o) (ix2 (0 : Fin 1) o) (fun a => match a with
      | ⟨0, _⟩ => rfl
      | ⟨1, _⟩ => rfl)).trans ?_
    exact shapeCast_apply a shapeCasts_S1x1x1024_S1x1024 (ix2 (0 : Fin 1) o) (ix3 (0 : Fin 1) (0 : Fin 1) o) (by
      rw [Shape.rowMajor_val_three, Shape.rowMajor_val_two]; rfl)
  rw [e0]
  unfold Expert.ffn
  refine (congrArg₂ (· + ·) e1 e2).trans (congrArg (· + a (ix3 (0 : Fin 1) (0 : Fin 1) o)) (Finset.sum_congr rfl fun f _ => ?_))
  rw [midV_apply]
  refine congrArg (Expert.mid · f * _) (funext fun g => ?_)
  exact hidV_apply x w b r g

/-- Converting a weight block changes no element of it. -/
theorem castG_apply (x : Vec Ideal S1x1024x2048 .f32) (d : Fin 1024) (f : Fin 2048) : castG x (ix2 d f) = x (ix3 (0 : Fin 1) d f) := by
  have e1 : castG x (ix2 d f) = shapeCast S128x2048 (View.ld x (rLG (kOf d))) shapeCasts_S1x128x2048_S128x2048 (ix2 (iOf d) f) :=
    shapeCast_apply (truncf (F := Ideal) .bf16 (shapeCast S128x2048 (View.ld x (rLG (kOf d))) shapeCasts_S1x128x2048_S128x2048) bitsLt_bf16_f32) shapeCasts_S128x2048_S128x2048
      (ix2 (iOf d) f) (ix2 (iOf d) f) rfl
  rw [e1]
  refine (shapeCast_apply _ shapeCasts_S1x128x2048_S128x2048 (ix2 (iOf d) f) (ix3 (0 : Fin 1) (iOf d) f) (by
      rw [Shape.rowMajor_val_three, Shape.rowMajor_val_two]; show ((0 * 128 + d.val % 128) * 2048 + f.val) = (d.val % 128) * 2048 + f.val; omega)).trans ?_
  show x _ = x _
  refine congrArg x (funext fun a => Fin.ext ?_)
  match a with
  | ⟨0, _⟩ => rfl
  | ⟨1, _⟩ =>
    refine ((by decide +kernel : ∀ d : Fin 1024, k0_off3 (kOf d) 1 + 1 * (d.val % 128) = d.val) d)
  | ⟨2, _⟩ => show 0 + 1 * f.val = f.val; omega

theorem castD_apply (x : Vec Ideal S1x1024x1024 .f32) (d : Fin 1024) (f : Fin 1024) : castD x (ix2 d f) = x (ix3 (0 : Fin 1) d f) := by
  have e1 : castD x (ix2 d f) = shapeCast S128x1024 (View.ld x (rLD (kOf d))) shapeCasts_S1x128x1024_S128x1024 (ix2 (iOf d) f) :=
    shapeCast_apply (truncf (F := Ideal) .bf16 (shapeCast S128x1024 (View.ld x (rLD (kOf d))) shapeCasts_S1x128x1024_S128x1024) bitsLt_bf16_f32) shapeCasts_S128x1024_S128x1024
      (ix2 (iOf d) f) (ix2 (iOf d) f) rfl
  rw [e1]
  refine (shapeCast_apply _ shapeCasts_S1x128x1024_S128x1024 (ix2 (iOf d) f) (ix3 (0 : Fin 1) (iOf d) f) (by
      rw [Shape.rowMajor_val_three, Shape.rowMajor_val_two]; show ((0 * 128 + d.val % 128) * 1024 + f.val) = (d.val % 128) * 1024 + f.val; omega)).trans ?_
  show x _ = x _
  refine congrArg x (funext fun a => Fin.ext ?_)
  match a with
  | ⟨0, _⟩ => rfl
  | ⟨1, _⟩ =>
    refine ((by decide +kernel : ∀ d : Fin 1024, k0_off3 (kOf d) 1 + 1 * (d.val % 128) = d.val) d)
  | ⟨2, _⟩ => show 0 + 1 * f.val = f.val; omega

end Cert.Kernel2Ideal.Hand

end
-- ==== Proof.MRange.lean ====
/- What the precondition says of the table of experts, and that it makes every block the table points at one of its array. -/
module

public import proofs.«01_k».proof.Proof.MBlocks
public import proofs.«01_k».proof.Proof.Gen.Pre_experts_in_range
public import Idealize.ShloMosaic.Lib.ReduceAll
public import Idealize.ShloMosaic.Lib.Pointwise

@[expose] public section

set_option maxRecDepth 16384

noncomputable section

namespace Cert.Pre_experts_in_range

open Idealize.ShloMosaic

instance : Subsingleton S_.Idx := ⟨fun a b => funext fun k => k.elim0⟩

/-- A word that is not negative and less than 32, read with a sign, is less than 32 read without one. -/
theorem small {b : BitVec 32} (h : IntOp.andi (IntOp.cmpi .sge b 0#32) (IntOp.cmpi .slt b 32#32) = 1#1) : b.toNat < 32 := by
  have h2 := (show ∀ c d : BitVec 1, IntOp.andi c d = 1#1 → c = 1#1 ∧ d = 1#1 by decide) _ _ h
  have k : ∀ p : Bool, BitVec.ofBool p = 1#1 → p = true := by decide
  have a := k _ h2.1
  have e := k _ h2.2
  simp only [BitVec.slt, BitVec.sle, decide_eq_true_eq] at a e
  have z : (0#32 : BitVec 32).toInt = 0 := rfl
  have t : (32#32 : BitVec 32).toInt = 32 := rfl
  rw [z] at a
  rw [t] at e
  rw [BitVec.toInt_eq_toNat_cond] at a e
  split at a <;> omega

/-- Every word of the table names one of the 32 experts. -/
theorem lt_of_fn [Facts] {F : FTy → Type} [FloatOps F] {x0 : FVec F S147456x1024 .bf16} {x1 : IVec S288 32} {x2 : IVec S1 32} {x3 : FVec F S32x1024x2048 .f32}
    {x4 : FVec F S32x2048 .f32} {x5 : FVec F S32x1024x1024 .f32} {x6 : FVec F S32x1024 .f32}
    (h : fn (F := F) x0 x1 x2 x3 x4 x5 x6 = fun _ => 1#1) (i : S288.Idx) : (x1 i).toNat < 32 := by
  have e := congrFun h (Shape.Idx.first Facts.h_S_)
  unfold fn at e
  have f := Host.reduce_andi_all _ _ _ _ _ e i
  simp only [pointwise] at f
  exact small f

end Cert.Pre_experts_in_range

namespace Cert.Kernel2Ideal.Hand

open Idealize.ShloMosaic Idealize.ShloMosaic.TcCoe
open Cert.Kernel2Ideal Cert.Kernel2Ideal.Gen

variable {F : FTy → Type} [FloatOps F] (m : (ℓ : Loc nD τ sig) → Buf (Elt F) ℓ)

/-- The table is the argument it is copied from. -/
theorem be_eq (t : Fin grid0.N) : be m t = (m (((0 : Dev nD) : Thread nD τ).loc main_arg1) : Vec F S288 .i32) (ix1 (bk t)) :=
  congrFun (V_main_arg1 m 0) _

/-- So is the number of live blocks. -/
theorem live_eq : (tbl m 1 : Vec F S1 .i32) = (m (((0 : Dev nD) : Thread nD τ).loc main_arg2) : Vec F S1 .i32) := V_main_arg2 m 0

theorem coords_surj (i : grid0.Coords) : ∃ t : Fin grid0.N, grid0.coords t = i := by
  refine ⟨⟨(i 0).val, (i 0).isLt⟩, ?_⟩
  funext a
  obtain rfl : a = 0 := Subsingleton.elim _ _
  exact Fin.ext (coord _)

/-- A table that names experts only points at blocks inside the arrays. -/
theorem ok_of_lt (h : ∀ t : Fin grid0.N, (be m t).toNat < 32) : Ok m := by
  have key : ∀ i : grid0.Coords, ∃ b : ℕ, b < 32 ∧ cc0_transform_1 k0_off1_inb numel1_S1 (tbl m) i = ![b, 0, 0]
      ∧ cc0_transform_2 k0_off1_inb numel1_S1 (tbl m) i = ![b, 0, 0] ∧ cc0_transform_3 k0_off1_inb numel1_S1 (tbl m) i = ![b, 0, 0]
      ∧ cc0_transform_4 k0_off1_inb numel1_S1 (tbl m) i = ![b, 0, 0] := fun i => by
    obtain ⟨t, rfl⟩ := coords_surj i
    refine ⟨(be m t).toNat, h t, ?_, ?_, ?_, ?_⟩ <;> (rw [← word1]; rfl)
  refine ⟨fun i => ?_, fun i => ?_, fun i => ?_, fun i => ?_⟩ <;> obtain ⟨b, hb, e1, e2, e3, e4⟩ := key i
  · exact ⟨fun a => by rw [e1]; fin_cases a <;> simp <;> omega, Or.inl rfl⟩
  · exact ⟨fun a => by rw [e2]; fin_cases a <;> simp <;> omega, Or.inl rfl⟩
  · exact ⟨fun a => by rw [e3]; fin_cases a <;> simp <;> omega, Or.inl rfl⟩
  · exact ⟨fun a => by rw [e4]; fin_cases a <;> simp <;> omega, Or.inl rfl⟩

/-- So the precondition admits the launch. -/
theorem ok_of_fn {x0 : FVec F S147456x1024 .bf16} {x2 : IVec S1 32} {x3 : FVec F S32x1024x2048 .f32}
    {x4 : FVec F S32x2048 .f32} {x5 : FVec F S32x1024x1024 .f32} {x6 : FVec F S32x1024 .f32}
    (h : Cert.Pre_experts_in_range.fn (F := F) x0 (m (((0 : Dev nD) : Thread nD τ).loc main_arg1)) x2 x3 x4 x5 x6 = fun _ => 1#1) : Ok m :=
  ok_of_lt m fun t => by
    rw [be_eq]
    exact Cert.Pre_experts_in_range.lt_of_fn h _

end Cert.Kernel2Ideal.Hand

end
-- ==== Proof.MValue.lean ====
/- The result array after the expert call's run, element by element. -/
module

public import proofs.«01_k».proof.Proof.MPay
public import proofs.«01_k».proof.Proof.MRun
public import proofs.«01_k».proof.Proof.MRange
public import Idealize.ShloMosaic.Lib.Pipeline.Covers

@[expose] public section

set_option maxRecDepth 16384

noncomputable section

namespace Cert.Kernel2Ideal.Hand

open Idealize.ShloMosaic Idealize.ShloMosaic.TcCoe
open Idealize.SL Idealize.SL.Sem
open Cert.Kernel2Ideal Cert.Kernel2Ideal.Gen

/-- A block is live where its number is below the count. -/
theorem cond2_iff (i : grid0.Coords) (n : BitVec 32) : k0_cond2 i n = 1#1 ↔ IntOp.cmpi .slt (BitVec.ofNat 32 (i 0).val) n = 1#1 := by
  unfold k0_cond2
  simp only [Scalar.cmpi, Scalar.extui, IntOp.cmpi]
  generalize (BitVec.ofNat 32 (i 0).val).slt n = b
  cases b <;> decide

variable (m : (ℓ : Loc nD τ sig) → Buf (Elt Ideal) ℓ) (hO : Ok m)

/-- The biases as the call takes them, an axis put in. -/
theorem bias1 (c : Dev nD) (e : Fin 32) (f : Fin 2048) :
    (V m c main_v0 : Vec Ideal S32x1x2048 .f32) (ix3 e (0 : Fin 1) f) = (m ((c : Thread nD τ).loc main_arg4) : Vec Ideal S32x2048 .f32) (ix2 e f) := by
  rw [V_main_v0]
  refine shapeCast_apply _ _ (ix3 e (0 : Fin 1) f) (ix2 e f) ?_
  rw [Shape.rowMajor_val_three, Shape.rowMajor_val_two]
  show e.val * 2048 + f.val = (e.val * 1 + 0) * 2048 + f.val
  omega

theorem bias2 (c : Dev nD) (e : Fin 32) (f : Fin 1024) :
    (V m c main_v1 : Vec Ideal S32x1x1024 .f32) (ix3 e (0 : Fin 1) f) = (m ((c : Thread nD τ).loc main_arg6) : Vec Ideal S32x1024 .f32) (ix2 e f) := by
  rw [V_main_v1]
  refine shapeCast_apply _ _ (ix3 e (0 : Fin 1) f) (ix2 e f) ?_
  rw [Shape.rowMajor_val_three, Shape.rowMajor_val_two]
  show e.val * 1024 + f.val = (e.val * 1 + 0) * 1024 + f.val
  omega

/-- The result for row `512 t + r`: of a live block its expert's, else zero. -/
def rowV (c : Dev nD) (t : Fin 288) (n : Fin 147456) (o : Fin 1024) : Ideal .f32 :=
  if IntOp.cmpi .slt (BitVec.ofNat 32 t.val) ((tbl m 1 : Vec Ideal S1 .i32) (ix1 (0 : Fin 1))) = 1#1 then
    Expert.ffn (fun d => (m ((c : Thread nD τ).loc main_arg0) : Vec Ideal S147456x1024 .bf16) (ix2 n d))
      (fun d f => (m ((c : Thread nD τ).loc main_arg3) : Vec Ideal S32x1024x2048 .f32) (ix3 (ex m hO t) d f))
      (fun f => (m ((c : Thread nD τ).loc main_arg4) : Vec Ideal S32x2048 .f32) (ix2 (ex m hO t) f))
      (fun f o => (m ((c : Thread nD τ).loc main_arg5) : Vec Ideal S32x1024x1024 .f32) (ix3 (ex m hO t) f o))
      (fun o => (m ((c : Thread nD τ).loc main_arg6) : Vec Ideal S32x1024 .f32) (ix2 (ex m hO t) o)) o
  else (0 : EReal)

/-- The result array. -/
def moeV (c : Dev nD) : FVec Ideal S147456x1024 .f32 := fun y =>
  rowV m hO c ⟨(y 0 : Fin 147456).val / 512, by have h : (y 0 : Fin 147456).val < 147456 := (y 0).isLt; omega⟩ (y 0 : Fin 147456) (y 1 : Fin 1024)

theorem moeV_row (c : Dev nD) (t : Fin 288) (r : Fin 512) (o : Fin 1024) (n : Fin 147456) (hn : n.val = 512 * t.val + r.val) :
    moeV m hO c (ix2 n o) = rowV m hO c t n o := by
  show rowV m hO c _ n o = _
  refine congrArg (rowV m hO c · n o) (Fin.ext ?_)
  show n.val / 512 = t.val
  omega

/-- What a point leaves in its output block. -/
theorem outsAt_apply (c : Dev nD) (t : Fin (cfgM m hO).N) (r : Fin 512) (o : Fin 1024) (n : Fin 147456) (hn : n.val = 512 * t.val + r.val) :
    outsAt m hO c t (ix2 r o) = moeV m hO c (ix2 n o) := by
  rw [moeV_row m hO c (bk t) r o n hn]
  have el : liveV (F := Ideal) (tbl m 1) = (tbl m 1 : Vec Ideal S1 .i32) (ix1 (0 : Fin 1)) :=
    congrArg (tbl m 1 : Vec Ideal S1 .i32) (funext fun a => Fin.ext (by match a with | ⟨0, _⟩ => rfl))
  have ec : (k0_cond2 (grid0.coords t) (liveV (F := Ideal) (tbl m 1)) = 1#1)
      = (IntOp.cmpi .slt (BitVec.ofNat 32 (bk t).val) ((tbl m 1 : Vec Ideal S1 .i32) (ix1 (0 : Fin 1))) = 1#1) := by
    rw [el]
    exact propext ((cond2_iff _ _).trans (by rw [coord t]))
  have en : n = ⟨512 * t.val + r.val, by have : t.val < 288 := t.isLt; omega⟩ := Fin.ext hn
  unfold outsAt outV rowV
  by_cases h : k0_cond2 (grid0.coords t) (liveV (F := Ideal) (tbl m 1)) = 1#1
  · rw [if_pos h, if_pos (ec ▸ h)]
    refine (pay4_apply _ _ _ _ _ r o).trans ?_
    have e0 : (fun d : Fin 1024 => (iblk m hO c 0 t : Vec Ideal S512x1024 .bf16) (ix2 r d)) = _ := funext fun d => (blk0 m hO c t r d)
    have e1 : (fun (d : Fin 1024) (f : Fin 2048) => castG (iblk m hO c 1 t : Vec Ideal S1x1024x2048 .f32) (ix2 d f)) = _ :=
      funext fun d => funext fun f => (castG_apply _ d f).trans (blk1 m hO c t d f)
    have e2 : (fun f : Fin 2048 => (iblk m hO c 2 t : Vec Ideal S1x1x2048 .f32) (ix3 (0 : Fin 1) (0 : Fin 1) f)) = _ :=
      funext fun f => (blk2 m hO c t f).trans (bias1 m c _ f)
    have e3 : (fun (d : Fin 1024) (f : Fin 1024) => castD (iblk m hO c 3 t : Vec Ideal S1x1024x1024 .f32) (ix2 d f)) = _ :=
      funext fun d => funext fun f => (castD_apply _ d f).trans (blk3 m hO c t d f)
    have e4 : (fun f : Fin 1024 => (iblk m hO c 4 t : Vec Ideal S1x1x1024 .f32) (ix3 (0 : Fin 1) (0 : Fin 1) f)) = _ :=
      funext fun f => (blk4 m hO c t f).trans (bias2 m c _ f)
    have key : ∀ x x' w w' b b' v v' a a', x = x' → w = w' → b = b' → v = v' → a = a' → Expert.ffn x w b v a o = Expert.ffn x' w' b' v' a' o := by
      rintro _ _ _ _ _ _ _ _ _ _ rfl rfl rfl rfl rfl; rfl
    rw [en]
    exact key _ _ _ _ _ _ _ _ _ _ e0 e1 e2 e3 e4
  · rw [if_neg h, if_neg (ec ▸ h)]
    exact Ideal.ofBits_zero_f32

/-- The blocks written cover the array. -/
theorem covers5 : ((cfgM m hO).win 5).Covers := by
  have hsz : ∀ a, 0 < ((cfgM m hO).win 5).size a := fun a => (by decide : ∀ a : Fin 2, 0 < S512x1024.size a) a
  refine Pipeline.Window.covers_of_index_surj _ rfl hsz fun β => ?_
  have h0 : (β (0 : Fin 2)).val < 288 := lt_of_lt_of_eq (β (0 : Fin 2)).isLt (show (S147456x1024.size 0 + S512x1024.size 0 - 1) / S512x1024.size 0 = 288 from by decide)
  have h1 : (β (1 : Fin 2)).val < 1 := lt_of_lt_of_eq (β (1 : Fin 2)).isLt (show (S147456x1024.size 1 + S512x1024.size 1 - 1) / S512x1024.size 1 = 1 from by decide)
  refine ⟨⟨(β (0 : Fin 2)).val, h0⟩, fun (a : Fin 2) => ?_⟩
  rw [index5 m hO]
  match a with
  | ⟨0, _⟩ => rfl
  | ⟨1, _⟩ => exact (Nat.lt_one_iff.mp h1).symm

/-- The array after the run. -/
theorem final (c : Dev nD) : (dats m hO 0 c).arrAt 5 ((cfgM m hO)).N = moeV m hO c := by
  refine (dats m hO 0 c).arrAt_eq_of_covers 5 _ (covers5 m hO) fun t hf y => ?_
  blk_simp
  rw [after0_5]
  obtain ⟨r, o, rfl⟩ : ∃ (r : Fin 512) (o : Fin 1024), y = ix2 r o := ⟨(show S512x1024.Idx from y) 0, (show S512x1024.Idx from y) 1, eq_ix2 (n0 := 512) (n1 := 1024) y⟩
  refine (outsAt_apply m hO c t r o ⟨512 * t.val + r.val, by have : t.val < 288 := t.isLt; omega⟩ rfl).trans ?_
  blk_ext [index5 m hO t]

end Cert.Kernel2Ideal.Hand

end
-- ==== Proof.MRef.lean ====
/- The reference of the expert call, element by element. -/
module

public import proofs.«01_k».proof.Proof.MSpec
public import Idealize.ShloMosaic.Lib.Pointwise
public import proofs.«01_k».proof.Proof.Gen.Reference2Ideal.Read

@[expose] public section

set_option maxRecDepth 16384

noncomputable section

namespace Cert.Reference2Ideal.Hand

open Idealize.ShloMosaic Idealize.ShloMosaic.TcCoe
open Cert.Reference2Ideal Cert.Reference2Ideal.Gen Cert.Reference2Ideal.Read

/-- An expert's number read with a sign and kept within the 32 experts is the number. -/
theorem clamp (b : BitVec 32) (e : Fin 32) (h : b.toNat = e.val) : min b.toInt.toNat (32 - 1) + 0 + 0 = e.val := by
  have k : b.toInt = (b.toNat : ℤ) := BitVec.toInt_eq_toNat_of_lt (by omega)
  rw [k, Int.toNat_natCast, h]
  omega

/-! The weights and biases of a block are its expert's. -/

theorem take2 (x1 : (⟨S288, .i32⟩ : BufTy).Contents (Elt Ideal)) (x3 : (⟨S32x1024x2048, .f32⟩ : BufTy).Contents (Elt Ideal)) (n : Fin 288) (e : Fin 32)
    (h : (x1 (ix1 n)).toNat = e.val) (d : Fin 1024) (f : Fin 2048) : val_main_v2 (F := Ideal) x1 x3 (ix3 n d f) = x3 (ix3 e d f) := by
  unfold val_main_v2 Host.gather
  refine congrArg x3 (funext fun a => Fin.ext ?_)
  have h0 : gather_S32x1024x2048_S288x1_S288x1024x2048_12_0_n_n_0_1_110242048.start (ix3 n d f) (val_main_call0_v0 (F := Ideal) x1) (0 : Fin 3) + gather_S32x1024x2048_S288x1_S288x1024x2048_12_0_n_n_0_1_110242048.batchCoord (ix3 n d f) (0 : Fin 3)
      + gather_S32x1024x2048_S288x1_S288x1024x2048_12_0_n_n_0_1_110242048.offCoord (ix3 n d f) (0 : Fin 3) = e.val := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S32x1024x2048_S288x1_S288x1024x2048_12_0_n_n_0_1_110242048.startIndexMap from List.mem_singleton.mpr rfl)]
    have hsi : gather_S32x1024x2048_S288x1_S288x1024x2048_12_0_n_n_0_1_110242048.siIdx (ix3 n d f) ⟨List.idxOf (0 : Fin 3) gather_S32x1024x2048_S288x1_S288x1024x2048_12_0_n_n_0_1_110242048.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, val_main_call0_v0_apply, show idx_main_call0_v0 (ix2 n (0 : Fin 1)) = ix1 n from funext fun b => by match b with | ⟨0, _⟩ => rfl]
    exact clamp (x1 (ix1 n)) e h
  have h1 : gather_S32x1024x2048_S288x1_S288x1024x2048_12_0_n_n_0_1_110242048.start (ix3 n d f) (val_main_call0_v0 (F := Ideal) x1) (1 : Fin 3) + gather_S32x1024x2048_S288x1_S288x1024x2048_12_0_n_n_0_1_110242048.batchCoord (ix3 n d f) (1 : Fin 3)
      + gather_S32x1024x2048_S288x1_S288x1024x2048_12_0_n_n_0_1_110242048.offCoord (ix3 n d f) (1 : Fin 3) = d.val := by
    rw [GatherDims.batchCoord_eq_zero _ _ _ List.not_mem_nil]
    unfold GatherDims.start GatherDims.offCoord
    rw [dif_neg (show (1 : Fin 3) ∉ gather_S32x1024x2048_S288x1_S288x1024x2048_12_0_n_n_0_1_110242048.startIndexMap from (by decide : (1 : Fin 3) ∉ ([0] : List (Fin 3)))), dif_pos ((GatherDims.mem_sKept _ _).mpr ⟨(show (1 : Fin 3) ∉ ([0] : List (Fin 3)) by decide), List.not_mem_nil⟩),
      Nat.zero_add]
    rfl
  have h2 : gather_S32x1024x2048_S288x1_S288x1024x2048_12_0_n_n_0_1_110242048.start (ix3 n d f) (val_main_call0_v0 (F := Ideal) x1) (2 : Fin 3) + gather_S32x1024x2048_S288x1_S288x1024x2048_12_0_n_n_0_1_110242048.batchCoord (ix3 n d f) (2 : Fin 3)
      + gather_S32x1024x2048_S288x1_S288x1024x2048_12_0_n_n_0_1_110242048.offCoord (ix3 n d f) (2 : Fin 3) = f.val := by
    rw [GatherDims.batchCoord_eq_zero _ _ _ List.not_mem_nil]
    unfold GatherDims.start GatherDims.offCoord
    rw [dif_neg (show (2 : Fin 3) ∉ gather_S32x1024x2048_S288x1_S288x1024x2048_12_0_n_n_0_1_110242048.startIndexMap from (by decide : (2 : Fin 3) ∉ ([0] : List (Fin 3)))), dif_pos ((GatherDims.mem_sKept _ _).mpr ⟨(show (2 : Fin 3) ∉ ([0] : List (Fin 3)) by decide), List.not_mem_nil⟩),
      Nat.zero_add]
    rfl
  match a with
  | ⟨0, _⟩ => exact h0
  | ⟨1, _⟩ => exact h1
  | ⟨2, _⟩ => exact h2

theorem take4 (x1 : (⟨S288, .i32⟩ : BufTy).Contents (Elt Ideal)) (x4 : (⟨S32x2048, .f32⟩ : BufTy).Contents (Elt Ideal)) (n : Fin 288) (e : Fin 32)
    (h : (x1 (ix1 n)).toNat = e.val) (f : Fin 2048) : val_main_v4 (F := Ideal) x1 x4 (ix2 n f) = x4 (ix2 e f) := by
  unfold val_main_v4 Host.gather
  refine congrArg x4 (funext fun a => Fin.ext ?_)
  have h0 : gather_S32x2048_S288x1_S288x2048_1_0_n_n_0_1_12048.start (ix2 n f) (val_main_call1_v0 (F := Ideal) x1) (0 : Fin 2) + gather_S32x2048_S288x1_S288x2048_1_0_n_n_0_1_12048.batchCoord (ix2 n f) (0 : Fin 2)
      + gather_S32x2048_S288x1_S288x2048_1_0_n_n_0_1_12048.offCoord (ix2 n f) (0 : Fin 2) = e.val := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x2048_S288x1_S288x2048_1_0_n_n_0_1_12048.startIndexMap from List.mem_singleton.mpr rfl)]
    have hsi : gather_S32x2048_S288x1_S288x2048_1_0_n_n_0_1_12048.siIdx (ix2 n f) ⟨List.idxOf (0 : Fin 2) gather_S32x2048_S288x1_S288x2048_1_0_n_n_0_1_12048.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, val_main_call1_v0_apply, show idx_main_call1_v0 (ix2 n (0 : Fin 1)) = ix1 n from funext fun b => by match b with | ⟨0, _⟩ => rfl]
    exact clamp (x1 (ix1 n)) e h
  have h1 : gather_S32x2048_S288x1_S288x2048_1_0_n_n_0_1_12048.start (ix2 n f) (val_main_call1_v0 (F := Ideal) x1) (1 : Fin 2) + gather_S32x2048_S288x1_S288x2048_1_0_n_n_0_1_12048.batchCoord (ix2 n f) (1 : Fin 2)
      + gather_S32x2048_S288x1_S288x2048_1_0_n_n_0_1_12048.offCoord (ix2 n f) (1 : Fin 2) = f.val := by
    rw [GatherDims.batchCoord_eq_zero _ _ _ List.not_mem_nil]
    unfold GatherDims.start GatherDims.offCoord
    rw [dif_neg (show (1 : Fin 2) ∉ gather_S32x2048_S288x1_S288x2048_1_0_n_n_0_1_12048.startIndexMap from (by decide : (1 : Fin 2) ∉ ([0] : List (Fin 2)))), dif_pos ((GatherDims.mem_sKept _ _).mpr ⟨(show (1 : Fin 2) ∉ ([0] : List (Fin 2)) by decide), List.not_mem_nil⟩),
      Nat.zero_add]
    rfl
  match a with
  | ⟨0, _⟩ => exact h0
  | ⟨1, _⟩ => exact h1

theorem take25 (x1 : (⟨S288, .i32⟩ : BufTy).Contents (Elt Ideal)) (x5 : (⟨S32x1024x1024, .f32⟩ : BufTy).Contents (Elt Ideal)) (n : Fin 288) (e : Fin 32)
    (h : (x1 (ix1 n)).toNat = e.val) (d : Fin 1024) (f : Fin 1024) : val_main_v25 (F := Ideal) x1 x5 (ix3 n d f) = x5 (ix3 e d f) := by
  unfold val_main_v25 Host.gather
  refine congrArg x5 (funext fun a => Fin.ext ?_)
  have h0 : gather_S32x1024x1024_S288x1_S288x1024x1024_12_0_n_n_0_1_110241024.start (ix3 n d f) (val_main_call3_v0 (F := Ideal) x1) (0 : Fin 3) + gather_S32x1024x1024_S288x1_S288x1024x1024_12_0_n_n_0_1_110241024.batchCoord (ix3 n d f) (0 : Fin 3)
      + gather_S32x1024x1024_S288x1_S288x1024x1024_12_0_n_n_0_1_110241024.offCoord (ix3 n d f) (0 : Fin 3) = e.val := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S32x1024x1024_S288x1_S288x1024x1024_12_0_n_n_0_1_110241024.startIndexMap from List.mem_singleton.mpr rfl)]
    have hsi : gather_S32x1024x1024_S288x1_S288x1024x1024_12_0_n_n_0_1_110241024.siIdx (ix3 n d f) ⟨List.idxOf (0 : Fin 3) gather_S32x1024x1024_S288x1_S288x1024x1024_12_0_n_n_0_1_110241024.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, val_main_call3_v0_apply, show idx_main_call3_v0 (ix2 n (0 : Fin 1)) = ix1 n from funext fun b => by match b with | ⟨0, _⟩ => rfl]
    exact clamp (x1 (ix1 n)) e h
  have h1 : gather_S32x1024x1024_S288x1_S288x1024x1024_12_0_n_n_0_1_110241024.start (ix3 n d f) (val_main_call3_v0 (F := Ideal) x1) (1 : Fin 3) + gather_S32x1024x1024_S288x1_S288x1024x1024_12_0_n_n_0_1_110241024.batchCoord (ix3 n d f) (1 : Fin 3)
      + gather_S32x1024x1024_S288x1_S288x1024x1024_12_0_n_n_0_1_110241024.offCoord (ix3 n d f) (1 : Fin 3) = d.val := by
    rw [GatherDims.batchCoord_eq_zero _ _ _ List.not_mem_nil]
    unfold GatherDims.start GatherDims.offCoord
    rw [dif_neg (show (1 : Fin 3) ∉ gather_S32x1024x1024_S288x1_S288x1024x1024_12_0_n_n_0_1_110241024.startIndexMap from (by decide : (1 : Fin 3) ∉ ([0] : List (Fin 3)))), dif_pos ((GatherDims.mem_sKept _ _).mpr ⟨(show (1 : Fin 3) ∉ ([0] : List (Fin 3)) by decide), List.not_mem_nil⟩),
      Nat.zero_add]
    rfl
  have h2 : gather_S32x1024x1024_S288x1_S288x1024x1024_12_0_n_n_0_1_110241024.start (ix3 n d f) (val_main_call3_v0 (F := Ideal) x1) (2 : Fin 3) + gather_S32x1024x1024_S288x1_S288x1024x1024_12_0_n_n_0_1_110241024.batchCoord (ix3 n d f) (2 : Fin 3)
      + gather_S32x1024x1024_S288x1_S288x1024x1024_12_0_n_n_0_1_110241024.offCoord (ix3 n d f) (2 : Fin 3) = f.val := by
    rw [GatherDims.batchCoord_eq_zero _ _ _ List.not_mem_nil]
    unfold GatherDims.start GatherDims.offCoord
    rw [dif_neg (show (2 : Fin 3) ∉ gather_S32x1024x1024_S288x1_S288x1024x1024_12_0_n_n_0_1_110241024.startIndexMap from (by decide : (2 : Fin 3) ∉ ([0] : List (Fin 3)))), dif_pos ((GatherDims.mem_sKept _ _).mpr ⟨(show (2 : Fin 3) ∉ ([0] : List (Fin 3)) by decide), List.not_mem_nil⟩),
      Nat.zero_add]
    rfl
  match a with
  | ⟨0, _⟩ => exact h0
  | ⟨1, _⟩ => exact h1
  | ⟨2, _⟩ => exact h2

theorem take27 (x1 : (⟨S288, .i32⟩ : BufTy).Contents (Elt Ideal)) (x6 : (⟨S32x1024, .f32⟩ : BufTy).Contents (Elt Ideal)) (n : Fin 288) (e : Fin 32)
    (h : (x1 (ix1 n)).toNat = e.val) (f : Fin 1024) : val_main_v27 (F := Ideal) x1 x6 (ix2 n f) = x6 (ix2 e f) := by
  unfold val_main_v27 Host.gather
  refine congrArg x6 (funext fun a => Fin.ext ?_)
  have h0 : gather_S32x1024_S288x1_S288x1024_1_0_n_n_0_1_11024.start (ix2 n f) (val_main_call4_v0 (F := Ideal) x1) (0 : Fin 2) + gather_S32x1024_S288x1_S288x1024_1_0_n_n_0_1_11024.batchCoord (ix2 n f) (0 : Fin 2)
      + gather_S32x1024_S288x1_S288x1024_1_0_n_n_0_1_11024.offCoord (ix2 n f) (0 : Fin 2) = e.val := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x1024_S288x1_S288x1024_1_0_n_n_0_1_11024.startIndexMap from List.mem_singleton.mpr rfl)]
    have hsi : gather_S32x1024_S288x1_S288x1024_1_0_n_n_0_1_11024.siIdx (ix2 n f) ⟨List.idxOf (0 : Fin 2) gather_S32x1024_S288x1_S288x1024_1_0_n_n_0_1_11024.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, val_main_call4_v0_apply, show idx_main_call4_v0 (ix2 n (0 : Fin 1)) = ix1 n from funext fun b => by match b with | ⟨0, _⟩ => rfl]
    exact clamp (x1 (ix1 n)) e h
  have h1 : gather_S32x1024_S288x1_S288x1024_1_0_n_n_0_1_11024.start (ix2 n f) (val_main_call4_v0 (F := Ideal) x1) (1 : Fin 2) + gather_S32x1024_S288x1_S288x1024_1_0_n_n_0_1_11024.batchCoord (ix2 n f) (1 : Fin 2)
      + gather_S32x1024_S288x1_S288x1024_1_0_n_n_0_1_11024.offCoord (ix2 n f) (1 : Fin 2) = f.val := by
    rw [GatherDims.batchCoord_eq_zero _ _ _ List.not_mem_nil]
    unfold GatherDims.start GatherDims.offCoord
    rw [dif_neg (show (1 : Fin 2) ∉ gather_S32x1024_S288x1_S288x1024_1_0_n_n_0_1_11024.startIndexMap from (by decide : (1 : Fin 2) ∉ ([0] : List (Fin 2)))), dif_pos ((GatherDims.mem_sKept _ _).mpr ⟨(show (1 : Fin 2) ∉ ([0] : List (Fin 2)) by decide), List.not_mem_nil⟩),
      Nat.zero_add]
    rfl
  match a with
  | ⟨0, _⟩ => exact h0
  | ⟨1, _⟩ => exact h1

variable (x0 : (⟨S147456x1024, .bf16⟩ : BufTy).Contents (Elt Ideal)) (x1 : (⟨S288, .i32⟩ : BufTy).Contents (Elt Ideal)) (x2 : (⟨S1, .i32⟩ : BufTy).Contents (Elt Ideal))
  (x3 : (⟨S32x1024x2048, .f32⟩ : BufTy).Contents (Elt Ideal)) (x4 : (⟨S32x2048, .f32⟩ : BufTy).Contents (Elt Ideal)) (x5 : (⟨S32x1024x1024, .f32⟩ : BufTy).Contents (Elt Ideal)) (x6 : (⟨S32x1024, .f32⟩ : BufTy).Contents (Elt Ideal))

/-- Row `r` of block `n`. -/
abbrev row (n : Fin 288) (r : Fin 512) : Fin 147456 := ⟨512 * n.val + r.val, by omega⟩

theorem v1_at (n : Fin 288) (r : Fin 512) (d : Fin 1024) : val_main_v1 (F := Ideal) x0 (ix3 n r d) = x0 (ix2 (row n r) d) := by
  rw [val_main_v1_apply, val_main_v0_apply]
  show x0 _ = x0 _
  refine congrArg x0 (funext fun a => Fin.ext ?_)
  match a with
  | ⟨0, _⟩ => show ((n.val * 512 + r.val) * 1024 + d.val) / 1024 = 512 * n.val + r.val; omega
  | ⟨1, _⟩ => show ((n.val * 512 + r.val) * 1024 + d.val) % 1024 = d.val; omega

theorem v7_at (n : Fin 288) (e : Fin 32) (h : (x1 (ix1 n)).toNat = e.val) (r : Fin 512) (f : Fin 2048) :
    val_main_v7 (F := Ideal) x0 x1 x3 x4 (ix3 n r f)
      = Expert.hid (fun d => x0 (ix2 (row n r) d)) (fun d f => x3 (ix3 e d f)) (fun f => x4 (ix2 e f)) f := by
  rw [val_main_v7_apply, val_main_v3_apply, val_main_v6_apply, val_main_v5_apply]
  have eb : val_main_v4 (F := Ideal) x1 x4 (idx_main_v5 (idx_main_v6 (ix3 n r f))) = x4 (ix2 e f) := by
    rw [← take4 x1 x4 n e h f]
    exact congrArg _ (funext fun a => Fin.ext (by match a with | ⟨0, _⟩ => rfl | ⟨1, _⟩ => rfl))
  rw [eb]
  show (_ : EReal) + _ = _
  unfold Expert.hid
  refine congrArg (· + _) (Finset.sum_congr rfl fun d _ => ?_)
  show _ = x0 (ix2 (row n r) d) * x3 (ix3 e d f)
  rw [← v1_at x0 n r d, ← take2 x1 x3 n e h d f]
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl | ⟨2, _⟩ => rfl)))

theorem v24_at (n : Fin 288) (r : Fin 512) (f : Fin 1024) :
    val_main_v24 (F := Ideal) x0 x1 x3 x4 (ix3 n r f) = Expert.mid (fun f => val_main_v7 (F := Ideal) x0 x1 x3 x4 (ix3 n r f)) f := by
  have e8 : val_main_v8 (F := Ideal) x0 x1 x3 x4 (ix3 n r f) = val_main_v7 (F := Ideal) x0 x1 x3 x4 (ix3 n r ⟨f.val, by omega⟩) := by
    rw [val_main_v8_apply]
    exact congrArg _ (funext fun a => Fin.ext (by match a with | ⟨0, _⟩ => rfl | ⟨1, _⟩ => rfl | ⟨2, _⟩ => rfl))
  have e11 : val_main_v11 (F := Ideal) x0 x1 x3 x4 (ix3 n r f) = val_main_v7 (F := Ideal) x0 x1 x3 x4 (ix3 n r ⟨1024 + f.val, by omega⟩) := by
    rw [val_main_v11_apply]
    exact congrArg _ (funext fun a => Fin.ext (by match a with | ⟨0, _⟩ => rfl | ⟨1, _⟩ => rfl | ⟨2, _⟩ => rfl))
  unfold Expert.mid
  show _ = Expert.gated (val_main_v7 (F := Ideal) x0 x1 x3 x4 (ix3 n r ⟨f.val, by omega⟩)) (val_main_v7 (F := Ideal) x0 x1 x3 x4 (ix3 n r ⟨1024 + f.val, by omega⟩))
  rw [← e8, ← e11, val_main_v24_apply, val_main_v21_apply, val_main_v23_apply, val_main_v20_apply, val_main_v18_apply, val_main_v16_apply, val_main_v15_apply,
    val_main_v14_apply, val_main_v12_apply, val_main_call2_v2_apply, val_main_v10_apply, val_main_v9_apply, val_main_v13_apply, val_main_v17_apply, val_main_v19_apply,
    val_main_v22_apply, val_main_call2_v1_apply, val_main_call2_v4_apply]
  rfl

theorem v30_at (n : Fin 288) (e : Fin 32) (h : (x1 (ix1 n)).toNat = e.val) (r : Fin 512) (o : Fin 1024) :
    val_main_v30 (F := Ideal) x0 x1 x3 x4 x5 x6 (ix3 n r o)
      = Expert.ffn (fun d => x0 (ix2 (row n r) d)) (fun d f => x3 (ix3 e d f)) (fun f => x4 (ix2 e f)) (fun f o => x5 (ix3 e f o)) (fun o => x6 (ix2 e o)) o := by
  rw [val_main_v30_apply, val_main_v26_apply, val_main_v29_apply, val_main_v28_apply]
  have eb : val_main_v27 (F := Ideal) x1 x6 (idx_main_v28 (idx_main_v29 (ix3 n r o))) = x6 (ix2 e o) := by
    rw [← take27 x1 x6 n e h o]
    exact congrArg _ (funext fun a => Fin.ext (by match a with | ⟨0, _⟩ => rfl | ⟨1, _⟩ => rfl))
  rw [eb]
  show (_ : EReal) + _ = _
  unfold Expert.ffn
  refine congrArg (· + _) (Finset.sum_congr rfl fun f _ => ?_)
  have ef : Expert.mid (Expert.hid (fun d => x0 (ix2 (row n r) d)) (fun d f => x3 (ix3 e d f)) (fun f => x4 (ix2 e f))) f
      = val_main_v24 (F := Ideal) x0 x1 x3 x4 (ix3 n r f) := by
    rw [v24_at]
    exact congrArg (Expert.mid · f) (funext fun g => (v7_at x0 x1 x3 x4 n e h r g).symm)
  rw [ef]
  show _ = _ * x5 (ix3 e f o)
  rw [← take25 x1 x5 n e h f o]
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl | ⟨2, _⟩ => rfl)))

/-- The reference's element: the expert's where the block is live, else zero. -/
theorem result_at (n : Fin 288) (e : Fin 32) (h : (x1 (ix1 n)).toNat = e.val) (r : Fin 512) (o : Fin 1024) :
    val_main_v37 (F := Ideal) x0 x1 x2 x3 x4 x5 x6 (ix2 (row n r) o)
      = if IntOp.cmpi .slt (BitVec.ofNat 32 n.val) (x2 (ix1 (0 : Fin 1))) = 1#1
        then Expert.ffn (fun d => x0 (ix2 (row n r) d)) (fun d f => x3 (ix3 e d f)) (fun f => x4 (ix2 e f)) (fun f o => x5 (ix3 e f o)) (fun o => x6 (ix2 e o)) o
        else 0 := by
  rw [val_main_v37_apply]
  have ei : idx_main_v37 (ix2 (row n r) o) = ix3 n r o := funext fun a => Fin.ext (by
    match a with
    | ⟨0, _⟩ => show ((512 * n.val + r.val) * 1024 + o.val) / 524288 = n.val; omega
    | ⟨1, _⟩ => show ((512 * n.val + r.val) * 1024 + o.val) / 1024 % 512 = r.val; omega
    | ⟨2, _⟩ => show ((512 * n.val + r.val) * 1024 + o.val) % 1024 = o.val; omega)
  rw [ei, val_main_v36_apply, val_main_call5_v1_apply, val_main_v35_apply, val_main_v34_apply, val_main_v31_apply, val_main_v33_apply, val_main_call5_v2_apply,
    v30_at x0 x1 x3 x4 x5 x6 n e h r o]
  have e32 : ∀ i, val_main_v32 (F := Ideal) x2 i = x2 (ix1 (0 : Fin 1)) := fun i =>
    congrArg x2 (funext fun a => by obtain rfl : a = 0 := Subsingleton.elim _ _; exact Subsingleton.elim (α := Fin 1) _ _)
  rw [e32]
  have ez : val_main_call5_v0 (F := Ideal) (idx_main_call5_v2 (ix3 n r o)) = (0 : EReal) := Ideal.ofBits_zero_f32
  rw [ez]
  rfl

end Cert.Reference2Ideal.Hand

end
-- ==== Proof.MWhole.lean ====
/- The expert call's result and the reference's, element by element. -/
module

public import proofs.«01_k».proof.Proof.MValue
public import proofs.«01_k».proof.Proof.MRef

@[expose] public section

set_option maxRecDepth 16384

noncomputable section

namespace Cert.Kernel2Ideal.Hand

open Idealize.ShloMosaic Idealize.ShloMosaic.TcCoe
open Cert.Kernel2Ideal Cert.Kernel2Ideal.Gen

variable (m : (ℓ : Loc nD τ sig) → Buf (Elt Ideal) ℓ) (hO : Ok m)

/-- At equal arguments the reference's element is the call's. -/
theorem moe_eq (c : Dev nD) (n : Fin 147456) (o : Fin 1024) :
    Cert.Reference2Ideal.Read.val_main_v37 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 n o)
      = moeV m hO c (ix2 n o) := by
  obtain rfl : c = 0 := Subsingleton.elim _ _
  obtain ⟨t, r, hn⟩ : ∃ (t : Fin 288) (r : Fin 512), n.val = 512 * t.val + r.val :=
    ⟨⟨n.val / 512, by omega⟩, ⟨n.val % 512, by omega⟩, by show n.val = 512 * (n.val / 512) + n.val % 512; omega⟩
  rw [moeV_row m hO 0 t r o n hn]
  obtain rfl : n = Cert.Reference2Ideal.Hand.row t r := Fin.ext hn
  have he : ((m (((0 : Dev nD) : Thread nD τ).loc main_arg1) : Vec Ideal S288 .i32) (ix1 t)).toNat = (ex m hO t).val :=
    (congrArg BitVec.toNat (be_eq m t).symm).trans (show (be m t).toNat = (ex m hO t).val from rfl)
  refine (Cert.Reference2Ideal.Hand.result_at _ _ _ _ _ _ _ t (ex m hO t) he r o).trans ?_
  unfold rowV
  rw [live_eq]

end Cert.Kernel2Ideal.Hand

end
-- ==== Proof.PPay.lean ====
/- The input projection's arithmetic on a block, element by element. -/
module

public import proofs.«01_k».proof.Proof.Gen.Kernel3Ideal.Frame
public import Idealize.ShloMosaic.Lib.MatmulPlain
public import Idealize.ShloMosaic.Lib.KernelVsHost
public import Idealize.ShloMosaic.Lib.IdealHost
public import Idealize.ShloMosaic.Lib.Pointwise
public import Idealize.ShloMosaic.Lib.Pipeline.Value

@[expose] public section

set_option maxRecDepth 16384

noncomputable section

namespace Cert.Kernel3Ideal.Hand

open Idealize.ShloMosaic Idealize.ShloMosaic.TcCoe
open Cert.Kernel3Ideal Cert.Kernel3Ideal.Gen

/-- A one-row block laid over 512 rows. -/
theorem over_apply (v : FVec Ideal S1x1024 .f32) (r : Fin 512) (d : Fin 1024) :
    broadcastTo S512x1024 v broadcasts_S1x1024_S512x1024 (ix2 r d) = v (ix2 (0 : Fin 1) d) :=
  broadcastTo_apply _ broadcasts_S1x1024_S512x1024 (ix2 r d) (ix2 (0 : Fin 1) d) (fun a => match a with
    | ⟨0, _⟩ => rfl
    | ⟨1, _⟩ => rfl)

theorem cast1_apply (v : FVec Ideal S1x1x1024 .f32) (d : Fin 1024) :
    shapeCast S1x1024 v shapeCasts_S1x1x1024_S1x1024 (ix2 (0 : Fin 1) d) = v (ix3 (0 : Fin 1) (0 : Fin 1) d) :=
  shapeCast_apply v shapeCasts_S1x1x1024_S1x1024 (ix2 (0 : Fin 1) d) (ix3 (0 : Fin 1) (0 : Fin 1) d) (by
    rw [Shape.rowMajor_val_three, Shape.rowMajor_val_two]; rfl)

theorem castx_apply (v : FVec Ideal S1x512x1024 .f32) (r : Fin 512) (d : Fin 1024) :
    shapeCast S512x1024 v shapeCasts_S1x512x1024_S512x1024 (ix2 r d) = v (ix3 (0 : Fin 1) r d) :=
  shapeCast_apply v shapeCasts_S1x512x1024_S512x1024 (ix2 r d) (ix3 (0 : Fin 1) r d) (by
    rw [Shape.rowMajor_val_three, Shape.rowMajor_val_two]
    show (0 * 512 + r.val) * 1024 + d.val = r.val * 1024 + d.val
    omega)

/-- The block's rows, scaled and shifted. -/
theorem pay2_apply (x : FVec Ideal S1x512x1024 .f32) (s h : FVec Ideal S1x1x1024 .f32) (r : Fin 512) (d : Fin 1024) :
    k0_pay2 (F := Ideal) x s h (ix2 r d)
      = ((x (ix3 (0 : Fin 1) r d) : EReal) * ((1 : EReal) + s (ix3 (0 : Fin 1) (0 : Fin 1) d)) + h (ix3 (0 : Fin 1) (0 : Fin 1) d) : EReal) := by
  have e1 : Ideal.ofBits .f32 0x3F800000#32 = 1 := Ideal.ofBits_one_f32
  unfold k0_pay2
  refine congrArg₂ (α := EReal) (β := EReal) (· + ·) (congrArg₂ (α := EReal) (β := EReal) (· * ·) (castx_apply x r d) ?_) ?_
  · exact (over_apply _ r d).trans (congrArg₂ (α := EReal) (β := EReal) (· + ·) e1 (cast1_apply s d))
  · exact (over_apply _ r d).trans (cast1_apply h d)

/-- The products with 128, 768 and 256 columns. -/
theorem mm128_apply (x : FVec Ideal S512x1024 .bf16) (w : FVec Ideal S1024x128 .bf16) (r : Fin 512) (f : Fin 128) :
    matmul dot_S512x1024_S1024x128_S512x128_1_0_0_1_n_n none x (shapeCast S1024x128 w shapeCasts_S1024x128_S1024x128) (constant S512x128 .f32 0x00000000#32) (ix2 r f)
      = ∑ d : Fin 1024, x (ix2 r d) * w (ix2 d f) := by
  rw [show shapeCast S1024x128 w shapeCasts_S1024x128_S1024x128 = w from funext fun y => shapeCast_apply w _ y y rfl]
  refine (Ideal.matmul_plain_apply (M := 512) (K := 1024) (N := 128) none x w (constant S512x128 .f32 0x00000000#32) r f).trans ?_
  show Ideal.ofBits .f32 0x00000000#32 + _ = _
  rw [Ideal.ofBits_zero_f32, zero_add]
  refine Finset.sum_congr rfl fun k _ => congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

theorem mm768_apply (x : FVec Ideal S512x1024 .bf16) (w : FVec Ideal S1024x768 .bf16) (r : Fin 512) (f : Fin 768) :
    matmul dot_S512x1024_S1024x768_S512x768_1_0_0_1_n_n none x (shapeCast S1024x768 w shapeCasts_S1024x768_S1024x768) (constant S512x768 .f32 0x00000000#32) (ix2 r f)
      = ∑ d : Fin 1024, x (ix2 r d) * w (ix2 d f) := by
  rw [show shapeCast S1024x768 w shapeCasts_S1024x768_S1024x768 = w from funext fun y => shapeCast_apply w _ y y rfl]
  refine (Ideal.matmul_plain_apply (M := 512) (K := 1024) (N := 768) none x w (constant S512x768 .f32 0x00000000#32) r f).trans ?_
  show Ideal.ofBits .f32 0x00000000#32 + _ = _
  rw [Ideal.ofBits_zero_f32, zero_add]
  refine Finset.sum_congr rfl fun k _ => congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

theorem mm256_apply (x : FVec Ideal S512x1024 .bf16) (w : FVec Ideal S1024x256 .bf16) (r : Fin 512) (f : Fin 256) :
    matmul dot_S512x1024_S1024x256_S512x256_1_0_0_1_n_n none x (shapeCast S1024x256 w shapeCasts_S1024x256_S1024x256) (constant S512x256 .f32 0x00000000#32) (ix2 r f)
      = ∑ d : Fin 1024, x (ix2 r d) * w (ix2 d f) := by
  rw [show shapeCast S1024x256 w shapeCasts_S1024x256_S1024x256 = w from funext fun y => shapeCast_apply w _ y y rfl]
  refine (Ideal.matmul_plain_apply (M := 512) (K := 1024) (N := 256) none x w (constant S512x256 .f32 0x00000000#32) r f).trans ?_
  show Ideal.ofBits .f32 0x00000000#32 + _ = _
  rw [Ideal.ofBits_zero_f32, zero_add]
  refine Finset.sum_congr rfl fun k _ => congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- A tile of 128 columns, turned by the tables. -/
def ropeV (hb : FVec Ideal S512x1024 .bf16) (ct s1 s2 : FVec Ideal S512x128 .f32) (w : FVec Ideal S1024x128 .bf16) : FVec Ideal S512x128 .f32 :=
  have v36 : FVec Ideal S512x128 .f32 := matmul dot_S512x1024_S1024x128_S512x128_1_0_0_1_n_n none hb (shapeCast S1024x128 w shapeCasts_S1024x128_S1024x128) (constant S512x128 .f32 0x00000000#32)
  addf (addf (mulf v36 ct) (mulf (dynamicRotate 1 120#32 none v36 rotates_S512x128_d1) s1)) (mulf (dynamicRotate 1 8#32 none v36 rotates_S512x128_d1) s2)

/-- A column of the block's rows by the weights. -/
def pB (hb : FVec Ideal S512x1024 .bf16) (w : FVec Ideal S1024x3456 .bf16) (r : Fin 512) (f : ℕ) : EReal :=
  ∑ d : Fin 1024, (hb (ix2 r d) : EReal) * (if h : f < 3456 then (w (ix2 d ⟨f, h⟩) : EReal) else 0)

/-- The turned tile with its first column at `o`, at lane `l`. -/
def ropeB (hb : FVec Ideal S512x1024 .bf16) (ct s1 s2 : FVec Ideal S512x128 .f32) (w : FVec Ideal S1024x3456 .bf16) (r : Fin 512) (o : ℕ) (l : Fin 128) : EReal :=
  pB hb w r (o + l.val) * ct (ix2 r l) + pB hb w r (o + (l.val + 8) % 128) * s1 (ix2 r l) + pB hb w r (o + (l.val + 120) % 128) * s2 (ix2 r l)

theorem ropeV_apply (hb : FVec Ideal S512x1024 .bf16) (ct s1 s2 : FVec Ideal S512x128 .f32) (W : FVec Ideal S1024x3456 .bf16) (w : FVec Ideal S1024x128 .bf16)
    (o : ℕ) (ho : o + 128 ≤ 3456) (hw : ∀ (d : Fin 1024) (l : Fin 128), w (ix2 d l) = W (ix2 d ⟨o + l.val, by omega⟩)) (r : Fin 512) (l : Fin 128) :
    ropeV hb ct s1 s2 w (ix2 r l) = ropeB hb ct s1 s2 W r o l := by
  have em : ∀ l : Fin 128, matmul dot_S512x1024_S1024x128_S512x128_1_0_0_1_n_n none hb (shapeCast S1024x128 w shapeCasts_S1024x128_S1024x128) (constant S512x128 .f32 0x00000000#32) (ix2 r l)
      = pB hb W r (o + l.val) := fun l => by
    refine (mm128_apply hb w r l).trans (Finset.sum_congr rfl fun d _ => ?_)
    rw [hw, dif_pos (show o + l.val < 3456 by omega)]
  unfold ropeV ropeB
  refine congrArg₂ (α := EReal) (β := EReal) (· + ·) (congrArg₂ (α := EReal) (β := EReal) (· + ·) (congrArg₂ (α := EReal) (β := EReal) (· * ·) (em l) rfl) (congrArg₂ (α := EReal) (β := EReal) (· * ·) ?_ rfl)) (congrArg₂ (α := EReal) (β := EReal) (· * ·) ?_ rfl)
  · refine (dynamicRotate_apply _ _ _ _ (ix2 r l) (ix2 r (⟨(l.val + 8) % 128, by omega⟩ : Fin 128)) (fun b => ?_)).trans (em _)
    match b with
    | ⟨0, _⟩ => rfl
    | ⟨1, _⟩ =>
      show (l.val + 8) % 128 = (l.val + 128 - 120 % 128) % 128
      omega
  · refine (dynamicRotate_apply _ _ _ _ (ix2 r l) (ix2 r (⟨(l.val + 120) % 128, by omega⟩ : Fin 128)) (fun b => ?_)).trans (em _)
    match b with
    | ⟨0, _⟩ => rfl
    | ⟨1, _⟩ =>
      show (l.val + 120) % 128 = (l.val + 128 - 8 % 128) % 128
      omega

/-- A tile with a leading axis of one. -/
theorem up128_apply (v : FVec Ideal S512x128 .f32) (r : Fin 512) (l : Fin 128) :
    shapeCast S1x512x128 v shapeCasts_S512x128_S1x512x128 (ix3 (0 : Fin 1) r l) = v (ix2 r l) :=
  shapeCast_apply v _ (ix3 (0 : Fin 1) r l) (ix2 r l) (by
    rw [Shape.rowMajor_val_three, Shape.rowMajor_val_two]
    show r.val * 128 + l.val = (0 * 512 + r.val) * 128 + l.val
    omega)

theorem up768_apply (v : FVec Ideal S512x768 .f32) (r : Fin 512) (l : Fin 768) :
    shapeCast S1x512x768 v shapeCasts_S512x768_S1x512x768 (ix3 (0 : Fin 1) r l) = v (ix2 r l) :=
  shapeCast_apply v _ (ix3 (0 : Fin 1) r l) (ix2 r l) (by
    rw [Shape.rowMajor_val_three, Shape.rowMajor_val_two]
    show r.val * 768 + l.val = (0 * 512 + r.val) * 768 + l.val
    omega)

theorem up256_apply (v : FVec Ideal S512x256 .f32) (r : Fin 512) (l : Fin 256) :
    shapeCast S1x512x256 v shapeCasts_S512x256_S1x512x256 (ix3 (0 : Fin 1) r l) = v (ix2 r l) :=
  shapeCast_apply v _ (ix3 (0 : Fin 1) r l) (ix2 r l) (by
    rw [Shape.rowMajor_val_three, Shape.rowMajor_val_two]
    show r.val * 256 + l.val = (0 * 512 + r.val) * 256 + l.val
    omega)

end Cert.Kernel3Ideal.Hand

end
-- ==== Proof.POut.lean ====
/- What a grid point of the input projection leaves in its six output blocks, element by element. -/
module

public import proofs.«01_k».proof.Proof.PPay
public import Idealize.ShloMosaic.Lib.Pipeline.ValueKit

@[expose] public section

set_option maxRecDepth 16384

noncomputable section

namespace Cert.Kernel3Ideal.Hand

open Idealize.ShloMosaic Idealize.ShloMosaic.TcCoe
open Cert.Kernel3Ideal Cert.Kernel3Ideal.Gen

/-- One eighth. -/
abbrev eighth : EReal := Ideal.ofBits .f32 0x3E000000#32

section Pieces

variable (hb : FVec Ideal S512x1024 .bf16) (ct s1 s2 : FVec Ideal S512x128 .f32) (W : FVec Ideal S1024x3456 .bf16)

/-- The turned columns from `b` on, all tiles together. -/
def GK (b : ℕ) (y : S1x512x768.Idx) : EReal :=
  ropeB hb ct s1 s2 W (y 1 : Fin 512) (b + 128 * ((y 2 : Fin 768).val / 128)) ⟨(y 2 : Fin 768).val % 128, Nat.mod_lt _ (by decide)⟩

theorem GK_at (b o j : ℕ) (hj : o = 128 * j) (inb) (r : Fin 512) (l : Fin 128) :
    GK hb ct s1 s2 W b ((Rect.unit (s := S1x512x768) ![0, 0, o] S1x512x128.size inb).emb (ix3 (0 : Fin 1) r l)) = ropeB hb ct s1 s2 W r (b + o) l := by
  have h1 : (((Rect.unit (s := S1x512x768) ![0, 0, o] S1x512x128.size inb).emb (ix3 (0 : Fin 1) r l) 1 : Fin 512)) = r :=
    Fin.ext ((ValueKit.rect_emb_unit_val _ _ _ _ _).trans (Nat.zero_add _))
  have h2 : (((Rect.unit (s := S1x512x768) ![0, 0, o] S1x512x128.size inb).emb (ix3 (0 : Fin 1) r l) 2 : Fin 768)).val = o + l.val :=
    ValueKit.rect_emb_unit_val _ _ _ _ _
  unfold GK
  generalize (Rect.unit (s := S1x512x768) ![0, 0, o] S1x512x128.size inb).emb (ix3 (0 : Fin 1) r l) = y at h1 h2
  have key : ∀ r r' n n' k k', r = r' → n = n' → k = k' → ropeB hb ct s1 s2 W r n k = ropeB hb ct s1 s2 W r' n' k' := by rintro _ _ _ _ _ _ rfl rfl rfl; rfl
  refine key _ _ _ _ _ _ h1 ?_ (Fin.ext ?_)
  · rw [h2]; omega
  · show (y 2 : Fin 768).val % 128 = l.val
    rw [h2]; omega

theorem ld128_apply (b : ℕ) (inb) (hb' : b + 128 ≤ 3456) (d : Fin 1024) (l : Fin 128) :
    (View.ld (e' := .bf16) (Val := Elt Ideal) W (Rect.unit (s := S1024x3456) ![0, b] S1024x128.size inb) : FVec Ideal S1024x128 .bf16) (ix2 d l) = W (ix2 d ⟨b + l.val, by omega⟩) := by
  show W _ = W _
  refine congrArg W (funext fun a => Fin.ext ?_)
  match a with
  | ⟨0, _⟩ => exact (ValueKit.rect_emb_unit_val _ _ _ _ _).trans (Nat.zero_add _)
  | ⟨1, _⟩ => exact ValueKit.rect_emb_unit_val _ _ _ _ _

theorem pieceK (b o j : ℕ) (hj : o = 128 * j) (n : ℕ) (hn : n = b + o) (hle : n + 128 ≤ 3456) (inb) (inw) (x : S1x512x128.Idx) :
    shapeCast S1x512x128 (ropeV hb ct s1 s2 (View.ld (e' := .bf16) (Val := Elt Ideal) W (Rect.unit (s := S1024x3456) ![0, n] S1024x128.size inw))) shapeCasts_S512x128_S1x512x128 x
      = GK hb ct s1 s2 W b ((Rect.unit (s := S1x512x768) ![0, 0, o] S1x512x128.size inb).emb x) := by
  subst hn
  obtain ⟨a, r, l, rfl⟩ : ∃ (a : Fin 1) (r : Fin 512) (l : Fin 128), x = ix3 a r l := ⟨x 0, x 1, x 2, eq_ix3 (n0 := 1) (n1 := 512) (n2 := 128) x⟩
  obtain rfl : a = 0 := Subsingleton.elim _ _
  exact (up128_apply _ r l).trans ((ropeV_apply hb ct s1 s2 W _ (b + o) hle (fun d l => ld128_apply W _ _ hle d l) r l).trans (GK_at hb ct s1 s2 W b o j hj inb r l).symm)

theorem pieceQ (b o j : ℕ) (hj : o = 128 * j) (n : ℕ) (hn : n = b + o) (hle : n + 128 ≤ 3456) (inb) (inw) (x : S1x512x128.Idx) :
    shapeCast S1x512x128 (mulf (ropeV hb ct s1 s2 (View.ld (e' := .bf16) (Val := Elt Ideal) W (Rect.unit (s := S1024x3456) ![0, n] S1024x128.size inw))) (broadcast S512x128 (Scalar.ofBits .f32 0x3E000000#32 : Ideal .f32))) shapeCasts_S512x128_S1x512x128 x
      = GK hb ct s1 s2 W b ((Rect.unit (s := S1x512x768) ![0, 0, o] S1x512x128.size inb).emb x) * eighth := by
  subst hn
  obtain ⟨a, r, l, rfl⟩ : ∃ (a : Fin 1) (r : Fin 512) (l : Fin 128), x = ix3 a r l := ⟨x 0, x 1, x 2, eq_ix3 (n0 := 1) (n1 := 512) (n2 := 128) x⟩
  obtain rfl : a = 0 := Subsingleton.elim _ _
  refine (up128_apply _ r l).trans ?_
  exact congrArg (α := EReal) (β := EReal) (· * eighth) ((ropeV_apply hb ct s1 s2 W _ (b + o) hle (fun d l => ld128_apply W _ _ hle d l) r l).trans (GK_at hb ct s1 s2 W b o j hj inb r l).symm)

end Pieces

section Outs

variable (x0 : FVec Ideal S1x512x1024 .f32) (x1 x2 : FVec Ideal S1x1x1024 .f32) (x3 x4 x5 : FVec Ideal S512x128 .f32) (x6 : FVec Ideal S1024x3456 .bf16)

theorem pay25_eq : k0_pay25 (F := Ideal) x0 x1 x2 x3 x4 x5 x6 = k0_pay2 (F := Ideal) x0 x1 x2 := by
  have z : (![0, 0, 0] : Fin 3 → ℕ) = fun _ => 0 := by decide
  unfold k0_pay25
  rw [View.ld_unit_zero (S := S1x512x1024) z, View.ld_unit_zero (S := S1x1x1024) z, View.ld_unit_zero (S := S1x1x1024) z]

theorem whole128 (x : FVec Ideal S512x128 .f32) : shapeCast S512x128 (View.ld (e' := .f32) (Val := Elt Ideal) x r0_2 : FVec Ideal S512x128 .f32) shapeCasts_S512x128_S512x128 = x := by
  have z : (![0, 0] : Fin 2 → ℕ) = fun _ => 0 := by decide
  refine (congrArg (shapeCast S512x128 · shapeCasts_S512x128_S512x128) (View.ld_unit_zero (Val := Elt Ideal) (e := .f32) (S := S512x128) z _ x)).trans ?_
  exact funext fun y => shapeCast_apply x _ y y rfl

theorem pay26_eq : k0_pay26 (F := Ideal) x0 x1 x2 x3 x4 x5 x6 = x3 := whole128 x3
theorem pay27_eq : k0_pay27 (F := Ideal) x0 x1 x2 x3 x4 x5 x6 = x4 := whole128 x4
theorem pay28_eq : k0_pay28 (F := Ideal) x0 x1 x2 x3 x4 x5 x6 = x5 := whole128 x5

/-- The queries. -/
theorem out7_apply (y : S1x512x768.Idx) :
    out0_7 (F := Ideal) x0 x1 x2 x3 x4 x5 x6 y = (GK (k0_pay2 (F := Ideal) x0 x1 x2) x3 x4 x5 x6 0 y * eighth : EReal) := by
  rw [← pay25_eq x0 x1 x2 x3 x4 x5 x6]
  rw [show GK (k0_pay25 (F := Ideal) x0 x1 x2 x3 x4 x5 x6) x3 x4 x5 x6 = GK (k0_pay25 (F := Ideal) x0 x1 x2 x3 x4 x5 x6) (k0_pay26 (F := Ideal) x0 x1 x2 x3 x4 x5 x6) (k0_pay27 (F := Ideal) x0 x1 x2 x3 x4 x5 x6) (k0_pay28 (F := Ideal) x0 x1 x2 x3 x4 x5 x6) x6 by
    rw [pay26_eq, pay27_eq, pay28_eq]]
  unfold out0_7
  refine View.canon_apply_of_pieces (Val := Elt Ideal) (e := .f32) (fun y => (GK (k0_pay25 (F := Ideal) x0 x1 x2 x3 x4 x5 x6) (k0_pay26 (F := Ideal) x0 x1 x2 x3 x4 x5 x6) (k0_pay27 (F := Ideal) x0 x1 x2 x3 x4 x5 x6) (k0_pay28 (F := Ideal) x0 x1 x2 x3 x4 x5 x6) x6 0 y * eighth : EReal)) _ ?_ y (cover0_7 _ _ _ _ _ _ y)
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun p hp => absurd hp List.not_mem_nil⟩⟩⟩⟩⟩⟩
  · exact pieceQ _ _ _ _ x6 0 640 5 rfl 640 rfl (by decide) inb_S1x512x768_S1x512x128_0_0_640 inb_S1024x3456_S1024x128_0_640 x
  · exact pieceQ _ _ _ _ x6 0 512 4 rfl 512 rfl (by decide) inb_S1x512x768_S1x512x128_0_0_512 inb_S1024x3456_S1024x128_0_512 x
  · exact pieceQ _ _ _ _ x6 0 384 3 rfl 384 rfl (by decide) inb_S1x512x768_S1x512x128_0_0_384 inb_S1024x3456_S1024x128_0_384 x
  · exact pieceQ _ _ _ _ x6 0 256 2 rfl 256 rfl (by decide) inb_S1x512x768_S1x512x128_0_0_256 inb_S1024x3456_S1024x128_0_256 x
  · exact pieceQ _ _ _ _ x6 0 128 1 rfl 128 rfl (by decide) inb_S1x512x768_S1x512x128_0_0_128 inb_S1024x3456_S1024x128_0_128 x
  · exact pieceQ _ _ _ _ x6 0 0 0 rfl 0 rfl (by decide) inb_S1x512x768_S1x512x128_0_0_0 inb_S1024x3456_S1024x128_0_0 x

/-- The keys. -/
theorem out8_apply (y : S1x512x768.Idx) :
    out0_8 (F := Ideal) x0 x1 x2 x3 x4 x5 x6 y = GK (k0_pay2 (F := Ideal) x0 x1 x2) x3 x4 x5 x6 768 y := by
  rw [← pay25_eq x0 x1 x2 x3 x4 x5 x6]
  rw [show GK (k0_pay25 (F := Ideal) x0 x1 x2 x3 x4 x5 x6) x3 x4 x5 x6 = GK (k0_pay25 (F := Ideal) x0 x1 x2 x3 x4 x5 x6) (k0_pay26 (F := Ideal) x0 x1 x2 x3 x4 x5 x6) (k0_pay27 (F := Ideal) x0 x1 x2 x3 x4 x5 x6) (k0_pay28 (F := Ideal) x0 x1 x2 x3 x4 x5 x6) x6 by
    rw [pay26_eq, pay27_eq, pay28_eq]]
  unfold out0_8
  refine View.canon_apply_of_pieces (Val := Elt Ideal) (e := .f32) (fun y => GK (k0_pay25 (F := Ideal) x0 x1 x2 x3 x4 x5 x6) (k0_pay26 (F := Ideal) x0 x1 x2 x3 x4 x5 x6) (k0_pay27 (F := Ideal) x0 x1 x2 x3 x4 x5 x6) (k0_pay28 (F := Ideal) x0 x1 x2 x3 x4 x5 x6) x6 768 y) _ ?_ y (cover0_8 _ _ _ _ _ _ y)
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun p hp => absurd hp List.not_mem_nil⟩⟩⟩⟩⟩⟩
  · exact pieceK _ _ _ _ x6 768 640 5 rfl 1408 rfl (by decide) inb_S1x512x768_S1x512x128_0_0_640 inb_S1024x3456_S1024x128_0_1408 x
  · exact pieceK _ _ _ _ x6 768 512 4 rfl 1280 rfl (by decide) inb_S1x512x768_S1x512x128_0_0_512 inb_S1024x3456_S1024x128_0_1280 x
  · exact pieceK _ _ _ _ x6 768 384 3 rfl 1152 rfl (by decide) inb_S1x512x768_S1x512x128_0_0_384 inb_S1024x3456_S1024x128_0_1152 x
  · exact pieceK _ _ _ _ x6 768 256 2 rfl 1024 rfl (by decide) inb_S1x512x768_S1x512x128_0_0_256 inb_S1024x3456_S1024x128_0_1024 x
  · exact pieceK _ _ _ _ x6 768 128 1 rfl 896 rfl (by decide) inb_S1x512x768_S1x512x128_0_0_128 inb_S1024x3456_S1024x128_0_896 x
  · exact pieceK _ _ _ _ x6 768 0 0 rfl 768 rfl (by decide) inb_S1x512x768_S1x512x128_0_0_0 inb_S1024x3456_S1024x128_0_768 x

/-- A 768-column product of the block, from column `b` on. -/
theorem wide768 (hb : FVec Ideal S512x1024 .bf16) (b : ℕ) (inw) (hle : b + 768 ≤ 3456) (r : Fin 512) (l : Fin 768) :
    matmul (φ₂ := .bf16) dot_S512x1024_S1024x768_S512x768_1_0_0_1_n_n none hb (shapeCast (α := Ideal .bf16) S1024x768 (View.ld (e' := .bf16) (Val := Elt Ideal) x6 (Rect.unit (s := S1024x3456) ![0, b] S1024x768.size inw) : FVec Ideal S1024x768 .bf16) shapeCasts_S1024x768_S1024x768) (constant S512x768 .f32 0x00000000#32) (ix2 r l)
      = pB hb x6 r (b + l.val) := by
  refine (mm768_apply hb _ r l).trans (Finset.sum_congr rfl fun d _ => ?_)
  rw [dif_pos (show b + l.val < 3456 by omega)]
  refine congrArg (α := EReal) (β := EReal) (hb (ix2 r d) * ·) ?_
  show x6 _ = x6 _
  refine congrArg x6 (funext fun a => Fin.ext ?_)
  match a with
  | ⟨0, _⟩ => exact (ValueKit.rect_emb_unit_val _ _ _ _ _).trans (Nat.zero_add _)
  | ⟨1, _⟩ => exact ValueKit.rect_emb_unit_val _ _ _ _ _

/-- The values, the convolution's input, the gate, and the two small heads. -/
theorem out9_apply (r : Fin 512) (l : Fin 768) :
    out0_9 (F := Ideal) x0 x1 x2 x3 x4 x5 x6 (ix3 (0 : Fin 1) r l) = pB (k0_pay2 (F := Ideal) x0 x1 x2) x6 r (1536 + l.val) := by
  have z : (![0, 0, 0] : Fin 3 → ℕ) = fun _ => 0 := by decide
  rw [← pay25_eq x0 x1 x2 x3 x4 x5 x6]
  unfold out0_9
  rw [View.canon_unit_zero (S := S1x512x768) z]
  exact (up768_apply _ r l).trans (wide768 x6 _ 1536 _ (by decide) r l)

theorem out10_apply (r : Fin 512) (l : Fin 768) :
    out0_10 (F := Ideal) x0 x1 x2 x3 x4 x5 x6 (ix3 (0 : Fin 1) r l) = pB (k0_pay2 (F := Ideal) x0 x1 x2) x6 r (2304 + l.val) := by
  have z : (![0, 0, 0] : Fin 3 → ℕ) = fun _ => 0 := by decide
  rw [← pay25_eq x0 x1 x2 x3 x4 x5 x6]
  unfold out0_10
  rw [View.canon_unit_zero (S := S1x512x768) z]
  exact (up768_apply _ r l).trans (wide768 x6 _ 2304 _ (by decide) r l)

theorem out11_apply (r : Fin 512) (l : Fin 256) :
    out0_11 (F := Ideal) x0 x1 x2 x3 x4 x5 x6 (ix3 (0 : Fin 1) r l) = pB (k0_pay2 (F := Ideal) x0 x1 x2) x6 r (3072 + l.val) := by
  have z : (![0, 0, 0] : Fin 3 → ℕ) = fun _ => 0 := by decide
  rw [← pay25_eq x0 x1 x2 x3 x4 x5 x6]
  unfold out0_11
  rw [View.canon_unit_zero (S := S1x512x256) z]
  refine (up256_apply _ r l).trans ((mm256_apply _ _ r l).trans (Finset.sum_congr rfl fun d _ => ?_))
  rw [dif_pos (show 3072 + l.val < 3456 by omega)]
  refine congrArg (α := EReal) (β := EReal) (k0_pay25 (F := Ideal) x0 x1 x2 x3 x4 x5 x6 (ix2 r d) * ·) ?_
  show x6 _ = x6 _
  refine congrArg x6 (funext fun a => Fin.ext ?_)
  match a with
  | ⟨0, _⟩ => exact (ValueKit.rect_emb_unit_val _ _ _ _ _).trans (Nat.zero_add _)
  | ⟨1, _⟩ => exact ValueKit.rect_emb_unit_val _ _ _ _ _

theorem out12_apply (r : Fin 512) (l : Fin 128) :
    out0_12 (F := Ideal) x0 x1 x2 x3 x4 x5 x6 (ix3 (0 : Fin 1) r l) = pB (k0_pay2 (F := Ideal) x0 x1 x2) x6 r (3328 + l.val) := by
  have z : (![0, 0, 0] : Fin 3 → ℕ) = fun _ => 0 := by decide
  rw [← pay25_eq x0 x1 x2 x3 x4 x5 x6]
  unfold out0_12
  rw [View.canon_unit_zero (S := S1x512x128) z]
  refine (up128_apply _ r l).trans ((mm128_apply _ _ r l).trans (Finset.sum_congr rfl fun d _ => ?_))
  rw [dif_pos (show 3328 + l.val < 3456 by omega)]
  exact congrArg (α := EReal) (β := EReal) (k0_pay25 (F := Ideal) x0 x1 x2 x3 x4 x5 x6 (ix2 r d) * ·) (ld128_apply x6 3328 _ (by decide) d l)

end Outs

end Cert.Kernel3Ideal.Hand

end
-- ==== Proof.PHost.lean ====
/- What the input projection's host code hands the call: the padded weights and the three rotation tables. -/
module

public import proofs.«01_k».proof.Proof.Gen.Kernel3Ideal.Frame
public import Idealize.ShloMosaic.Lib.IdealHost
public import Idealize.ShloMosaic.Lib.Pointwise

@[expose] public section

set_option maxRecDepth 16384

noncomputable section

namespace Cert.Kernel3Ideal.Hand

open Idealize.ShloMosaic Idealize.ShloMosaic.TcCoe
open Idealize.SL Idealize.SL.Sem
open Cert.Kernel3Ideal Cert.Kernel3Ideal.Gen

/-- The angles: position times frequency. -/
def angV : FVec Ideal S16384x8 .f32 :=
  mulf (broadcastInDim S16384x8 ![0, 1] bcast_S16384x1_S16384x8_0_1 (broadcastInDim S16384x1 ![0] bcast_S16384_S16384x1_0 (sitofp .f32 (iotaInDim S16384 32 0) : FVec Ideal S16384 .f32)))
    (broadcastInDim S16384x8 ![0, 1] bcast_S1x8_S16384x8_0_1 (broadcastInDim S1x8 ![1] bcast_S8_S1x8_1
      (Host.powf (broadcastInDim S8 ![] bcast_S_S8 (constant S_ .f32 0x48F42400#32)) (Host.divf (Host.negf (sitofp .f32 (iotaInDim S8 32 0) : FVec Ideal S8 .f32)) (broadcastInDim S8 ![] bcast_S_S8 (constant S_ .f32 0x41000000#32))))))

/-- Zeros, and zeros plus ones. -/
def z48 : FVec Ideal S16384x48 .f32 := broadcastInDim S16384x48 ![] bcast_S_S16384x48 (constant S_ .f32 0x00000000#32)
def z8 : FVec Ideal S16384x8 .f32 := broadcastInDim S16384x8 ![] bcast_S_S16384x8 (constant S_ .f32 0x00000000#32)
def o48 : FVec Ideal S16384x48 .f32 := addf z48 (broadcastInDim S16384x48 ![] bcast_S_S16384x48 (constant S_ .f32 0x3F800000#32))

/-- A head's 64 lanes of a table, from its three parts, and the two heads of a tile. -/
def cat3 (a b : FVec Ideal S16384x8 .f32) (z : FVec Ideal S16384x48 .f32) : FVec Ideal S16384x64 .f32 :=
  concatenate S16384x64 1 [⟨S16384x8, a⟩, ⟨S16384x8, b⟩, ⟨S16384x48, z⟩] concatenates_S16384x8_S16384x8_S16384x48_S16384x64_d1
def twice (t : FVec Ideal S16384x64 .f32) : FVec Ideal S16384x128 .f32 :=
  shapeCast S16384x128 (broadcastInDim S1x16384x2x64 ![0, 1, 2, 3] bcast_S1x16384x1x64_S1x16384x2x64_0_1_2_3 (shapeCast S1x16384x1x64 t shapeCasts_S16384x64_S1x16384x1x64)) shapeCasts_S1x16384x2x64_S16384x128

variable (m : (ℓ : Loc nD τ sig) → Buf (Elt Ideal) ℓ)

theorem V_tab (c : Dev nD) : V m c main_v27 = (twice (cat3 (Host.cos angV) (Host.cos angV) o48) : FVec Ideal S16384x128 .f32) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp <;> rfl

theorem V_tab1 (c : Dev nD) : V m c main_v30 = (twice (cat3 (Host.negf (Host.sin angV)) z8 z48) : FVec Ideal S16384x128 .f32) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp <;> rfl

theorem V_tab2 (c : Dev nD) : V m c main_v33 = (twice (cat3 z8 (Host.sin angV) z48) : FVec Ideal S16384x128 .f32) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp <;> rfl

theorem V_w (c : Dev nD) : V m c main_v1 = (truncf .bf16 (pad S1024x3456 ![0, 0] ![0, 120] ![0, 0] (m ((c : Thread nD τ).loc main_arg3) : FVec Ideal S1024x3336 .f32)
    (sitofp .f32 (constantI S_ 32 0#32) : FVec Ideal S_ .f32) pads_S1024x3336_S1024x3456_000_01200 h_S_) bitsLt_bf16_f32 : FVec Ideal S1024x3456 .bf16) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp <;> rfl

end Cert.Kernel3Ideal.Hand

end
-- ==== Proof.PSpec.lean ====
/- The input projection's mathematics: a modulated row, its projected columns, and the rotation of a head's first 16 lanes. -/
module

public import Idealize.ShloMosaic.PureOps.Ideal.Laws

@[expose] public section

noncomputable section

namespace Cert.Proj

/-- A row scaled and shifted. -/
def row (x s h : Fin 1024 → EReal) (d : Fin 1024) : EReal := x d * (1 + s d) + h d

/-- A column of the weights, zero past the last. -/
def col (w : Fin 1024 → Fin 3336 → EReal) (f : ℕ) (d : Fin 1024) : EReal := if h : f < 3336 then w d ⟨f, h⟩ else 0

/-- The row projected onto column `f`. -/
def proj (r : Fin 1024 → EReal) (w : Fin 1024 → Fin 3336 → EReal) (f : ℕ) : EReal := ∑ d, r d * col w f d

/-- A head's lane `e`: the first 16 lanes turned in pairs 8 apart, the others kept. -/
def rope (C S u : ℕ → EReal) (e : ℕ) : EReal :=
  if e < 8 then u e * C e - u (e + 8) * S e
  else if e < 16 then u e * C (e - 8) + u (e - 8) * S (e - 8)
  else u e

/-- The three tables: the lane's own factor, the factor of the lane 8 above, the factor of the lane 8 below. -/
def tab0 (C : ℕ → EReal) (e : ℕ) : EReal := if e < 8 then C e else if e < 16 then C (e - 8) else 1
def tab1 (S : ℕ → EReal) (e : ℕ) : EReal := if e < 8 then -S e else 0
def tab2 (S : ℕ → EReal) (e : ℕ) : EReal := if e < 8 then 0 else if e < 16 then S (e - 8) else 0

/-- The rotation by tables over a tile of two heads is the rotation of each head. -/
theorem rope_of_tables (C S v : ℕ → EReal) (l : ℕ) (hl : l < 128) :
    v l * tab0 C (l % 64) + v ((l + 8) % 128) * tab1 S (l % 64) + v ((l + 120) % 128) * tab2 S (l % 64)
      = rope C S (fun e => v (64 * (l / 64) + e)) (l % 64) := by
  unfold rope tab0 tab1 tab2
  have hd : 64 * (l / 64) + l % 64 = l := Nat.div_add_mod l 64
  by_cases h8 : l % 64 < 8
  · rw [if_pos h8, if_pos h8, if_pos h8, if_pos h8, mul_zero, add_zero, mul_neg, ← sub_eq_add_neg]
    show _ = v (64 * (l / 64) + l % 64) * _ - v (64 * (l / 64) + (l % 64 + 8)) * _
    rw [hd, show (l + 8) % 128 = 64 * (l / 64) + (l % 64 + 8) by omega]
  · rw [if_neg h8, if_neg h8, if_neg h8, if_neg h8, mul_zero, add_zero]
    by_cases h16 : l % 64 < 16
    · rw [if_pos h16, if_pos h16, if_pos h16]
      show _ = v (64 * (l / 64) + l % 64) * _ + v (64 * (l / 64) + (l % 64 - 8)) * _
      rw [hd, show (l + 120) % 128 = 64 * (l / 64) + (l % 64 - 8) by omega]
    · rw [if_neg h16, if_neg h16, if_neg h16, mul_zero, add_zero, mul_one]
      show _ = v (64 * (l / 64) + l % 64)
      rw [hd]

end Cert.Proj

end
-- ==== Proof.PTab.lean ====
/- The input projection's tables and padded weights, entry by entry. -/
module

public import proofs.«01_k».proof.Proof.PHost
public import proofs.«01_k».proof.Proof.PSpec
public import Idealize.ShloMosaic.Lib.KernelVsHost
public import Idealize.ShloMosaic.Lib.Pipeline.Value

@[expose] public section

set_option maxRecDepth 16384

noncomputable section

namespace Cert.Kernel3Ideal.Hand

open Idealize.ShloMosaic Idealize.ShloMosaic.TcCoe
open Cert.Kernel3Ideal Cert.Kernel3Ideal.Gen

/-- A head's 64 lanes: 8 of the first part, 8 of the second, 48 of the third. -/
theorem cat3_0 (a b : FVec Ideal S16384x8 .f32) (z : FVec Ideal S16384x48 .f32) (n : Fin 16384) (e : Fin 64) (h : e.val < 8) :
    cat3 a b z (ix2 n e) = a (ix2 n ⟨e.val, h⟩) :=
  concatenate_apply_piece (t := S16384x64) 1 _ _ (ix2 n e) 0 (by show 0 < 3; decide) S16384x8 _ (by rfl) rfl 0 (by rfl) (ix2 n (⟨e.val, h⟩ : Fin 8)) (fun b hb => by
    match b with
    | ⟨0, _⟩ => rfl
    | ⟨1, _⟩ => exact absurd rfl hb) (by show 0 + e.val = e.val; omega)

theorem cat3_1 (a b : FVec Ideal S16384x8 .f32) (z : FVec Ideal S16384x48 .f32) (n : Fin 16384) (e : Fin 64) (h : ¬ e.val < 8) (h' : e.val < 16) :
    cat3 a b z (ix2 n e) = b (ix2 n ⟨e.val - 8, by omega⟩) :=
  concatenate_apply_piece (t := S16384x64) 1 _ _ (ix2 n e) 1 (by show 1 < 3; decide) S16384x8 _ (by rfl) rfl 8 (by rfl) (ix2 n (⟨e.val - 8, by omega⟩ : Fin 8)) (fun b hb => by
    match b with
    | ⟨0, _⟩ => rfl
    | ⟨1, _⟩ => exact absurd rfl hb) (by show 8 + (e.val - 8) = e.val; omega)

theorem cat3_2 (a b : FVec Ideal S16384x8 .f32) (z : FVec Ideal S16384x48 .f32) (n : Fin 16384) (e : Fin 64) (h' : ¬ e.val < 16) :
    cat3 a b z (ix2 n e) = z (ix2 n ⟨e.val - 16, by omega⟩) :=
  concatenate_apply_piece (t := S16384x64) 1 _ _ (ix2 n e) 2 (by show 2 < 3; decide) S16384x48 _ (by rfl) rfl 16 (by rfl) (ix2 n (⟨e.val - 16, by omega⟩ : Fin 48)) (fun b hb => by
    match b with
    | ⟨0, _⟩ => rfl
    | ⟨1, _⟩ => exact absurd rfl hb) (by show 16 + (e.val - 16) = e.val; omega)

/-- Two heads side by side. -/
theorem twice_apply (t : FVec Ideal S16384x64 .f32) (n : Fin 16384) (l : Fin 128) :
    twice t (ix2 n l) = t (ix2 n ⟨l.val % 64, Nat.mod_lt _ (by decide)⟩) := by
  unfold twice
  refine (shapeCast_apply _ _ (ix2 n l) (ix4 (0 : Fin 1) n (⟨l.val / 64, by omega⟩ : Fin 2) (⟨l.val % 64, Nat.mod_lt _ (by decide)⟩ : Fin 64)) (by
    rw [Shape.rowMajor_val_four, Shape.rowMajor_val_two]
    show ((0 * 16384 + n.val) * 2 + l.val / 64) * 64 + l.val % 64 = n.val * 128 + l.val
    omega)).trans ?_
  refine (broadcastInDim_apply _ bcast_S1x16384x1x64_S1x16384x2x64_0_1_2_3 _ _ (ix4 (0 : Fin 1) n (0 : Fin 1) (⟨l.val % 64, Nat.mod_lt _ (by decide)⟩ : Fin 64)) (fun a => by
    match a with
    | ⟨0, _⟩ => rfl
    | ⟨1, _⟩ => show n.val = if (16384 : Nat) = 1 then 0 else n.val; rw [if_neg (by decide)]
    | ⟨2, _⟩ => rfl
    | ⟨3, _⟩ => show l.val % 64 = if (64 : Nat) = 1 then 0 else l.val % 64; rw [if_neg (by decide)])).trans ?_
  exact shapeCast_apply _ _ _ (ix2 n (⟨l.val % 64, Nat.mod_lt _ (by decide)⟩ : Fin 64)) (by
    rw [Shape.rowMajor_val_four, Shape.rowMajor_val_two]
    show n.val * 64 + l.val % 64 = ((0 * 16384 + n.val) * 1 + 0) * 64 + l.val % 64
    omega)

/-- Cosines and sines of a position's eight angles. -/
def Cn (n : Fin 16384) (e : ℕ) : EReal := if h : e < 8 then (Host.cos angV (ix2 n ⟨e, h⟩) : EReal) else 0
def Sn (n : Fin 16384) (e : ℕ) : EReal := if h : e < 8 then (Host.sin angV (ix2 n ⟨e, h⟩) : EReal) else 0

theorem z48_apply (i) : z48 i = (0 : EReal) := Ideal.ofBits_zero_f32
theorem z8_apply (i) : z8 i = (0 : EReal) := Ideal.ofBits_zero_f32
theorem o48_apply (i) : o48 i = (1 : EReal) := by
  show (Ideal.ofBits .f32 0x00000000#32 + Ideal.ofBits .f32 0x3F800000#32 : EReal) = 1
  rw [Ideal.ofBits_zero_f32, Ideal.ofBits_one_f32, zero_add]

variable (m : (ℓ : Loc nD τ sig) → Buf (Elt Ideal) ℓ)

theorem tab0_apply (c : Dev nD) (n : Fin 16384) (l : Fin 128) :
    (V m c main_v27 : FVec Ideal S16384x128 .f32) (ix2 n l) = Proj.tab0 (Cn n) (l.val % 64) := by
  rw [V_tab, twice_apply]
  unfold Proj.tab0
  by_cases h : l.val % 64 < 8
  · rw [cat3_0 _ _ _ _ _ h, if_pos h]; unfold Cn; rw [dif_pos h]
  · rw [if_neg h]
    by_cases h' : l.val % 64 < 16
    · rw [cat3_1 _ _ _ _ _ h h', if_pos h']; unfold Cn; rw [dif_pos (show l.val % 64 - 8 < 8 by omega)]
    · rw [cat3_2 _ _ _ _ _ h', if_neg h']; exact o48_apply _

theorem tab1_apply (c : Dev nD) (n : Fin 16384) (l : Fin 128) :
    (V m c main_v30 : FVec Ideal S16384x128 .f32) (ix2 n l) = Proj.tab1 (Sn n) (l.val % 64) := by
  rw [V_tab1, twice_apply]
  unfold Proj.tab1
  by_cases h : l.val % 64 < 8
  · rw [cat3_0 _ _ _ _ _ h, if_pos h]; unfold Sn; rw [dif_pos h]; rfl
  · rw [if_neg h]
    by_cases h' : l.val % 64 < 16
    · rw [cat3_1 _ _ _ _ _ h h']; exact z8_apply _
    · rw [cat3_2 _ _ _ _ _ h']; exact z48_apply _

theorem tab2_apply (c : Dev nD) (n : Fin 16384) (l : Fin 128) :
    (V m c main_v33 : FVec Ideal S16384x128 .f32) (ix2 n l) = Proj.tab2 (Sn n) (l.val % 64) := by
  rw [V_tab2, twice_apply]
  unfold Proj.tab2
  by_cases h : l.val % 64 < 8
  · rw [cat3_0 _ _ _ _ _ h, if_pos h]; exact z8_apply _
  · rw [if_neg h]
    by_cases h' : l.val % 64 < 16
    · rw [cat3_1 _ _ _ _ _ h h', if_pos h']; unfold Sn; rw [dif_pos (show l.val % 64 - 8 < 8 by omega)]
    · rw [cat3_2 _ _ _ _ _ h', if_neg h']; exact z48_apply _

/-- The padded weights. -/
theorem w_apply (c : Dev nD) (d : Fin 1024) (f : Fin 3456) :
    (V m c main_v1 : FVec Ideal S1024x3456 .bf16) (ix2 d f) = Proj.col (fun d f => ((m ((c : Thread nD τ).loc main_arg3) : FVec Ideal S1024x3336 .f32) (ix2 d f) : EReal)) f.val d := by
  rw [V_w]
  show pad S1024x3456 ![0, 0] ![0, 120] ![0, 0] (m ((c : Thread nD τ).loc main_arg3) : FVec Ideal S1024x3336 .f32)
    (sitofp .f32 (constantI S_ 32 0#32) : FVec Ideal S_ .f32) pads_S1024x3336_S1024x3456_000_01200 h_S_ (ix2 d f) = _
  unfold Proj.col
  by_cases h : f.val < 3336
  · rw [dif_pos h]
    exact pad_apply_of_inside _ _ _ _ _ _ _ (ix2 d f) (ix2 d (⟨f.val, h⟩ : Fin 3336)) fun a => by
      match a with
      | ⟨0, _⟩ => show d.val = 0 + d.val * 1; omega
      | ⟨1, _⟩ => show f.val = 0 + f.val * 1; omega
  · rw [dif_neg h]
    refine (pad_apply_of_not_inside _ _ _ _ _ _ _ (ix2 d f) (1 : Fin 2) ?_).trans ?_
    · show ¬(0 ≤ f.val ∧ (f.val - 0) % (0 + 1) = 0 ∧ (f.val - 0) / (0 + 1) < 3336)
      omega
    · show (((((0#32 : BitVec 32).toInt : ℤ) : ℝ) : EReal)) = 0
      simp

end Cert.Kernel3Ideal.Hand

end
-- ==== Proof.PFinal.lean ====
/- The input projection's result arrays after its run, element by element. -/
module

public import proofs.«01_k».proof.Proof.POut
public import proofs.«01_k».proof.Proof.PTab
public import Idealize.ShloMosaic.Lib.Pipeline.Covers
public import Idealize.ShloMosaic.Lib.Pipeline.Frame

@[expose] public section

set_option maxRecDepth 16384

noncomputable section

namespace Cert.Kernel3Ideal.Hand

open Idealize.ShloMosaic Idealize.ShloMosaic.TcCoe
open Idealize.SL Idealize.SL.Sem
open Cert.Kernel3Ideal Cert.Kernel3Ideal.Gen

/-! ## The blocks' places -/

theorem index0 (t : Fin cfg0.N) : (cfg0.win 0).index t = ![t.val / 32, t.val % 32, 0] :=
  (by decide +kernel : ∀ t : Fin grid0.N, cc0_transform_0 (grid0.coords t) = ![t.val / 32, t.val % 32, 0]) t
theorem index1 (t : Fin cfg0.N) : (cfg0.win 1).index t = ![t.val / 32, 0, 0] :=
  (by decide +kernel : ∀ t : Fin grid0.N, cc0_transform_1 (grid0.coords t) = ![t.val / 32, 0, 0]) t
theorem index2 (t : Fin cfg0.N) : (cfg0.win 2).index t = ![t.val / 32, 0, 0] :=
  (by decide +kernel : ∀ t : Fin grid0.N, cc0_transform_2 (grid0.coords t) = ![t.val / 32, 0, 0]) t
theorem index3 (t : Fin cfg0.N) : (cfg0.win 3).index t = ![t.val % 32, 0] :=
  (by decide +kernel : ∀ t : Fin grid0.N, cc0_transform_3 (grid0.coords t) = ![t.val % 32, 0]) t
theorem index4 (t : Fin cfg0.N) : (cfg0.win 4).index t = ![t.val % 32, 0] :=
  (by decide +kernel : ∀ t : Fin grid0.N, cc0_transform_4 (grid0.coords t) = ![t.val % 32, 0]) t
theorem index5 (t : Fin cfg0.N) : (cfg0.win 5).index t = ![t.val % 32, 0] :=
  (by decide +kernel : ∀ t : Fin grid0.N, cc0_transform_5 (grid0.coords t) = ![t.val % 32, 0]) t
theorem index6 (t : Fin cfg0.N) : (cfg0.win 6).index t = ![0, 0] :=
  (by decide +kernel : ∀ t : Fin grid0.N, cc0_transform_6 (grid0.coords t) = ![0, 0]) t
theorem index7 (t : Fin cfg0.N) : (cfg0.win 7).index t = ![t.val / 32, t.val % 32, 0] :=
  (by decide +kernel : ∀ t : Fin grid0.N, cc0_transform_7 (grid0.coords t) = ![t.val / 32, t.val % 32, 0]) t
theorem index8 (t : Fin cfg0.N) : (cfg0.win 8).index t = ![t.val / 32, t.val % 32, 0] :=
  (by decide +kernel : ∀ t : Fin grid0.N, cc0_transform_8 (grid0.coords t) = ![t.val / 32, t.val % 32, 0]) t
theorem index9 (t : Fin cfg0.N) : (cfg0.win 9).index t = ![t.val / 32, t.val % 32, 0] :=
  (by decide +kernel : ∀ t : Fin grid0.N, cc0_transform_9 (grid0.coords t) = ![t.val / 32, t.val % 32, 0]) t
theorem index10 (t : Fin cfg0.N) : (cfg0.win 10).index t = ![t.val / 32, t.val % 32, 0] :=
  (by decide +kernel : ∀ t : Fin grid0.N, cc0_transform_10 (grid0.coords t) = ![t.val / 32, t.val % 32, 0]) t
theorem index11 (t : Fin cfg0.N) : (cfg0.win 11).index t = ![t.val / 32, t.val % 32, 0] :=
  (by decide +kernel : ∀ t : Fin grid0.N, cc0_transform_11 (grid0.coords t) = ![t.val / 32, t.val % 32, 0]) t
theorem index12 (t : Fin cfg0.N) : (cfg0.win 12).index t = ![t.val / 32, t.val % 32, 0] :=
  (by decide +kernel : ∀ t : Fin grid0.N, cc0_transform_12 (grid0.coords t) = ![t.val / 32, t.val % 32, 0]) t

/-- A point's batch, and the position of its row `r`. -/
def bt (t : Fin cfg0.N) : Fin 2 := ⟨t.val / 32, by have h : t.val < 64 := t.isLt; omega⟩
def nt (t : Fin cfg0.N) (r : Fin 512) : Fin 16384 := ⟨512 * (t.val % 32) + r.val, by omega⟩

variable (m : (ℓ : Loc nD τ sig) → Buf (Elt Ideal) ℓ)

theorem blk0 (c : Dev nD) (t : Fin cfg0.N) (r : Fin 512) (d : Fin 1024) :
    (iblk m c 0 t : FVec Ideal S1x512x1024 .f32) (ix3 (0 : Fin 1) r d) = (m ((c : Thread nD τ).loc main_arg0) : FVec Ideal S2x16384x1024 .f32) (ix3 (bt t) (nt t r) d) := by
  refine Eq.trans ?_ (congrFun (V_main_arg0 m c) _)
  blk_ext [iblk, bt, nt, index0 t]

theorem blk1 (c : Dev nD) (t : Fin cfg0.N) (d : Fin 1024) :
    (iblk m c 1 t : FVec Ideal S1x1x1024 .f32) (ix3 (0 : Fin 1) (0 : Fin 1) d) = (m ((c : Thread nD τ).loc main_arg1) : FVec Ideal S2x1x1024 .f32) (ix3 (bt t) (0 : Fin 1) d) := by
  refine Eq.trans ?_ (congrFun (V_main_arg1 m c) _)
  blk_ext [iblk, bt, index1 t]

theorem blk2 (c : Dev nD) (t : Fin cfg0.N) (d : Fin 1024) :
    (iblk m c 2 t : FVec Ideal S1x1x1024 .f32) (ix3 (0 : Fin 1) (0 : Fin 1) d) = (m ((c : Thread nD τ).loc main_arg2) : FVec Ideal S2x1x1024 .f32) (ix3 (bt t) (0 : Fin 1) d) := by
  refine Eq.trans ?_ (congrFun (V_main_arg2 m c) _)
  blk_ext [iblk, bt, index2 t]

theorem blk3 (c : Dev nD) (t : Fin cfg0.N) (r : Fin 512) (l : Fin 128) :
    (iblk m c 3 t : FVec Ideal S512x128 .f32) (ix2 r l) = (V m c main_v27 : FVec Ideal S16384x128 .f32) (ix2 (nt t r) l) := by
  blk_ext [iblk, nt, index3 t]

theorem blk4 (c : Dev nD) (t : Fin cfg0.N) (r : Fin 512) (l : Fin 128) :
    (iblk m c 4 t : FVec Ideal S512x128 .f32) (ix2 r l) = (V m c main_v30 : FVec Ideal S16384x128 .f32) (ix2 (nt t r) l) := by
  blk_ext [iblk, nt, index4 t]

theorem blk5 (c : Dev nD) (t : Fin cfg0.N) (r : Fin 512) (l : Fin 128) :
    (iblk m c 5 t : FVec Ideal S512x128 .f32) (ix2 r l) = (V m c main_v33 : FVec Ideal S16384x128 .f32) (ix2 (nt t r) l) := by
  blk_ext [iblk, nt, index5 t]

theorem blk6 (c : Dev nD) (t : Fin cfg0.N) (d : Fin 1024) (f : Fin 3456) :
    (iblk m c 6 t : FVec Ideal S1024x3456 .bf16) (ix2 d f) = (V m c main_v1 : FVec Ideal S1024x3456 .bf16) (ix2 d f) := by
  blk_ext [iblk, index6 t]

/-! ## The projected columns of a point's rows -/

/-- Column `f` of position `n` in batch `b`. -/
def KP (c : Dev nD) (b : Fin 2) (n : Fin 16384) (f : ℕ) : EReal :=
  Proj.proj (Proj.row (fun d => (m ((c : Thread nD τ).loc main_arg0) : FVec Ideal S2x16384x1024 .f32) (ix3 b n d))
    (fun d => (m ((c : Thread nD τ).loc main_arg1) : FVec Ideal S2x1x1024 .f32) (ix3 b (0 : Fin 1) d))
    (fun d => (m ((c : Thread nD τ).loc main_arg2) : FVec Ideal S2x1x1024 .f32) (ix3 b (0 : Fin 1) d)))
    (fun d f => (m ((c : Thread nD τ).loc main_arg3) : FVec Ideal S1024x3336 .f32) (ix2 d f)) f

/-- A point's rows, scaled and shifted. -/
abbrev hB (c : Dev nD) (t : Fin cfg0.N) : FVec Ideal S512x1024 .bf16 := k0_pay2 (F := Ideal) (iblk m c 0 t) (iblk m c 1 t) (iblk m c 2 t)

theorem pB_blk (c : Dev nD) (t : Fin cfg0.N) (r : Fin 512) (f : ℕ) :
    pB (hB m c t) (iblk m c 6 t) r f = KP m c (bt t) (nt t r) f := by
  unfold pB KP Proj.proj
  refine Finset.sum_congr rfl fun d _ => congrArg₂ (α := EReal) (β := EReal) (· * ·) ?_ ?_
  · refine (pay2_apply _ _ _ r d).trans ?_
    rw [blk0, blk1, blk2]
    rfl
  · by_cases h : f < 3456
    · rw [dif_pos h, blk6, w_apply]
    · rw [dif_neg h]
      unfold Proj.col
      rw [dif_neg (by omega)]

/-- The turned columns. -/
def KR (c : Dev nD) (o : ℕ) (b : Fin 2) (n : Fin 16384) (l : ℕ) : EReal :=
  Proj.rope (Cn n) (Sn n) (fun e => KP m c b n (o + (64 * (l / 64) + e))) (l % 64)

theorem GK_blk (c : Dev nD) (t : Fin cfg0.N) (o : ℕ) (r : Fin 512) (l : Fin 768) :
    GK (hB m c t) (iblk m c 3 t) (iblk m c 4 t) (iblk m c 5 t) (iblk m c 6 t) o (ix3 (0 : Fin 1) r l) = KR m c o (bt t) (nt t r) l.val := by
  show ropeB (hB m c t) (iblk m c 3 t) (iblk m c 4 t) (iblk m c 5 t) (iblk m c 6 t) r (o + 128 * (l.val / 128)) ⟨l.val % 128, Nat.mod_lt _ (by decide)⟩ = _
  unfold ropeB
  rw [pB_blk, pB_blk, pB_blk, blk3, blk4, blk5, tab0_apply, tab1_apply, tab2_apply]
  refine (Proj.rope_of_tables (Cn (nt t r)) (Sn (nt t r)) (fun k => KP m c (bt t) (nt t r) (o + 128 * (l.val / 128) + k)) (l.val % 128) (Nat.mod_lt _ (by decide))).trans ?_
  unfold KR
  rw [show l.val % 128 % 64 = l.val % 64 by omega]
  refine congrArg (Proj.rope (Cn (nt t r)) (Sn (nt t r)) · (l.val % 64)) (funext fun e => ?_)
  show KP m c (bt t) (nt t r) (o + 128 * (l.val / 128) + (64 * (l.val % 128 / 64) + e)) = _
  rw [show o + 128 * (l.val / 128) + (64 * (l.val % 128 / 64) + e) = o + (64 * (l.val / 64) + e) by omega]

/-! ## The result arrays -/

def qV (c : Dev nD) : FVec Ideal S2x16384x768 .f32 := fun y => (KR m c 0 (y 0 : Fin 2) (y 1 : Fin 16384) (y 2 : Fin 768).val * eighth : EReal)

theorem covers7 : (cfg0.win 7).Covers := by
  have hsz : ∀ a, 0 < (cfg0.win 7).size a := fun a => (by decide : ∀ a : Fin 3, 0 < S1x512x768.size a) a
  refine Pipeline.Window.covers_of_index_surj _ rfl hsz fun β => ?_
  have h0 : (β (0 : Fin 3)).val < 2 := lt_of_lt_of_eq (β (0 : Fin 3)).isLt (show (S2x16384x768.size 0 + S1x512x768.size 0 - 1) / S1x512x768.size 0 = 2 from by decide)
  have h1 : (β (1 : Fin 3)).val < 32 := lt_of_lt_of_eq (β (1 : Fin 3)).isLt (show (S2x16384x768.size 1 + S1x512x768.size 1 - 1) / S1x512x768.size 1 = 32 from by decide)
  have h2 : (β (2 : Fin 3)).val < 1 := lt_of_lt_of_eq (β (2 : Fin 3)).isLt (show (S2x16384x768.size 2 + S1x512x768.size 2 - 1) / S1x512x768.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index7]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final7 (c : Dev nD) : (dats m 0 c).arrAt 7 cfg0.N = qV m c := by
  refine (dats m 0 c).arrAt_eq_of_covers 7 _ covers7 fun t hf y => ?_
  blk_simp
  rw [after0_7]
  obtain ⟨a, r, l, rfl⟩ : ∃ (a : Fin 1) (r : Fin 512) (l : Fin 768), y = ix3 a r l := ⟨(show S1x512x768.Idx from y) 0, (show S1x512x768.Idx from y) 1, (show S1x512x768.Idx from y) 2, eq_ix3 (n0 := 1) (n1 := 512) (n2 := 768) y⟩
  obtain rfl : a = 0 := Subsingleton.elim _ _
  refine ((out7_apply _ _ _ _ _ _ _ (ix3 (0 : Fin 1) r l)).trans (congrArg (α := EReal) (β := EReal) (· * eighth) (GK_blk m c t 0 r l))).trans ?_
  show qV m c (ix3 (bt t) (nt t r) l) = _
  blk_ext [index7 t, bt, nt]

def kV (c : Dev nD) : FVec Ideal S2x16384x768 .f32 := fun y => (KR m c 768 (y 0 : Fin 2) (y 1 : Fin 16384) (y 2 : Fin 768).val : EReal)

theorem covers8 : (cfg0.win 8).Covers := by
  have hsz : ∀ a, 0 < (cfg0.win 8).size a := fun a => (by decide : ∀ a : Fin 3, 0 < S1x512x768.size a) a
  refine Pipeline.Window.covers_of_index_surj _ rfl hsz fun β => ?_
  have h0 : (β (0 : Fin 3)).val < 2 := lt_of_lt_of_eq (β (0 : Fin 3)).isLt (show (S2x16384x768.size 0 + S1x512x768.size 0 - 1) / S1x512x768.size 0 = 2 from by decide)
  have h1 : (β (1 : Fin 3)).val < 32 := lt_of_lt_of_eq (β (1 : Fin 3)).isLt (show (S2x16384x768.size 1 + S1x512x768.size 1 - 1) / S1x512x768.size 1 = 32 from by decide)
  have h2 : (β (2 : Fin 3)).val < 1 := lt_of_lt_of_eq (β (2 : Fin 3)).isLt (show (S2x16384x768.size 2 + S1x512x768.size 2 - 1) / S1x512x768.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index8]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final8 (c : Dev nD) : (dats m 0 c).arrAt 8 cfg0.N = kV m c := by
  refine (dats m 0 c).arrAt_eq_of_covers 8 _ covers8 fun t hf y => ?_
  blk_simp
  rw [after0_8]
  obtain ⟨a, r, l, rfl⟩ : ∃ (a : Fin 1) (r : Fin 512) (l : Fin 768), y = ix3 a r l := ⟨(show S1x512x768.Idx from y) 0, (show S1x512x768.Idx from y) 1, (show S1x512x768.Idx from y) 2, eq_ix3 (n0 := 1) (n1 := 512) (n2 := 768) y⟩
  obtain rfl : a = 0 := Subsingleton.elim _ _
  refine ((out8_apply _ _ _ _ _ _ _ (ix3 (0 : Fin 1) r l)).trans (GK_blk m c t 768 r l)).trans ?_
  show kV m c (ix3 (bt t) (nt t r) l) = _
  blk_ext [index8 t, bt, nt]

def vV (c : Dev nD) : FVec Ideal S2x16384x768 .f32 := fun y => (KP m c (y 0 : Fin 2) (y 1 : Fin 16384) (1536 + (y 2 : Fin 768).val) : EReal)

theorem covers9 : (cfg0.win 9).Covers := by
  have hsz : ∀ a, 0 < (cfg0.win 9).size a := fun a => (by decide : ∀ a : Fin 3, 0 < S1x512x768.size a) a
  refine Pipeline.Window.covers_of_index_surj _ rfl hsz fun β => ?_
  have h0 : (β (0 : Fin 3)).val < 2 := lt_of_lt_of_eq (β (0 : Fin 3)).isLt (show (S2x16384x768.size 0 + S1x512x768.size 0 - 1) / S1x512x768.size 0 = 2 from by decide)
  have h1 : (β (1 : Fin 3)).val < 32 := lt_of_lt_of_eq (β (1 : Fin 3)).isLt (show (S2x16384x768.size 1 + S1x512x768.size 1 - 1) / S1x512x768.size 1 = 32 from by decide)
  have h2 : (β (2 : Fin 3)).val < 1 := lt_of_lt_of_eq (β (2 : Fin 3)).isLt (show (S2x16384x768.size 2 + S1x512x768.size 2 - 1) / S1x512x768.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index9]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final9 (c : Dev nD) : (dats m 0 c).arrAt 9 cfg0.N = vV m c := by
  refine (dats m 0 c).arrAt_eq_of_covers 9 _ covers9 fun t hf y => ?_
  blk_simp
  rw [after0_9]
  obtain ⟨a, r, l, rfl⟩ : ∃ (a : Fin 1) (r : Fin 512) (l : Fin 768), y = ix3 a r l := ⟨(show S1x512x768.Idx from y) 0, (show S1x512x768.Idx from y) 1, (show S1x512x768.Idx from y) 2, eq_ix3 (n0 := 1) (n1 := 512) (n2 := 768) y⟩
  obtain rfl : a = 0 := Subsingleton.elim _ _
  refine ((out9_apply _ _ _ _ _ _ _ r l).trans (pB_blk m c t r _)).trans ?_
  show vV m c (ix3 (bt t) (nt t r) l) = _
  blk_ext [index9 t, bt, nt]

def cV (c : Dev nD) : FVec Ideal S2x16384x768 .f32 := fun y => (KP m c (y 0 : Fin 2) (y 1 : Fin 16384) (2304 + (y 2 : Fin 768).val) : EReal)

theorem covers10 : (cfg0.win 10).Covers := by
  have hsz : ∀ a, 0 < (cfg0.win 10).size a := fun a => (by decide : ∀ a : Fin 3, 0 < S1x512x768.size a) a
  refine Pipeline.Window.covers_of_index_surj _ rfl hsz fun β => ?_
  have h0 : (β (0 : Fin 3)).val < 2 := lt_of_lt_of_eq (β (0 : Fin 3)).isLt (show (S2x16384x768.size 0 + S1x512x768.size 0 - 1) / S1x512x768.size 0 = 2 from by decide)
  have h1 : (β (1 : Fin 3)).val < 32 := lt_of_lt_of_eq (β (1 : Fin 3)).isLt (show (S2x16384x768.size 1 + S1x512x768.size 1 - 1) / S1x512x768.size 1 = 32 from by decide)
  have h2 : (β (2 : Fin 3)).val < 1 := lt_of_lt_of_eq (β (2 : Fin 3)).isLt (show (S2x16384x768.size 2 + S1x512x768.size 2 - 1) / S1x512x768.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index10]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final10 (c : Dev nD) : (dats m 0 c).arrAt 10 cfg0.N = cV m c := by
  refine (dats m 0 c).arrAt_eq_of_covers 10 _ covers10 fun t hf y => ?_
  blk_simp
  rw [after0_10]
  obtain ⟨a, r, l, rfl⟩ : ∃ (a : Fin 1) (r : Fin 512) (l : Fin 768), y = ix3 a r l := ⟨(show S1x512x768.Idx from y) 0, (show S1x512x768.Idx from y) 1, (show S1x512x768.Idx from y) 2, eq_ix3 (n0 := 1) (n1 := 512) (n2 := 768) y⟩
  obtain rfl : a = 0 := Subsingleton.elim _ _
  refine ((out10_apply _ _ _ _ _ _ _ r l).trans (pB_blk m c t r _)).trans ?_
  show cV m c (ix3 (bt t) (nt t r) l) = _
  blk_ext [index10 t, bt, nt]

def zV (c : Dev nD) : FVec Ideal S2x16384x256 .f32 := fun y => (KP m c (y 0 : Fin 2) (y 1 : Fin 16384) (3072 + (y 2 : Fin 256).val) : EReal)

theorem covers11 : (cfg0.win 11).Covers := by
  have hsz : ∀ a, 0 < (cfg0.win 11).size a := fun a => (by decide : ∀ a : Fin 3, 0 < S1x512x256.size a) a
  refine Pipeline.Window.covers_of_index_surj _ rfl hsz fun β => ?_
  have h0 : (β (0 : Fin 3)).val < 2 := lt_of_lt_of_eq (β (0 : Fin 3)).isLt (show (S2x16384x256.size 0 + S1x512x256.size 0 - 1) / S1x512x256.size 0 = 2 from by decide)
  have h1 : (β (1 : Fin 3)).val < 32 := lt_of_lt_of_eq (β (1 : Fin 3)).isLt (show (S2x16384x256.size 1 + S1x512x256.size 1 - 1) / S1x512x256.size 1 = 32 from by decide)
  have h2 : (β (2 : Fin 3)).val < 1 := lt_of_lt_of_eq (β (2 : Fin 3)).isLt (show (S2x16384x256.size 2 + S1x512x256.size 2 - 1) / S1x512x256.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index11]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final11 (c : Dev nD) : (dats m 0 c).arrAt 11 cfg0.N = zV m c := by
  refine (dats m 0 c).arrAt_eq_of_covers 11 _ covers11 fun t hf y => ?_
  blk_simp
  rw [after0_11]
  obtain ⟨a, r, l, rfl⟩ : ∃ (a : Fin 1) (r : Fin 512) (l : Fin 256), y = ix3 a r l := ⟨(show S1x512x256.Idx from y) 0, (show S1x512x256.Idx from y) 1, (show S1x512x256.Idx from y) 2, eq_ix3 (n0 := 1) (n1 := 512) (n2 := 256) y⟩
  obtain rfl : a = 0 := Subsingleton.elim _ _
  refine ((out11_apply _ _ _ _ _ _ _ r l).trans (pB_blk m c t r _)).trans ?_
  show zV m c (ix3 (bt t) (nt t r) l) = _
  blk_ext [index11 t, bt, nt]

def abV (c : Dev nD) : FVec Ideal S2x16384x128 .f32 := fun y => (KP m c (y 0 : Fin 2) (y 1 : Fin 16384) (3328 + (y 2 : Fin 128).val) : EReal)

theorem covers12 : (cfg0.win 12).Covers := by
  have hsz : ∀ a, 0 < (cfg0.win 12).size a := fun a => (by decide : ∀ a : Fin 3, 0 < S1x512x128.size a) a
  refine Pipeline.Window.covers_of_index_surj _ rfl hsz fun β => ?_
  have h0 : (β (0 : Fin 3)).val < 2 := lt_of_lt_of_eq (β (0 : Fin 3)).isLt (show (S2x16384x128.size 0 + S1x512x128.size 0 - 1) / S1x512x128.size 0 = 2 from by decide)
  have h1 : (β (1 : Fin 3)).val < 32 := lt_of_lt_of_eq (β (1 : Fin 3)).isLt (show (S2x16384x128.size 1 + S1x512x128.size 1 - 1) / S1x512x128.size 1 = 32 from by decide)
  have h2 : (β (2 : Fin 3)).val < 1 := lt_of_lt_of_eq (β (2 : Fin 3)).isLt (show (S2x16384x128.size 2 + S1x512x128.size 2 - 1) / S1x512x128.size 2 = 1 from by decide)
  refine ⟨⟨32 * (β (0 : Fin 3)).val + (β (1 : Fin 3)).val, show 32 * (β (0 : Fin 3)).val + (β (1 : Fin 3)).val < 64 by omega⟩, fun (a : Fin 3) => ?_⟩
  rw [index12]
  match a with
  | ⟨0, _⟩ => show (32 * (β (0 : Fin 3)).val + (β (1 : Fin 3)).val) / 32 = (β (0 : Fin 3)).val; omega
  | ⟨1, _⟩ => show (32 * (β (0 : Fin 3)).val + (β (1 : Fin 3)).val) % 32 = (β (1 : Fin 3)).val; omega
  | ⟨2, _⟩ => exact (Nat.lt_one_iff.mp h2).symm

theorem final12 (c : Dev nD) : (dats m 0 c).arrAt 12 cfg0.N = abV m c := by
  refine (dats m 0 c).arrAt_eq_of_covers 12 _ covers12 fun t hf y => ?_
  blk_simp
  rw [after0_12]
  obtain ⟨a, r, l, rfl⟩ : ∃ (a : Fin 1) (r : Fin 512) (l : Fin 128), y = ix3 a r l := ⟨(show S1x512x128.Idx from y) 0, (show S1x512x128.Idx from y) 1, (show S1x512x128.Idx from y) 2, eq_ix3 (n0 := 1) (n1 := 512) (n2 := 128) y⟩
  obtain rfl : a = 0 := Subsingleton.elim _ _
  refine ((out12_apply _ _ _ _ _ _ _ r l).trans (pB_blk m c t r _)).trans ?_
  show abV m c (ix3 (bt t) (nt t r) l) = _
  blk_ext [index12 t, bt, nt]

end Cert.Kernel3Ideal.Hand

end
-- ==== Proof.PRef.lean ====
/- The input projection's reference, element by element. -/
module

public import proofs.«01_k».proof.Proof.Gen.Reference3Ideal.Read
public import proofs.«01_k».proof.Proof.PTab
public import Idealize.ShloMosaic.Lib.Pipeline.ValueKit

@[expose] public section

set_option maxRecDepth 16384

noncomputable section

namespace Cert.Reference3Ideal.Hand

open Idealize.ShloMosaic Idealize.ShloMosaic.TcCoe
open Cert.Reference3Ideal Cert.Reference3Ideal.Gen Cert.Reference3Ideal.Read
open Cert.Kernel3Ideal.Hand (Cn Sn angV)

variable (x0 : (⟨S2x16384x1024, .f32⟩ : BufTy).Contents (Elt Ideal)) (x1 x2 : (⟨S2x1x1024, .f32⟩ : BufTy).Contents (Elt Ideal)) (x3 : (⟨S1024x3336, .f32⟩ : BufTy).Contents (Elt Ideal))

/-- A row of the input, scaled and shifted, and its columns. -/
def hrow (b : Fin 2) (n : Fin 16384) : Fin 1024 → EReal :=
  Proj.row (fun d => x0 (ix3 b n d)) (fun d => x1 (ix3 b (0 : Fin 1) d)) (fun d => x2 (ix3 b (0 : Fin 1) d))
def wts (d : Fin 1024) (f : Fin 3336) : EReal := x3 (ix2 d f)
def P (b : Fin 2) (n : Fin 16384) (f : ℕ) : EReal := Proj.proj (hrow x0 x1 x2 b n) (wts x3) f

theorem h_apply (b : Fin 2) (n : Fin 16384) (d : Fin 1024) : val_main_v6 (F := Ideal) x0 x1 x2 (ix3 b n d) = hrow x0 x1 x2 b n d := by
  have e1 : Ideal.ofBits .f32 0x3F800000#32 = 1 := Ideal.ofBits_one_f32
  rw [val_main_v6_apply, val_main_v4_apply, val_main_v5_apply, val_main_v3_apply, val_main_v2_apply, val_main_v1_apply]
  have i3 : idx_main_v3 (ix3 b n d) = ix3 b (0 : Fin 1) d := by blk_ext [idx_main_v3]
  have i5 : idx_main_v5 (ix3 b n d) = ix3 b (0 : Fin 1) d := by blk_ext [idx_main_v5]
  rw [i3, i5]
  show (x0 (ix3 b n d) : EReal) * (Ideal.ofBits .f32 0x3F800000#32 + x1 (ix3 b (0 : Fin 1) d)) + x2 (ix3 b (0 : Fin 1) d) = _
  rw [e1]
  rfl

theorem p_apply (b : Fin 2) (n : Fin 16384) (f : Fin 3336) : val_main_v7 (F := Ideal) x0 x1 x2 x3 (ix3 b n f) = P x0 x1 x2 x3 b n f.val := by
  rw [val_main_v7_apply]
  unfold P Proj.proj Proj.col
  refine Finset.sum_congr rfl fun d _ => ?_
  rw [dif_pos f.isLt, show lidx_main_v7 (ix3 b n f) d = ix3 b n d from by blk_ext [lidx_main_v7], h_apply]
  exact congrArg (α := EReal) (β := EReal) (hrow x0 x1 x2 b n d * ·) (congrArg x3 (by blk_ext [ridx_main_v7]))

theorem ang_eq : val_main_v21 (F := Ideal) = angV := rfl
theorem ang_eq' : val_main_v55 (F := Ideal) = angV := rfl

/-- The queries' and keys' lanes before the rotation. -/
theorem q9 (b : Fin 2) (n : Fin 16384) (h : Fin 12) (e : Fin 64) : val_main_v9 (F := Ideal) x0 x1 x2 x3 (ix4 b n h e) = P x0 x1 x2 x3 b n (64 * h.val + e.val) := by
  rw [val_main_v9_apply, val_main_v8_apply, show idx_main_v8 (idx_main_v9 (ix4 b n h e)) = ix3 b n (⟨64 * h.val + e.val, by omega⟩ : Fin 3336) from by blk_ext [idx_main_v8, idx_main_v9]]
  exact p_apply ..

theorem k9 (b : Fin 2) (n : Fin 16384) (h : Fin 12) (e : Fin 64) : val_main_v43 (F := Ideal) x0 x1 x2 x3 (ix4 b n h e) = P x0 x1 x2 x3 b n (768 + (64 * h.val + e.val)) := by
  rw [val_main_v43_apply, val_main_v42_apply, show idx_main_v42 (idx_main_v43 (ix4 b n h e)) = ix3 b n (⟨768 + (64 * h.val + e.val), by omega⟩ : Fin 3336) from by blk_ext [idx_main_v42, idx_main_v43]]
  exact p_apply ..

/-- The cosines and sines laid over rows and heads. -/
theorem cosQ1 (b : Fin 2) (n : Fin 16384) (h : Fin 12) (e : Fin 8) : val_main_v29 (F := Ideal) (ix4 b n h e) = Cn n e.val := by
  rw [val_main_v29_apply, val_main_v23_apply, show idx_main_v23 (idx_main_v29 (ix4 b n h e)) = ix2 n e from by blk_ext [idx_main_v23, idx_main_v29]]
  unfold Cn; rw [dif_pos e.isLt]; rfl
theorem cosQ2 (b : Fin 2) (n : Fin 16384) (h : Fin 12) (e : Fin 8) : val_main_v34 (F := Ideal) (ix4 b n h e) = Cn n e.val := by
  rw [val_main_v34_apply, val_main_v23_apply, show idx_main_v23 (idx_main_v34 (ix4 b n h e)) = ix2 n e from by blk_ext [idx_main_v23, idx_main_v34]]
  unfold Cn; rw [dif_pos e.isLt]; rfl
theorem sinQ1 (b : Fin 2) (n : Fin 16384) (h : Fin 12) (e : Fin 8) : val_main_v31 (F := Ideal) (ix4 b n h e) = Sn n e.val := by
  rw [val_main_v31_apply, val_main_v25_apply, show idx_main_v25 (idx_main_v31 (ix4 b n h e)) = ix2 n e from by blk_ext [idx_main_v25, idx_main_v31]]
  unfold Sn; rw [dif_pos e.isLt]; rfl
theorem sinQ2 (b : Fin 2) (n : Fin 16384) (h : Fin 12) (e : Fin 8) : val_main_v36 (F := Ideal) (ix4 b n h e) = Sn n e.val := by
  rw [val_main_v36_apply, val_main_v25_apply, show idx_main_v25 (idx_main_v36 (ix4 b n h e)) = ix2 n e from by blk_ext [idx_main_v25, idx_main_v36]]
  unfold Sn; rw [dif_pos e.isLt]; rfl
theorem cosK1 (b : Fin 2) (n : Fin 16384) (h : Fin 12) (e : Fin 8) : val_main_v63 (F := Ideal) (ix4 b n h e) = Cn n e.val := by
  rw [val_main_v63_apply, val_main_v57_apply, show idx_main_v57 (idx_main_v63 (ix4 b n h e)) = ix2 n e from by blk_ext [idx_main_v57, idx_main_v63]]
  unfold Cn; rw [dif_pos e.isLt]; rfl
theorem cosK2 (b : Fin 2) (n : Fin 16384) (h : Fin 12) (e : Fin 8) : val_main_v68 (F := Ideal) (ix4 b n h e) = Cn n e.val := by
  rw [val_main_v68_apply, val_main_v57_apply, show idx_main_v57 (idx_main_v68 (ix4 b n h e)) = ix2 n e from by blk_ext [idx_main_v57, idx_main_v68]]
  unfold Cn; rw [dif_pos e.isLt]; rfl
theorem sinK1 (b : Fin 2) (n : Fin 16384) (h : Fin 12) (e : Fin 8) : val_main_v65 (F := Ideal) (ix4 b n h e) = Sn n e.val := by
  rw [val_main_v65_apply, val_main_v59_apply, show idx_main_v59 (idx_main_v65 (ix4 b n h e)) = ix2 n e from by blk_ext [idx_main_v59, idx_main_v65]]
  unfold Sn; rw [dif_pos e.isLt]; rfl
theorem sinK2 (b : Fin 2) (n : Fin 16384) (h : Fin 12) (e : Fin 8) : val_main_v70 (F := Ideal) (ix4 b n h e) = Sn n e.val := by
  rw [val_main_v70_apply, val_main_v59_apply, show idx_main_v59 (idx_main_v70 (ix4 b n h e)) = ix2 n e from by blk_ext [idx_main_v59, idx_main_v70]]
  unfold Sn; rw [dif_pos e.isLt]; rfl

/-- The first 8 lanes and the next 8. -/
theorem q27 (b : Fin 2) (n : Fin 16384) (h : Fin 12) (e : Fin 8) : val_main_v27 (F := Ideal) x0 x1 x2 x3 (ix4 b n h e) = P x0 x1 x2 x3 b n (64 * h.val + e.val) := by
  rw [val_main_v27_apply, val_main_v26_apply, show idx_main_v26 (idx_main_v27 (ix4 b n h e)) = ix4 b n h (⟨e.val, by omega⟩ : Fin 64) from by blk_ext [idx_main_v26, idx_main_v27]]
  exact q9 ..
theorem q28 (b : Fin 2) (n : Fin 16384) (h : Fin 12) (e : Fin 8) : val_main_v28 (F := Ideal) x0 x1 x2 x3 (ix4 b n h e) = P x0 x1 x2 x3 b n (64 * h.val + (e.val + 8)) := by
  rw [val_main_v28_apply, val_main_v26_apply, show idx_main_v26 (idx_main_v28 (ix4 b n h e)) = ix4 b n h (⟨e.val + 8, by omega⟩ : Fin 64) from by blk_ext [idx_main_v26, idx_main_v28]]
  exact q9 ..
theorem k61 (b : Fin 2) (n : Fin 16384) (h : Fin 12) (e : Fin 8) : val_main_v61 (F := Ideal) x0 x1 x2 x3 (ix4 b n h e) = P x0 x1 x2 x3 b n (768 + (64 * h.val + e.val)) := by
  rw [val_main_v61_apply, val_main_v60_apply, show idx_main_v60 (idx_main_v61 (ix4 b n h e)) = ix4 b n h (⟨e.val, by omega⟩ : Fin 64) from by blk_ext [idx_main_v60, idx_main_v61]]
  exact k9 ..
theorem k62 (b : Fin 2) (n : Fin 16384) (h : Fin 12) (e : Fin 8) : val_main_v62 (F := Ideal) x0 x1 x2 x3 (ix4 b n h e) = P x0 x1 x2 x3 b n (768 + (64 * h.val + (e.val + 8))) := by
  rw [val_main_v62_apply, val_main_v60_apply, show idx_main_v60 (idx_main_v62 (ix4 b n h e)) = ix4 b n h (⟨e.val + 8, by omega⟩ : Fin 64) from by blk_ext [idx_main_v60, idx_main_v62]]
  exact k9 ..

/-- A head's lane after the rotation. -/
theorem q41 (b : Fin 2) (n : Fin 16384) (h : Fin 12) (e : Fin 64) :
    val_main_v41 (F := Ideal) x0 x1 x2 x3 (ix4 b n h e) = Proj.rope (Cn n) (Sn n) (fun e => P x0 x1 x2 x3 b n (64 * h.val + e)) e.val := by
  unfold val_main_v41 Proj.rope
  by_cases h16 : e.val < 16
  · rw [concatenate_pair_apply_left (s₁ := S2x16384x12x16) (t := S2x16384x12x64) 3 _ _ _ (ix4 b n h e) rfl (ix4 b n h (⟨e.val, h16⟩ : Fin 16)) (fun a => by
      match a with
      | ⟨0, _⟩ => rfl
      | ⟨1, _⟩ => rfl
      | ⟨2, _⟩ => rfl
      | ⟨3, _⟩ => rfl)]
    unfold val_main_v39
    by_cases h8 : e.val < 8
    · rw [if_pos h8, concatenate_pair_apply_left (s₁ := S2x16384x12x8) (t := S2x16384x12x16) 3 _ _ _ (ix4 b n h (⟨e.val, h16⟩ : Fin 16)) rfl (ix4 b n h (⟨e.val, h8⟩ : Fin 8)) (fun a => by
        match a with
        | ⟨0, _⟩ => rfl
        | ⟨1, _⟩ => rfl
        | ⟨2, _⟩ => rfl
        | ⟨3, _⟩ => rfl)]
      rw [val_main_v33_apply, val_main_v30_apply, val_main_v32_apply, q27, q28, cosQ1, sinQ1]
      rfl
    · rw [if_neg h8, if_pos h16, concatenate_pair_apply_right (s₁ := S2x16384x12x8) (s₂ := S2x16384x12x8) (t := S2x16384x12x16) 3 _ _ _ (ix4 b n h (⟨e.val, h16⟩ : Fin 16)) rfl rfl (ix4 b n h (⟨e.val - 8, by omega⟩ : Fin 8)) (fun a ha => by
        match a with
        | ⟨0, _⟩ => rfl
        | ⟨1, _⟩ => rfl
        | ⟨2, _⟩ => rfl
        | ⟨3, _⟩ => exact absurd rfl ha) (show e.val - 8 + 8 = e.val by omega)]
      rw [val_main_v38_apply, val_main_v35_apply, val_main_v37_apply, q27, q28, cosQ2, sinQ2]
      show (P x0 x1 x2 x3 b n (64 * h.val + (e.val - 8 + 8)) * Cn n (e.val - 8) + P x0 x1 x2 x3 b n (64 * h.val + (e.val - 8)) * Sn n (e.val - 8) : EReal) = _
      rw [show e.val - 8 + 8 = e.val by omega]
  · rw [if_neg (show ¬ e.val < 8 by omega), if_neg h16, concatenate_pair_apply_right (s₁ := S2x16384x12x16) (s₂ := S2x16384x12x48) (t := S2x16384x12x64) 3 _ _ _ (ix4 b n h e) rfl rfl (ix4 b n h (⟨e.val - 16, by omega⟩ : Fin 48)) (fun a ha => by
      match a with
      | ⟨0, _⟩ => rfl
      | ⟨1, _⟩ => rfl
      | ⟨2, _⟩ => rfl
      | ⟨3, _⟩ => exact absurd rfl ha) (show e.val - 16 + 16 = e.val by omega)]
    rw [val_main_v40_apply, show idx_main_v40 (ix4 b n h (⟨e.val - 16, by omega⟩ : Fin 48)) = ix4 b n h e from by blk_ext [idx_main_v40]]
    exact q9 ..

theorem k75 (b : Fin 2) (n : Fin 16384) (h : Fin 12) (e : Fin 64) :
    val_main_v75 (F := Ideal) x0 x1 x2 x3 (ix4 b n h e) = Proj.rope (Cn n) (Sn n) (fun e => P x0 x1 x2 x3 b n (768 + (64 * h.val + e))) e.val := by
  unfold val_main_v75 Proj.rope
  by_cases h16 : e.val < 16
  · rw [concatenate_pair_apply_left (s₁ := S2x16384x12x16) (t := S2x16384x12x64) 3 _ _ _ (ix4 b n h e) rfl (ix4 b n h (⟨e.val, h16⟩ : Fin 16)) (fun a => by
      match a with
      | ⟨0, _⟩ => rfl
      | ⟨1, _⟩ => rfl
      | ⟨2, _⟩ => rfl
      | ⟨3, _⟩ => rfl)]
    unfold val_main_v73
    by_cases h8 : e.val < 8
    · rw [if_pos h8, concatenate_pair_apply_left (s₁ := S2x16384x12x8) (t := S2x16384x12x16) 3 _ _ _ (ix4 b n h (⟨e.val, h16⟩ : Fin 16)) rfl (ix4 b n h (⟨e.val, h8⟩ : Fin 8)) (fun a => by
        match a with
        | ⟨0, _⟩ => rfl
        | ⟨1, _⟩ => rfl
        | ⟨2, _⟩ => rfl
        | ⟨3, _⟩ => rfl)]
      rw [val_main_v67_apply, val_main_v64_apply, val_main_v66_apply, k61, k62, cosK1, sinK1]
      rfl
    · rw [if_neg h8, if_pos h16, concatenate_pair_apply_right (s₁ := S2x16384x12x8) (s₂ := S2x16384x12x8) (t := S2x16384x12x16) 3 _ _ _ (ix4 b n h (⟨e.val, h16⟩ : Fin 16)) rfl rfl (ix4 b n h (⟨e.val - 8, by omega⟩ : Fin 8)) (fun a ha => by
        match a with
        | ⟨0, _⟩ => rfl
        | ⟨1, _⟩ => rfl
        | ⟨2, _⟩ => rfl
        | ⟨3, _⟩ => exact absurd rfl ha) (show e.val - 8 + 8 = e.val by omega)]
      rw [val_main_v72_apply, val_main_v69_apply, val_main_v71_apply, k61, k62, cosK2, sinK2]
      show (P x0 x1 x2 x3 b n (768 + (64 * h.val + (e.val - 8 + 8))) * Cn n (e.val - 8) + P x0 x1 x2 x3 b n (768 + (64 * h.val + (e.val - 8))) * Sn n (e.val - 8) : EReal) = _
      rw [show e.val - 8 + 8 = e.val by omega]
  · rw [if_neg (show ¬ e.val < 8 by omega), if_neg h16, concatenate_pair_apply_right (s₁ := S2x16384x12x16) (s₂ := S2x16384x12x48) (t := S2x16384x12x64) 3 _ _ _ (ix4 b n h e) rfl rfl (ix4 b n h (⟨e.val - 16, by omega⟩ : Fin 48)) (fun a ha => by
      match a with
      | ⟨0, _⟩ => rfl
      | ⟨1, _⟩ => rfl
      | ⟨2, _⟩ => rfl
      | ⟨3, _⟩ => exact absurd rfl ha) (show e.val - 16 + 16 = e.val by omega)]
    rw [val_main_v74_apply, show idx_main_v74 (ix4 b n h (⟨e.val - 16, by omega⟩ : Fin 48)) = ix4 b n h e from by blk_ext [idx_main_v74]]
    exact k9 ..

/-! ## The six results -/

theorem r0 (b : Fin 2) (n : Fin 16384) (l : Fin 768) :
    val_main_v82 (F := Ideal) x0 x1 x2 x3 (ix3 b n l)
      = (Proj.rope (Cn n) (Sn n) (fun e => P x0 x1 x2 x3 b n (64 * (l.val / 64) + e)) (l.val % 64) * Ideal.ofBits .f32 0x3E000000#32 : EReal) := by
  rw [val_main_v82_apply, val_main_v80_apply, val_main_v81_apply,
    show idx_main_v80 (ix3 b n l) = ix4 b n (⟨l.val / 64, by omega⟩ : Fin 12) (⟨l.val % 64, by omega⟩ : Fin 64) from by blk_ext [idx_main_v80], q41]
  rfl

theorem r1 (b : Fin 2) (n : Fin 16384) (l : Fin 768) :
    val_main_v83 (F := Ideal) x0 x1 x2 x3 (ix3 b n l)
      = Proj.rope (Cn n) (Sn n) (fun e => P x0 x1 x2 x3 b n (768 + (64 * (l.val / 64) + e))) (l.val % 64) := by
  rw [val_main_v83_apply,
    show idx_main_v83 (ix3 b n l) = ix4 b n (⟨l.val / 64, by omega⟩ : Fin 12) (⟨l.val % 64, by omega⟩ : Fin 64) from by blk_ext [idx_main_v83], k75]

theorem r2 (b : Fin 2) (n : Fin 16384) (l : Fin 768) : val_main_v84 (F := Ideal) x0 x1 x2 x3 (ix3 b n l) = P x0 x1 x2 x3 b n (1536 + l.val) := by
  rw [val_main_v84_apply, val_main_v77_apply, val_main_v76_apply]
  rw [show idx_main_v84 (ix3 b n l) = ix4 b n (⟨l.val / 64, by omega⟩ : Fin 12) (⟨l.val % 64, by omega⟩ : Fin 64) from by blk_ext [idx_main_v84]]
  rw [show idx_main_v76 (idx_main_v77 (ix4 b n (⟨l.val / 64, by omega⟩ : Fin 12) (⟨l.val % 64, by omega⟩ : Fin 64))) = ix3 b n (⟨1536 + l.val, by omega⟩ : Fin 3336) from by blk_ext [idx_main_v76, idx_main_v77]]
  exact p_apply ..

theorem r3 (b : Fin 2) (n : Fin 16384) (l : Fin 768) : val_main_v85 (F := Ideal) x0 x1 x2 x3 (ix3 b n l) = P x0 x1 x2 x3 b n (2304 + l.val) := by
  rw [val_main_v85_apply, show idx_main_v85 (ix3 b n l) = ix3 b n (⟨2304 + l.val, by omega⟩ : Fin 3336) from by blk_ext [idx_main_v85]]
  exact p_apply ..

theorem r4 (b : Fin 2) (n : Fin 16384) (l : Fin 256) : val_main_v86 (F := Ideal) x0 x1 x2 x3 (ix3 b n l) = P x0 x1 x2 x3 b n (3072 + l.val) := by
  rw [val_main_v86_apply, show idx_main_v86 (ix3 b n l) = ix3 b n (⟨3072 + l.val, by omega⟩ : Fin 3336) from by blk_ext [idx_main_v86]]
  exact p_apply ..

theorem r5 (b : Fin 2) (n : Fin 16384) (l : Fin 128) : val_main_v79 (F := Ideal) x0 x1 x2 x3 (ix3 b n l) = P x0 x1 x2 x3 b n (3328 + l.val) := by
  unfold val_main_v79
  by_cases h : l.val < 8
  · refine (pad_apply_of_inside _ _ _ _ _ _ _ _ (ix3 b n (⟨l.val, h⟩ : Fin 8)) fun a => by
      match a with
      | ⟨0, _⟩ => show b.val = 0 + b.val * 1; omega
      | ⟨1, _⟩ => show n.val = 0 + n.val * 1; omega
      | ⟨2, _⟩ => show l.val = 0 + l.val * 1; omega).trans ?_
    rw [val_main_v78_apply, show idx_main_v78 (ix3 b n (⟨l.val, h⟩ : Fin 8)) = ix3 b n (⟨3328 + l.val, by omega⟩ : Fin 3336) from by blk_ext [idx_main_v78]]
    exact p_apply ..
  · refine (pad_apply_of_not_inside _ _ _ _ _ _ _ (ix3 b n l) (2 : Fin 3) ?_).trans ?_
    · show ¬(0 ≤ l.val ∧ (l.val - 0) % (0 + 1) = 0 ∧ (l.val - 0) / (0 + 1) < 8)
      omega
    · have e : P x0 x1 x2 x3 b n (3328 + l.val) = 0 := by
        unfold P Proj.proj
        refine Finset.sum_eq_zero fun d _ => ?_
        unfold Proj.col
        rw [dif_neg (by omega), mul_zero]
      rw [e]
      show (((((0#32 : BitVec 32).toInt : ℤ) : ℝ) : EReal)) = 0
      simp

end Cert.Reference3Ideal.Hand

end
-- ==== Proof.PWhole.lean ====
/- The input projection's results and the reference's, array by array. -/
module

public import proofs.«01_k».proof.Proof.PFinal
public import proofs.«01_k».proof.Proof.PRef

@[expose] public section

set_option maxRecDepth 16384

noncomputable section

namespace Cert.Kernel3Ideal.Hand

open Idealize.ShloMosaic Idealize.ShloMosaic.TcCoe
open Cert.Kernel3Ideal Cert.Kernel3Ideal.Gen
open Cert.Reference3Ideal.Hand (r0 r1 r2 r3 r4 r5)

variable (m : (ℓ : Loc nD τ sig) → Buf (Elt Ideal) ℓ)

/-- The queries. -/
theorem same0 (c : Dev nD) :
    Cert.Reference3Ideal.Read.val_main_v82 (F := Ideal) (m ((c : Thread nD τ).loc main_arg0)) (m ((c : Thread nD τ).loc main_arg1)) (m ((c : Thread nD τ).loc main_arg2)) (m ((c : Thread nD τ).loc main_arg3)) = qV m c := by
  funext y
  rw [eq_ix3 (n0 := 2) (n1 := 16384) (n2 := 768) y]
  refine (r0 _ _ _ _ (y 0) (y 1) (y 2)).trans (congrArg (α := EReal) (β := EReal) (· * eighth) ?_)
  refine congrArg (Proj.rope (Cn (y 1)) (Sn (y 1)) · ((y 2 : Fin 768).val % 64)) (funext fun e => ?_)
  exact (congrArg (KP m c (y 0) (y 1)) (Nat.zero_add (64 * ((y 2 : Fin 768).val / 64) + e))).symm

/-- The keys. -/
theorem same1 (c : Dev nD) :
    Cert.Reference3Ideal.Read.val_main_v83 (F := Ideal) (m ((c : Thread nD τ).loc main_arg0)) (m ((c : Thread nD τ).loc main_arg1)) (m ((c : Thread nD τ).loc main_arg2)) (m ((c : Thread nD τ).loc main_arg3)) = kV m c := by
  funext y
  rw [eq_ix3 (n0 := 2) (n1 := 16384) (n2 := 768) y]
  exact (r1 _ _ _ _ (y 0) (y 1) (y 2)).trans rfl

/-- The values. -/
theorem same2 (c : Dev nD) :
    Cert.Reference3Ideal.Read.val_main_v84 (F := Ideal) (m ((c : Thread nD τ).loc main_arg0)) (m ((c : Thread nD τ).loc main_arg1)) (m ((c : Thread nD τ).loc main_arg2)) (m ((c : Thread nD τ).loc main_arg3)) = vV m c := by
  funext y
  rw [eq_ix3 (n0 := 2) (n1 := 16384) (n2 := 768) y]
  exact (r2 _ _ _ _ (y 0) (y 1) (y 2)).trans rfl

/-- The channels of the convolution. -/
theorem same3 (c : Dev nD) :
    Cert.Reference3Ideal.Read.val_main_v85 (F := Ideal) (m ((c : Thread nD τ).loc main_arg0)) (m ((c : Thread nD τ).loc main_arg1)) (m ((c : Thread nD τ).loc main_arg2)) (m ((c : Thread nD τ).loc main_arg3)) = cV m c := by
  funext y
  rw [eq_ix3 (n0 := 2) (n1 := 16384) (n2 := 768) y]
  exact (r3 _ _ _ _ (y 0) (y 1) (y 2)).trans rfl

/-- The gates. -/
theorem same4 (c : Dev nD) :
    Cert.Reference3Ideal.Read.val_main_v86 (F := Ideal) (m ((c : Thread nD τ).loc main_arg0)) (m ((c : Thread nD τ).loc main_arg1)) (m ((c : Thread nD τ).loc main_arg2)) (m ((c : Thread nD τ).loc main_arg3)) = zV m c := by
  funext y
  rw [eq_ix3 (n0 := 2) (n1 := 16384) (n2 := 256) y]
  exact (r4 _ _ _ _ (y 0) (y 1) (y 2)).trans rfl

/-- The decays. -/
theorem same5 (c : Dev nD) :
    Cert.Reference3Ideal.Read.val_main_v79 (F := Ideal) (m ((c : Thread nD τ).loc main_arg0)) (m ((c : Thread nD τ).loc main_arg1)) (m ((c : Thread nD τ).loc main_arg2)) (m ((c : Thread nD τ).loc main_arg3)) = abV m c := by
  funext y
  rw [eq_ix3 (n0 := 2) (n1 := 16384) (n2 := 128) y]
  exact (r5 _ _ _ _ (y 0) (y 1) (y 2)).trans rfl

end Cert.Kernel3Ideal.Hand

end
-- ==== Proof.lean ====
/- The proof of the certificate's claims (proofs.«01_k».proof.Defs): the frames of the three programs,
   the named constant, and the equality of the results. -/
module

public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Loops
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts_in_range
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Run
public import proofs.«01_k».proof.Proof.Value
public import proofs.«01_k».proof.Proof.Whole
public import proofs.«01_k».proof.Proof.Finite
public import proofs.«01_k».proof.Proof.Twin
public import proofs.«01_k».proof.Proof.MTwin
public import proofs.«01_k».proof.Proof.MWhole
public import proofs.«01_k».proof.Proof.PWhole
public import Idealize.ShloMosaic.PureOps.IdealRules
public import Idealize.ShloMosaic.Lib.Claim

@[expose] public section
noncomputable section

namespace Cert.Proof
open Idealize.ShloMosaic Idealize.SL.Sem Idealize.ShloMosaic.TcCoe

/-- The kernel runs to its end, its arguments unchanged, every counter at zero. -/
theorem frame_kernel : Cert.quiescent_Kernel := fun m g _ => Cert.Twin.frame_main m g

/-- So does its idealization. -/
theorem frame_ideal : Cert.quiescent_KernelIdeal := fun m g _ => Cert.KernelIdeal.Hand.frame_main m g

/-- The reference, host operations only, runs to its end; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same two from finite queries and keys. -/
theorem frame_ideal_pre : Cert.quiescent_KernelIdeal_pre_finite_scores (hPre_finite_scores := Cert.Pre_finite_scores.Gen.facts) :=
  fun m g _ => Cert.KernelIdeal.Hand.frame_main m g

theorem frame_reference_pre : Cert.quiescent_ReferenceIdeal_pre_finite_scores (hPre_finite_scores := Cert.Pre_finite_scores.Gen.facts) :=
  fun m ρ _ => frame_reference m ρ trivial

/-- The idealized kernel's run, its result written out: the attention at every element. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v0) = Cert.KernelIdeal.Hand.attnV m c :=
  (θ_run Cert.KernelIdeal.defs _ _).mono (fun _ h c => (h.1.out_eq c 5).trans (Cert.KernelIdeal.Hand.final m c))
    (Cert.KernelIdeal.Hand.run_main (F := Ideal) m g)

/-- From equal arguments, finite queries and keys, the kernel's result and the reference's are equal. -/
theorem equal : Cert.algebraic_KernelIdeal_ReferenceIdeal_pre_finite_scores (hPre_finite_scores := Cert.Pre_finite_scores.Gen.facts) := by
  intro m g m' g' pre agree
  refine ⟨fun c => Cert.KernelIdeal.Hand.attnV m c,
    (θ_run Cert.KernelIdeal.defs _ _).mono (fun r h c => ⟨h.1 c, h.2.1 c⟩) (θ_run_and (kernel_run m g) (Cert.KernelIdeal.Hand.frame_main m g)),
    (θ_run Cert.ReferenceIdeal.defs _ _).mono (fun r h c => ⟨(h c).1.trans ?_, (h c).2⟩) (Cert.ReferenceIdeal.Value.run (F := Ideal) m' g')⟩
  obtain ⟨e0, e1, e2⟩ := agree c
  rw [Cert.ReferenceIdeal.Read.val_main_v264_eq]
  obtain ⟨hq, hk⟩ := Cert.Pre_finite_scores.real_of_fn (h := pre c)
  have e : ∀ x0 x1 x2, x0 = m ((c.tc : Thread Cert.KernelIdeal.nD Cert.KernelIdeal.τ).loc Cert.KernelIdeal.main_arg0) →
      x1 = m ((c.tc : Thread Cert.KernelIdeal.nD Cert.KernelIdeal.τ).loc Cert.KernelIdeal.main_arg1) →
      x2 = m ((c.tc : Thread Cert.KernelIdeal.nD Cert.KernelIdeal.τ).loc Cert.KernelIdeal.main_arg2) →
      Cert.ReferenceIdeal.Read.val_main_v264 (F := Ideal) x0 x1 x2 = Cert.KernelIdeal.Hand.attnV m c := by
    rintro _ _ _ rfl rfl rfl
    funext y
    rw [eq_ix3 (n0 := 2) (n1 := 16384) (n2 := 768) y]
    exact Cert.Whole.result _ _ _ (fun d b N w => Cert.Spec.good hq hk b N w) (y 0) (y 1) (y 2)
  exact e _ _ _ e0 e1 e2

/-- The expert call, printed and idealized, runs to its end where every block's expert is one of the 32; its arguments are
    unchanged, every counter at zero. -/
theorem frame_kernel2 : Cert.quiescent_Kernel2 (hPre_experts_in_range := Cert.Pre_experts_in_range.Gen.facts) :=
  fun m g pre => Cert.Twin2.frame_main m g (Cert.Kernel2Ideal.Hand.ok_of_fn m (pre 0))

theorem frame_ideal2 : Cert.quiescent_Kernel2Ideal (hPre_experts_in_range := Cert.Pre_experts_in_range.Gen.facts) :=
  fun m g pre => Cert.Kernel2Ideal.Hand.frame_main m g (Cert.Kernel2Ideal.Hand.ok_of_fn m (pre 0))

/-- So does its reference. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem frame_reference2_pre : Cert.quiescent_Reference2Ideal_pre_experts_in_range (hPre_experts_in_range := Cert.Pre_experts_in_range.Gen.facts) :=
  fun m ρ _ => frame_reference2 m ρ trivial

/-- The idealized expert call's run, its result written out. -/
theorem kernel2_run (m : (ℓ : Loc Cert.Kernel2Ideal.nD Cert.Kernel2Ideal.τ Cert.Kernel2Ideal.sig) → Buf (Elt Ideal) ℓ) (g : Dev Cert.Kernel2Ideal.nD → PrngReg)
    (hO : Cert.Kernel2Ideal.Hand.Ok m) :
    θ_run (Cert.Kernel2Ideal.defs (F := Ideal)) (onTc (τ := Cert.Kernel2Ideal.τ) (Cert.Kernel2Ideal.main (F := Ideal))) ⟨m, fun _ => 0, g⟩ fun r => ∀ c : Dev Cert.Kernel2Ideal.nD,
      r.2.mem ((c.tc : Thread Cert.Kernel2Ideal.nD Cert.Kernel2Ideal.τ).loc Cert.Kernel2Ideal.main_v2) = Cert.Kernel2Ideal.Hand.moeV m hO c :=
  (θ_run Cert.Kernel2Ideal.defs _ _).mono (fun _ h c => (h.1.out_eq c 5).trans (Cert.Kernel2Ideal.Hand.final m hO c))
    (Cert.Kernel2Ideal.Hand.run_main (F := Ideal) m g hO)

/-- From equal arguments, every block's expert one of the 32, the expert call's result and its reference's are equal. -/
theorem equal2 : Cert.algebraic_Kernel2Ideal_Reference2Ideal (hPre_experts_in_range := Cert.Pre_experts_in_range.Gen.facts) := by
  intro m g m' g' pre agree
  have hO : Cert.Kernel2Ideal.Hand.Ok m := Cert.Kernel2Ideal.Hand.ok_of_fn m (pre 0)
  refine ⟨fun c => Cert.Kernel2Ideal.Hand.moeV m hO c,
    (θ_run Cert.Kernel2Ideal.defs _ _).mono (fun r h c => ⟨h.1 c, h.2.1 c⟩) (θ_run_and (kernel2_run m g hO) (Cert.Kernel2Ideal.Hand.frame_main m g hO)),
    (θ_run Cert.Reference2Ideal.defs _ _).mono (fun r h c => ⟨(h c).1.trans ?_, (h c).2⟩) (Cert.Reference2Ideal.Value.run (F := Ideal) m' g')⟩
  obtain ⟨e0, e1, e2, e3, e4, e5, e6⟩ := agree c
  rw [Cert.Reference2Ideal.Read.val_main_v37_eq]
  have e : ∀ x0 x1 x2 x3 x4 x5 x6, x0 = m ((c.tc : Thread Cert.Kernel2Ideal.nD Cert.Kernel2Ideal.τ).loc Cert.Kernel2Ideal.main_arg0) →
      x1 = m ((c.tc : Thread Cert.Kernel2Ideal.nD Cert.Kernel2Ideal.τ).loc Cert.Kernel2Ideal.main_arg1) →
      x2 = m ((c.tc : Thread Cert.Kernel2Ideal.nD Cert.Kernel2Ideal.τ).loc Cert.Kernel2Ideal.main_arg2) →
      x3 = m ((c.tc : Thread Cert.Kernel2Ideal.nD Cert.Kernel2Ideal.τ).loc Cert.Kernel2Ideal.main_arg3) →
      x4 = m ((c.tc : Thread Cert.Kernel2Ideal.nD Cert.Kernel2Ideal.τ).loc Cert.Kernel2Ideal.main_arg4) →
      x5 = m ((c.tc : Thread Cert.Kernel2Ideal.nD Cert.Kernel2Ideal.τ).loc Cert.Kernel2Ideal.main_arg5) →
      x6 = m ((c.tc : Thread Cert.Kernel2Ideal.nD Cert.Kernel2Ideal.τ).loc Cert.Kernel2Ideal.main_arg6) →
      Cert.Reference2Ideal.Read.val_main_v37 (F := Ideal) x0 x1 x2 x3 x4 x5 x6 = Cert.Kernel2Ideal.Hand.moeV m hO c := by
    rintro _ _ _ _ _ _ _ rfl rfl rfl rfl rfl rfl rfl
    funext y
    rw [eq_ix2 (n0 := 147456) (n1 := 1024) y]
    exact Cert.Kernel2Ideal.Hand.moe_eq m hO c (y 0) (y 1)
  exact e _ _ _ _ _ _ _ e0 e1 e2 e3 e4 e5 e6

/-- The input projection, printed and idealized, and its reference. -/
theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- From equal arguments, the six results of the input projection and its reference's are equal. -/
theorem equal3 : Cert.algebraic_Kernel3Ideal_Reference3Ideal := by
  intro m g m' g' _ agree
  refine ⟨fun c => Cert.Kernel3Ideal.Hand.qV m c, fun c => Cert.Kernel3Ideal.Hand.kV m c, fun c => Cert.Kernel3Ideal.Hand.vV m c,
    fun c => Cert.Kernel3Ideal.Hand.cV m c, fun c => Cert.Kernel3Ideal.Hand.zV m c, fun c => Cert.Kernel3Ideal.Hand.abV m c,
    (θ_run Cert.Kernel3Ideal.defs _ _).mono (fun r h c => ?_) (Cert.Kernel3Ideal.Value.run_blocks (F := Ideal) m g),
    (θ_run Cert.Reference3Ideal.defs _ _).mono (fun r h c => ?_) (Cert.Reference3Ideal.Value.run (F := Ideal) m' g')⟩
  · obtain ⟨h0, h1, h2, h3, h4, h5, h⟩ := h c
    exact ⟨h0.trans (Cert.Kernel3Ideal.Hand.final7 m c), h1.trans (Cert.Kernel3Ideal.Hand.final8 m c), h2.trans (Cert.Kernel3Ideal.Hand.final9 m c),
      h3.trans (Cert.Kernel3Ideal.Hand.final10 m c), h4.trans (Cert.Kernel3Ideal.Hand.final11 m c), h5.trans (Cert.Kernel3Ideal.Hand.final12 m c), h⟩
  · obtain ⟨h0, h1, h2, h3, h4, h5, h⟩ := h c
    obtain ⟨e0, e1, e2, e3⟩ := agree c
    refine ⟨h0.trans ?_, h1.trans ?_, h2.trans ?_, h3.trans ?_, h4.trans ?_, h5.trans ?_, h⟩
    · rw [Cert.Reference3Ideal.Read.val_main_v82_eq, e0, e1, e2, e3]
      exact Cert.Kernel3Ideal.Hand.same0 m c
    · rw [Cert.Reference3Ideal.Read.val_main_v83_eq, e0, e1, e2, e3]
      exact Cert.Kernel3Ideal.Hand.same1 m c
    · refine (Cert.Reference3Ideal.Read.val_main_v84_eq _ _ _ _).trans ?_
      rw [e0, e1, e2, e3]
      exact Cert.Kernel3Ideal.Hand.same2 m c
    · refine (Cert.Reference3Ideal.Read.val_main_v85_eq _ _ _ _).trans ?_
      rw [e0, e1, e2, e3]
      exact Cert.Kernel3Ideal.Hand.same3 m c
    · refine (Cert.Reference3Ideal.Read.val_main_v86_eq _ _ _ _).trans ?_
      rw [e0, e1, e2, e3]
      exact Cert.Kernel3Ideal.Hand.same4 m c
    · refine (Cert.Reference3Ideal.Read.val_main_v79_eq _ _ _ _).trans ?_
      rw [e0, e1, e2, e3]
      exact Cert.Kernel3Ideal.Hand.same5 m c

end Cert.Proof

/-- The certificate's claims. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts, Cert.Pre_finite_scores.Gen.facts, Cert.Pre_experts_in_range.Gen.facts,
   Cert.Proof.frame_kernel, Cert.Proof.frame_ideal, Cert.Proof.frame_ideal_pre,
   Cert.Proof.frame_reference, Cert.Proof.frame_reference_pre,
   Cert.Proof.frame_kernel2, Cert.Proof.frame_ideal2, Cert.Proof.frame_reference2, Cert.Proof.frame_reference2_pre,
   Cert.Proof.frame_kernel3, Cert.Proof.frame_ideal3, Cert.Proof.frame_reference3,
   Idealize.ShloMosaic.IdealRules.named_const.statement Cert.KernelIdeal.κ "mask" .f32 0xF149F2CA#32 ⊥ rfl,
   Cert.Proof.equal, trivial, Cert.Proof.equal2, trivial, Cert.Proof.equal3⟩

end
